-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![4, 1024, 512]⟩ ⟨3, ![4, 1024, 16384]⟩ 2 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4, 512]⟩ ⟨2, ![4, 16384]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 512]⟩ ⟨2, ![16384, 512]⟩ 0 32 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v36) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1024x512 : Shape := ⟨3, ![4, 1024, 512]⟩
abbrev S4x512 : Shape := ⟨2, ![4, 512]⟩
abbrev S512x512 : Shape := ⟨2, ![512, 512]⟩
abbrev S6x32 : Shape := ⟨2, ![6, 32]⟩
abbrev S4x1040x512 : Shape := ⟨3, ![4, 1040, 512]⟩
abbrev S4096x512 : Shape := ⟨2, ![4096, 512]⟩
abbrev S7x256x512 : Shape := ⟨3, ![7, 256, 512]⟩
abbrev S3x64x512 : Shape := ⟨3, ![3, 64, 512]⟩
abbrev S14 : Shape := ⟨1, ![14]⟩
abbrev S3 : Shape := ⟨1, ![3]⟩
abbrev S28 : Shape := ⟨1, ![28]⟩
abbrev S4x256x512 : Shape := ⟨3, ![4, 256, 512]⟩
abbrev S4 : Shape := ⟨1, ![4]⟩
abbrev S1x1 : Shape := ⟨2, ![1, 1]⟩
abbrev S_ : Shape := ⟨0, ![]⟩
abbrev S8x512 : Shape := ⟨2, ![8, 512]⟩
abbrev S1x8x512 : Shape := ⟨3, ![1, 8, 512]⟩
abbrev S1 : Shape := ⟨1, ![1]⟩
abbrev S1x1024x512 : Shape := ⟨3, ![1, 1024, 512]⟩
abbrev S1024x512 : Shape := ⟨2, ![1024, 512]⟩
abbrev S1x272x512 : Shape := ⟨3, ![1, 272, 512]⟩
abbrev S272x512 : Shape := ⟨2, ![272, 512]⟩
abbrev S256x512 : Shape := ⟨2, ![256, 512]⟩
abbrev S1x512 : Shape := ⟨2, ![1, 512]⟩
abbrev S1x256x512 : Shape := ⟨3, ![1, 256, 512]⟩
abbrev S1x128x512 : Shape := ⟨3, ![1, 128, 512]⟩
abbrev S128x512 : Shape := ⟨2, ![128, 512]⟩
abbrev S64x512 : Shape := ⟨2, ![64, 512]⟩
abbrev S1x64x512 : Shape := ⟨3, ![1, 64, 512]⟩

abbrev nBuf : Space → Nat
  | .hbm => 5
  | .vmem => 14
  | .smem => 1
  | _ => 0

abbrev bufTy : (tb : Table) → Fin (tcTables nBuf tb) → BufTy
  | .hbm, ⟨0, _⟩ => ⟨S4x1024x512, .f32⟩
  | .hbm, ⟨1, _⟩ => ⟨S4x512, .f32⟩
  | .hbm, ⟨2, _⟩ => ⟨S512x512, .f32⟩
  | .hbm, ⟨3, _⟩ => ⟨S6x32, .i32⟩
  | .hbm, ⟨4, _⟩ => ⟨S4x1024x512, .f32⟩
  | .local _ .vmem, ⟨0, _⟩ => ⟨S4x512, .f32⟩
  | .local _ .vmem, ⟨1, _⟩ => ⟨S512x512, .f32⟩
  | .local _ .vmem, ⟨2, _⟩ => ⟨S4x1040x512, .f32⟩
  | .local _ .vmem, ⟨3, _⟩ => ⟨S4096x512, .f32⟩
  | .local _ .vmem, ⟨4, _⟩ => ⟨S4096x512, .bf16⟩
  | .local _ .vmem, ⟨5, _⟩ => ⟨S7x256x512, .bf16⟩
  | .local _ .vmem, ⟨6, _⟩ => ⟨S7x256x512, .bf16⟩
  | .local _ .vmem, ⟨7, _⟩ => ⟨S3x64x512, .bf16⟩
  | .local _ .vmem, ⟨8, _⟩ => ⟨S3x64x512, .bf16⟩
  | .local _ .vmem, ⟨9, _⟩ => ⟨S7x256x512, .bf16⟩
  | .local _ .vmem, ⟨10, _⟩ => ⟨S7x256x512, .bf16⟩
  | .local _ .vmem, ⟨11, _⟩ => ⟨S3x64x512, .bf16⟩
  | .local _ .vmem, ⟨12, _⟩ => ⟨S3x64x512, .bf16⟩
  | .local _ .vmem, ⟨13, _⟩ => ⟨S4x256x512, .f32⟩
  | .local _ .smem, ⟨0, _⟩ => ⟨S6x32, .i32⟩
  | _, _ => ⟨S4x1024x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 1 → Bool
  | ⟨0, _⟩ => false
  | _ => false

abbrev dmaSemScoped : Fin 203 → Bool
  | ⟨i, _⟩ => dmaSemScopedAt i

abbrev sig : RefSig :=
  (ofTc nBuf bufTy 1 203 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v1 : Ref sig .tc := ⟨.hbm, 4, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_scratch10 : Ref sig .tc := ⟨.vmem, 12, rfl⟩
abbrev cc0_scratch27 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_off1 (d0 : Dev nD) : Fin 2 → Nat :=
  let c0 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3 : Index := Scalar.indexCast v2
  ![0, v3.toNat]
def k0_off2 (d0 : Dev nD) : Fin 2 → Nat :=
  let c1 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5 : Index := Scalar.indexCast v2
  ![1, v5.toNat]
def k0_off3 (d0 : Dev nD) : Fin 2 → Nat :=
  let c2 : Index := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v7 : Index := Scalar.indexCast v2
  ![2, v7.toNat]
def k0_off4 (d0 : Dev nD) : Fin 2 → Nat :=
  let c3 : Index := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v9 : Index := Scalar.indexCast v2
  ![3, v9.toNat]
def k0_off5 (d0 : Dev nD) : Fin 2 → Nat :=
  let c4 : Index := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v11 : Index := Scalar.indexCast v2
  ![4, v11.toNat]
def k0_off6 (d0 : Dev nD) : Fin 2 → Nat :=
  let c5 : Index := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v13 : Index := Scalar.indexCast v2
  ![5, v13.toNat]
def k0_dev1 (v6 : BitVec 32) : Nat :=
  let c0_i32 : BitVec 32 := 0#32
  let c1_i32_1 : BitVec 32 := 1#32
  let v16 : BitVec 32 := Scalar.muli v6 c1_i32_1
  let v17 : BitVec 32 := Scalar.addi c0_i32 v16
  v17.toNat

def k0_dev2 (v8 : BitVec 32) : Nat :=
  let c0_i32_4 : BitVec 32 := 0#32
  let c1_i32_3 : BitVec 32 := 1#32
  let v18 : BitVec 32 := Scalar.muli v8 c1_i32_3
  let v19 : BitVec 32 := Scalar.addi c0_i32_4 v18
  v19.toNat

def k0_dev3 (v12 : BitVec 32) : Nat :=
  let c0_i32_7 : BitVec 32 := 0#32
  let c1_i32_6 : BitVec 32 := 1#32
  let v20 : BitVec 32 := Scalar.muli v12 c1_i32_6
  let v21 : BitVec 32 := Scalar.addi c0_i32_7 v20
  v21.toNat

def k0_dev4 (v14 : BitVec 32) : Nat :=
  let c0_i32_10 : BitVec 32 := 0#32
  let c1_i32_9 : BitVec 32 := 1#32
  let v22 : BitVec 32 := Scalar.muli v14 c1_i32_9
  let v23 : BitVec 32 := Scalar.addi c0_i32_10 v22
  v23.toNat

def k0_off7 (v4 : BitVec 32) (c0_i32_118 : BitVec 32) : Fin 3 → Nat :=
  let c8_i32_98 : BitVec 32 := 8#32
  let c0_i32_99 : BitVec 32 := 0#32
  let v117 : BitVec 1 := Scalar.cmpi .eq c8_i32_98 c0_i32_99
  let c1_i32_100 : BitVec 32 := 1#32
  let v118 : BitVec 32 := Scalar.select v117 c1_i32_100 c8_i32_98
  let v119 : BitVec 32 := Scalar.remsi v4 v118
  let c0_i32_102 : BitVec 32 := 0#32
  let v121 : BitVec 1 := Scalar.cmpi .slt v119 c0_i32_102
  let c0_i32_103 : BitVec 32 := 0#32
  let v122 : BitVec 1 := Scalar.cmpi .slt v118 c0_i32_103
  let v123 : BitVec 1 := Scalar.xori v121 v122
  let c0_i32_101 : BitVec 32 := 0#32
  let v120 : BitVec 1 := Scalar.cmpi .ne v119 c0_i32_101
  let v124 : BitVec 1 := Scalar.andi v123 v120
  let v125 : BitVec 32 := Scalar.addi v119 v118
  let v126 : BitVec 32 := Scalar.select v124 v125 v119
  let c0_i32_105 : BitVec 32 := 0#32
  let v128 : BitVec 1 := Scalar.cmpi .sgt v126 c0_i32_105
  let v129 : BitVec 32 := Scalar.extui v128
  let c0_i32_106 : BitVec 32 := 0#32
  let v130 : BitVec 1 := Scalar.cmpi .slt v126 c0_i32_106
  let v131 : BitVec 32 := Scalar.extui v130
  let v132 : BitVec 32 := Scalar.subi v129 v131
  let c2_i32_104 : BitVec 32 := 2#32
  let c0_i32_107 : BitVec 32 := 0#32
  let v133 : BitVec 1 := Scalar.cmpi .sgt c2_i32_104 c0_i32_107
  let v134 : BitVec 32 := Scalar.extui v133
  let c0_i32_108 : BitVec 32 := 0#32
  let v135 : BitVec 1 := Scalar.cmpi .slt c2_i32_104 c0_i32_108
  let v136 : BitVec 32 := Scalar.extui v135
  let v137 : BitVec 32 := Scalar.subi v134 v136
  let v138 : BitVec 1 := Scalar.cmpi .ne v132 v137
  let v139 : BitVec 32 := Scalar.remsi v126 c2_i32_104
  let c0_i32_109 : BitVec 32 := 0#32
  let v140 : BitVec 1 := Scalar.cmpi .ne v139 c0_i32_109
  let v141 : BitVec 1 := Scalar.andi v138 v140
  let v127 : BitVec 32 := Scalar.divsi v126 c2_i32_104
  let c1_i32_110 : BitVec 32 := 1#32
  let v142 : BitVec 32 := Scalar.subi v127 c1_i32_110
  let v143 : BitVec 32 := Scalar.select v141 v142 v127
  let v156 : Index := Scalar.indexCast v143
  let c2_i32_111 : BitVec 32 := 2#32
  let c0_i32_112 : BitVec 32 := 0#32
  let v144 : BitVec 1 := Scalar.cmpi .eq c2_i32_111 c0_i32_112
  let c1_i32_113 : BitVec 32 := 1#32
  let v145 : BitVec 32 := Scalar.select v144 c1_i32_113 c2_i32_111
  let v146 : BitVec 32 := Scalar.remsi v126 v145
  let c0_i32_115 : BitVec 32 := 0#32
  let v148 : BitVec 1 := Scalar.cmpi .slt v146 c0_i32_115
  let c0_i32_116 : BitVec 32 := 0#32
  let v149 : BitVec 1 := Scalar.cmpi .slt v145 c0_i32_116
  let v150 : BitVec 1 := Scalar.xori v148 v149
  let c0_i32_114 : BitVec 32 := 0#32
  let v147 : BitVec 1 := Scalar.cmpi .ne v146 c0_i32_114
  let v151 : BitVec 1 := Scalar.andi v150 v147
  let v152 : BitVec 32 := Scalar.addi v146 v145
  let v153 : BitVec 32 := Scalar.select v151 v152 v146
  let c512_i32_117 : BitVec 32 := 512#32
  let v154 : BitVec 32 := Scalar.muli v153 c512_i32_117
  let v155 : BitVec 32 := Scalar.addi v154 c0_i32_118
  let v157 : Index := Scalar.indexCast v155
  let c0_119 : Index := 0#32
  ![v156.toNat, v157.toNat, 0]

def k0_off8 (v4 : BitVec 32) (c0_i32_125 : BitVec 32) : Fin 2 → Nat :=
  let c8_i32_98 : BitVec 32 := 8#32
  let c0_i32_99 : BitVec 32 := 0#32
  let v117 : BitVec 1 := Scalar.cmpi .eq c8_i32_98 c0_i32_99
  let c1_i32_100 : BitVec 32 := 1#32
  let v118 : BitVec 32 := Scalar.select v117 c1_i32_100 c8_i32_98
  let v119 : BitVec 32 := Scalar.remsi v4 v118
  let c0_i32_102 : BitVec 32 := 0#32
  let v121 : BitVec 1 := Scalar.cmpi .slt v119 c0_i32_102
  let c0_i32_103 : BitVec 32 := 0#32
  let v122 : BitVec 1 := Scalar.cmpi .slt v118 c0_i32_103
  let v123 : BitVec 1 := Scalar.xori v121 v122
  let c0_i32_101 : BitVec 32 := 0#32
  let v120 : BitVec 1 := Scalar.cmpi .ne v119 c0_i32_101
  let v124 : BitVec 1 := Scalar.andi v123 v120
  let v125 : BitVec 32 := Scalar.addi v119 v118
  let v126 : BitVec 32 := Scalar.select v124 v125 v119
  let c512_i32_124 : BitVec 32 := 512#32
  let v188 : BitVec 32 := Scalar.muli v126 c512_i32_124
  let v189 : BitVec 32 := Scalar.addi v188 c0_i32_125
  let v190 : Index := Scalar.indexCast v189
  let c0_126 : Index := 0#32
  ![v190.toNat, 0]
def k0_dev5 (v6 : BitVec 32) : Nat :=
  v6.toNat
def k0_dev6 (v6 : BitVec 32) : Nat :=
  v6.toNat
def k0_dev7 (v8 : BitVec 32) : Nat :=
  v8.toNat
def k0_dev8 (v8 : BitVec 32) : Nat :=
  v8.toNat
def k0_off9 (v4 : BitVec 32) : Fin 3 → Nat :=
  let c1_i32_193 : BitVec 32 := 1#32
  let v311 : BitVec 32 := Scalar.subi v4 c1_i32_193
  let c8_i32_194 : BitVec 32 := 8#32
  let c0_i32_195 : BitVec 32 := 0#32
  let v312 : BitVec 1 := Scalar.cmpi .eq c8_i32_194 c0_i32_195
  let c1_i32_196 : BitVec 32 := 1#32
  let v313 : BitVec 32 := Scalar.select v312 c1_i32_196 c8_i32_194
  let v314 : BitVec 32 := Scalar.remsi v311 v313
  let c0_i32_198 : BitVec 32 := 0#32
  let v316 : BitVec 1 := Scalar.cmpi .slt v314 c0_i32_198
  let c0_i32_199 : BitVec 32 := 0#32
  let v317 : BitVec 1 := Scalar.cmpi .slt v313 c0_i32_199
  let v318 : BitVec 1 := Scalar.xori v316 v317
  let c0_i32_197 : BitVec 32 := 0#32
  let v315 : BitVec 1 := Scalar.cmpi .ne v314 c0_i32_197
  let v319 : BitVec 1 := Scalar.andi v318 v315
  let v320 : BitVec 32 := Scalar.addi v314 v313
  let v321 : BitVec 32 := Scalar.select v319 v320 v314
  let c0_i32_201 : BitVec 32 := 0#32
  let v323 : BitVec 1 := Scalar.cmpi .sgt v321 c0_i32_201
  let v324 : BitVec 32 := Scalar.extui v323
  let c0_i32_202 : BitVec 32 := 0#32
  let v325 : BitVec 1 := Scalar.cmpi .slt v321 c0_i32_202
  let v326 : BitVec 32 := Scalar.extui v325
  let v327 : BitVec 32 := Scalar.subi v324 v326
  let c2_i32_200 : BitVec 32 := 2#32
  let c0_i32_203 : BitVec 32 := 0#32
  let v328 : BitVec 1 := Scalar.cmpi .sgt c2_i32_200 c0_i32_203
  let v329 : BitVec 32 := Scalar.extui v328
  let c0_i32_204 : BitVec 32 := 0#32
  let v330 : BitVec 1 := Scalar.cmpi .slt c2_i32_200 c0_i32_204
  let v331 : BitVec 32 := Scalar.extui v330
  let v332 : BitVec 32 := Scalar.subi v329 v331
  let v333 : BitVec 1 := Scalar.cmpi .ne v327 v332
  let v334 : BitVec 32 := Scalar.remsi v321 c2_i32_200
  let c0_i32_205 : BitVec 32 := 0#32
  let v335 : BitVec 1 := Scalar.cmpi .ne v334 c0_i32_205
  let v336 : BitVec 1 := Scalar.andi v333 v335
  let v322 : BitVec 32 := Scalar.divsi v321 c2_i32_200
  let c1_i32_206 : BitVec 32 := 1#32
  let v337 : BitVec 32 := Scalar.subi v322 c1_i32_206
  let v338 : BitVec 32 := Scalar.select v336 v337 v322
  let v351 : Index := Scalar.indexCast v338
  let c2_i32_207 : BitVec 32 := 2#32
  let c0_i32_208 : BitVec 32 := 0#32
  let v339 : BitVec 1 := Scalar.cmpi .eq c2_i32_207 c0_i32_208
  let c1_i32_209 : BitVec 32 := 1#32
  let v340 : BitVec 32 := Scalar.select v339 c1_i32_209 c2_i32_207
  let v341 : BitVec 32 := Scalar.remsi v321 v340
  let c0_i32_211 : BitVec 32 := 0#32
  let v343 : BitVec 1 := Scalar.cmpi .slt v341 c0_i32_211
  let c0_i32_212 : BitVec 32 := 0#32
  let v344 : BitVec 1 := Scalar.cmpi .slt v340 c0_i32_212
  let v345 : BitVec 1 := Scalar.xori v343 v344
  let c0_i32_210 : BitVec 32 := 0#32
  let v342 : BitVec 1 := Scalar.cmpi .ne v341 c0_i32_210
  let v346 : BitVec 1 := Scalar.andi v345 v342
  let v347 : BitVec 32 := Scalar.addi v341 v340
  let v348 : BitVec 32 := Scalar.select v346 v347 v341
  let c512_i32_213 : BitVec 32 := 512#32
  let v349 : BitVec 32 := Scalar.muli v348 c512_i32_213
  let c0_i32_214 : BitVec 32 := 0#32
  let v350 : BitVec 32 := Scalar.addi v349 c0_i32_214
  let v352 : Index := Scalar.indexCast v350
  let c0_215 : Index := 0#32
  ![v351.toNat, v352.toNat, 0]
def k0_off10 (v4 : BitVec 32) : Fin 2 → Nat :=
  let c1_i32_193 : BitVec 32 := 1#32
  let v311 : BitVec 32 := Scalar.subi v4 c1_i32_193
  let c8_i32_194 : BitVec 32 := 8#32
  let c0_i32_195 : BitVec 32 := 0#32
  let v312 : BitVec 1 := Scalar.cmpi .eq c8_i32_194 c0_i32_195
  let c1_i32_196 : BitVec 32 := 1#32
  let v313 : BitVec 32 := Scalar.select v312 c1_i32_196 c8_i32_194
  let v314 : BitVec 32 := Scalar.remsi v311 v313
  let c0_i32_198 : BitVec 32 := 0#32
  let v316 : BitVec 1 := Scalar.cmpi .slt v314 c0_i32_198
  let c0_i32_199 : BitVec 32 := 0#32
  let v317 : BitVec 1 := Scalar.cmpi .slt v313 c0_i32_199
  let v318 : BitVec 1 := Scalar.xori v316 v317
  let c0_i32_197 : BitVec 32 := 0#32
  let v315 : BitVec 1 := Scalar.cmpi .ne v314 c0_i32_197
  let v319 : BitVec 1 := Scalar.andi v318 v315
  let v320 : BitVec 32 := Scalar.addi v314 v313
  let v321 : BitVec 32 := Scalar.select v319 v320 v314
  let c512_i32_220 : BitVec 32 := 512#32
  let v383 : BitVec 32 := Scalar.muli v321 c512_i32_220
  let c0_i32_221 : BitVec 32 := 0#32
  let v384 : BitVec 32 := Scalar.addi v383 c0_i32_221
  let v385 : Index := Scalar.indexCast v384
  let c0_222 : Index := 0#32
  ![v385.toNat, 0]
def k0_off11 (v4 : BitVec 32) : Fin 3 → Nat :=
  let c1_i32_223 : BitVec 32 := 1#32
  let v389 : BitVec 32 := Scalar.addi v4 c1_i32_223
  let c8_i32_224 : BitVec 32 := 8#32
  let c0_i32_225 : BitVec 32 := 0#32
  let v390 : BitVec 1 := Scalar.cmpi .eq c8_i32_224 c0_i32_225
  let c1_i32_226 : BitVec 32 := 1#32
  let v391 : BitVec 32 := Scalar.select v390 c1_i32_226 c8_i32_224
  let v392 : BitVec 32 := Scalar.remsi v389 v391
  let c0_i32_228 : BitVec 32 := 0#32
  let v394 : BitVec 1 := Scalar.cmpi .slt v392 c0_i32_228
  let c0_i32_229 : BitVec 32 := 0#32
  let v395 : BitVec 1 := Scalar.cmpi .slt v391 c0_i32_229
  let v396 : BitVec 1 := Scalar.xori v394 v395
  let c0_i32_227 : BitVec 32 := 0#32
  let v393 : BitVec 1 := Scalar.cmpi .ne v392 c0_i32_227
  let v397 : BitVec 1 := Scalar.andi v396 v393
  let v398 : BitVec 32 := Scalar.addi v392 v391
  let v399 : BitVec 32 := Scalar.select v397 v398 v392
  let c0_i32_231 : BitVec 32 := 0#32
  let v401 : BitVec 1 := Scalar.cmpi .sgt v399 c0_i32_231
  let v402 : BitVec 32 := Scalar.extui v401
  let c0_i32_232 : BitVec 32 := 0#32
  let v403 : BitVec 1 := Scalar.cmpi .slt v399 c0_i32_232
  let v404 : BitVec 32 := Scalar.extui v403
  let v405 : BitVec 32 := Scalar.subi v402 v404
  let c2_i32_230 : BitVec 32 := 2#32
  let c0_i32_233 : BitVec 32 := 0#32
  let v406 : BitVec 1 := Scalar.cmpi .sgt c2_i32_230 c0_i32_233
  let v407 : BitVec 32 := Scalar.extui v406
  let c0_i32_234 : BitVec 32 := 0#32
  let v408 : BitVec 1 := Scalar.cmpi .slt c2_i32_230 c0_i32_234
  let v409 : BitVec 32 := Scalar.extui v408
  let v410 : BitVec 32 := Scalar.subi v407 v409
  let v411 : BitVec 1 := Scalar.cmpi .ne v405 v410
  let v412 : BitVec 32 := Scalar.remsi v399 c2_i32_230
  let c0_i32_235 : BitVec 32 := 0#32
  let v413 : BitVec 1 := Scalar.cmpi .ne v412 c0_i32_235
  let v414 : BitVec 1 := Scalar.andi v411 v413
  let v400 : BitVec 32 := Scalar.divsi v399 c2_i32_230
  let c1_i32_236 : BitVec 32 := 1#32
  let v415 : BitVec 32 := Scalar.subi v400 c1_i32_236
  let v416 : BitVec 32 := Scalar.select v414 v415 v400
  let v429 : Index := Scalar.indexCast v416
  let c2_i32_237 : BitVec 32 := 2#32
  let c0_i32_238 : BitVec 32 := 0#32
  let v417 : BitVec 1 := Scalar.cmpi .eq c2_i32_237 c0_i32_238
  let c1_i32_239 : BitVec 32 := 1#32
  let v418 : BitVec 32 := Scalar.select v417 c1_i32_239 c2_i32_237
  let v419 : BitVec 32 := Scalar.remsi v399 v418
  let c0_i32_241 : BitVec 32 := 0#32
  let v421 : BitVec 1 := Scalar.cmpi .slt v419 c0_i32_241
  let c0_i32_242 : BitVec 32 := 0#32
  let v422 : BitVec 1 := Scalar.cmpi .slt v418 c0_i32_242
  let v423 : BitVec 1 := Scalar.xori v421 v422
  let c0_i32_240 : BitVec 32 := 0#32
  let v420 : BitVec 1 := Scalar.cmpi .ne v419 c0_i32_240
  let v424 : BitVec 1 := Scalar.andi v423 v420
  let v425 : BitVec 32 := Scalar.addi v419 v418
  let v426 : BitVec 32 := Scalar.select v424 v425 v419
  let c512_i32_243 : BitVec 32 := 512#32
  let v427 : BitVec 32 := Scalar.muli v426 c512_i32_243
  let c256_i32_244 : BitVec 32 := 256#32
  let v428 : BitVec 32 := Scalar.addi v427 c256_i32_244
  let v430 : Index := Scalar.indexCast v428
  let c0_245 : Index := 0#32
  ![v429.toNat, v430.toNat, 0]
def k0_off12 (v4 : BitVec 32) : Fin 2 → Nat :=
  let c1_i32_223 : BitVec 32 := 1#32
  let v389 : BitVec 32 := Scalar.addi v4 c1_i32_223
  let c8_i32_224 : BitVec 32 := 8#32
  let c0_i32_225 : BitVec 32 := 0#32
  let v390 : BitVec 1 := Scalar.cmpi .eq c8_i32_224 c0_i32_225
  let c1_i32_226 : BitVec 32 := 1#32
  let v391 : BitVec 32 := Scalar.select v390 c1_i32_226 c8_i32_224
  let v392 : BitVec 32 := Scalar.remsi v389 v391
  let c0_i32_228 : BitVec 32 := 0#32
  let v394 : BitVec 1 := Scalar.cmpi .slt v392 c0_i32_228
  let c0_i32_229 : BitVec 32 := 0#32
  let v395 : BitVec 1 := Scalar.cmpi .slt v391 c0_i32_229
  let v396 : BitVec 1 := Scalar.xori v394 v395
  let c0_i32_227 : BitVec 32 := 0#32
  let v393 : BitVec 1 := Scalar.cmpi .ne v392 c0_i32_227
  let v397 : BitVec 1 := Scalar.andi v396 v393
  let v398 : BitVec 32 := Scalar.addi v392 v391
  let v399 : BitVec 32 := Scalar.select v397 v398 v392
  let c512_i32_250 : BitVec 32 := 512#32
  let v461 : BitVec 32 := Scalar.muli v399 c512_i32_250
  let c256_i32_251 : BitVec 32 := 256#32
  let v462 : BitVec 32 := Scalar.addi v461 c256_i32_251
  let v463 : Index := Scalar.indexCast v462
  let c0_252 : Index := 0#32
  ![v463.toNat, 0]
def k0_off13 (v4 : BitVec 32) (c0_i32_253 : BitVec 32) (c0_i32_280 : BitVec 32) : Fin 2 → Nat :=
  let v467 : BitVec 32 := Scalar.subi v4 c0_i32_253
  let c1_i32_254 : BitVec 32 := 1#32
  let v468 : BitVec 32 := Scalar.subi v467 c1_i32_254
  let c8_i32_255 : BitVec 32 := 8#32
  let c0_i32_256 : BitVec 32 := 0#32
  let v469 : BitVec 1 := Scalar.cmpi .eq c8_i32_255 c0_i32_256
  let c1_i32_257 : BitVec 32 := 1#32
  let v470 : BitVec 32 := Scalar.select v469 c1_i32_257 c8_i32_255
  let v471 : BitVec 32 := Scalar.remsi v468 v470
  let c0_i32_259 : BitVec 32 := 0#32
  let v473 : BitVec 1 := Scalar.cmpi .slt v471 c0_i32_259
  let c0_i32_260 : BitVec 32 := 0#32
  let v474 : BitVec 1 := Scalar.cmpi .slt v470 c0_i32_260
  let v475 : BitVec 1 := Scalar.xori v473 v474
  let c0_i32_258 : BitVec 32 := 0#32
  let v472 : BitVec 1 := Scalar.cmpi .ne v471 c0_i32_258
  let v476 : BitVec 1 := Scalar.andi v475 v472
  let v477 : BitVec 32 := Scalar.addi v471 v470
  let v478 : BitVec 32 := Scalar.select v476 v477 v471
  let c512_i32_261 : BitVec 32 := 512#32
  let v479 : BitVec 32 := Scalar.muli v478 c512_i32_261
  let v500 : BitVec 32 := Scalar.addi v479 c0_i32_280
  let v501 : Index := Scalar.indexCast v500
  let c0_281 : Index := 0#32
  ![v501.toNat, 0]
def k0_dev9 (v6 : BitVec 32) : Nat :=
  v6.toNat
def k0_dev10 (v6 : BitVec 32) : Nat :=
  v6.toNat
def k0_off14 (v4 : BitVec 32) (c0_i32_262 : BitVec 32) (c0_i32_327 : BitVec 32) : Fin 2 → Nat :=
  let v480 : BitVec 32 := Scalar.addi v4 c0_i32_262
  let c1_i32_263 : BitVec 32 := 1#32
  let v481 : BitVec 32 := Scalar.addi v480 c1_i32_263
  let c8_i32_264 : BitVec 32 := 8#32
  let c0_i32_265 : BitVec 32 := 0#32
  let v482 : BitVec 1 := Scalar.cmpi .eq c8_i32_264 c0_i32_265
  let c1_i32_266 : BitVec 32 := 1#32
  let v483 : BitVec 32 := Scalar.select v482 c1_i32_266 c8_i32_264
  let v484 : BitVec 32 := Scalar.remsi v481 v483
  let c0_i32_268 : BitVec 32 := 0#32
  let v486 : BitVec 1 := Scalar.cmpi .slt v484 c0_i32_268
  let c0_i32_269 : BitVec 32 := 0#32
  let v487 : BitVec 1 := Scalar.cmpi .slt v483 c0_i32_269
  let v488 : BitVec 1 := Scalar.xori v486 v487
  let c0_i32_267 : BitVec 32 := 0#32
  let v485 : BitVec 1 := Scalar.cmpi .ne v484 c0_i32_267
  let v489 : BitVec 1 := Scalar.andi v488 v485
  let v490 : BitVec 32 := Scalar.addi v484 v483
  let v491 : BitVec 32 := Scalar.select v489 v490 v484
  let c512_i32_270 : BitVec 32 := 512#32
  let v492 : BitVec 32 := Scalar.muli v491 c512_i32_270
  let c256_i32_271 : BitVec 32 := 256#32
  let v493 : BitVec 32 := Scalar.addi v492 c256_i32_271
  let v550 : BitVec 32 := Scalar.addi v493 c0_i32_327
  let v551 : Index := Scalar.indexCast v550
  let c0_328 : Index := 0#32
  ![v551.toNat, 0]
def k0_dev11 (v8 : BitVec 32) : Nat :=
  v8.toNat
def k0_dev12 (v8 : BitVec 32) : Nat :=
  v8.toNat
def k0_off15 (v4 : BitVec 32) (c0_i32_367 : BitVec 32) : Fin 3 → Nat :=
  let v594 : BitVec 32 := Scalar.subi v4 c0_i32_367
  let c2_i32_368 : BitVec 32 := 2#32
  let v595 : BitVec 32 := Scalar.subi v594 c2_i32_368
  let c8_i32_369 : BitVec 32 := 8#32
  let c0_i32_370 : BitVec 32 := 0#32
  let v596 : BitVec 1 := Scalar.cmpi .eq c8_i32_369 c0_i32_370
  let c1_i32_371 : BitVec 32 := 1#32
  let v597 : BitVec 32 := Scalar.select v596 c1_i32_371 c8_i32_369
  let v598 : BitVec 32 := Scalar.remsi v595 v597
  let c0_i32_373 : BitVec 32 := 0#32
  let v600 : BitVec 1 := Scalar.cmpi .slt v598 c0_i32_373
  let c0_i32_374 : BitVec 32 := 0#32
  let v601 : BitVec 1 := Scalar.cmpi .slt v597 c0_i32_374
  let v602 : BitVec 1 := Scalar.xori v600 v601
  let c0_i32_372 : BitVec 32 := 0#32
  let v599 : BitVec 1 := Scalar.cmpi .ne v598 c0_i32_372
  let v603 : BitVec 1 := Scalar.andi v602 v599
  let v604 : BitVec 32 := Scalar.addi v598 v597
  let v605 : BitVec 32 := Scalar.select v603 v604 v598
  let c0_i32_376 : BitVec 32 := 0#32
  let v607 : BitVec 1 := Scalar.cmpi .sgt v605 c0_i32_376
  let v608 : BitVec 32 := Scalar.extui v607
  let c0_i32_377 : BitVec 32 := 0#32
  let v609 : BitVec 1 := Scalar.cmpi .slt v605 c0_i32_377
  let v610 : BitVec 32 := Scalar.extui v609
  let v611 : BitVec 32 := Scalar.subi v608 v610
  let c2_i32_375 : BitVec 32 := 2#32
  let c0_i32_378 : BitVec 32 := 0#32
  let v612 : BitVec 1 := Scalar.cmpi .sgt c2_i32_375 c0_i32_378
  let v613 : BitVec 32 := Scalar.extui v612
  let c0_i32_379 : BitVec 32 := 0#32
  let v614 : BitVec 1 := Scalar.cmpi .slt c2_i32_375 c0_i32_379
  let v615 : BitVec 32 := Scalar.extui v614
  let v616 : BitVec 32 := Scalar.subi v613 v615
  let v617 : BitVec 1 := Scalar.cmpi .ne v611 v616
  let v618 : BitVec 32 := Scalar.remsi v605 c2_i32_375
  let c0_i32_380 : BitVec 32 := 0#32
  let v619 : BitVec 1 := Scalar.cmpi .ne v618 c0_i32_380
  let v620 : BitVec 1 := Scalar.andi v617 v619
  let v606 : BitVec 32 := Scalar.divsi v605 c2_i32_375
  let c1_i32_381 : BitVec 32 := 1#32
  let v621 : BitVec 32 := Scalar.subi v606 c1_i32_381
  let v622 : BitVec 32 := Scalar.select v620 v621 v606
  let v635 : Index := Scalar.indexCast v622
  let c2_i32_382 : BitVec 32 := 2#32
  let c0_i32_383 : BitVec 32 := 0#32
  let v623 : BitVec 1 := Scalar.cmpi .eq c2_i32_382 c0_i32_383
  let c1_i32_384 : BitVec 32 := 1#32
  let v624 : BitVec 32 := Scalar.select v623 c1_i32_384 c2_i32_382
  let v625 : BitVec 32 := Scalar.remsi v605 v624
  let c0_i32_386 : BitVec 32 := 0#32
  let v627 : BitVec 1 := Scalar.cmpi .slt v625 c0_i32_386
  let c0_i32_387 : BitVec 32 := 0#32
  let v628 : BitVec 1 := Scalar.cmpi .slt v624 c0_i32_387
  let v629 : BitVec 1 := Scalar.xori v627 v628
  let c0_i32_385 : BitVec 32 := 0#32
  let v626 : BitVec 1 := Scalar.cmpi .ne v625 c0_i32_385
  let v630 : BitVec 1 := Scalar.andi v629 v626
  let v631 : BitVec 32 := Scalar.addi v625 v624
  let v632 : BitVec 32 := Scalar.select v630 v631 v625
  let c512_i32_388 : BitVec 32 := 512#32
  let v633 : BitVec 32 := Scalar.muli v632 c512_i32_388
  let c0_i32_389 : BitVec 32 := 0#32
  let v634 : BitVec 32 := Scalar.addi v633 c0_i32_389
  let v636 : Index := Scalar.indexCast v634
  let c0_390 : Index := 0#32
  ![v635.toNat, v636.toNat, 0]
def k0_off16 (v4 : BitVec 32) (c0_i32_367 : BitVec 32) : Fin 2 → Nat :=
  let v594 : BitVec 32 := Scalar.subi v4 c0_i32_367
  let c2_i32_368 : BitVec 32 := 2#32
  let v595 : BitVec 32 := Scalar.subi v594 c2_i32_368
  let c8_i32_369 : BitVec 32 := 8#32
  let c0_i32_370 : BitVec 32 := 0#32
  let v596 : BitVec 1 := Scalar.cmpi .eq c8_i32_369 c0_i32_370
  let c1_i32_371 : BitVec 32 := 1#32
  let v597 : BitVec 32 := Scalar.select v596 c1_i32_371 c8_i32_369
  let v598 : BitVec 32 := Scalar.remsi v595 v597
  let c0_i32_373 : BitVec 32 := 0#32
  let v600 : BitVec 1 := Scalar.cmpi .slt v598 c0_i32_373
  let c0_i32_374 : BitVec 32 := 0#32
  let v601 : BitVec 1 := Scalar.cmpi .slt v597 c0_i32_374
  let v602 : BitVec 1 := Scalar.xori v600 v601
  let c0_i32_372 : BitVec 32 := 0#32
  let v599 : BitVec 1 := Scalar.cmpi .ne v598 c0_i32_372
  let v603 : BitVec 1 := Scalar.andi v602 v599
  let v604 : BitVec 32 := Scalar.addi v598 v597
  let v605 : BitVec 32 := Scalar.select v603 v604 v598
  let c512_i32_395 : BitVec 32 := 512#32
  let v667 : BitVec 32 := Scalar.muli v605 c512_i32_395
  let c0_i32_396 : BitVec 32 := 0#32
  let v668 : BitVec 32 := Scalar.addi v667 c0_i32_396
  let v669 : Index := Scalar.indexCast v668
  let c0_397 : Index := 0#32
  ![v669.toNat, 0]
def k0_off17 (v4 : BitVec 32) (c0_i32_398 : BitVec 32) : Fin 3 → Nat :=
  let v673 : BitVec 32 := Scalar.addi v4 c0_i32_398
  let c2_i32_399 : BitVec 32 := 2#32
  let v674 : BitVec 32 := Scalar.addi v673 c2_i32_399
  let c8_i32_400 : BitVec 32 := 8#32
  let c0_i32_401 : BitVec 32 := 0#32
  let v675 : BitVec 1 := Scalar.cmpi .eq c8_i32_400 c0_i32_401
  let c1_i32_402 : BitVec 32 := 1#32
  let v676 : BitVec 32 := Scalar.select v675 c1_i32_402 c8_i32_400
  let v677 : BitVec 32 := Scalar.remsi v674 v676
  let c0_i32_404 : BitVec 32 := 0#32
  let v679 : BitVec 1 := Scalar.cmpi .slt v677 c0_i32_404
  let c0_i32_405 : BitVec 32 := 0#32
  let v680 : BitVec 1 := Scalar.cmpi .slt v676 c0_i32_405
  let v681 : BitVec 1 := Scalar.xori v679 v680
  let c0_i32_403 : BitVec 32 := 0#32
  let v678 : BitVec 1 := Scalar.cmpi .ne v677 c0_i32_403
  let v682 : BitVec 1 := Scalar.andi v681 v678
  let v683 : BitVec 32 := Scalar.addi v677 v676
  let v684 : BitVec 32 := Scalar.select v682 v683 v677
  let c0_i32_407 : BitVec 32 := 0#32
  let v686 : BitVec 1 := Scalar.cmpi .sgt v684 c0_i32_407
  let v687 : BitVec 32 := Scalar.extui v686
  let c0_i32_408 : BitVec 32 := 0#32
  let v688 : BitVec 1 := Scalar.cmpi .slt v684 c0_i32_408
  let v689 : BitVec 32 := Scalar.extui v688
  let v690 : BitVec 32 := Scalar.subi v687 v689
  let c2_i32_406 : BitVec 32 := 2#32
  let c0_i32_409 : BitVec 32 := 0#32
  let v691 : BitVec 1 := Scalar.cmpi .sgt c2_i32_406 c0_i32_409
  let v692 : BitVec 32 := Scalar.extui v691
  let c0_i32_410 : BitVec 32 := 0#32
  let v693 : BitVec 1 := Scalar.cmpi .slt c2_i32_406 c0_i32_410
  let v694 : BitVec 32 := Scalar.extui v693
  let v695 : BitVec 32 := Scalar.subi v692 v694
  let v696 : BitVec 1 := Scalar.cmpi .ne v690 v695
  let v697 : BitVec 32 := Scalar.remsi v684 c2_i32_406
  let c0_i32_411 : BitVec 32 := 0#32
  let v698 : BitVec 1 := Scalar.cmpi .ne v697 c0_i32_411
  let v699 : BitVec 1 := Scalar.andi v696 v698
  let v685 : BitVec 32 := Scalar.divsi v684 c2_i32_406
  let c1_i32_412 : BitVec 32 := 1#32
  let v700 : BitVec 32 := Scalar.subi v685 c1_i32_412
  let v701 : BitVec 32 := Scalar.select v699 v700 v685
  let v714 : Index := Scalar.indexCast v701
  let c2_i32_413 : BitVec 32 := 2#32
  let c0_i32_414 : BitVec 32 := 0#32
  let v702 : BitVec 1 := Scalar.cmpi .eq c2_i32_413 c0_i32_414
  let c1_i32_415 : BitVec 32 := 1#32
  let v703 : BitVec 32 := Scalar.select v702 c1_i32_415 c2_i32_413
  let v704 : BitVec 32 := Scalar.remsi v684 v703
  let c0_i32_417 : BitVec 32 := 0#32
  let v706 : BitVec 1 := Scalar.cmpi .slt v704 c0_i32_417
  let c0_i32_418 : BitVec 32 := 0#32
  let v707 : BitVec 1 := Scalar.cmpi .slt v703 c0_i32_418
  let v708 : BitVec 1 := Scalar.xori v706 v707
  let c0_i32_416 : BitVec 32 := 0#32
  let v705 : BitVec 1 := Scalar.cmpi .ne v704 c0_i32_416
  let v709 : BitVec 1 := Scalar.andi v708 v705
  let v710 : BitVec 32 := Scalar.addi v704 v703
  let v711 : BitVec 32 := Scalar.select v709 v710 v704
  let c512_i32_419 : BitVec 32 := 512#32
  let v712 : BitVec 32 := Scalar.muli v711 c512_i32_419
  let c256_i32_420 : BitVec 32 := 256#32
  let v713 : BitVec 32 := Scalar.addi v712 c256_i32_420
  let v715 : Index := Scalar.indexCast v713
  let c0_421 : Index := 0#32
  ![v714.toNat, v715.toNat, 0]
def k0_off18 (v4 : BitVec 32) (c0_i32_398 : BitVec 32) : Fin 2 → Nat :=
  let v673 : BitVec 32 := Scalar.addi v4 c0_i32_398
  let c2_i32_399 : BitVec 32 := 2#32
  let v674 : BitVec 32 := Scalar.addi v673 c2_i32_399
  let c8_i32_400 : BitVec 32 := 8#32
  let c0_i32_401 : BitVec 32 := 0#32
  let v675 : BitVec 1 := Scalar.cmpi .eq c8_i32_400 c0_i32_401
  let c1_i32_402 : BitVec 32 := 1#32
  let v676 : BitVec 32 := Scalar.select v675 c1_i32_402 c8_i32_400
  let v677 : BitVec 32 := Scalar.remsi v674 v676
  let c0_i32_404 : BitVec 32 := 0#32
  let v679 : BitVec 1 := Scalar.cmpi .slt v677 c0_i32_404
  let c0_i32_405 : BitVec 32 := 0#32
  let v680 : BitVec 1 := Scalar.cmpi .slt v676 c0_i32_405
  let v681 : BitVec 1 := Scalar.xori v679 v680
  let c0_i32_403 : BitVec 32 := 0#32
  let v678 : BitVec 1 := Scalar.cmpi .ne v677 c0_i32_403
  let v682 : BitVec 1 := Scalar.andi v681 v678
  let v683 : BitVec 32 := Scalar.addi v677 v676
  let v684 : BitVec 32 := Scalar.select v682 v683 v677
  let c512_i32_426 : BitVec 32 := 512#32
  let v746 : BitVec 32 := Scalar.muli v684 c512_i32_426
  let c256_i32_427 : BitVec 32 := 256#32
  let v747 : BitVec 32 := Scalar.addi v746 c256_i32_427
  let v748 : Index := Scalar.indexCast v747
  let c0_428 : Index := 0#32
  ![v748.toNat, 0]
def k0_dev13 (v6 : BitVec 32) : Nat :=
  v6.toNat
def k0_dev14 (v6 : BitVec 32) : Nat :=
  v6.toNat
def k0_dev15 (v8 : BitVec 32) : Nat :=
  v8.toNat
def k0_dev16 (v8 : BitVec 32) : Nat :=
  v8.toNat
def k0_dev17 (v6 : BitVec 32) : Nat :=
  v6.toNat
def k0_dev18 (v6 : BitVec 32) : Nat :=
  v6.toNat
def k0_dev19 (v8 : BitVec 32) : Nat :=
  v8.toNat
def k0_dev20 (v8 : BitVec 32) : Nat :=
  v8.toNat
def k0_dev21 (v6 : BitVec 32) : Nat :=
  v6.toNat
def k0_dev22 (v6 : BitVec 32) : Nat :=
  v6.toNat
def k0_dev23 (v8 : BitVec 32) : Nat :=
  v8.toNat
def k0_dev24 (v8 : BitVec 32) : Nat :=
  v8.toNat
def k0_dev25 (v6 : BitVec 32) : Nat :=
  v6.toNat
def k0_dev26 (v6 : BitVec 32) : Nat :=
  v6.toNat
def k0_dev27 (v8 : BitVec 32) : Nat :=
  v8.toNat
def k0_dev28 (v8 : BitVec 32) : Nat :=
  v8.toNat
def k0_dev29 (v6 : BitVec 32) : Nat :=
  v6.toNat
def k0_dev30 (v6 : BitVec 32) : Nat :=
  v6.toNat
def k0_dev31 (v8 : BitVec 32) : Nat :=
  v8.toNat
def k0_dev32 (v8 : BitVec 32) : Nat :=
  v8.toNat
def k0_off19 (v4 : BitVec 32) (v10 : BitVec 32) : Fin 2 → Nat :=
  let c1_i32_83 : BitVec 32 := 1#32
  let v92 : BitVec 32 := Scalar.addi v4 c1_i32_83
  let c8_i32_84 : BitVec 32 := 8#32
  let c0_i32_85 : BitVec 32 := 0#32
  let v93 : BitVec 1 := Scalar.cmpi .eq c8_i32_84 c0_i32_85
  let c1_i32_86 : BitVec 32 := 1#32
  let v94 : BitVec 32 := Scalar.select v93 c1_i32_86 c8_i32_84
  let v95 : BitVec 32 := Scalar.remsi v92 v94
  let c0_i32_88 : BitVec 32 := 0#32
  let v97 : BitVec 1 := Scalar.cmpi .slt v95 c0_i32_88
  let c0_i32_89 : BitVec 32 := 0#32
  let v98 : BitVec 1 := Scalar.cmpi .slt v94 c0_i32_89
  let v99 : BitVec 1 := Scalar.xori v97 v98
  let c0_i32_87 : BitVec 32 := 0#32
  let v96 : BitVec 1 := Scalar.cmpi .ne v95 c0_i32_87
  let v100 : BitVec 1 := Scalar.andi v99 v96
  let v101 : BitVec 32 := Scalar.addi v95 v94
  let v102 : BitVec 32 := Scalar.select v100 v101 v95
  let c512_i32 : BitVec 32 := 512#32
  let v103 : BitVec 32 := Scalar.muli v102 c512_i32
  let c4_i32_1352 : BitVec 32 := 4#32
  let c0_i32_1353 : BitVec 32 := 0#32
  let v2238 : BitVec 1 := Scalar.cmpi .eq c4_i32_1352 c0_i32_1353
  let c1_i32_1354 : BitVec 32 := 1#32
  let v2239 : BitVec 32 := Scalar.select v2238 c1_i32_1354 c4_i32_1352
  let v2240 : BitVec 32 := Scalar.remsi v10 v2239
  let c0_i32_1356 : BitVec 32 := 0#32
  let v2242 : BitVec 1 := Scalar.cmpi .slt v2240 c0_i32_1356
  let c0_i32_1357 : BitVec 32 := 0#32
  let v2243 : BitVec 1 := Scalar.cmpi .slt v2239 c0_i32_1357
  let v2244 : BitVec 1 := Scalar.xori v2242 v2243
  let c0_i32_1355 : BitVec 32 := 0#32
  let v2241 : BitVec 1 := Scalar.cmpi .ne v2240 c0_i32_1355
  let v2245 : BitVec 1 := Scalar.andi v2244 v2241
  let v2246 : BitVec 32 := Scalar.addi v2240 v2239
  let v2247 : BitVec 32 := Scalar.select v2245 v2246 v2240
  let c64_i32 : BitVec 32 := 64#32
  let v2248 : BitVec 32 := Scalar.muli v2247 c64_i32
  let v2249 : BitVec 32 := Scalar.addi v103 v2248
  let v2250 : Index := Scalar.indexCast v2249
  let c0_1358 : Index := 0#32
  ![v2250.toNat, 0]

def k0_dev33 (v12 : BitVec 32) : Nat :=
  v12.toNat
def k0_off20 (v4 : BitVec 32) (c0_i32_1378 : BitVec 32) : Fin 2 → Nat :=
  let c6_i32_1314 : BitVec 32 := 6#32
  let v2190 : BitVec 32 := Scalar.addi v4 c6_i32_1314
  let c1_i32_1315 : BitVec 32 := 1#32
  let v2191 : BitVec 32 := Scalar.addi v2190 c1_i32_1315
  let c8_i32_1316 : BitVec 32 := 8#32
  let c0_i32_1317 : BitVec 32 := 0#32
  let v2192 : BitVec 1 := Scalar.cmpi .eq c8_i32_1316 c0_i32_1317
  let c1_i32_1318 : BitVec 32 := 1#32
  let v2193 : BitVec 32 := Scalar.select v2192 c1_i32_1318 c8_i32_1316
  let v2194 : BitVec 32 := Scalar.remsi v2191 v2193
  let c0_i32_1320 : BitVec 32 := 0#32
  let v2196 : BitVec 1 := Scalar.cmpi .slt v2194 c0_i32_1320
  let c0_i32_1321 : BitVec 32 := 0#32
  let v2197 : BitVec 1 := Scalar.cmpi .slt v2193 c0_i32_1321
  let v2198 : BitVec 1 := Scalar.xori v2196 v2197
  let c0_i32_1319 : BitVec 32 := 0#32
  let v2195 : BitVec 1 := Scalar.cmpi .ne v2194 c0_i32_1319
  let v2199 : BitVec 1 := Scalar.andi v2198 v2195
  let v2200 : BitVec 32 := Scalar.addi v2194 v2193
  let v2201 : BitVec 32 := Scalar.select v2199 v2200 v2194
  let c512_i32_1322 : BitVec 32 := 512#32
  let v2202 : BitVec 32 := Scalar.muli v2201 c512_i32_1322
  let c256_i32_1323 : BitVec 32 := 256#32
  let v2203 : BitVec 32 := Scalar.addi v2202 c256_i32_1323
  let v2270 : BitVec 32 := Scalar.addi v2203 c0_i32_1378
  let v2271 : Index := Scalar.indexCast v2270
  let c0_1379 : Index := 0#32
  ![v2271.toNat, 0]
def k0_off21 (v4 : BitVec 32) (v10 : BitVec 32) : Fin 2 → Nat :=
  let c1_i32_90 : BitVec 32 := 1#32
  let v104 : BitVec 32 := Scalar.subi v4 c1_i32_90
  let c8_i32_91 : BitVec 32 := 8#32
  let c0_i32_92 : BitVec 32 := 0#32
  let v105 : BitVec 1 := Scalar.cmpi .eq c8_i32_91 c0_i32_92
  let c1_i32_93 : BitVec 32 := 1#32
  let v106 : BitVec 32 := Scalar.select v105 c1_i32_93 c8_i32_91
  let v107 : BitVec 32 := Scalar.remsi v104 v106
  let c0_i32_95 : BitVec 32 := 0#32
  let v109 : BitVec 1 := Scalar.cmpi .slt v107 c0_i32_95
  let c0_i32_96 : BitVec 32 := 0#32
  let v110 : BitVec 1 := Scalar.cmpi .slt v106 c0_i32_96
  let v111 : BitVec 1 := Scalar.xori v109 v110
  let c0_i32_94 : BitVec 32 := 0#32
  let v108 : BitVec 1 := Scalar.cmpi .ne v107 c0_i32_94
  let v112 : BitVec 1 := Scalar.andi v111 v108
  let v113 : BitVec 32 := Scalar.addi v107 v106
  let v114 : BitVec 32 := Scalar.select v112 v113 v107
  let c512_i32_97 : BitVec 32 := 512#32
  let v115 : BitVec 32 := Scalar.muli v114 c512_i32_97
  let c256_i32 : BitVec 32 := 256#32
  let v116 : BitVec 32 := Scalar.addi v115 c256_i32
  let c4_i32_1398 : BitVec 32 := 4#32
  let c0_i32_1399 : BitVec 32 := 0#32
  let v2298 : BitVec 1 := Scalar.cmpi .eq c4_i32_1398 c0_i32_1399
  let c1_i32_1400 : BitVec 32 := 1#32
  let v2299 : BitVec 32 := Scalar.select v2298 c1_i32_1400 c4_i32_1398
  let v2300 : BitVec 32 := Scalar.remsi v10 v2299
  let c0_i32_1402 : BitVec 32 := 0#32
  let v2302 : BitVec 1 := Scalar.cmpi .slt v2300 c0_i32_1402
  let c0_i32_1403 : BitVec 32 := 0#32
  let v2303 : BitVec 1 := Scalar.cmpi .slt v2299 c0_i32_1403
  let v2304 : BitVec 1 := Scalar.xori v2302 v2303
  let c0_i32_1401 : BitVec 32 := 0#32
  let v2301 : BitVec 1 := Scalar.cmpi .ne v2300 c0_i32_1401
  let v2305 : BitVec 1 := Scalar.andi v2304 v2301
  let v2306 : BitVec 32 := Scalar.addi v2300 v2299
  let v2307 : BitVec 32 := Scalar.select v2305 v2306 v2300
  let c64_i32_1404 : BitVec 32 := 64#32
  let v2308 : BitVec 32 := Scalar.muli v2307 c64_i32_1404
  let v2309 : BitVec 32 := Scalar.addi v116 v2308
  let v2310 : Index := Scalar.indexCast v2309
  let c0_1405 : Index := 0#32
  ![v2310.toNat, 0]
def k0_dev34 (v14 : BitVec 32) : Nat :=
  v14.toNat
def k0_off22 (v4 : BitVec 32) (v10 : BitVec 32) (c0_i32_1417 : BitVec 32) : Fin 2 → Nat :=
  let c1_i32_83 : BitVec 32 := 1#32
  let v92 : BitVec 32 := Scalar.addi v4 c1_i32_83
  let c8_i32_84 : BitVec 32 := 8#32
  let c0_i32_85 : BitVec 32 := 0#32
  let v93 : BitVec 1 := Scalar.cmpi .eq c8_i32_84 c0_i32_85
  let c1_i32_86 : BitVec 32 := 1#32
  let v94 : BitVec 32 := Scalar.select v93 c1_i32_86 c8_i32_84
  let v95 : BitVec 32 := Scalar.remsi v92 v94
  let c0_i32_88 : BitVec 32 := 0#32
  let v97 : BitVec 1 := Scalar.cmpi .slt v95 c0_i32_88
  let c0_i32_89 : BitVec 32 := 0#32
  let v98 : BitVec 1 := Scalar.cmpi .slt v94 c0_i32_89
  let v99 : BitVec 1 := Scalar.xori v97 v98
  let c0_i32_87 : BitVec 32 := 0#32
  let v96 : BitVec 1 := Scalar.cmpi .ne v95 c0_i32_87
  let v100 : BitVec 1 := Scalar.andi v99 v96
  let v101 : BitVec 32 := Scalar.addi v95 v94
  let v102 : BitVec 32 := Scalar.select v100 v101 v95
  let c512_i32 : BitVec 32 := 512#32
  let v103 : BitVec 32 := Scalar.muli v102 c512_i32
  let v2324 : BitVec 32 := Scalar.subi v10 c0_i32_1417
  let c1_i32_1418 : BitVec 32 := 1#32
  let v2325 : BitVec 32 := Scalar.subi v2324 c1_i32_1418
  let c4_i32_1419 : BitVec 32 := 4#32
  let c0_i32_1420 : BitVec 32 := 0#32
  let v2326 : BitVec 1 := Scalar.cmpi .eq c4_i32_1419 c0_i32_1420
  let c1_i32_1421 : BitVec 32 := 1#32
  let v2327 : BitVec 32 := Scalar.select v2326 c1_i32_1421 c4_i32_1419
  let v2328 : BitVec 32 := Scalar.remsi v2325 v2327
  let c0_i32_1423 : BitVec 32 := 0#32
  let v2330 : BitVec 1 := Scalar.cmpi .slt v2328 c0_i32_1423
  let c0_i32_1424 : BitVec 32 := 0#32
  let v2331 : BitVec 1 := Scalar.cmpi .slt v2327 c0_i32_1424
  let v2332 : BitVec 1 := Scalar.xori v2330 v2331
  let c0_i32_1422 : BitVec 32 := 0#32
  let v2329 : BitVec 1 := Scalar.cmpi .ne v2328 c0_i32_1422
  let v2333 : BitVec 1 := Scalar.andi v2332 v2329
  let v2334 : BitVec 32 := Scalar.addi v2328 v2327
  let v2335 : BitVec 32 := Scalar.select v2333 v2334 v2328
  let c64_i32_1425 : BitVec 32 := 64#32
  let v2336 : BitVec 32 := Scalar.muli v2335 c64_i32_1425
  let v2337 : BitVec 32 := Scalar.addi v103 v2336
  let v2358 : Index := Scalar.indexCast v2337
  let c0_1443 : Index := 0#32
  ![v2358.toNat, 0]
def k0_dev35 (v12 : BitVec 32) : Nat :=
  v12.toNat
def k0_off23 (v4 : BitVec 32) (v10 : BitVec 32) (c0_i32_1426 : BitVec 32) : Fin 2 → Nat :=
  let c1_i32_90 : BitVec 32 := 1#32
  let v104 : BitVec 32 := Scalar.subi v4 c1_i32_90
  let c8_i32_91 : BitVec 32 := 8#32
  let c0_i32_92 : BitVec 32 := 0#32
  let v105 : BitVec 1 := Scalar.cmpi .eq c8_i32_91 c0_i32_92
  let c1_i32_93 : BitVec 32 := 1#32
  let v106 : BitVec 32 := Scalar.select v105 c1_i32_93 c8_i32_91
  let v107 : BitVec 32 := Scalar.remsi v104 v106
  let c0_i32_95 : BitVec 32 := 0#32
  let v109 : BitVec 1 := Scalar.cmpi .slt v107 c0_i32_95
  let c0_i32_96 : BitVec 32 := 0#32
  let v110 : BitVec 1 := Scalar.cmpi .slt v106 c0_i32_96
  let v111 : BitVec 1 := Scalar.xori v109 v110
  let c0_i32_94 : BitVec 32 := 0#32
  let v108 : BitVec 1 := Scalar.cmpi .ne v107 c0_i32_94
  let v112 : BitVec 1 := Scalar.andi v111 v108
  let v113 : BitVec 32 := Scalar.addi v107 v106
  let v114 : BitVec 32 := Scalar.select v112 v113 v107
  let c512_i32_97 : BitVec 32 := 512#32
  let v115 : BitVec 32 := Scalar.muli v114 c512_i32_97
  let c256_i32 : BitVec 32 := 256#32
  let v116 : BitVec 32 := Scalar.addi v115 c256_i32
  let v2338 : BitVec 32 := Scalar.addi v10 c0_i32_1426
  let c1_i32_1427 : BitVec 32 := 1#32
  let v2339 : BitVec 32 := Scalar.addi v2338 c1_i32_1427
  let c4_i32_1428 : BitVec 32 := 4#32
  let c0_i32_1429 : BitVec 32 := 0#32
  let v2340 : BitVec 1 := Scalar.cmpi .eq c4_i32_1428 c0_i32_1429
  let c1_i32_1430 : BitVec 32 := 1#32
  let v2341 : BitVec 32 := Scalar.select v2340 c1_i32_1430 c4_i32_1428
  let v2342 : BitVec 32 := Scalar.remsi v2339 v2341
  let c0_i32_1432 : BitVec 32 := 0#32
  let v2344 : BitVec 1 := Scalar.cmpi .slt v2342 c0_i32_1432
  let c0_i32_1433 : BitVec 32 := 0#32
  let v2345 : BitVec 1 := Scalar.cmpi .slt v2341 c0_i32_1433
  let v2346 : BitVec 1 := Scalar.xori v2344 v2345
  let c0_i32_1431 : BitVec 32 := 0#32
  let v2343 : BitVec 1 := Scalar.cmpi .ne v2342 c0_i32_1431
  let v2347 : BitVec 1 := Scalar.andi v2346 v2343
  let v2348 : BitVec 32 := Scalar.addi v2342 v2341
  let v2349 : BitVec 32 := Scalar.select v2347 v2348 v2342
  let c64_i32_1434 : BitVec 32 := 64#32
  let v2350 : BitVec 32 := Scalar.muli v2349 c64_i32_1434
  let v2351 : BitVec 32 := Scalar.addi v116 v2350
  let v2382 : Index := Scalar.indexCast v2351
  let c0_1466 : Index := 0#32
  ![v2382.toNat, 0]
def k0_dev36 (v14 : BitVec 32) : Nat :=
  v14.toNat
def k0_dev37 (v12 : BitVec 32) : Nat :=
  v12.toNat
def k0_dev38 (v14 : BitVec 32) : Nat :=
  v14.toNat
def k0_off24 (v4 : BitVec 32) (v10 : BitVec 32) : Fin 2 → Nat :=
  let c1_i32_83 : BitVec 32 := 1#32
  let v92 : BitVec 32 := Scalar.addi v4 c1_i32_83
  let c8_i32_84 : BitVec 32 := 8#32
  let c0_i32_85 : BitVec 32 := 0#32
  let v93 : BitVec 1 := Scalar.cmpi .eq c8_i32_84 c0_i32_85
  let c1_i32_86 : BitVec 32 := 1#32
  let v94 : BitVec 32 := Scalar.select v93 c1_i32_86 c8_i32_84
  let v95 : BitVec 32 := Scalar.remsi v92 v94
  let c0_i32_88 : BitVec 32 := 0#32
  let v97 : BitVec 1 := Scalar.cmpi .slt v95 c0_i32_88
  let c0_i32_89 : BitVec 32 := 0#32
  let v98 : BitVec 1 := Scalar.cmpi .slt v94 c0_i32_89
  let v99 : BitVec 1 := Scalar.xori v97 v98
  let c0_i32_87 : BitVec 32 := 0#32
  let v96 : BitVec 1 := Scalar.cmpi .ne v95 c0_i32_87
  let v100 : BitVec 1 := Scalar.andi v99 v96
  let v101 : BitVec 32 := Scalar.addi v95 v94
  let v102 : BitVec 32 := Scalar.select v100 v101 v95
  let c512_i32 : BitVec 32 := 512#32
  let v103 : BitVec 32 := Scalar.muli v102 c512_i32
  let c1_i32_1589 : BitVec 32 := 1#32
  let v2536 : BitVec 32 := Scalar.addi v10 c1_i32_1589
  let c4_i32_1590 : BitVec 32 := 4#32
  let c0_i32_1591 : BitVec 32 := 0#32
  let v2537 : BitVec 1 := Scalar.cmpi .eq c4_i32_1590 c0_i32_1591
  let c1_i32_1592 : BitVec 32 := 1#32
  let v2538 : BitVec 32 := Scalar.select v2537 c1_i32_1592 c4_i32_1590
  let v2539 : BitVec 32 := Scalar.remsi v2536 v2538
  let c0_i32_1594 : BitVec 32 := 0#32
  let v2541 : BitVec 1 := Scalar.cmpi .slt v2539 c0_i32_1594
  let c0_i32_1595 : BitVec 32 := 0#32
  let v2542 : BitVec 1 := Scalar.cmpi .slt v2538 c0_i32_1595
  let v2543 : BitVec 1 := Scalar.xori v2541 v2542
  let c0_i32_1593 : BitVec 32 := 0#32
  let v2540 : BitVec 1 := Scalar.cmpi .ne v2539 c0_i32_1593
  let v2544 : BitVec 1 := Scalar.andi v2543 v2540
  let v2545 : BitVec 32 := Scalar.addi v2539 v2538
  let v2546 : BitVec 32 := Scalar.select v2544 v2545 v2539
  let c64_i32_1596 : BitVec 32 := 64#32
  let v2547 : BitVec 32 := Scalar.muli v2546 c64_i32_1596
  let v2548 : BitVec 32 := Scalar.addi v103 v2547
  let v2562 : Index := Scalar.indexCast v2548
  let c0_1605 : Index := 0#32
  ![v2562.toNat, 0]
def k0_off25 (v4 : BitVec 32) (v10 : BitVec 32) : Fin 2 → Nat :=
  let c1_i32_90 : BitVec 32 := 1#32
  let v104 : BitVec 32 := Scalar.subi v4 c1_i32_90
  let c8_i32_91 : BitVec 32 := 8#32
  let c0_i32_92 : BitVec 32 := 0#32
  let v105 : BitVec 1 := Scalar.cmpi .eq c8_i32_91 c0_i32_92
  let c1_i32_93 : BitVec 32 := 1#32
  let v106 : BitVec 32 := Scalar.select v105 c1_i32_93 c8_i32_91
  let v107 : BitVec 32 := Scalar.remsi v104 v106
  let c0_i32_95 : BitVec 32 := 0#32
  let v109 : BitVec 1 := Scalar.cmpi .slt v107 c0_i32_95
  let c0_i32_96 : BitVec 32 := 0#32
  let v110 : BitVec 1 := Scalar.cmpi .slt v106 c0_i32_96
  let v111 : BitVec 1 := Scalar.xori v109 v110
  let c0_i32_94 : BitVec 32 := 0#32
  let v108 : BitVec 1 := Scalar.cmpi .ne v107 c0_i32_94
  let v112 : BitVec 1 := Scalar.andi v111 v108
  let v113 : BitVec 32 := Scalar.addi v107 v106
  let v114 : BitVec 32 := Scalar.select v112 v113 v107
  let c512_i32_97 : BitVec 32 := 512#32
  let v115 : BitVec 32 := Scalar.muli v114 c512_i32_97
  let c256_i32 : BitVec 32 := 256#32
  let v116 : BitVec 32 := Scalar.addi v115 c256_i32
  let c1_i32_1597 : BitVec 32 := 1#32
  let v2549 : BitVec 32 := Scalar.subi v10 c1_i32_1597
  let c4_i32_1598 : BitVec 32 := 4#32
  let c0_i32_1599 : BitVec 32 := 0#32
  let v2550 : BitVec 1 := Scalar.cmpi .eq c4_i32_1598 c0_i32_1599
  let c1_i32_1600 : BitVec 32 := 1#32
  let v2551 : BitVec 32 := Scalar.select v2550 c1_i32_1600 c4_i32_1598
  let v2552 : BitVec 32 := Scalar.remsi v2549 v2551
  let c0_i32_1602 : BitVec 32 := 0#32
  let v2554 : BitVec 1 := Scalar.cmpi .slt v2552 c0_i32_1602
  let c0_i32_1603 : BitVec 32 := 0#32
  let v2555 : BitVec 1 := Scalar.cmpi .slt v2551 c0_i32_1603
  let v2556 : BitVec 1 := Scalar.xori v2554 v2555
  let c0_i32_1601 : BitVec 32 := 0#32
  let v2553 : BitVec 1 := Scalar.cmpi .ne v2552 c0_i32_1601
  let v2557 : BitVec 1 := Scalar.andi v2556 v2553
  let v2558 : BitVec 32 := Scalar.addi v2552 v2551
  let v2559 : BitVec 32 := Scalar.select v2557 v2558 v2552
  let c64_i32_1604 : BitVec 32 := 64#32
  let v2560 : BitVec 32 := Scalar.muli v2559 c64_i32_1604
  let v2561 : BitVec 32 := Scalar.addi v116 v2560
  let v2569 : Index := Scalar.indexCast v2561
  let c0_1607 : Index := 0#32
  ![v2569.toNat, 0]
def k0_off26 (v4 : BitVec 32) (v10 : BitVec 32) (c0_i32_1618 : BitVec 32) (c0_i32_1610 : BitVec 32) : Fin 2 → Nat :=
  let c1_i32_1617 : BitVec 32 := 1#32
  let v2588 : BitVec 32 := Scalar.addi v4 c1_i32_1617
  let v2589 : BitVec 32 := Scalar.subi v2588 c0_i32_1618
  let c8_i32_1619 : BitVec 32 := 8#32
  let c0_i32_1620 : BitVec 32 := 0#32
  let v2590 : BitVec 1 := Scalar.cmpi .eq c8_i32_1619 c0_i32_1620
  let c1_i32_1621 : BitVec 32 := 1#32
  let v2591 : BitVec 32 := Scalar.select v2590 c1_i32_1621 c8_i32_1619
  let v2592 : BitVec 32 := Scalar.remsi v2589 v2591
  let c0_i32_1623 : BitVec 32 := 0#32
  let v2594 : BitVec 1 := Scalar.cmpi .slt v2592 c0_i32_1623
  let c0_i32_1624 : BitVec 32 := 0#32
  let v2595 : BitVec 1 := Scalar.cmpi .slt v2591 c0_i32_1624
  let v2596 : BitVec 1 := Scalar.xori v2594 v2595
  let c0_i32_1622 : BitVec 32 := 0#32
  let v2593 : BitVec 1 := Scalar.cmpi .ne v2592 c0_i32_1622
  let v2597 : BitVec 1 := Scalar.andi v2596 v2593
  let v2598 : BitVec 32 := Scalar.addi v2592 v2591
  let v2599 : BitVec 32 := Scalar.select v2597 v2598 v2592
  let c512_i32_1625 : BitVec 32 := 512#32
  let v2600 : BitVec 32 := Scalar.muli v2599 c512_i32_1625
  let c1_i32_1609 : BitVec 32 := 1#32
  let v2576 : BitVec 32 := Scalar.addi v10 c1_i32_1609
  let v2577 : BitVec 32 := Scalar.subi v2576 c0_i32_1610
  let c4_i32_1611 : BitVec 32 := 4#32
  let c0_i32_1612 : BitVec 32 := 0#32
  let v2578 : BitVec 1 := Scalar.cmpi .eq c4_i32_1611 c0_i32_1612
  let c1_i32_1613 : BitVec 32 := 1#32
  let v2579 : BitVec 32 := Scalar.select v2578 c1_i32_1613 c4_i32_1611
  let v2580 : BitVec 32 := Scalar.remsi v2577 v2579
  let c0_i32_1615 : BitVec 32 := 0#32
  let v2582 : BitVec 1 := Scalar.cmpi .slt v2580 c0_i32_1615
  let c0_i32_1616 : BitVec 32 := 0#32
  let v2583 : BitVec 1 := Scalar.cmpi .slt v2579 c0_i32_1616
  let v2584 : BitVec 1 := Scalar.xori v2582 v2583
  let c0_i32_1614 : BitVec 32 := 0#32
  let v2581 : BitVec 1 := Scalar.cmpi .ne v2580 c0_i32_1614
  let v2585 : BitVec 1 := Scalar.andi v2584 v2581
  let v2586 : BitVec 32 := Scalar.addi v2580 v2579
  let v2587 : BitVec 32 := Scalar.select v2585 v2586 v2580
  let c64_i32_1626 : BitVec 32 := 64#32
  let v2601 : BitVec 32 := Scalar.muli v2587 c64_i32_1626
  let v2602 : BitVec 32 := Scalar.addi v2600 v2601
  let c0_i32_1629 : BitVec 32 := 0#32
  ![v2602.toNat, 0]
def k0_dev39 (v6 : BitVec 32) : Nat :=
  v6.toNat
def k0_off27 (v4 : BitVec 32) (v10 : BitVec 32) (c0_i32_1640 : BitVec 32) (c0_i32_1632 : BitVec 32) : Fin 2 → Nat :=
  let c1_i32_1639 : BitVec 32 := 1#32
  let v2621 : BitVec 32 := Scalar.subi v4 c1_i32_1639
  let v2622 : BitVec 32 := Scalar.addi v2621 c0_i32_1640
  let c8_i32_1641 : BitVec 32 := 8#32
  let c0_i32_1642 : BitVec 32 := 0#32
  let v2623 : BitVec 1 := Scalar.cmpi .eq c8_i32_1641 c0_i32_1642
  let c1_i32_1643 : BitVec 32 := 1#32
  let v2624 : BitVec 32 := Scalar.select v2623 c1_i32_1643 c8_i32_1641
  let v2625 : BitVec 32 := Scalar.remsi v2622 v2624
  let c0_i32_1645 : BitVec 32 := 0#32
  let v2627 : BitVec 1 := Scalar.cmpi .slt v2625 c0_i32_1645
  let c0_i32_1646 : BitVec 32 := 0#32
  let v2628 : BitVec 1 := Scalar.cmpi .slt v2624 c0_i32_1646
  let v2629 : BitVec 1 := Scalar.xori v2627 v2628
  let c0_i32_1644 : BitVec 32 := 0#32
  let v2626 : BitVec 1 := Scalar.cmpi .ne v2625 c0_i32_1644
  let v2630 : BitVec 1 := Scalar.andi v2629 v2626
  let v2631 : BitVec 32 := Scalar.addi v2625 v2624
  let v2632 : BitVec 32 := Scalar.select v2630 v2631 v2625
  let c512_i32_1647 : BitVec 32 := 512#32
  let v2633 : BitVec 32 := Scalar.muli v2632 c512_i32_1647
  let c256_i32_1648 : BitVec 32 := 256#32
  let v2634 : BitVec 32 := Scalar.addi v2633 c256_i32_1648
  let c1_i32_1631 : BitVec 32 := 1#32
  let v2609 : BitVec 32 := Scalar.subi v10 c1_i32_1631
  let v2610 : BitVec 32 := Scalar.addi v2609 c0_i32_1632
  let c4_i32_1633 : BitVec 32 := 4#32
  let c0_i32_1634 : BitVec 32 := 0#32
  let v2611 : BitVec 1 := Scalar.cmpi .eq c4_i32_1633 c0_i32_1634
  let c1_i32_1635 : BitVec 32 := 1#32
  let v2612 : BitVec 32 := Scalar.select v2611 c1_i32_1635 c4_i32_1633
  let v2613 : BitVec 32 := Scalar.remsi v2610 v2612
  let c0_i32_1637 : BitVec 32 := 0#32
  let v2615 : BitVec 1 := Scalar.cmpi .slt v2613 c0_i32_1637
  let c0_i32_1638 : BitVec 32 := 0#32
  let v2616 : BitVec 1 := Scalar.cmpi .slt v2612 c0_i32_1638
  let v2617 : BitVec 1 := Scalar.xori v2615 v2616
  let c0_i32_1636 : BitVec 32 := 0#32
  let v2614 : BitVec 1 := Scalar.cmpi .ne v2613 c0_i32_1636
  let v2618 : BitVec 1 := Scalar.andi v2617 v2614
  let v2619 : BitVec 32 := Scalar.addi v2613 v2612
  let v2620 : BitVec 32 := Scalar.select v2618 v2619 v2613
  let c64_i32_1649 : BitVec 32 := 64#32
  let v2635 : BitVec 32 := Scalar.muli v2620 c64_i32_1649
  let v2636 : BitVec 32 := Scalar.addi v2634 v2635
  let c0_i32_1652 : BitVec 32 := 0#32
  ![v2636.toNat, 0]
def k0_dev40 (v8 : BitVec 32) : Nat :=
  v8.toNat
def k0_off28 (v4 : BitVec 32) (v10 : BitVec 32) (c0_i32_1655 : BitVec 32) : Fin 2 → Nat :=
  let c1_i32_83 : BitVec 32 := 1#32
  let v92 : BitVec 32 := Scalar.addi v4 c1_i32_83
  let c8_i32_84 : BitVec 32 := 8#32
  let c0_i32_85 : BitVec 32 := 0#32
  let v93 : BitVec 1 := Scalar.cmpi .eq c8_i32_84 c0_i32_85
  let c1_i32_86 : BitVec 32 := 1#32
  let v94 : BitVec 32 := Scalar.select v93 c1_i32_86 c8_i32_84
  let v95 : BitVec 32 := Scalar.remsi v92 v94
  let c0_i32_88 : BitVec 32 := 0#32
  let v97 : BitVec 1 := Scalar.cmpi .slt v95 c0_i32_88
  let c0_i32_89 : BitVec 32 := 0#32
  let v98 : BitVec 1 := Scalar.cmpi .slt v94 c0_i32_89
  let v99 : BitVec 1 := Scalar.xori v97 v98
  let c0_i32_87 : BitVec 32 := 0#32
  let v96 : BitVec 1 := Scalar.cmpi .ne v95 c0_i32_87
  let v100 : BitVec 1 := Scalar.andi v99 v96
  let v101 : BitVec 32 := Scalar.addi v95 v94
  let v102 : BitVec 32 := Scalar.select v100 v101 v95
  let c512_i32 : BitVec 32 := 512#32
  let v103 : BitVec 32 := Scalar.muli v102 c512_i32
  let c1_i32_1654 : BitVec 32 := 1#32
  let v2643 : BitVec 32 := Scalar.addi v10 c1_i32_1654
  let v2644 : BitVec 32 := Scalar.subi v2643 c0_i32_1655
  let c4_i32_1656 : BitVec 32 := 4#32
  let c0_i32_1657 : BitVec 32 := 0#32
  let v2645 : BitVec 1 := Scalar.cmpi .eq c4_i32_1656 c0_i32_1657
  let c1_i32_1658 : BitVec 32 := 1#32
  let v2646 : BitVec 32 := Scalar.select v2645 c1_i32_1658 c4_i32_1656
  let v2647 : BitVec 32 := Scalar.remsi v2644 v2646
  let c0_i32_1660 : BitVec 32 := 0#32
  let v2649 : BitVec 1 := Scalar.cmpi .slt v2647 c0_i32_1660
  let c0_i32_1661 : BitVec 32 := 0#32
  let v2650 : BitVec 1 := Scalar.cmpi .slt v2646 c0_i32_1661
  let v2651 : BitVec 1 := Scalar.xori v2649 v2650
  let c0_i32_1659 : BitVec 32 := 0#32
  let v2648 : BitVec 1 := Scalar.cmpi .ne v2647 c0_i32_1659
  let v2652 : BitVec 1 := Scalar.andi v2651 v2648
  let v2653 : BitVec 32 := Scalar.addi v2647 v2646
  let v2654 : BitVec 32 := Scalar.select v2652 v2653 v2647
  let c64_i32_1662 : BitVec 32 := 64#32
  let v2655 : BitVec 32 := Scalar.muli v2654 c64_i32_1662
  let v2656 : BitVec 32 := Scalar.addi v103 v2655
  let c0_i32_1674 : BitVec 32 := 0#32
  ![v2656.toNat, 0]
def k0_dev41 (v12 : BitVec 32) : Nat :=
  v12.toNat
def k0_off29 (v4 : BitVec 32) (v10 : BitVec 32) (c0_i32_1664 : BitVec 32) : Fin 2 → Nat :=
  let c1_i32_90 : BitVec 32 := 1#32
  let v104 : BitVec 32 := Scalar.subi v4 c1_i32_90
  let c8_i32_91 : BitVec 32 := 8#32
  let c0_i32_92 : BitVec 32 := 0#32
  let v105 : BitVec 1 := Scalar.cmpi .eq c8_i32_91 c0_i32_92
  let c1_i32_93 : BitVec 32 := 1#32
  let v106 : BitVec 32 := Scalar.select v105 c1_i32_93 c8_i32_91
  let v107 : BitVec 32 := Scalar.remsi v104 v106
  let c0_i32_95 : BitVec 32 := 0#32
  let v109 : BitVec 1 := Scalar.cmpi .slt v107 c0_i32_95
  let c0_i32_96 : BitVec 32 := 0#32
  let v110 : BitVec 1 := Scalar.cmpi .slt v106 c0_i32_96
  let v111 : BitVec 1 := Scalar.xori v109 v110
  let c0_i32_94 : BitVec 32 := 0#32
  let v108 : BitVec 1 := Scalar.cmpi .ne v107 c0_i32_94
  let v112 : BitVec 1 := Scalar.andi v111 v108
  let v113 : BitVec 32 := Scalar.addi v107 v106
  let v114 : BitVec 32 := Scalar.select v112 v113 v107
  let c512_i32_97 : BitVec 32 := 512#32
  let v115 : BitVec 32 := Scalar.muli v114 c512_i32_97
  let c256_i32 : BitVec 32 := 256#32
  let v116 : BitVec 32 := Scalar.addi v115 c256_i32
  let c1_i32_1663 : BitVec 32 := 1#32
  let v2657 : BitVec 32 := Scalar.subi v10 c1_i32_1663
  let v2658 : BitVec 32 := Scalar.addi v2657 c0_i32_1664
  let c4_i32_1665 : BitVec 32 := 4#32
  let c0_i32_1666 : BitVec 32 := 0#32
  let v2659 : BitVec 1 := Scalar.cmpi .eq c4_i32_1665 c0_i32_1666
  let c1_i32_1667 : BitVec 32 := 1#32
  let v2660 : BitVec 32 := Scalar.select v2659 c1_i32_1667 c4_i32_1665
  let v2661 : BitVec 32 := Scalar.remsi v2658 v2660
  let c0_i32_1669 : BitVec 32 := 0#32
  let v2663 : BitVec 1 := Scalar.cmpi .slt v2661 c0_i32_1669
  let c0_i32_1670 : BitVec 32 := 0#32
  let v2664 : BitVec 1 := Scalar.cmpi .slt v2660 c0_i32_1670
  let v2665 : BitVec 1 := Scalar.xori v2663 v2664
  let c0_i32_1668 : BitVec 32 := 0#32
  let v2662 : BitVec 1 := Scalar.cmpi .ne v2661 c0_i32_1668
  let v2666 : BitVec 1 := Scalar.andi v2665 v2662
  let v2667 : BitVec 32 := Scalar.addi v2661 v2660
  let v2668 : BitVec 32 := Scalar.select v2666 v2667 v2661
  let c64_i32_1671 : BitVec 32 := 64#32
  let v2669 : BitVec 32 := Scalar.muli v2668 c64_i32_1671
  let v2670 : BitVec 32 := Scalar.addi v116 v2669
  let c0_i32_1678 : BitVec 32 := 0#32
  ![v2670.toNat, 0]

def k0_chk6 (v4 : BitVec 32) (v10 : BitVec 32) : Prop :=
  (∀ a, (k0_off19 v4 v10) a + S64x512.size a ≤ S4096x512.size a) ∧
  (∀ a, (k0_off21 v4 v10) a + S64x512.size a ≤ S4096x512.size a) ∧
  (∀ (r : Fin 3), ∀ a, (k0_off22 v4 v10 (BitVec.ofNat 32 r.val)) a + S64x512.size a ≤ S4096x512.size a) ∧
  (∀ (r : Fin 3), ∀ a, (k0_off23 v4 v10 (BitVec.ofNat 32 r.val)) a + S64x512.size a ≤ S4096x512.size a) ∧
  (∀ a, (k0_off24 v4 v10) a + S64x512.size a ≤ S4096x512.size a) ∧
  (∀ (hinb : ∀ a, (k0_off24 v4 v10) a + S64x512.size a ≤ S4096x512.size a), (Rect.unit (s := S4096x512) (k0_off24 v4 v10) S64x512.size hinb).PackedRows (EltTy.packing .bf16)) ∧
  (∀ a, (k0_off25 v4 v10) a + S64x512.size a ≤ S4096x512.size a) ∧
  (∀ (hinb : ∀ a, (k0_off25 v4 v10) a + S64x512.size a ≤ S4096x512.size a), (Rect.unit (s := S4096x512) (k0_off25 v4 v10) S64x512.size hinb).PackedRows (EltTy.packing .bf16)) ∧
  (∀ (r₁ : Fin 7) (r₂ : Fin 4), ∀ a, (k0_off26 v4 v10 (BitVec.ofNat 32 r₁.val) (BitVec.ofNat 32 r₂.val)) a + S64x512.size a ≤ S4096x512.size a) ∧
  (∀ (r₁ : Fin 7) (r₂ : Fin 4), ∀ (hinb : ∀ a, (k0_off26 v4 v10 (BitVec.ofNat 32 r₁.val) (BitVec.ofNat 32 r₂.val)) a + S64x512.size a ≤ S4096x512.size a), (Rect.unit (s := S4096x512) (k0_off26 v4 v10 (BitVec.ofNat 32 r₁.val) (BitVec.ofNat 32 r₂.val)) S64x512.size hinb).WholeWords (EltTy.packing .bf16)) ∧
  (∀ (r₁ : Fin 7) (r₂ : Fin 4), ∀ a, (k0_off27 v4 v10 (BitVec.ofNat 32 r₁.val) (BitVec.ofNat 32 r₂.val)) a + S64x512.size a ≤ S4096x512.size a) ∧
  (∀ (r₁ : Fin 7) (r₂ : Fin 4), ∀ (hinb : ∀ a, (k0_off27 v4 v10 (BitVec.ofNat 32 r₁.val) (BitVec.ofNat 32 r₂.val)) a + S64x512.size a ≤ S4096x512.size a), (Rect.unit (s := S4096x512) (k0_off27 v4 v10 (BitVec.ofNat 32 r₁.val) (BitVec.ofNat 32 r₂.val)) S64x512.size hinb).WholeWords (EltTy.packing .bf16)) ∧
  (∀ (r : Fin 3), ∀ a, (k0_off28 v4 v10 (BitVec.ofNat 32 r.val)) a + S64x512.size a ≤ S4096x512.size a) ∧
  (∀ (r : Fin 3), ∀ (hinb : ∀ a, (k0_off28 v4 v10 (BitVec.ofNat 32 r.val)) a + S64x512.size a ≤ S4096x512.size a), (Rect.unit (s := S4096x512) (k0_off28 v4 v10 (BitVec.ofNat 32 r.val)) S64x512.size hinb).WholeWords (EltTy.packing .bf16)) ∧
  (∀ (r : Fin 3), ∀ a, (k0_off29 v4 v10 (BitVec.ofNat 32 r.val)) a + S64x512.size a ≤ S4096x512.size a) ∧
  (∀ (r : Fin 3), ∀ (hinb : ∀ a, (k0_off29 v4 v10 (BitVec.ofNat 32 r.val)) a + S64x512.size a ≤ S4096x512.size a), (Rect.unit (s := S4096x512) (k0_off29 v4 v10 (BitVec.ofNat 32 r.val)) S64x512.size hinb).WholeWords (EltTy.packing .bf16))
theorem k0_off19_inb : ∀ (v4 : BitVec 32) (v10 : BitVec 32) (k0_hw6 : k0_chk6 v4 v10), ∀ a, (k0_off19 v4 v10) a + S64x512.size a ≤ S4096x512.size a := fun v4 v10 k0_hw6 => k0_hw6.1
theorem k0_off21_inb : ∀ (v4 : BitVec 32) (v10 : BitVec 32) (k0_hw6 : k0_chk6 v4 v10), ∀ a, (k0_off21 v4 v10) a + S64x512.size a ≤ S4096x512.size a := fun v4 v10 k0_hw6 => k0_hw6.2.1
theorem k0_off22_inb : ∀ (v4 : BitVec 32) (v10 : BitVec 32) (k0_hw6 : k0_chk6 v4 v10), ∀ (r : Fin 3), ∀ a, (k0_off22 v4 v10 (BitVec.ofNat 32 r.val)) a + S64x512.size a ≤ S4096x512.size a := fun v4 v10 k0_hw6 r => k0_hw6.2.2.1 r
theorem k0_off23_inb : ∀ (v4 : BitVec 32) (v10 : BitVec 32) (k0_hw6 : k0_chk6 v4 v10), ∀ (r : Fin 3), ∀ a, (k0_off23 v4 v10 (BitVec.ofNat 32 r.val)) a + S64x512.size a ≤ S4096x512.size a := fun v4 v10 k0_hw6 r => k0_hw6.2.2.2.1 r
theorem k0_off24_inb : ∀ (v4 : BitVec 32) (v10 : BitVec 32) (k0_hw6 : k0_chk6 v4 v10), ∀ a, (k0_off24 v4 v10) a + S64x512.size a ≤ S4096x512.size a := fun v4 v10 k0_hw6 => k0_hw6.2.2.2.2.1
theorem k0_off24_packedbf16 : ∀ (v4 : BitVec 32) (v10 : BitVec 32) (k0_hw6 : k0_chk6 v4 v10), (Rect.unit (s := S4096x512) (k0_off24 v4 v10) S64x512.size (k0_off24_inb v4 v10 k0_hw6)).PackedRows (EltTy.packing .bf16) := fun v4 v10 k0_hw6 => k0_hw6.2.2.2.2.2.1 (k0_off24_inb v4 v10 k0_hw6)
theorem k0_off25_inb : ∀ (v4 : BitVec 32) (v10 : BitVec 32) (k0_hw6 : k0_chk6 v4 v10), ∀ a, (k0_off25 v4 v10) a + S64x512.size a ≤ S4096x512.size a := fun v4 v10 k0_hw6 => k0_hw6.2.2.2.2.2.2.1
theorem k0_off25_packedbf16 : ∀ (v4 : BitVec 32) (v10 : BitVec 32) (k0_hw6 : k0_chk6 v4 v10), (Rect.unit (s := S4096x512) (k0_off25 v4 v10) S64x512.size (k0_off25_inb v4 v10 k0_hw6)).PackedRows (EltTy.packing .bf16) := fun v4 v10 k0_hw6 => k0_hw6.2.2.2.2.2.2.2.1 (k0_off25_inb v4 v10 k0_hw6)
theorem k0_off26_inb : ∀ (v4 : BitVec 32) (v10 : BitVec 32) (k0_hw6 : k0_chk6 v4 v10), ∀ (r₁ : Fin 7) (r₂ : Fin 4), ∀ a, (k0_off26 v4 v10 (BitVec.ofNat 32 r₁.val) (BitVec.ofNat 32 r₂.val)) a + S64x512.size a ≤ S4096x512.size a := fun v4 v10 k0_hw6 r₁ r₂ => k0_hw6.2.2.2.2.2.2.2.2.1 r₁ r₂
theorem k0_off26_wordsbf16 : ∀ (v4 : BitVec 32) (v10 : BitVec 32) (k0_hw6 : k0_chk6 v4 v10), ∀ (r₁ : Fin 7) (r₂ : Fin 4), (Rect.unit (s := S4096x512) (k0_off26 v4 v10 (BitVec.ofNat 32 r₁.val) (BitVec.ofNat 32 r₂.val)) S64x512.size (k0_off26_inb v4 v10 k0_hw6 r₁ r₂)).WholeWords (EltTy.packing .bf16) := fun v4 v10 k0_hw6 r₁ r₂ => k0_hw6.2.2.2.2.2.2.2.2.2.1 r₁ r₂ (k0_off26_inb v4 v10 k0_hw6 r₁ r₂)
theorem k0_off27_inb : ∀ (v4 : BitVec 32) (v10 : BitVec 32) (k0_hw6 : k0_chk6 v4 v10), ∀ (r₁ : Fin 7) (r₂ : Fin 4), ∀ a, (k0_off27 v4 v10 (BitVec.ofNat 32 r₁.val) (BitVec.ofNat 32 r₂.val)) a + S64x512.size a ≤ S4096x512.size a := fun v4 v10 k0_hw6 r₁ r₂ => k0_hw6.2.2.2.2.2.2.2.2.2.2.1 r₁ r₂
theorem k0_off27_wordsbf16 : ∀ (v4 : BitVec 32) (v10 : BitVec 32) (k0_hw6 : k0_chk6 v4 v10), ∀ (r₁ : Fin 7) (r₂ : Fin 4), (Rect.unit (s := S4096x512) (k0_off27 v4 v10 (BitVec.ofNat 32 r₁.val) (BitVec.ofNat 32 r₂.val)) S64x512.size (k0_off27_inb v4 v10 k0_hw6 r₁ r₂)).WholeWords (EltTy.packing .bf16) := fun v4 v10 k0_hw6 r₁ r₂ => k0_hw6.2.2.2.2.2.2.2.2.2.2.2.1 r₁ r₂ (k0_off27_inb v4 v10 k0_hw6 r₁ r₂)
theorem k0_off28_inb : ∀ (v4 : BitVec 32) (v10 : BitVec 32) (k0_hw6 : k0_chk6 v4 v10), ∀ (r : Fin 3), ∀ a, (k0_off28 v4 v10 (BitVec.ofNat 32 r.val)) a + S64x512.size a ≤ S4096x512.size a := fun v4 v10 k0_hw6 r => k0_hw6.2.2.2.2.2.2.2.2.2.2.2.2.1 r
theorem k0_off28_wordsbf16 : ∀ (v4 : BitVec 32) (v10 : BitVec 32) (k0_hw6 : k0_chk6 v4 v10), ∀ (r : Fin 3), (Rect.unit (s := S4096x512) (k0_off28 v4 v10 (BitVec.ofNat 32 r.val)) S64x512.size (k0_off28_inb v4 v10 k0_hw6 r)).WholeWords (EltTy.packing .bf16) := fun v4 v10 k0_hw6 r => k0_hw6.2.2.2.2.2.2.2.2.2.2.2.2.2.1 r (k0_off28_inb v4 v10 k0_hw6 r)
theorem k0_off29_inb : ∀ (v4 : BitVec 32) (v10 : BitVec 32) (k0_hw6 : k0_chk6 v4 v10), ∀ (r : Fin 3), ∀ a, (k0_off29 v4 v10 (BitVec.ofNat 32 r.val)) a + S64x512.size a ≤ S4096x512.size a := fun v4 v10 k0_hw6 r => k0_hw6.2.2.2.2.2.2.2.2.2.2.2.2.2.2.1 r
theorem k0_off29_wordsbf16 : ∀ (v4 : BitVec 32) (v10 : BitVec 32) (k0_hw6 : k0_chk6 v4 v10), ∀ (r : Fin 3), (Rect.unit (s := S4096x512) (k0_off29 v4 v10 (BitVec.ofNat 32 r.val)) S64x512.size (k0_off29_inb v4 v10 k0_hw6 r)).WholeWords (EltTy.packing .bf16) := fun v4 v10 k0_hw6 r => k0_hw6.2.2.2.2.2.2.2.2.2.2.2.2.2.2.2 r (k0_off29_inb v4 v10 k0_hw6 r)

def k0_dev42 (v14 : BitVec 32) : Nat :=
  v14.toNat
def k0_dev43 (v6 : BitVec 32) : Nat :=
  v6.toNat
def k0_dev44 (v8 : BitVec 32) : Nat :=
  v8.toNat
def k0_dev45 (v12 : BitVec 32) : Nat :=
  v12.toNat
def k0_dev46 (v14 : BitVec 32) : Nat :=
  v14.toNat
def k0_dev47 (v6 : BitVec 32) : Nat :=
  v6.toNat
def k0_dev48 (v8 : BitVec 32) : Nat :=
  v8.toNat
def k0_dev49 (v12 : BitVec 32) : Nat :=
  v12.toNat

def k0_chk3 (v12 : BitVec 32) : Prop :=
  ((k0_dev3 v12) < nD) ∧
  ((k0_dev33 v12) < nD) ∧
  ((k0_dev35 v12) < nD) ∧
  ((k0_dev37 v12) < nD) ∧
  ((k0_dev41 v12) < nD) ∧
  ((k0_dev45 v12) < nD) ∧
  ((k0_dev49 v12) < nD)
theorem k0_dev3_lt : ∀ (v12 : BitVec 32) (k0_hw3 : k0_chk3 v12), (k0_dev3 v12) < nD := fun v12 k0_hw3 => k0_hw3.1
theorem k0_dev33_lt : ∀ (v12 : BitVec 32) (k0_hw3 : k0_chk3 v12), (k0_dev33 v12) < nD := fun v12 k0_hw3 => k0_hw3.2.1
theorem k0_dev35_lt : ∀ (v12 : BitVec 32) (k0_hw3 : k0_chk3 v12), (k0_dev35 v12) < nD := fun v12 k0_hw3 => k0_hw3.2.2.1
theorem k0_dev37_lt : ∀ (v12 : BitVec 32) (k0_hw3 : k0_chk3 v12), (k0_dev37 v12) < nD := fun v12 k0_hw3 => k0_hw3.2.2.2.1
theorem k0_dev41_lt : ∀ (v12 : BitVec 32) (k0_hw3 : k0_chk3 v12), (k0_dev41 v12) < nD := fun v12 k0_hw3 => k0_hw3.2.2.2.2.1
theorem k0_dev45_lt : ∀ (v12 : BitVec 32) (k0_hw3 : k0_chk3 v12), (k0_dev45 v12) < nD := fun v12 k0_hw3 => k0_hw3.2.2.2.2.2.1
theorem k0_dev49_lt : ∀ (v12 : BitVec 32) (k0_hw3 : k0_chk3 v12), (k0_dev49 v12) < nD := fun v12 k0_hw3 => k0_hw3.2.2.2.2.2.2

def k0_dev50 (v14 : BitVec 32) : Nat :=
  v14.toNat

def k0_chk4 (v14 : BitVec 32) : Prop :=
  ((k0_dev4 v14) < nD) ∧
  ((k0_dev34 v14) < nD) ∧
  ((k0_dev36 v14) < nD) ∧
  ((k0_dev38 v14) < nD) ∧
  ((k0_dev42 v14) < nD) ∧
  ((k0_dev46 v14) < nD) ∧
  ((k0_dev50 v14) < nD)
theorem k0_dev4_lt : ∀ (v14 : BitVec 32) (k0_hw4 : k0_chk4 v14), (k0_dev4 v14) < nD := fun v14 k0_hw4 => k0_hw4.1
theorem k0_dev34_lt : ∀ (v14 : BitVec 32) (k0_hw4 : k0_chk4 v14), (k0_dev34 v14) < nD := fun v14 k0_hw4 => k0_hw4.2.1
theorem k0_dev36_lt : ∀ (v14 : BitVec 32) (k0_hw4 : k0_chk4 v14), (k0_dev36 v14) < nD := fun v14 k0_hw4 => k0_hw4.2.2.1
theorem k0_dev38_lt : ∀ (v14 : BitVec 32) (k0_hw4 : k0_chk4 v14), (k0_dev38 v14) < nD := fun v14 k0_hw4 => k0_hw4.2.2.2.1
theorem k0_dev42_lt : ∀ (v14 : BitVec 32) (k0_hw4 : k0_chk4 v14), (k0_dev42 v14) < nD := fun v14 k0_hw4 => k0_hw4.2.2.2.2.1
theorem k0_dev46_lt : ∀ (v14 : BitVec 32) (k0_hw4 : k0_chk4 v14), (k0_dev46 v14) < nD := fun v14 k0_hw4 => k0_hw4.2.2.2.2.2.1
theorem k0_dev50_lt : ∀ (v14 : BitVec 32) (k0_hw4 : k0_chk4 v14), (k0_dev50 v14) < nD := fun v14 k0_hw4 => k0_hw4.2.2.2.2.2.2

def k0_dev51 (v6 : BitVec 32) : Nat :=
  v6.toNat
def k0_dev52 (v8 : BitVec 32) : Nat :=
  v8.toNat
def k0_off30 (v4 : BitVec 32) : Fin 2 → Nat :=
  let c1_i32_83 : BitVec 32 := 1#32
  let v92 : BitVec 32 := Scalar.addi v4 c1_i32_83
  let c8_i32_84 : BitVec 32 := 8#32
  let c0_i32_85 : BitVec 32 := 0#32
  let v93 : BitVec 1 := Scalar.cmpi .eq c8_i32_84 c0_i32_85
  let c1_i32_86 : BitVec 32 := 1#32
  let v94 : BitVec 32 := Scalar.select v93 c1_i32_86 c8_i32_84
  let v95 : BitVec 32 := Scalar.remsi v92 v94
  let c0_i32_88 : BitVec 32 := 0#32
  let v97 : BitVec 1 := Scalar.cmpi .slt v95 c0_i32_88
  let c0_i32_89 : BitVec 32 := 0#32
  let v98 : BitVec 1 := Scalar.cmpi .slt v94 c0_i32_89
  let v99 : BitVec 1 := Scalar.xori v97 v98
  let c0_i32_87 : BitVec 32 := 0#32
  let v96 : BitVec 1 := Scalar.cmpi .ne v95 c0_i32_87
  let v100 : BitVec 1 := Scalar.andi v99 v96
  let v101 : BitVec 32 := Scalar.addi v95 v94
  let v102 : BitVec 32 := Scalar.select v100 v101 v95
  let c512_i32 : BitVec 32 := 512#32
  let v103 : BitVec 32 := Scalar.muli v102 c512_i32
  let v2988 : Index := Scalar.indexCast v103
  let c0_1891 : Index := 0#32
  ![v2988.toNat, 0]
def k0_off31 (v4 : BitVec 32) : Fin 3 → Nat :=
  let c1_i32_83 : BitVec 32 := 1#32
  let v92 : BitVec 32 := Scalar.addi v4 c1_i32_83
  let c8_i32_84 : BitVec 32 := 8#32
  let c0_i32_85 : BitVec 32 := 0#32
  let v93 : BitVec 1 := Scalar.cmpi .eq c8_i32_84 c0_i32_85
  let c1_i32_86 : BitVec 32 := 1#32
  let v94 : BitVec 32 := Scalar.select v93 c1_i32_86 c8_i32_84
  let v95 : BitVec 32 := Scalar.remsi v92 v94
  let c0_i32_88 : BitVec 32 := 0#32
  let v97 : BitVec 1 := Scalar.cmpi .slt v95 c0_i32_88
  let c0_i32_89 : BitVec 32 := 0#32
  let v98 : BitVec 1 := Scalar.cmpi .slt v94 c0_i32_89
  let v99 : BitVec 1 := Scalar.xori v97 v98
  let c0_i32_87 : BitVec 32 := 0#32
  let v96 : BitVec 1 := Scalar.cmpi .ne v95 c0_i32_87
  let v100 : BitVec 1 := Scalar.andi v99 v96
  let v101 : BitVec 32 := Scalar.addi v95 v94
  let v102 : BitVec 32 := Scalar.select v100 v101 v95
  let c512_i32 : BitVec 32 := 512#32
  let v103 : BitVec 32 := Scalar.muli v102 c512_i32
  let c0_i32_1895 : BitVec 32 := 0#32
  let v2995 : BitVec 1 := Scalar.cmpi .sgt v103 c0_i32_1895
  let v2996 : BitVec 32 := Scalar.extui v2995
  let c0_i32_1896 : BitVec 32 := 0#32
  let v2997 : BitVec 1 := Scalar.cmpi .slt v103 c0_i32_1896
  let v2998 : BitVec 32 := Scalar.extui v2997
  let v2999 : BitVec 32 := Scalar.subi v2996 v2998
  let c1024_i32 : BitVec 32 := 1024#32
  let c0_i32_1897 : BitVec 32 := 0#32
  let v3000 : BitVec 1 := Scalar.cmpi .sgt c1024_i32 c0_i32_1897
  let v3001 : BitVec 32 := Scalar.extui v3000
  let c0_i32_1898 : BitVec 32 := 0#32
  let v3002 : BitVec 1 := Scalar.cmpi .slt c1024_i32 c0_i32_1898
  let v3003 : BitVec 32 := Scalar.extui v3002
  let v3004 : BitVec 32 := Scalar.subi v3001 v3003
  let v3005 : BitVec 1 := Scalar.cmpi .ne v2999 v3004
  let v3006 : BitVec 32 := Scalar.remsi v103 c1024_i32
  let c0_i32_1899 : BitVec 32 := 0#32
  let v3007 : BitVec 1 := Scalar.cmpi .ne v3006 c0_i32_1899
  let v3008 : BitVec 1 := Scalar.andi v3005 v3007
  let v2994 : BitVec 32 := Scalar.divsi v103 c1024_i32
  let c1_i32_1900 : BitVec 32 := 1#32
  let v3009 : BitVec 32 := Scalar.subi v2994 c1_i32_1900
  let v3010 : BitVec 32 := Scalar.select v3008 v3009 v2994
  let c1024_i32_1901 : BitVec 32 := 1024#32
  let c0_i32_1902 : BitVec 32 := 0#32
  let v3011 : BitVec 1 := Scalar.cmpi .eq c1024_i32_1901 c0_i32_1902
  let c1_i32_1903 : BitVec 32 := 1#32
  let v3012 : BitVec 32 := Scalar.select v3011 c1_i32_1903 c1024_i32_1901
  let v3013 : BitVec 32 := Scalar.remsi v103 v3012
  let c0_i32_1905 : BitVec 32 := 0#32
  let v3015 : BitVec 1 := Scalar.cmpi .slt v3013 c0_i32_1905
  let c0_i32_1906 : BitVec 32 := 0#32
  let v3016 : BitVec 1 := Scalar.cmpi .slt v3012 c0_i32_1906
  let v3017 : BitVec 1 := Scalar.xori v3015 v3016
  let c0_i32_1904 : BitVec 32 := 0#32
  let v3014 : BitVec 1 := Scalar.cmpi .ne v3013 c0_i32_1904
  let v3018 : BitVec 1 := Scalar.andi v3017 v3014
  let v3019 : BitVec 32 := Scalar.addi v3013 v3012
  let v3020 : BitVec 32 := Scalar.select v3018 v3019 v3013
  let c0_i32_1909 : BitVec 32 := 0#32
  ![v3010.toNat, v3020.toNat, 0]
def k0_off32 (v4 : BitVec 32) : Fin 2 → Nat :=
  let c1_i32_90 : BitVec 32 := 1#32
  let v104 : BitVec 32 := Scalar.subi v4 c1_i32_90
  let c8_i32_91 : BitVec 32 := 8#32
  let c0_i32_92 : BitVec 32 := 0#32
  let v105 : BitVec 1 := Scalar.cmpi .eq c8_i32_91 c0_i32_92
  let c1_i32_93 : BitVec 32 := 1#32
  let v106 : BitVec 32 := Scalar.select v105 c1_i32_93 c8_i32_91
  let v107 : BitVec 32 := Scalar.remsi v104 v106
  let c0_i32_95 : BitVec 32 := 0#32
  let v109 : BitVec 1 := Scalar.cmpi .slt v107 c0_i32_95
  let c0_i32_96 : BitVec 32 := 0#32
  let v110 : BitVec 1 := Scalar.cmpi .slt v106 c0_i32_96
  let v111 : BitVec 1 := Scalar.xori v109 v110
  let c0_i32_94 : BitVec 32 := 0#32
  let v108 : BitVec 1 := Scalar.cmpi .ne v107 c0_i32_94
  let v112 : BitVec 1 := Scalar.andi v111 v108
  let v113 : BitVec 32 := Scalar.addi v107 v106
  let v114 : BitVec 32 := Scalar.select v112 v113 v107
  let c512_i32_97 : BitVec 32 := 512#32
  let v115 : BitVec 32 := Scalar.muli v114 c512_i32_97
  let c256_i32 : BitVec 32 := 256#32
  let v116 : BitVec 32 := Scalar.addi v115 c256_i32
  let v3027 : Index := Scalar.indexCast v116
  let c0_1912 : Index := 0#32
  ![v3027.toNat, 0]
def k0_off33 (v4 : BitVec 32) : Fin 3 → Nat :=
  let c1_i32_90 : BitVec 32 := 1#32
  let v104 : BitVec 32 := Scalar.subi v4 c1_i32_90
  let c8_i32_91 : BitVec 32 := 8#32
  let c0_i32_92 : BitVec 32 := 0#32
  let v105 : BitVec 1 := Scalar.cmpi .eq c8_i32_91 c0_i32_92
  let c1_i32_93 : BitVec 32 := 1#32
  let v106 : BitVec 32 := Scalar.select v105 c1_i32_93 c8_i32_91
  let v107 : BitVec 32 := Scalar.remsi v104 v106
  let c0_i32_95 : BitVec 32 := 0#32
  let v109 : BitVec 1 := Scalar.cmpi .slt v107 c0_i32_95
  let c0_i32_96 : BitVec 32 := 0#32
  let v110 : BitVec 1 := Scalar.cmpi .slt v106 c0_i32_96
  let v111 : BitVec 1 := Scalar.xori v109 v110
  let c0_i32_94 : BitVec 32 := 0#32
  let v108 : BitVec 1 := Scalar.cmpi .ne v107 c0_i32_94
  let v112 : BitVec 1 := Scalar.andi v111 v108
  let v113 : BitVec 32 := Scalar.addi v107 v106
  let v114 : BitVec 32 := Scalar.select v112 v113 v107
  let c512_i32_97 : BitVec 32 := 512#32
  let v115 : BitVec 32 := Scalar.muli v114 c512_i32_97
  let c256_i32 : BitVec 32 := 256#32
  let v116 : BitVec 32 := Scalar.addi v115 c256_i32
  let c0_i32_1917 : BitVec 32 := 0#32
  let v3034 : BitVec 1 := Scalar.cmpi .sgt v116 c0_i32_1917
  let v3035 : BitVec 32 := Scalar.extui v3034
  let c0_i32_1918 : BitVec 32 := 0#32
  let v3036 : BitVec 1 := Scalar.cmpi .slt v116 c0_i32_1918
  let v3037 : BitVec 32 := Scalar.extui v3036
  let v3038 : BitVec 32 := Scalar.subi v3035 v3037
  let c1024_i32_1916 : BitVec 32 := 1024#32
  let c0_i32_1919 : BitVec 32 := 0#32
  let v3039 : BitVec 1 := Scalar.cmpi .sgt c1024_i32_1916 c0_i32_1919
  let v3040 : BitVec 32 := Scalar.extui v3039
  let c0_i32_1920 : BitVec 32 := 0#32
  let v3041 : BitVec 1 := Scalar.cmpi .slt c1024_i32_1916 c0_i32_1920
  let v3042 : BitVec 32 := Scalar.extui v3041
  let v3043 : BitVec 32 := Scalar.subi v3040 v3042
  let v3044 : BitVec 1 := Scalar.cmpi .ne v3038 v3043
  let v3045 : BitVec 32 := Scalar.remsi v116 c1024_i32_1916
  let c0_i32_1921 : BitVec 32 := 0#32
  let v3046 : BitVec 1 := Scalar.cmpi .ne v3045 c0_i32_1921
  let v3047 : BitVec 1 := Scalar.andi v3044 v3046
  let v3033 : BitVec 32 := Scalar.divsi v116 c1024_i32_1916
  let c1_i32_1922 : BitVec 32 := 1#32
  let v3048 : BitVec 32 := Scalar.subi v3033 c1_i32_1922
  let v3049 : BitVec 32 := Scalar.select v3047 v3048 v3033
  let c1024_i32_1923 : BitVec 32 := 1024#32
  let c0_i32_1924 : BitVec 32 := 0#32
  let v3050 : BitVec 1 := Scalar.cmpi .eq c1024_i32_1923 c0_i32_1924
  let c1_i32_1925 : BitVec 32 := 1#32
  let v3051 : BitVec 32 := Scalar.select v3050 c1_i32_1925 c1024_i32_1923
  let v3052 : BitVec 32 := Scalar.remsi v116 v3051
  let c0_i32_1927 : BitVec 32 := 0#32
  let v3054 : BitVec 1 := Scalar.cmpi .slt v3052 c0_i32_1927
  let c0_i32_1928 : BitVec 32 := 0#32
  let v3055 : BitVec 1 := Scalar.cmpi .slt v3051 c0_i32_1928
  let v3056 : BitVec 1 := Scalar.xori v3054 v3055
  let c0_i32_1926 : BitVec 32 := 0#32
  let v3053 : BitVec 1 := Scalar.cmpi .ne v3052 c0_i32_1926
  let v3057 : BitVec 1 := Scalar.andi v3056 v3053
  let v3058 : BitVec 32 := Scalar.addi v3052 v3051
  let v3059 : BitVec 32 := Scalar.select v3057 v3058 v3052
  let c0_i32_1931 : BitVec 32 := 0#32
  ![v3049.toNat, v3059.toNat, 0]
def k0_dev53 (v6 : BitVec 32) : Nat :=
  v6.toNat
def k0_dev54 (v6 : BitVec 32) : Nat :=
  v6.toNat
def k0_dev55 (v6 : BitVec 32) : Nat :=
  v6.toNat
def k0_dev56 (v6 : BitVec 32) : Nat :=
  v6.toNat
def k0_dev57 (v8 : BitVec 32) : Nat :=
  v8.toNat
def k0_dev58 (v8 : BitVec 32) : Nat :=
  v8.toNat
def k0_dev59 (v8 : BitVec 32) : Nat :=
  v8.toNat
def k0_dev60 (v8 : BitVec 32) : Nat :=
  v8.toNat
def k0_off34 (v4 : BitVec 32) (c0_i32_2146 : BitVec 32) : Fin 2 → Nat :=
  let v3366 : BitVec 32 := Scalar.subi v4 c0_i32_2146
  let c8_i32_2147 : BitVec 32 := 8#32
  let c0_i32_2148 : BitVec 32 := 0#32
  let v3367 : BitVec 1 := Scalar.cmpi .eq c8_i32_2147 c0_i32_2148
  let c1_i32_2149 : BitVec 32 := 1#32
  let v3368 : BitVec 32 := Scalar.select v3367 c1_i32_2149 c8_i32_2147
  let v3369 : BitVec 32 := Scalar.remsi v3366 v3368
  let c0_i32_2151 : BitVec 32 := 0#32
  let v3371 : BitVec 1 := Scalar.cmpi .slt v3369 c0_i32_2151
  let c0_i32_2152 : BitVec 32 := 0#32
  let v3372 : BitVec 1 := Scalar.cmpi .slt v3368 c0_i32_2152
  let v3373 : BitVec 1 := Scalar.xori v3371 v3372
  let c0_i32_2150 : BitVec 32 := 0#32
  let v3370 : BitVec 1 := Scalar.cmpi .ne v3369 c0_i32_2150
  let v3374 : BitVec 1 := Scalar.andi v3373 v3370
  let v3375 : BitVec 32 := Scalar.addi v3369 v3368
  let v3376 : BitVec 32 := Scalar.select v3374 v3375 v3369
  let c512_i32_2153 : BitVec 32 := 512#32
  let v3377 : BitVec 32 := Scalar.muli v3376 c512_i32_2153
  let v3378 : Index := Scalar.indexCast v3377
  let c0_2154 : Index := 0#32
  ![v3378.toNat, 0]
def k0_off35 (v4 : BitVec 32) (c0_i32_2146 : BitVec 32) : Fin 3 → Nat :=
  let v3366 : BitVec 32 := Scalar.subi v4 c0_i32_2146
  let c8_i32_2147 : BitVec 32 := 8#32
  let c0_i32_2148 : BitVec 32 := 0#32
  let v3367 : BitVec 1 := Scalar.cmpi .eq c8_i32_2147 c0_i32_2148
  let c1_i32_2149 : BitVec 32 := 1#32
  let v3368 : BitVec 32 := Scalar.select v3367 c1_i32_2149 c8_i32_2147
  let v3369 : BitVec 32 := Scalar.remsi v3366 v3368
  let c0_i32_2151 : BitVec 32 := 0#32
  let v3371 : BitVec 1 := Scalar.cmpi .slt v3369 c0_i32_2151
  let c0_i32_2152 : BitVec 32 := 0#32
  let v3372 : BitVec 1 := Scalar.cmpi .slt v3368 c0_i32_2152
  let v3373 : BitVec 1 := Scalar.xori v3371 v3372
  let c0_i32_2150 : BitVec 32 := 0#32
  let v3370 : BitVec 1 := Scalar.cmpi .ne v3369 c0_i32_2150
  let v3374 : BitVec 1 := Scalar.andi v3373 v3370
  let v3375 : BitVec 32 := Scalar.addi v3369 v3368
  let v3376 : BitVec 32 := Scalar.select v3374 v3375 v3369
  let c512_i32_2153 : BitVec 32 := 512#32
  let v3377 : BitVec 32 := Scalar.muli v3376 c512_i32_2153
  let c0_i32_2159 : BitVec 32 := 0#32
  let v3385 : BitVec 1 := Scalar.cmpi .sgt v3377 c0_i32_2159
  let v3386 : BitVec 32 := Scalar.extui v3385
  let c0_i32_2160 : BitVec 32 := 0#32
  let v3387 : BitVec 1 := Scalar.cmpi .slt v3377 c0_i32_2160
  let v3388 : BitVec 32 := Scalar.extui v3387
  let v3389 : BitVec 32 := Scalar.subi v3386 v3388
  let c1024_i32_2158 : BitVec 32 := 1024#32
  let c0_i32_2161 : BitVec 32 := 0#32
  let v3390 : BitVec 1 := Scalar.cmpi .sgt c1024_i32_2158 c0_i32_2161
  let v3391 : BitVec 32 := Scalar.extui v3390
  let c0_i32_2162 : BitVec 32 := 0#32
  let v3392 : BitVec 1 := Scalar.cmpi .slt c1024_i32_2158 c0_i32_2162
  let v3393 : BitVec 32 := Scalar.extui v3392
  let v3394 : BitVec 32 := Scalar.subi v3391 v3393
  let v3395 : BitVec 1 := Scalar.cmpi .ne v3389 v3394
  let v3396 : BitVec 32 := Scalar.remsi v3377 c1024_i32_2158
  let c0_i32_2163 : BitVec 32 := 0#32
  let v3397 : BitVec 1 := Scalar.cmpi .ne v3396 c0_i32_2163
  let v3398 : BitVec 1 := Scalar.andi v3395 v3397
  let v3384 : BitVec 32 := Scalar.divsi v3377 c1024_i32_2158
  let c1_i32_2164 : BitVec 32 := 1#32
  let v3399 : BitVec 32 := Scalar.subi v3384 c1_i32_2164
  let v3400 : BitVec 32 := Scalar.select v3398 v3399 v3384
  let c1024_i32_2165 : BitVec 32 := 1024#32
  let c0_i32_2166 : BitVec 32 := 0#32
  let v3401 : BitVec 1 := Scalar.cmpi .eq c1024_i32_2165 c0_i32_2166
  let c1_i32_2167 : BitVec 32 := 1#32
  let v3402 : BitVec 32 := Scalar.select v3401 c1_i32_2167 c1024_i32_2165
  let v3403 : BitVec 32 := Scalar.remsi v3377 v3402
  let c0_i32_2169 : BitVec 32 := 0#32
  let v3405 : BitVec 1 := Scalar.cmpi .slt v3403 c0_i32_2169
  let c0_i32_2170 : BitVec 32 := 0#32
  let v3406 : BitVec 1 := Scalar.cmpi .slt v3402 c0_i32_2170
  let v3407 : BitVec 1 := Scalar.xori v3405 v3406
  let c0_i32_2168 : BitVec 32 := 0#32
  let v3404 : BitVec 1 := Scalar.cmpi .ne v3403 c0_i32_2168
  let v3408 : BitVec 1 := Scalar.andi v3407 v3404
  let v3409 : BitVec 32 := Scalar.addi v3403 v3402
  let v3410 : BitVec 32 := Scalar.select v3408 v3409 v3403
  let c0_i32_2173 : BitVec 32 := 0#32
  ![v3400.toNat, v3410.toNat, 0]
def k0_off36 (v4 : BitVec 32) (c0_i32_2176 : BitVec 32) : Fin 2 → Nat :=
  let v3417 : BitVec 32 := Scalar.addi v4 c0_i32_2176
  let c8_i32_2177 : BitVec 32 := 8#32
  let c0_i32_2178 : BitVec 32 := 0#32
  let v3418 : BitVec 1 := Scalar.cmpi .eq c8_i32_2177 c0_i32_2178
  let c1_i32_2179 : BitVec 32 := 1#32
  let v3419 : BitVec 32 := Scalar.select v3418 c1_i32_2179 c8_i32_2177
  let v3420 : BitVec 32 := Scalar.remsi v3417 v3419
  let c0_i32_2181 : BitVec 32 := 0#32
  let v3422 : BitVec 1 := Scalar.cmpi .slt v3420 c0_i32_2181
  let c0_i32_2182 : BitVec 32 := 0#32
  let v3423 : BitVec 1 := Scalar.cmpi .slt v3419 c0_i32_2182
  let v3424 : BitVec 1 := Scalar.xori v3422 v3423
  let c0_i32_2180 : BitVec 32 := 0#32
  let v3421 : BitVec 1 := Scalar.cmpi .ne v3420 c0_i32_2180
  let v3425 : BitVec 1 := Scalar.andi v3424 v3421
  let v3426 : BitVec 32 := Scalar.addi v3420 v3419
  let v3427 : BitVec 32 := Scalar.select v3425 v3426 v3420
  let c512_i32_2183 : BitVec 32 := 512#32
  let v3428 : BitVec 32 := Scalar.muli v3427 c512_i32_2183
  let c256_i32_2184 : BitVec 32 := 256#32
  let v3429 : BitVec 32 := Scalar.addi v3428 c256_i32_2184
  let v3430 : Index := Scalar.indexCast v3429
  let c0_2185 : Index := 0#32
  ![v3430.toNat, 0]
def k0_off37 (v4 : BitVec 32) (c0_i32_2176 : BitVec 32) : Fin 3 → Nat :=
  let v3417 : BitVec 32 := Scalar.addi v4 c0_i32_2176
  let c8_i32_2177 : BitVec 32 := 8#32
  let c0_i32_2178 : BitVec 32 := 0#32
  let v3418 : BitVec 1 := Scalar.cmpi .eq c8_i32_2177 c0_i32_2178
  let c1_i32_2179 : BitVec 32 := 1#32
  let v3419 : BitVec 32 := Scalar.select v3418 c1_i32_2179 c8_i32_2177
  let v3420 : BitVec 32 := Scalar.remsi v3417 v3419
  let c0_i32_2181 : BitVec 32 := 0#32
  let v3422 : BitVec 1 := Scalar.cmpi .slt v3420 c0_i32_2181
  let c0_i32_2182 : BitVec 32 := 0#32
  let v3423 : BitVec 1 := Scalar.cmpi .slt v3419 c0_i32_2182
  let v3424 : BitVec 1 := Scalar.xori v3422 v3423
  let c0_i32_2180 : BitVec 32 := 0#32
  let v3421 : BitVec 1 := Scalar.cmpi .ne v3420 c0_i32_2180
  let v3425 : BitVec 1 := Scalar.andi v3424 v3421
  let v3426 : BitVec 32 := Scalar.addi v3420 v3419
  let v3427 : BitVec 32 := Scalar.select v3425 v3426 v3420
  let c512_i32_2183 : BitVec 32 := 512#32
  let v3428 : BitVec 32 := Scalar.muli v3427 c512_i32_2183
  let c256_i32_2184 : BitVec 32 := 256#32
  let v3429 : BitVec 32 := Scalar.addi v3428 c256_i32_2184
  let c0_i32_2190 : BitVec 32 := 0#32
  let v3437 : BitVec 1 := Scalar.cmpi .sgt v3429 c0_i32_2190
  let v3438 : BitVec 32 := Scalar.extui v3437
  let c0_i32_2191 : BitVec 32 := 0#32
  let v3439 : BitVec 1 := Scalar.cmpi .slt v3429 c0_i32_2191
  let v3440 : BitVec 32 := Scalar.extui v3439
  let v3441 : BitVec 32 := Scalar.subi v3438 v3440
  let c1024_i32_2189 : BitVec 32 := 1024#32
  let c0_i32_2192 : BitVec 32 := 0#32
  let v3442 : BitVec 1 := Scalar.cmpi .sgt c1024_i32_2189 c0_i32_2192
  let v3443 : BitVec 32 := Scalar.extui v3442
  let c0_i32_2193 : BitVec 32 := 0#32
  let v3444 : BitVec 1 := Scalar.cmpi .slt c1024_i32_2189 c0_i32_2193
  let v3445 : BitVec 32 := Scalar.extui v3444
  let v3446 : BitVec 32 := Scalar.subi v3443 v3445
  let v3447 : BitVec 1 := Scalar.cmpi .ne v3441 v3446
  let v3448 : BitVec 32 := Scalar.remsi v3429 c1024_i32_2189
  let c0_i32_2194 : BitVec 32 := 0#32
  let v3449 : BitVec 1 := Scalar.cmpi .ne v3448 c0_i32_2194
  let v3450 : BitVec 1 := Scalar.andi v3447 v3449
  let v3436 : BitVec 32 := Scalar.divsi v3429 c1024_i32_2189
  let c1_i32_2195 : BitVec 32 := 1#32
  let v3451 : BitVec 32 := Scalar.subi v3436 c1_i32_2195
  let v3452 : BitVec 32 := Scalar.select v3450 v3451 v3436
  let c1024_i32_2196 : BitVec 32 := 1024#32
  let c0_i32_2197 : BitVec 32 := 0#32
  let v3453 : BitVec 1 := Scalar.cmpi .eq c1024_i32_2196 c0_i32_2197
  let c1_i32_2198 : BitVec 32 := 1#32
  let v3454 : BitVec 32 := Scalar.select v3453 c1_i32_2198 c1024_i32_2196
  let v3455 : BitVec 32 := Scalar.remsi v3429 v3454
  let c0_i32_2200 : BitVec 32 := 0#32
  let v3457 : BitVec 1 := Scalar.cmpi .slt v3455 c0_i32_2200
  let c0_i32_2201 : BitVec 32 := 0#32
  let v3458 : BitVec 1 := Scalar.cmpi .slt v3454 c0_i32_2201
  let v3459 : BitVec 1 := Scalar.xori v3457 v3458
  let c0_i32_2199 : BitVec 32 := 0#32
  let v3456 : BitVec 1 := Scalar.cmpi .ne v3455 c0_i32_2199
  let v3460 : BitVec 1 := Scalar.andi v3459 v3456
  let v3461 : BitVec 32 := Scalar.addi v3455 v3454
  let v3462 : BitVec 32 := Scalar.select v3460 v3461 v3455
  let c0_i32_2204 : BitVec 32 := 0#32
  ![v3452.toNat, v3462.toNat, 0]

def k0_chk5 (v4 : BitVec 32) : Prop :=
  (∀ (r : Fin 2), ∀ a, (k0_off7 v4 (BitVec.ofNat 32 (256 * r.val))) a + S1x272x512.size a ≤ S4x1040x512.size a) ∧
  (∀ (r : Fin 2), ∀ a, (k0_off8 v4 (BitVec.ofNat 32 (256 * r.val))) a + S256x512.size a ≤ S4096x512.size a) ∧
  (∀ a, (k0_off9 v4) a + S1x272x512.size a ≤ S4x1040x512.size a) ∧
  (∀ a, (k0_off10 v4) a + S256x512.size a ≤ S4096x512.size a) ∧
  (∀ a, (k0_off11 v4) a + S1x272x512.size a ≤ S4x1040x512.size a) ∧
  (∀ a, (k0_off12 v4) a + S256x512.size a ≤ S4096x512.size a) ∧
  (∀ (r₁ : Fin 7) (r₂ : Fin 2), ∀ a, (k0_off13 v4 (BitVec.ofNat 32 r₁.val) (BitVec.ofNat 32 (128 * r₂.val))) a + S128x512.size a ≤ S4096x512.size a) ∧
  (∀ (r₁ : Fin 6) (r₂ : Fin 2), ∀ a, (k0_off14 v4 (BitVec.ofNat 32 r₁.val) (BitVec.ofNat 32 (128 * r₂.val))) a + S128x512.size a ≤ S4096x512.size a) ∧
  (∀ (r : Fin 6), ∀ a, (k0_off15 v4 (BitVec.ofNat 32 r.val)) a + S1x272x512.size a ≤ S4x1040x512.size a) ∧
  (∀ (r : Fin 6), ∀ a, (k0_off16 v4 (BitVec.ofNat 32 r.val)) a + S256x512.size a ≤ S4096x512.size a) ∧
  (∀ (r : Fin 6), ∀ a, (k0_off17 v4 (BitVec.ofNat 32 r.val)) a + S1x272x512.size a ≤ S4x1040x512.size a) ∧
  (∀ (r : Fin 6), ∀ a, (k0_off18 v4 (BitVec.ofNat 32 r.val)) a + S256x512.size a ≤ S4096x512.size a) ∧
  (∀ (r : Fin 2), ∀ a, (k0_off20 v4 (BitVec.ofNat 32 (128 * r.val))) a + S128x512.size a ≤ S4096x512.size a) ∧
  (∀ a, (k0_off30 v4) a + S256x512.size a ≤ S4096x512.size a) ∧
  (∀ a, (k0_off31 v4) a + S1x256x512.size a ≤ S4x1024x512.size a) ∧
  (∀ a, (k0_off32 v4) a + S256x512.size a ≤ S4096x512.size a) ∧
  (∀ a, (k0_off33 v4) a + S1x256x512.size a ≤ S4x1024x512.size a) ∧
  (∀ (r : Fin 7), ∀ a, (k0_off34 v4 (BitVec.ofNat 32 r.val)) a + S256x512.size a ≤ S4096x512.size a) ∧
  (∀ (r : Fin 7), ∀ a, (k0_off35 v4 (BitVec.ofNat 32 r.val)) a + S1x256x512.size a ≤ S4x1024x512.size a) ∧
  (∀ (r : Fin 7), ∀ a, (k0_off36 v4 (BitVec.ofNat 32 r.val)) a + S256x512.size a ≤ S4096x512.size a) ∧
  (∀ (r : Fin 7), ∀ a, (k0_off37 v4 (BitVec.ofNat 32 r.val)) a + S1x256x512.size a ≤ S4x1024x512.size a)
theorem k0_off7_inb : ∀ (v4 : BitVec 32) (k0_hw5 : k0_chk5 v4), ∀ (r : Fin 2), ∀ a, (k0_off7 v4 (BitVec.ofNat 32 (256 * r.val))) a + S1x272x512.size a ≤ S4x1040x512.size a := fun v4 k0_hw5 r => k0_hw5.1 r
theorem k0_off8_inb : ∀ (v4 : BitVec 32) (k0_hw5 : k0_chk5 v4), ∀ (r : Fin 2), ∀ a, (k0_off8 v4 (BitVec.ofNat 32 (256 * r.val))) a + S256x512.size a ≤ S4096x512.size a := fun v4 k0_hw5 r => k0_hw5.2.1 r
theorem k0_off9_inb : ∀ (v4 : BitVec 32) (k0_hw5 : k0_chk5 v4), ∀ a, (k0_off9 v4) a + S1x272x512.size a ≤ S4x1040x512.size a := fun v4 k0_hw5 => k0_hw5.2.2.1
theorem k0_off10_inb : ∀ (v4 : BitVec 32) (k0_hw5 : k0_chk5 v4), ∀ a, (k0_off10 v4) a + S256x512.size a ≤ S4096x512.size a := fun v4 k0_hw5 => k0_hw5.2.2.2.1
theorem k0_off11_inb : ∀ (v4 : BitVec 32) (k0_hw5 : k0_chk5 v4), ∀ a, (k0_off11 v4) a + S1x272x512.size a ≤ S4x1040x512.size a := fun v4 k0_hw5 => k0_hw5.2.2.2.2.1
theorem k0_off12_inb : ∀ (v4 : BitVec 32) (k0_hw5 : k0_chk5 v4), ∀ a, (k0_off12 v4) a + S256x512.size a ≤ S4096x512.size a := fun v4 k0_hw5 => k0_hw5.2.2.2.2.2.1
theorem k0_off13_inb : ∀ (v4 : BitVec 32) (k0_hw5 : k0_chk5 v4), ∀ (r₁ : Fin 7) (r₂ : Fin 2), ∀ a, (k0_off13 v4 (BitVec.ofNat 32 r₁.val) (BitVec.ofNat 32 (128 * r₂.val))) a + S128x512.size a ≤ S4096x512.size a := fun v4 k0_hw5 r₁ r₂ => k0_hw5.2.2.2.2.2.2.1 r₁ r₂
theorem k0_off14_inb : ∀ (v4 : BitVec 32) (k0_hw5 : k0_chk5 v4), ∀ (r₁ : Fin 6) (r₂ : Fin 2), ∀ a, (k0_off14 v4 (BitVec.ofNat 32 r₁.val) (BitVec.ofNat 32 (128 * r₂.val))) a + S128x512.size a ≤ S4096x512.size a := fun v4 k0_hw5 r₁ r₂ => k0_hw5.2.2.2.2.2.2.2.1 r₁ r₂
theorem k0_off15_inb : ∀ (v4 : BitVec 32) (k0_hw5 : k0_chk5 v4), ∀ (r : Fin 6), ∀ a, (k0_off15 v4 (BitVec.ofNat 32 r.val)) a + S1x272x512.size a ≤ S4x1040x512.size a := fun v4 k0_hw5 r => k0_hw5.2.2.2.2.2.2.2.2.1 r
theorem k0_off16_inb : ∀ (v4 : BitVec 32) (k0_hw5 : k0_chk5 v4), ∀ (r : Fin 6), ∀ a, (k0_off16 v4 (BitVec.ofNat 32 r.val)) a + S256x512.size a ≤ S4096x512.size a := fun v4 k0_hw5 r => k0_hw5.2.2.2.2.2.2.2.2.2.1 r
theorem k0_off17_inb : ∀ (v4 : BitVec 32) (k0_hw5 : k0_chk5 v4), ∀ (r : Fin 6), ∀ a, (k0_off17 v4 (BitVec.ofNat 32 r.val)) a + S1x272x512.size a ≤ S4x1040x512.size a := fun v4 k0_hw5 r => k0_hw5.2.2.2.2.2.2.2.2.2.2.1 r
theorem k0_off18_inb : ∀ (v4 : BitVec 32) (k0_hw5 : k0_chk5 v4), ∀ (r : Fin 6), ∀ a, (k0_off18 v4 (BitVec.ofNat 32 r.val)) a + S256x512.size a ≤ S4096x512.size a := fun v4 k0_hw5 r => k0_hw5.2.2.2.2.2.2.2.2.2.2.2.1 r
theorem k0_off20_inb : ∀ (v4 : BitVec 32) (k0_hw5 : k0_chk5 v4), ∀ (r : Fin 2), ∀ a, (k0_off20 v4 (BitVec.ofNat 32 (128 * r.val))) a + S128x512.size a ≤ S4096x512.size a := fun v4 k0_hw5 r => k0_hw5.2.2.2.2.2.2.2.2.2.2.2.2.1 r
theorem k0_off30_inb : ∀ (v4 : BitVec 32) (k0_hw5 : k0_chk5 v4), ∀ a, (k0_off30 v4) a + S256x512.size a ≤ S4096x512.size a := fun v4 k0_hw5 => k0_hw5.2.2.2.2.2.2.2.2.2.2.2.2.2.1
theorem k0_off31_inb : ∀ (v4 : BitVec 32) (k0_hw5 : k0_chk5 v4), ∀ a, (k0_off31 v4) a + S1x256x512.size a ≤ S4x1024x512.size a := fun v4 k0_hw5 => k0_hw5.2.2.2.2.2.2.2.2.2.2.2.2.2.2.1
theorem k0_off32_inb : ∀ (v4 : BitVec 32) (k0_hw5 : k0_chk5 v4), ∀ a, (k0_off32 v4) a + S256x512.size a ≤ S4096x512.size a := fun v4 k0_hw5 => k0_hw5.2.2.2.2.2.2.2.2.2.2.2.2.2.2.2.1
theorem k0_off33_inb : ∀ (v4 : BitVec 32) (k0_hw5 : k0_chk5 v4), ∀ a, (k0_off33 v4) a + S1x256x512.size a ≤ S4x1024x512.size a := fun v4 k0_hw5 => k0_hw5.2.2.2.2.2.2.2.2.2.2.2.2.2.2.2.2.1
theorem k0_off34_inb : ∀ (v4 : BitVec 32) (k0_hw5 : k0_chk5 v4), ∀ (r : Fin 7), ∀ a, (k0_off34 v4 (BitVec.ofNat 32 r.val)) a + S256x512.size a ≤ S4096x512.size a := fun v4 k0_hw5 r => k0_hw5.2.2.2.2.2.2.2.2.2.2.2.2.2.2.2.2.2.1 r
theorem k0_off35_inb : ∀ (v4 : BitVec 32) (k0_hw5 : k0_chk5 v4), ∀ (r : Fin 7), ∀ a, (k0_off35 v4 (BitVec.ofNat 32 r.val)) a + S1x256x512.size a ≤ S4x1024x512.size a := fun v4 k0_hw5 r => k0_hw5.2.2.2.2.2.2.2.2.2.2.2.2.2.2.2.2.2.2.1 r
theorem k0_off36_inb : ∀ (v4 : BitVec 32) (k0_hw5 : k0_chk5 v4), ∀ (r : Fin 7), ∀ a, (k0_off36 v4 (BitVec.ofNat 32 r.val)) a + S256x512.size a ≤ S4096x512.size a := fun v4 k0_hw5 r => k0_hw5.2.2.2.2.2.2.2.2.2.2.2.2.2.2.2.2.2.2.2.1 r
theorem k0_off37_inb : ∀ (v4 : BitVec 32) (k0_hw5 : k0_chk5 v4), ∀ (r : Fin 7), ∀ a, (k0_off37 v4 (BitVec.ofNat 32 r.val)) a + S1x256x512.size a ≤ S4x1024x512.size a := fun v4 k0_hw5 r => k0_hw5.2.2.2.2.2.2.2.2.2.2.2.2.2.2.2.2.2.2.2.2 r

def k0_dev61 (v6 : BitVec 32) : Nat :=
  v6.toNat
def k0_dev62 (v6 : BitVec 32) : Nat :=
  v6.toNat
def k0_dev63 (v6 : BitVec 32) : Nat :=
  v6.toNat
def k0_dev64 (v6 : BitVec 32) : Nat :=
  v6.toNat
def k0_dev65 (v8 : BitVec 32) : Nat :=
  v8.toNat
def k0_dev66 (v8 : BitVec 32) : Nat :=
  v8.toNat
def k0_dev67 (v8 : BitVec 32) : Nat :=
  v8.toNat
def k0_dev68 (v8 : BitVec 32) : Nat :=
  v8.toNat
def k0_dev69 (v6 : BitVec 32) : Nat :=
  v6.toNat
def k0_dev70 (v6 : BitVec 32) : Nat :=
  v6.toNat
def k0_dev71 (v6 : BitVec 32) : Nat :=
  v6.toNat
def k0_dev72 (v6 : BitVec 32) : Nat :=
  v6.toNat
def k0_dev73 (v8 : BitVec 32) : Nat :=
  v8.toNat
def k0_dev74 (v8 : BitVec 32) : Nat :=
  v8.toNat
def k0_dev75 (v8 : BitVec 32) : Nat :=
  v8.toNat
def k0_dev76 (v8 : BitVec 32) : Nat :=
  v8.toNat
def k0_dev77 (v6 : BitVec 32) : Nat :=
  v6.toNat
def k0_dev78 (v6 : BitVec 32) : Nat :=
  v6.toNat
def k0_dev79 (v6 : BitVec 32) : Nat :=
  v6.toNat
def k0_dev80 (v6 : BitVec 32) : Nat :=
  v6.toNat
def k0_dev81 (v8 : BitVec 32) : Nat :=
  v8.toNat
def k0_dev82 (v8 : BitVec 32) : Nat :=
  v8.toNat
def k0_dev83 (v8 : BitVec 32) : Nat :=
  v8.toNat
def k0_dev84 (v8 : BitVec 32) : Nat :=
  v8.toNat
def k0_dev85 (v6 : BitVec 32) : Nat :=
  v6.toNat
def k0_dev86 (v6 : BitVec 32) : Nat :=
  v6.toNat
def k0_dev87 (v6 : BitVec 32) : Nat :=
  v6.toNat
def k0_dev88 (v6 : BitVec 32) : Nat :=
  v6.toNat
def k0_dev89 (v8 : BitVec 32) : Nat :=
  v8.toNat
def k0_dev90 (v8 : BitVec 32) : Nat :=
  v8.toNat
def k0_dev91 (v8 : BitVec 32) : Nat :=
  v8.toNat
def k0_dev92 (v8 : BitVec 32) : Nat :=
  v8.toNat
def k0_dev93 (v6 : BitVec 32) : Nat :=
  v6.toNat
def k0_dev94 (v6 : BitVec 32) : Nat :=
  v6.toNat
def k0_dev95 (v6 : BitVec 32) : Nat :=
  v6.toNat
def k0_dev96 (v6 : BitVec 32) : Nat :=
  v6.toNat

def k0_chk1_0 (v6 : BitVec 32) : Prop :=
  ((k0_dev1 v6) < nD) ∧
  ((k0_dev5 v6) < nD) ∧
  ((k0_dev6 v6) < nD) ∧
  ((k0_dev9 v6) < nD) ∧
  ((k0_dev10 v6) < nD) ∧
  ((k0_dev13 v6) < nD) ∧
  ((k0_dev14 v6) < nD) ∧
  ((k0_dev17 v6) < nD) ∧
  ((k0_dev18 v6) < nD) ∧
  ((k0_dev21 v6) < nD) ∧
  ((k0_dev22 v6) < nD) ∧
  ((k0_dev25 v6) < nD) ∧
  ((k0_dev26 v6) < nD) ∧
  ((k0_dev29 v6) < nD) ∧
  ((k0_dev30 v6) < nD) ∧
  ((k0_dev39 v6) < nD) ∧
  ((k0_dev43 v6) < nD) ∧
  ((k0_dev47 v6) < nD) ∧
  ((k0_dev51 v6) < nD) ∧
  ((k0_dev53 v6) < nD) ∧
  ((k0_dev54 v6) < nD) ∧
  ((k0_dev55 v6) < nD) ∧
  ((k0_dev56 v6) < nD) ∧
  ((k0_dev61 v6) < nD) ∧
  ((k0_dev62 v6) < nD) ∧
  ((k0_dev63 v6) < nD) ∧
  ((k0_dev64 v6) < nD) ∧
  ((k0_dev69 v6) < nD) ∧
  ((k0_dev70 v6) < nD) ∧
  ((k0_dev71 v6) < nD) ∧
  ((k0_dev72 v6) < nD) ∧
  ((k0_dev77 v6) < nD)
def k0_chk1_1 (v6 : BitVec 32) : Prop :=
  ((k0_dev78 v6) < nD) ∧
  ((k0_dev79 v6) < nD) ∧
  ((k0_dev80 v6) < nD) ∧
  ((k0_dev85 v6) < nD) ∧
  ((k0_dev86 v6) < nD) ∧
  ((k0_dev87 v6) < nD) ∧
  ((k0_dev88 v6) < nD) ∧
  ((k0_dev93 v6) < nD) ∧
  ((k0_dev94 v6) < nD) ∧
  ((k0_dev95 v6) < nD) ∧
  ((k0_dev96 v6) < nD)
def k0_chk1 (v6 : BitVec 32) : Prop :=
  k0_chk1_0 v6 ∧
  k0_chk1_1 v6
theorem k0_dev1_lt : ∀ (v6 : BitVec 32) (k0_hw1 : k0_chk1 v6), (k0_dev1 v6) < nD := fun v6 k0_hw1 => k0_hw1.1.1
theorem k0_dev5_lt : ∀ (v6 : BitVec 32) (k0_hw1 : k0_chk1 v6), (k0_dev5 v6) < nD := fun v6 k0_hw1 => k0_hw1.1.2.1
theorem k0_dev6_lt : ∀ (v6 : BitVec 32) (k0_hw1 : k0_chk1 v6), (k0_dev6 v6) < nD := fun v6 k0_hw1 => k0_hw1.1.2.2.1
theorem k0_dev9_lt : ∀ (v6 : BitVec 32) (k0_hw1 : k0_chk1 v6), (k0_dev9 v6) < nD := fun v6 k0_hw1 => k0_hw1.1.2.2.2.1
theorem k0_dev10_lt : ∀ (v6 : BitVec 32) (k0_hw1 : k0_chk1 v6), (k0_dev10 v6) < nD := fun v6 k0_hw1 => k0_hw1.1.2.2.2.2.1
theorem k0_dev13_lt : ∀ (v6 : BitVec 32) (k0_hw1 : k0_chk1 v6), (k0_dev13 v6) < nD := fun v6 k0_hw1 => k0_hw1.1.2.2.2.2.2.1
theorem k0_dev14_lt : ∀ (v6 : BitVec 32) (k0_hw1 : k0_chk1 v6), (k0_dev14 v6) < nD := fun v6 k0_hw1 => k0_hw1.1.2.2.2.2.2.2.1
theorem k0_dev17_lt : ∀ (v6 : BitVec 32) (k0_hw1 : k0_chk1 v6), (k0_dev17 v6) < nD := fun v6 k0_hw1 => k0_hw1.1.2.2.2.2.2.2.2.1
theorem k0_dev18_lt : ∀ (v6 : BitVec 32) (k0_hw1 : k0_chk1 v6), (k0_dev18 v6) < nD := fun v6 k0_hw1 => k0_hw1.1.2.2.2.2.2.2.2.2.1
theorem k0_dev21_lt : ∀ (v6 : BitVec 32) (k0_hw1 : k0_chk1 v6), (k0_dev21 v6) < nD := fun v6 k0_hw1 => k0_hw1.1.2.2.2.2.2.2.2.2.2.1
theorem k0_dev22_lt : ∀ (v6 : BitVec 32) (k0_hw1 : k0_chk1 v6), (k0_dev22 v6) < nD := fun v6 k0_hw1 => k0_hw1.1.2.2.2.2.2.2.2.2.2.2.1
theorem k0_dev25_lt : ∀ (v6 : BitVec 32) (k0_hw1 : k0_chk1 v6), (k0_dev25 v6) < nD := fun v6 k0_hw1 => k0_hw1.1.2.2.2.2.2.2.2.2.2.2.2.1
theorem k0_dev26_lt : ∀ (v6 : BitVec 32) (k0_hw1 : k0_chk1 v6), (k0_dev26 v6) < nD := fun v6 k0_hw1 => k0_hw1.1.2.2.2.2.2.2.2.2.2.2.2.2.1
theorem k0_dev29_lt : ∀ (v6 : BitVec 32) (k0_hw1 : k0_chk1 v6), (k0_dev29 v6) < nD := fun v6 k0_hw1 => k0_hw1.1.2.2.2.2.2.2.2.2.2.2.2.2.2.1
theorem k0_dev30_lt : ∀ (v6 : BitVec 32) (k0_hw1 : k0_chk1 v6), (k0_dev30 v6) < nD := fun v6 k0_hw1 => k0_hw1.1.2.2.2.2.2.2.2.2.2.2.2.2.2.2.1
theorem k0_dev39_lt : ∀ (v6 : BitVec 32) (k0_hw1 : k0_chk1 v6), (k0_dev39 v6) < nD := fun v6 k0_hw1 => k0_hw1.1.2.2.2.2.2.2.2.2.2.2.2.2.2.2.2.1
theorem k0_dev43_lt : ∀ (v6 : BitVec 32) (k0_hw1 : k0_chk1 v6), (k0_dev43 v6) < nD := fun v6 k0_hw1 => k0_hw1.1.2.2.2.2.2.2.2.2.2.2.2.2.2.2.2.2.1
theorem k0_dev47_lt : ∀ (v6 : BitVec 32) (k0_hw1 : k0_chk1 v6), (k0_dev47 v6) < nD := fun v6 k0_hw1 => k0_hw1.1.2.2.2.2.2.2.2.2.2.2.2.2.2.2.2.2.2.1
theorem k0_dev51_lt : ∀ (v6 : BitVec 32) (k0_hw1 : k0_chk1 v6), (k0_dev51 v6) < nD := fun v6 k0_hw1 => k0_hw1.1.2.2.2.2.2.2.2.2.2.2.2.2.2.2.2.2.2.2.1
theorem k0_dev53_lt : ∀ (v6 : BitVec 32) (k0_hw1 : k0_chk1 v6), (k0_dev53 v6) < nD := fun v6 k0_hw1 => k0_hw1.1.2.2.2.2.2.2.2.2.2.2.2.2.2.2.2.2.2.2.2.1
theorem k0_dev54_lt : ∀ (v6 : BitVec 32) (k0_hw1 : k0_chk1 v6), (k0_dev54 v6) < nD := fun v6 k0_hw1 => k0_hw1.1.2.2.2.2.2.2.2.2.2.2.2.2.2.2.2.2.2.2.2.2.1
theorem k0_dev55_lt : ∀ (v6 : BitVec 32) (k0_hw1 : k0_chk1 v6), (k0_dev55 v6) < nD := fun v6 k0_hw1 => k0_hw1.1.2.2.2.2.2.2.2.2.2.2.2.2.2.2.2.2.2.2.2.2.2.1
theorem k0_dev56_lt : ∀ (v6 : BitVec 32) (k0_hw1 : k0_chk1 v6), (k0_dev56 v6) < nD := fun v6 k0_hw1 => k0_hw1.1.2.2.2.2.2.2.2.2.2.2.2.2.2.2.2.2.2.2.2.2.2.2.1
theorem k0_dev61_lt : ∀ (v6 : BitVec 32) (k0_hw1 : k0_chk1 v6), (k0_dev61 v6) < nD := fun v6 k0_hw1 => k0_hw1.1.2.2.2.2.2.2.2.2.2.2.2.2.2.2.2.2.2.2.2.2.2.2.2.1
theorem k0_dev62_lt : ∀ (v6 : BitVec 32) (k0_hw1 : k0_chk1 v6), (k0_dev62 v6) < nD := fun v6 k0_hw1 => k0_hw1.1.2.2.2.2.2.2.2.2.2.2.2.2.2.2.2.2.2.2.2.2.2.2.2.2.1
theorem k0_dev63_lt : ∀ (v6 : BitVec 32) (k0_hw1 : k0_chk1 v6), (k0_dev63 v6) < nD := fun v6 k0_hw1 => k0_hw1.1.2.2.2.2.2.2.2.2.2.2.2.2.2.2.2.2.2.2.2.2.2.2.2.2.2.1
theorem k0_dev64_lt : ∀ (v6 : BitVec 32) (k0_hw1 : k0_chk1 v6), (k0_dev64 v6) < nD := fun v6 k0_hw1 => k0_hw1.1.2.2.2.2.2.2.2.2.2.2.2.2.2.2.2.2.2.2.2.2.2.2.2.2.2.2.1
theorem k0_dev69_lt : ∀ (v6 : BitVec 32) (k0_hw1 : k0_chk1 v6), (k0_dev69 v6) < nD := fun v6 k0_hw1 => k0_hw1.1.2.2.2.2.2.2.2.2.2.2.2.2.2.2.2.2.2.2.2.2.2.2.2.2.2.2.2.1
theorem k0_dev70_lt : ∀ (v6 : BitVec 32) (k0_hw1 : k0_chk1 v6), (k0_dev70 v6) < nD := fun v6 k0_hw1 => k0_hw1.1.2.2.2.2.2.2.2.2.2.2.2.2.2.2.2.2.2.2.2.2.2.2.2.2.2.2.2.2.1
theorem k0_dev71_lt : ∀ (v6 : BitVec 32) (k0_hw1 : k0_chk1 v6), (k0_dev71 v6) < nD := fun v6 k0_hw1 => k0_hw1.1.2.2.2.2.2.2.2.2.2.2.2.2.2.2.2.2.2.2.2.2.2.2.2.2.2.2.2.2.2.1
theorem k0_dev72_lt : ∀ (v6 : BitVec 32) (k0_hw1 : k0_chk1 v6), (k0_dev72 v6) < nD := fun v6 k0_hw1 => k0_hw1.1.2.2.2.2.2.2.2.2.2.2.2.2.2.2.2.2.2.2.2.2.2.2.2.2.2.2.2.2.2.2.1
theorem k0_dev77_lt : ∀ (v6 : BitVec 32) (k0_hw1 : k0_chk1 v6), (k0_dev77 v6) < nD := fun v6 k0_hw1 => k0_hw1.1.2.2.2.2.2.2.2.2.2.2.2.2.2.2.2.2.2.2.2.2.2.2.2.2.2.2.2.2.2.2.2
theorem k0_dev78_lt : ∀ (v6 : BitVec 32) (k0_hw1 : k0_chk1 v6), (k0_dev78 v6) < nD := fun v6 k0_hw1 => k0_hw1.2.1
theorem k0_dev79_lt : ∀ (v6 : BitVec 32) (k0_hw1 : k0_chk1 v6), (k0_dev79 v6) < nD := fun v6 k0_hw1 => k0_hw1.2.2.1
theorem k0_dev80_lt : ∀ (v6 : BitVec 32) (k0_hw1 : k0_chk1 v6), (k0_dev80 v6) < nD := fun v6 k0_hw1 => k0_hw1.2.2.2.1
theorem k0_dev85_lt : ∀ (v6 : BitVec 32) (k0_hw1 : k0_chk1 v6), (k0_dev85 v6) < nD := fun v6 k0_hw1 => k0_hw1.2.2.2.2.1
theorem k0_dev86_lt : ∀ (v6 : BitVec 32) (k0_hw1 : k0_chk1 v6), (k0_dev86 v6) < nD := fun v6 k0_hw1 => k0_hw1.2.2.2.2.2.1
theorem k0_dev87_lt : ∀ (v6 : BitVec 32) (k0_hw1 : k0_chk1 v6), (k0_dev87 v6) < nD := fun v6 k0_hw1 => k0_hw1.2.2.2.2.2.2.1
theorem k0_dev88_lt : ∀ (v6 : BitVec 32) (k0_hw1 : k0_chk1 v6), (k0_dev88 v6) < nD := fun v6 k0_hw1 => k0_hw1.2.2.2.2.2.2.2.1
theorem k0_dev93_lt : ∀ (v6 : BitVec 32) (k0_hw1 : k0_chk1 v6), (k0_dev93 v6) < nD := fun v6 k0_hw1 => k0_hw1.2.2.2.2.2.2.2.2.1
theorem k0_dev94_lt : ∀ (v6 : BitVec 32) (k0_hw1 : k0_chk1 v6), (k0_dev94 v6) < nD := fun v6 k0_hw1 => k0_hw1.2.2.2.2.2.2.2.2.2.1
theorem k0_dev95_lt : ∀ (v6 : BitVec 32) (k0_hw1 : k0_chk1 v6), (k0_dev95 v6) < nD := fun v6 k0_hw1 => k0_hw1.2.2.2.2.2.2.2.2.2.2.1
theorem k0_dev96_lt : ∀ (v6 : BitVec 32) (k0_hw1 : k0_chk1 v6), (k0_dev96 v6) < nD := fun v6 k0_hw1 => k0_hw1.2.2.2.2.2.2.2.2.2.2.2

def k0_dev97 (v8 : BitVec 32) : Nat :=
  v8.toNat
def k0_dev98 (v8 : BitVec 32) : Nat :=
  v8.toNat
def k0_dev99 (v8 : BitVec 32) : Nat :=
  v8.toNat
def k0_dev100 (v8 : BitVec 32) : Nat :=
  v8.toNat

def k0_chk2_0 (v8 : BitVec 32) : Prop :=
  ((k0_dev2 v8) < nD) ∧
  ((k0_dev7 v8) < nD) ∧
  ((k0_dev8 v8) < nD) ∧
  ((k0_dev11 v8) < nD) ∧
  ((k0_dev12 v8) < nD) ∧
  ((k0_dev15 v8) < nD) ∧
  ((k0_dev16 v8) < nD) ∧
  ((k0_dev19 v8) < nD) ∧
  ((k0_dev20 v8) < nD) ∧
  ((k0_dev23 v8) < nD) ∧
  ((k0_dev24 v8) < nD) ∧
  ((k0_dev27 v8) < nD) ∧
  ((k0_dev28 v8) < nD) ∧
  ((k0_dev31 v8) < nD) ∧
  ((k0_dev32 v8) < nD) ∧
  ((k0_dev40 v8) < nD) ∧
  ((k0_dev44 v8) < nD) ∧
  ((k0_dev48 v8) < nD) ∧
  ((k0_dev52 v8) < nD) ∧
  ((k0_dev57 v8) < nD) ∧
  ((k0_dev58 v8) < nD) ∧
  ((k0_dev59 v8) < nD) ∧
  ((k0_dev60 v8) < nD) ∧
  ((k0_dev65 v8) < nD) ∧
  ((k0_dev66 v8) < nD) ∧
  ((k0_dev67 v8) < nD) ∧
  ((k0_dev68 v8) < nD) ∧
  ((k0_dev73 v8) < nD) ∧
  ((k0_dev74 v8) < nD) ∧
  ((k0_dev75 v8) < nD) ∧
  ((k0_dev76 v8) < nD) ∧
  ((k0_dev81 v8) < nD)
def k0_chk2_1 (v8 : BitVec 32) : Prop :=
  ((k0_dev82 v8) < nD) ∧
  ((k0_dev83 v8) < nD) ∧
  ((k0_dev84 v8) < nD) ∧
  ((k0_dev89 v8) < nD) ∧
  ((k0_dev90 v8) < nD) ∧
  ((k0_dev91 v8) < nD) ∧
  ((k0_dev92 v8) < nD) ∧
  ((k0_dev97 v8) < nD) ∧
  ((k0_dev98 v8) < nD) ∧
  ((k0_dev99 v8) < nD) ∧
  ((k0_dev100 v8) < nD)
def k0_chk2 (v8 : BitVec 32) : Prop :=
  k0_chk2_0 v8 ∧
  k0_chk2_1 v8
theorem k0_dev2_lt : ∀ (v8 : BitVec 32) (k0_hw2 : k0_chk2 v8), (k0_dev2 v8) < nD := fun v8 k0_hw2 => k0_hw2.1.1
theorem k0_dev7_lt : ∀ (v8 : BitVec 32) (k0_hw2 : k0_chk2 v8), (k0_dev7 v8) < nD := fun v8 k0_hw2 => k0_hw2.1.2.1
theorem k0_dev8_lt : ∀ (v8 : BitVec 32) (k0_hw2 : k0_chk2 v8), (k0_dev8 v8) < nD := fun v8 k0_hw2 => k0_hw2.1.2.2.1
theorem k0_dev11_lt : ∀ (v8 : BitVec 32) (k0_hw2 : k0_chk2 v8), (k0_dev11 v8) < nD := fun v8 k0_hw2 => k0_hw2.1.2.2.2.1
theorem k0_dev12_lt : ∀ (v8 : BitVec 32) (k0_hw2 : k0_chk2 v8), (k0_dev12 v8) < nD := fun v8 k0_hw2 => k0_hw2.1.2.2.2.2.1
theorem k0_dev15_lt : ∀ (v8 : BitVec 32) (k0_hw2 : k0_chk2 v8), (k0_dev15 v8) < nD := fun v8 k0_hw2 => k0_hw2.1.2.2.2.2.2.1
theorem k0_dev16_lt : ∀ (v8 : BitVec 32) (k0_hw2 : k0_chk2 v8), (k0_dev16 v8) < nD := fun v8 k0_hw2 => k0_hw2.1.2.2.2.2.2.2.1
theorem k0_dev19_lt : ∀ (v8 : BitVec 32) (k0_hw2 : k0_chk2 v8), (k0_dev19 v8) < nD := fun v8 k0_hw2 => k0_hw2.1.2.2.2.2.2.2.2.1
theorem k0_dev20_lt : ∀ (v8 : BitVec 32) (k0_hw2 : k0_chk2 v8), (k0_dev20 v8) < nD := fun v8 k0_hw2 => k0_hw2.1.2.2.2.2.2.2.2.2.1
theorem k0_dev23_lt : ∀ (v8 : BitVec 32) (k0_hw2 : k0_chk2 v8), (k0_dev23 v8) < nD := fun v8 k0_hw2 => k0_hw2.1.2.2.2.2.2.2.2.2.2.1
theorem k0_dev24_lt : ∀ (v8 : BitVec 32) (k0_hw2 : k0_chk2 v8), (k0_dev24 v8) < nD := fun v8 k0_hw2 => k0_hw2.1.2.2.2.2.2.2.2.2.2.2.1
theorem k0_dev27_lt : ∀ (v8 : BitVec 32) (k0_hw2 : k0_chk2 v8), (k0_dev27 v8) < nD := fun v8 k0_hw2 => k0_hw2.1.2.2.2.2.2.2.2.2.2.2.2.1
theorem k0_dev28_lt : ∀ (v8 : BitVec 32) (k0_hw2 : k0_chk2 v8), (k0_dev28 v8) < nD := fun v8 k0_hw2 => k0_hw2.1.2.2.2.2.2.2.2.2.2.2.2.2.1
theorem k0_dev31_lt : ∀ (v8 : BitVec 32) (k0_hw2 : k0_chk2 v8), (k0_dev31 v8) < nD := fun v8 k0_hw2 => k0_hw2.1.2.2.2.2.2.2.2.2.2.2.2.2.2.1
theorem k0_dev32_lt : ∀ (v8 : BitVec 32) (k0_hw2 : k0_chk2 v8), (k0_dev32 v8) < nD := fun v8 k0_hw2 => k0_hw2.1.2.2.2.2.2.2.2.2.2.2.2.2.2.2.1
theorem k0_dev40_lt : ∀ (v8 : BitVec 32) (k0_hw2 : k0_chk2 v8), (k0_dev40 v8) < nD := fun v8 k0_hw2 => k0_hw2.1.2.2.2.2.2.2.2.2.2.2.2.2.2.2.2.1
theorem k0_dev44_lt : ∀ (v8 : BitVec 32) (k0_hw2 : k0_chk2 v8), (k0_dev44 v8) < nD := fun v8 k0_hw2 => k0_hw2.1.2.2.2.2.2.2.2.2.2.2.2.2.2.2.2.2.1
theorem k0_dev48_lt : ∀ (v8 : BitVec 32) (k0_hw2 : k0_chk2 v8), (k0_dev48 v8) < nD := fun v8 k0_hw2 => k0_hw2.1.2.2.2.2.2.2.2.2.2.2.2.2.2.2.2.2.2.1
theorem k0_dev52_lt : ∀ (v8 : BitVec 32) (k0_hw2 : k0_chk2 v8), (k0_dev52 v8) < nD := fun v8 k0_hw2 => k0_hw2.1.2.2.2.2.2.2.2.2.2.2.2.2.2.2.2.2.2.2.1
theorem k0_dev57_lt : ∀ (v8 : BitVec 32) (k0_hw2 : k0_chk2 v8), (k0_dev57 v8) < nD := fun v8 k0_hw2 => k0_hw2.1.2.2.2.2.2.2.2.2.2.2.2.2.2.2.2.2.2.2.2.1
theorem k0_dev58_lt : ∀ (v8 : BitVec 32) (k0_hw2 : k0_chk2 v8), (k0_dev58 v8) < nD := fun v8 k0_hw2 => k0_hw2.1.2.2.2.2.2.2.2.2.2.2.2.2.2.2.2.2.2.2.2.2.1
theorem k0_dev59_lt : ∀ (v8 : BitVec 32) (k0_hw2 : k0_chk2 v8), (k0_dev59 v8) < nD := fun v8 k0_hw2 => k0_hw2.1.2.2.2.2.2.2.2.2.2.2.2.2.2.2.2.2.2.2.2.2.2.1
theorem k0_dev60_lt : ∀ (v8 : BitVec 32) (k0_hw2 : k0_chk2 v8), (k0_dev60 v8) < nD := fun v8 k0_hw2 => k0_hw2.1.2.2.2.2.2.2.2.2.2.2.2.2.2.2.2.2.2.2.2.2.2.2.1
theorem k0_dev65_lt : ∀ (v8 : BitVec 32) (k0_hw2 : k0_chk2 v8), (k0_dev65 v8) < nD := fun v8 k0_hw2 => k0_hw2.1.2.2.2.2.2.2.2.2.2.2.2.2.2.2.2.2.2.2.2.2.2.2.2.1
theorem k0_dev66_lt : ∀ (v8 : BitVec 32) (k0_hw2 : k0_chk2 v8), (k0_dev66 v8) < nD := fun v8 k0_hw2 => k0_hw2.1.2.2.2.2.2.2.2.2.2.2.2.2.2.2.2.2.2.2.2.2.2.2.2.2.1
theorem k0_dev67_lt : ∀ (v8 : BitVec 32) (k0_hw2 : k0_chk2 v8), (k0_dev67 v8) < nD := fun v8 k0_hw2 => k0_hw2.1.2.2.2.2.2.2.2.2.2.2.2.2.2.2.2.2.2.2.2.2.2.2.2.2.2.1
theorem k0_dev68_lt : ∀ (v8 : BitVec 32) (k0_hw2 : k0_chk2 v8), (k0_dev68 v8) < nD := fun v8 k0_hw2 => k0_hw2.1.2.2.2.2.2.2.2.2.2.2.2.2.2.2.2.2.2.2.2.2.2.2.2.2.2.2.1
theorem k0_dev73_lt : ∀ (v8 : BitVec 32) (k0_hw2 : k0_chk2 v8), (k0_dev73 v8) < nD := fun v8 k0_hw2 => k0_hw2.1.2.2.2.2.2.2.2.2.2.2.2.2.2.2.2.2.2.2.2.2.2.2.2.2.2.2.2.1
theorem k0_dev74_lt : ∀ (v8 : BitVec 32) (k0_hw2 : k0_chk2 v8), (k0_dev74 v8) < nD := fun v8 k0_hw2 => k0_hw2.1.2.2.2.2.2.2.2.2.2.2.2.2.2.2.2.2.2.2.2.2.2.2.2.2.2.2.2.2.1
theorem k0_dev75_lt : ∀ (v8 : BitVec 32) (k0_hw2 : k0_chk2 v8), (k0_dev75 v8) < nD := fun v8 k0_hw2 => k0_hw2.1.2.2.2.2.2.2.2.2.2.2.2.2.2.2.2.2.2.2.2.2.2.2.2.2.2.2.2.2.2.1
theorem k0_dev76_lt : ∀ (v8 : BitVec 32) (k0_hw2 : k0_chk2 v8), (k0_dev76 v8) < nD := fun v8 k0_hw2 => k0_hw2.1.2.2.2.2.2.2.2.2.2.2.2.2.2.2.2.2.2.2.2.2.2.2.2.2.2.2.2.2.2.2.1
theorem k0_dev81_lt : ∀ (v8 : BitVec 32) (k0_hw2 : k0_chk2 v8), (k0_dev81 v8) < nD := fun v8 k0_hw2 => k0_hw2.1.2.2.2.2.2.2.2.2.2.2.2.2.2.2.2.2.2.2.2.2.2.2.2.2.2.2.2.2.2.2.2
theorem k0_dev82_lt : ∀ (v8 : BitVec 32) (k0_hw2 : k0_chk2 v8), (k0_dev82 v8) < nD := fun v8 k0_hw2 => k0_hw2.2.1
theorem k0_dev83_lt : ∀ (v8 : BitVec 32) (k0_hw2 : k0_chk2 v8), (k0_dev83 v8) < nD := fun v8 k0_hw2 => k0_hw2.2.2.1
theorem k0_dev84_lt : ∀ (v8 : BitVec 32) (k0_hw2 : k0_chk2 v8), (k0_dev84 v8) < nD := fun v8 k0_hw2 => k0_hw2.2.2.2.1
theorem k0_dev89_lt : ∀ (v8 : BitVec 32) (k0_hw2 : k0_chk2 v8), (k0_dev89 v8) < nD := fun v8 k0_hw2 => k0_hw2.2.2.2.2.1
theorem k0_dev90_lt : ∀ (v8 : BitVec 32) (k0_hw2 : k0_chk2 v8), (k0_dev90 v8) < nD := fun v8 k0_hw2 => k0_hw2.2.2.2.2.2.1
theorem k0_dev91_lt : ∀ (v8 : BitVec 32) (k0_hw2 : k0_chk2 v8), (k0_dev91 v8) < nD := fun v8 k0_hw2 => k0_hw2.2.2.2.2.2.2.1
theorem k0_dev92_lt : ∀ (v8 : BitVec 32) (k0_hw2 : k0_chk2 v8), (k0_dev92 v8) < nD := fun v8 k0_hw2 => k0_hw2.2.2.2.2.2.2.2.1
theorem k0_dev97_lt : ∀ (v8 : BitVec 32) (k0_hw2 : k0_chk2 v8), (k0_dev97 v8) < nD := fun v8 k0_hw2 => k0_hw2.2.2.2.2.2.2.2.2.1
theorem k0_dev98_lt : ∀ (v8 : BitVec 32) (k0_hw2 : k0_chk2 v8), (k0_dev98 v8) < nD := fun v8 k0_hw2 => k0_hw2.2.2.2.2.2.2.2.2.2.1
theorem k0_dev99_lt : ∀ (v8 : BitVec 32) (k0_hw2 : k0_chk2 v8), (k0_dev99 v8) < nD := fun v8 k0_hw2 => k0_hw2.2.2.2.2.2.2.2.2.2.2.1
theorem k0_dev100_lt : ∀ (v8 : BitVec 32) (k0_hw2 : k0_chk2 v8), (k0_dev100 v8) < nD := fun v8 k0_hw2 => k0_hw2.2.2.2.2.2.2.2.2.2.2.2

abbrev stage0_0 : Fin 1 → Memref sig .tc .smem S6x32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x1024x16384 : Shape := ⟨3, ![4, 1024, 16384]⟩
abbrev S4x16384 : Shape := ⟨2, ![4, 16384]⟩
abbrev S16384x512 : Shape := ⟨2, ![16384, 512]⟩
abbrev S_ : Shape := ⟨0, ![]⟩
abbrev S4x3x16384 : Shape := ⟨3, ![4, 3, 16384]⟩
abbrev S4x1027x16384 : Shape := ⟨3, ![4, 1027, 16384]⟩
abbrev S1x16384 : Shape := ⟨2, ![1, 16384]⟩
abbrev S16384 : Shape := ⟨1, ![16384]⟩
abbrev S1x1x16384 : Shape := ⟨3, ![1, 1, 16384]⟩
abbrev S4x1024x512 : Shape := ⟨3, ![4, 1024, 512]⟩

abbrev nBuf : Space → Nat
  | .hbm => 43
  | .vmem => 0
  | .smem => 0
  | _ => 0

abbrev bufTy : (tb : Table) → Fin (tcTables nBuf tb) → BufTy
  | .hbm, ⟨0, _⟩ => ⟨S4x1024x16384, .f32⟩
  | .hbm, ⟨1, _⟩ => ⟨S4x16384, .f32⟩
  | .hbm, ⟨2, _⟩ => ⟨S16384x512, .f32⟩
  | .hbm, ⟨3, _⟩ => ⟨S_, .f32⟩
  | .hbm, ⟨4, _⟩ => ⟨S4x3x16384, .f32⟩
  | .hbm, ⟨5, _⟩ => ⟨S4x1027x16384, .f32⟩
  | .hbm, ⟨6, _⟩ => ⟨S_, .f32⟩
  | .hbm, ⟨7, _⟩ => ⟨S4x1024x16384, .f32⟩
  | .hbm, ⟨8, _⟩ => ⟨S4x1024x16384, .f32⟩
  | .hbm, ⟨9, _⟩ => ⟨S1x16384, .f32⟩
  | .hbm, ⟨10, _⟩ => ⟨S16384, .f32⟩
  | .hbm, ⟨11, _⟩ => ⟨S1x1x16384, .f32⟩
  | .hbm, ⟨12, _⟩ => ⟨S4x1024x16384, .f32⟩
  | .hbm, ⟨13, _⟩ => ⟨S4x1024x16384, .f32⟩
  | .hbm, ⟨14, _⟩ => ⟨S4x1024x16384, .f32⟩
  | .hbm, ⟨15, _⟩ => ⟨S4x1024x16384, .f32⟩
  | .hbm, ⟨16, _⟩ => ⟨S1x16384, .f32⟩
  | .hbm, ⟨17, _⟩ => ⟨S16384, .f32⟩
  | .hbm, ⟨18, _⟩ => ⟨S1x1x16384, .f32⟩
  | .hbm, ⟨19, _⟩ => ⟨S4x1024x16384, .f32⟩
  | .hbm, ⟨20, _⟩ => ⟨S4x1024x16384, .f32⟩
  | .hbm, ⟨21, _⟩ => ⟨S4x1024x16384, .f32⟩
  | .hbm, ⟨22, _⟩ => ⟨S4x1024x16384, .f32⟩
  | .hbm, ⟨23, _⟩ => ⟨S1x16384, .f32⟩
  | .hbm, ⟨24, _⟩ => ⟨S16384, .f32⟩
  | .hbm, ⟨25, _⟩ => ⟨S1x1x16384, .f32⟩
  | .hbm, ⟨26, _⟩ => ⟨S4x1024x16384, .f32⟩
  | .hbm, ⟨27, _⟩ => ⟨S4x1024x16384, .f32⟩
  | .hbm, ⟨28, _⟩ => ⟨S4x1024x16384, .f32⟩
  | .hbm, ⟨29, _⟩ => ⟨S4x1024x16384, .f32⟩
  | .hbm, ⟨30, _⟩ => ⟨S1x16384, .f32⟩
  | .hbm, ⟨31, _⟩ => ⟨S16384, .f32⟩
  | .hbm, ⟨32, _⟩ => ⟨S1x1x16384, .f32⟩
  | .hbm, ⟨33, _⟩ => ⟨S4x1024x16384, .f32⟩
  | .hbm, ⟨34, _⟩ => ⟨S4x1024x16384, .f32⟩
  | .hbm, ⟨35, _⟩ => ⟨S4x1024x16384, .f32⟩
  | .hbm, ⟨36, _⟩ => ⟨S4x1024x16384, .f32⟩
  | .hbm, ⟨37, _⟩ => ⟨S4x1024x16384, .f32⟩
  | .hbm, ⟨38, _⟩ => ⟨S_, .f32⟩
  | .hbm, ⟨39, _⟩ => ⟨S4x1024x16384, .f32⟩
  | .hbm, ⟨40, _⟩ => ⟨S4x1024x16384, .f32⟩
  | .hbm, ⟨41, _⟩ => ⟨S4x1024x16384, .f32⟩
  | .hbm, ⟨42, _⟩ => ⟨S4x1024x512, .f32⟩
  | _, _ => ⟨S4x1024x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩

abbrev nD : Nat := 1
abbrev τ : Topo := Topo.v7x

variable {F : FTy → Type} [FloatOps F]
-- ==== Proof.Code.lean ====
/-
  The kernel's body as a list of named steps.

  Words. A device has a place on two rings: ring A has 8 places, ring B has 4. `posA`, `posB` are its places; `rtA`, `ltA`, `rtB`, `ltB` are its neighbours. The kernel reads
  these six words from a table. A direction `d` is `false` for the stream that travels to the right and `true` for the stream that travels to the left.
  The 4096 rows of the product are cut into 8 chunks of 512 rows; the right stream carries the first half of each chunk and the left stream the second half.

  A transfer (`Tr`) is one remote copy of the kernel: `rsA` and `rsB` are the two reduce-scatter rings, `agB` and `agA` the two all-gather rings.
  `Instr` names the steps that follow the prologue; `Instr.prog` is a step's program, with the program that follows it as an argument.
-/
module

public import proofs.«01_k».proof.Proof.Gen.KernelIdeal
public import proofs.«01_k».proof.Proof.Gen.KernelIdeal.Skeleton

@[expose] public section

noncomputable section

namespace Cert.KernelIdeal.Conv

open Idealize.ShloMosaic Idealize.ShloMosaic.TcCoe Idealize.SL.Sem Cert.KernelIdeal Cert.KernelIdeal.Gen

variable {F : FTy → Type} [FloatOps F]

/-- One remote copy: which ring, which direction, which step of the ring and which part of the step. -/
inductive Tr
  | rsA (d : Bool) (s : Fin 7) (q : Fin 2)
  | rsB (d : Bool) (s : Fin 3)
  | agB (d : Bool) (s : Fin 3)
  | agA (d : Bool) (s : Fin 7) (k : Fin 4)
deriving DecidableEq

/-- The semaphore that a transfer's sender waits on (`r = 0`) or that its receiver waits on (`r = 1`). -/
def Tr.semNo (r : Fin 2) : Tr → Fin 203
  | .rsA d s q => ⟨3 + 14 * (2 * d.toNat + r) + 2 * s + q, by cases d <;> simp <;> omega⟩
  | .rsB d s => ⟨59 + 3 * (2 * d.toNat + r) + s, by cases d <;> simp <;> omega⟩
  | .agB d s => ⟨71 + 3 * (2 * d.toNat + r) + s, by cases d <;> simp <;> omega⟩
  | .agA d s k => ⟨83 + 28 * (2 * d.toNat + r) + 4 * s + k, by cases d <;> simp <;> omega⟩

abbrev Tr.sSem (t : Tr) : DmaSem sig := t.semNo 0
abbrev Tr.rSem (t : Tr) : DmaSem sig := t.semNo 1
/-- The semaphore of slot `i` of the result's staging buffer. -/
def cpSem (i : Fin 4) : DmaSem sig := (⟨195 + i, by omega⟩ : Fin 203)
/-- The semaphore of batch `b` of the input's copy. -/
def xSem (b : Fin 4) : DmaSem sig := (⟨199 + b, by omega⟩ : Fin 203)

/-- The barrier's semaphore. -/
abbrev barS : Sem sig := sig.barrier 0 rfl

/-- What the kernel reads from its table, with the facts that it checks of the words. -/
structure Words where
  v4 : BitVec 32
  h5 : k0_chk5 v4
  v6 : BitVec 32
  h1 : k0_chk1 v6
  v8 : BitVec 32
  h2 : k0_chk2 v8
  v10 : BitVec 32
  h6 : k0_chk6 v4 v10
  v12 : BitVec 32
  h3 : k0_chk3 v12
  v14 : BitVec 32
  h4 : k0_chk4 v14

/-! ## The buffers -/

abbrev pad : Memref sig .tc .vmem S4x1040x512 .f32 := Memref.whole cc0_scratch0
abbrev part : Memref sig .tc .vmem S4096x512 .f32 := Memref.whole cc0_scratch1
abbrev obf : Memref sig .tc .vmem S4096x512 .bf16 := Memref.whole cc0_scratch2
abbrev stg : Memref sig .tc .vmem S4x256x512 .f32 := Memref.whole cc0_scratch27
abbrev outM : Memref sig .tc .hbm S4x1024x512 .f32 := Memref.whole main_v1
abbrev xM : Memref sig .tc .hbm S4x1024x512 .f32 := Memref.whole main_arg0
def bufA : Bool → Memref sig .tc .vmem S7x256x512 .bf16
  | false => Memref.whole cc0_scratch3
  | true => Memref.whole cc0_scratch4
def bufB : Bool → Memref sig .tc .vmem S3x64x512 .bf16
  | false => Memref.whole cc0_scratch5
  | true => Memref.whole cc0_scratch6
def sbA : Bool → Memref sig .tc .vmem S7x256x512 .bf16
  | false => Memref.whole cc0_scratch7
  | true => Memref.whole cc0_scratch8
def sbB : Bool → Memref sig .tc .vmem S3x64x512 .bf16
  | false => Memref.whole cc0_scratch9
  | true => Memref.whole cc0_scratch10
theorem bufA_whole (d : Bool) : (bufA d).IsWhole := by cases d <;> exact Memref.isWhole_whole _
theorem bufB_whole (d : Bool) : (bufB d).IsWhole := by cases d <;> exact Memref.isWhole_whole _
theorem sbA_whole (d : Bool) : (sbA d).IsWhole := by cases d <;> exact Memref.isWhole_whole _
theorem sbB_whole (d : Bool) : (sbB d).IsWhole := by cases d <;> exact Memref.isWhole_whole _
theorem obf_whole : obf.IsWhole := Memref.isWhole_whole _

/-! ## The rectangles -/

/-- Where the window of direction `d`'s `j`-th product is read. -/
def winOff (w : Words) (d : Bool) (j : Fin 8) : Fin 3 → ℕ :=
  match d, j with
  | false, 0 => k0_off7 w.v4 0#32
  | true, 0 => k0_off7 w.v4 256#32
  | false, 1 => k0_off9 w.v4
  | true, 1 => k0_off11 w.v4
  | false, ⟨n + 2, _⟩ => k0_off15 w.v4 (BitVec.ofNat 32 n)
  | true, ⟨n + 2, _⟩ => k0_off17 w.v4 (BitVec.ofNat 32 n)

/-- Where direction `d`'s `j`-th product is stored. -/
def rowOff (w : Words) (d : Bool) (j : Fin 8) : Fin 2 → ℕ :=
  match d, j with
  | false, 0 => k0_off8 w.v4 0#32
  | true, 0 => k0_off8 w.v4 256#32
  | false, 1 => k0_off10 w.v4
  | true, 1 => k0_off12 w.v4
  | false, ⟨n + 2, _⟩ => k0_off16 w.v4 (BitVec.ofNat 32 n)
  | true, ⟨n + 2, _⟩ => k0_off18 w.v4 (BitVec.ofNat 32 n)

theorem winOff_inb (w : Words) (d : Bool) (j : Fin 8) (a : Fin 3) : winOff w d j a + S1x272x512.size a ≤ S4x1040x512.size a := by
  obtain ⟨n, hn⟩ := j
  cases d <;> rcases n with _ | _ | n
  exacts [k0_off7_inb _ w.h5 0 a, k0_off9_inb _ w.h5 a, k0_off15_inb _ w.h5 ⟨n, by omega⟩ a,
    k0_off7_inb _ w.h5 1 a, k0_off11_inb _ w.h5 a, k0_off17_inb _ w.h5 ⟨n, by omega⟩ a]

theorem rowOff_inb (w : Words) (d : Bool) (j : Fin 8) (a : Fin 2) : rowOff w d j a + S256x512.size a ≤ S4096x512.size a := by
  obtain ⟨n, hn⟩ := j
  cases d <;> rcases n with _ | _ | n
  exacts [k0_off8_inb _ w.h5 0 a, k0_off10_inb _ w.h5 a, k0_off16_inb _ w.h5 ⟨n, by omega⟩ a,
    k0_off8_inb _ w.h5 1 a, k0_off12_inb _ w.h5 a, k0_off18_inb _ w.h5 ⟨n, by omega⟩ a]

/-- The quarter `q` of the half chunk that ring A's step `s` adds to. -/
def qOff (w : Words) (d : Bool) (s : Fin 7) (q : Fin 2) : Fin 2 → ℕ :=
  match d with
  | false => k0_off13 w.v4 (BitVec.ofNat 32 s.val) (BitVec.ofNat 32 (128 * q.val))
  | true => if h : s.val < 6 then k0_off14 w.v4 (BitVec.ofNat 32 s.val) (BitVec.ofNat 32 (128 * q.val)) else k0_off20 w.v4 (BitVec.ofNat 32 (128 * q.val))

theorem qOff_inb (w : Words) (d : Bool) (s : Fin 7) (q : Fin 2) (a : Fin 2) : qOff w d s q a + S128x512.size a ≤ S4096x512.size a := by
  cases d
  · exact k0_off13_inb _ w.h5 s q a
  · unfold qOff; dsimp only; split
    · next h => exact k0_off14_inb _ w.h5 ⟨s.val, h⟩ q a
    · exact k0_off20_inb _ w.h5 q a

/-- The block that ring B starts from. -/
def b0Off (w : Words) : Bool → Fin 2 → ℕ
  | false => k0_off19 w.v4 w.v10
  | true => k0_off21 w.v4 w.v10
theorem b0Off_inb (w : Words) (d : Bool) (a : Fin 2) : b0Off w d a + S64x512.size a ≤ S4096x512.size a := by
  cases d
  exacts [w.h6.1 a, w.h6.2.1 a]

/-- The block that ring B's step `s` adds to. -/
def bOff (w : Words) (d : Bool) (s : Fin 3) : Fin 2 → ℕ :=
  match d with
  | false => k0_off22 w.v4 w.v10 (BitVec.ofNat 32 s.val)
  | true => k0_off23 w.v4 w.v10 (BitVec.ofNat 32 s.val)
theorem bOff_inb (w : Words) (d : Bool) (s : Fin 3) (a : Fin 2) : bOff w d s a + S64x512.size a ≤ S4096x512.size a := by
  cases d
  exacts [k0_off22_inb _ _ w.h6 s a, k0_off23_inb _ _ w.h6 s a]

/-- The block whose sum a device completes. -/
def ownOff (w : Words) : Bool → Fin 2 → ℕ
  | false => k0_off24 w.v4 w.v10
  | true => k0_off25 w.v4 w.v10
theorem ownOff_inb (w : Words) (d : Bool) (a : Fin 2) : ownOff w d a + S64x512.size a ≤ S4096x512.size a := by
  cases d
  exacts [k0_off24_inb _ _ w.h6 a, k0_off25_inb _ _ w.h6 a]

/-- The block that a gather transfer sends: ring B. -/
def gbOff (w : Words) (d : Bool) (s : Fin 3) : Fin 2 → ℕ :=
  match d with
  | false => k0_off28 w.v4 w.v10 (BitVec.ofNat 32 s.val)
  | true => k0_off29 w.v4 w.v10 (BitVec.ofNat 32 s.val)
theorem gbOff_inb (w : Words) (d : Bool) (s : Fin 3) (a : Fin 2) : gbOff w d s a + S64x512.size a ≤ S4096x512.size a := by
  cases d
  exacts [k0_off28_inb _ _ w.h6 s a, k0_off29_inb _ _ w.h6 s a]

/-- The block that a gather transfer sends: ring A. -/
def gaOff (w : Words) (d : Bool) (s : Fin 7) (k : Fin 4) : Fin 2 → ℕ :=
  match d with
  | false => k0_off26 w.v4 w.v10 (BitVec.ofNat 32 s.val) (BitVec.ofNat 32 k.val)
  | true => k0_off27 w.v4 w.v10 (BitVec.ofNat 32 s.val) (BitVec.ofNat 32 k.val)
theorem gaOff_inb (w : Words) (d : Bool) (s : Fin 7) (k : Fin 4) (a : Fin 2) : gaOff w d s k a + S64x512.size a ≤ S4096x512.size a := by
  cases d
  exacts [k0_off26_inb _ _ w.h6 s k a, k0_off27_inb _ _ w.h6 s k a]

/-- The half chunk that the `e`-th copy to the result reads. -/
def emOff (w : Words) (d : Bool) (u : Fin 8) : Fin 2 → ℕ :=
  match d, u with
  | false, 0 => k0_off30 w.v4
  | true, 0 => k0_off32 w.v4
  | false, ⟨n + 1, _⟩ => k0_off34 w.v4 (BitVec.ofNat 32 n)
  | true, ⟨n + 1, _⟩ => k0_off36 w.v4 (BitVec.ofNat 32 n)
theorem emOff_inb (w : Words) (d : Bool) (u : Fin 8) (a : Fin 2) : emOff w d u a + S256x512.size a ≤ S4096x512.size a := by
  obtain ⟨n, hn⟩ := u
  cases d <;> rcases n with _ | n
  exacts [k0_off30_inb _ w.h5 a, k0_off34_inb _ w.h5 ⟨n, by omega⟩ a, k0_off32_inb _ w.h5 a, k0_off36_inb _ w.h5 ⟨n, by omega⟩ a]

/-- Where the `e`-th copy to the result lands. -/
def outOff (w : Words) (d : Bool) (u : Fin 8) : Fin 3 → ℕ :=
  match d, u with
  | false, 0 => k0_off31 w.v4
  | true, 0 => k0_off33 w.v4
  | false, ⟨n + 1, _⟩ => k0_off35 w.v4 (BitVec.ofNat 32 n)
  | true, ⟨n + 1, _⟩ => k0_off37 w.v4 (BitVec.ofNat 32 n)
theorem outOff_inb (w : Words) (d : Bool) (u : Fin 8) (a : Fin 3) : outOff w d u a + S1x256x512.size a ≤ S4x1024x512.size a := by
  obtain ⟨n, hn⟩ := u
  cases d <;> rcases n with _ | n
  exacts [k0_off31_inb _ w.h5 a, k0_off35_inb _ w.h5 ⟨n, by omega⟩ a, k0_off33_inb _ w.h5 a, k0_off37_inb _ w.h5 ⟨n, by omega⟩ a]

/-! ### Fixed places of the buffers -/

theorem inbA (s : Fin 7) (q : Fin 2) (a : Fin 3) : (![s.val, 128 * q.val, 0] : Fin 3 → ℕ) a + S1x128x512.size a ≤ S7x256x512.size a := by
  revert s q a; decide
theorem inbA0 (a : Fin 3) : (![0, 0, 0] : Fin 3 → ℕ) a + S1x256x512.size a ≤ S7x256x512.size a := by
  revert a; decide
theorem inbB (s : Fin 3) (a : Fin 3) : (![s.val, 0, 0] : Fin 3 → ℕ) a + S1x64x512.size a ≤ S3x64x512.size a := by
  revert s a; decide
theorem inbStg (i : Fin 4) (a : Fin 3) : (![i.val, 0, 0] : Fin 3 → ℕ) a + S1x256x512.size a ≤ S4x256x512.size a := by
  revert i a; decide

abbrev rectA (s : Fin 7) (q : Fin 2) : Rect S7x256x512 := Rect.unit (s := S7x256x512) ![s.val, 128 * q.val, 0] S1x128x512.size (inbA s q)
abbrev rectA0 : Rect S7x256x512 := Rect.unit (s := S7x256x512) ![0, 0, 0] S1x256x512.size inbA0
abbrev rectB (s : Fin 3) : Rect S3x64x512 := Rect.unit (s := S3x64x512) ![s.val, 0, 0] S1x64x512.size (inbB s)
abbrev rectStg (i : Fin 4) : Rect S4x256x512 := Rect.unit (s := S4x256x512) ![i.val, 0, 0] S1x256x512.size (inbStg i)
abbrev rect64 (off : Fin 2 → ℕ) (h : ∀ a, off a + S64x512.size a ≤ S4096x512.size a) : Rect S4096x512 := Rect.unit (s := S4096x512) off S64x512.size h
abbrev rect128 (off : Fin 2 → ℕ) (h : ∀ a, off a + S128x512.size a ≤ S4096x512.size a) : Rect S4096x512 := Rect.unit (s := S4096x512) off S128x512.size h
abbrev rect256 (off : Fin 2 → ℕ) (h : ∀ a, off a + S256x512.size a ≤ S4096x512.size a) : Rect S4096x512 := Rect.unit (s := S4096x512) off S256x512.size h

theorem packedA (s : Fin 7) (q : Fin 2) : (rectA s q).PackedRows (EltTy.packing .bf16) := by
  revert s q; decide
theorem packedA0 : rectA0.PackedRows (EltTy.packing .bf16) := by decide
theorem packedB (s : Fin 3) : (rectB s).PackedRows (EltTy.packing .bf16) := by
  revert s; decide
theorem own_packed (w : Words) (d : Bool) : (rect64 (ownOff w d) (ownOff_inb w d)).PackedRows (EltTy.packing .bf16) := by
  cases d
  exacts [k0_off24_packedbf16 _ _ w.h6, k0_off25_packedbf16 _ _ w.h6]
theorem gb_words (w : Words) (d : Bool) (s : Fin 3) : (rect64 (gbOff w d s) (gbOff_inb w d s)).WholeWords (EltTy.packing .bf16) := by
  cases d
  exacts [k0_off28_wordsbf16 _ _ w.h6 s, k0_off29_wordsbf16 _ _ w.h6 s]
theorem ga_words (w : Words) (d : Bool) (s : Fin 7) (k : Fin 4) : (rect64 (gaOff w d s k) (gaOff_inb w d s k)).WholeWords (EltTy.packing .bf16) := by
  cases d
  exacts [k0_off26_wordsbf16 _ _ w.h6 s k, k0_off27_wordsbf16 _ _ w.h6 s k]

/-! ## The ends of a transfer -/

/-- The shape of what a transfer moves. -/
def Tr.shape : Tr → Shape
  | .rsA _ _ _ => S128x512
  | .rsB _ _ => S64x512
  | .agB _ _ => S64x512
  | .agA _ _ _ => S64x512

/-- What a transfer reads. -/
def Tr.src (w : Words) : (t : Tr) → Memref sig .tc .vmem t.shape .bf16
  | .rsA d s q => ((sbA d).slice (rectA s q) (fun _ => rfl)).squeeze S128x512 squeezes_S1x128x512_S128x512
  | .rsB d s => ((sbB d).slice (rectB s) (fun _ => rfl)).squeeze S64x512 squeezes_S1x64x512_S64x512
  | .agB d s => obf.slice (rect64 (gbOff w d s) (gbOff_inb w d s)) (fun _ => rfl)
  | .agA d s k => obf.slice (rect64 (gaOff w d s k) (gaOff_inb w d s k)) (fun _ => rfl)

/-- Where a transfer lands, on the receiver; the gather rings land on the rows that they read, numbered on the sender. -/
def Tr.dst (w : Words) : (t : Tr) → Memref sig .tc .vmem t.shape .bf16
  | .rsA d s q => ((bufA d).slice (rectA s q) (fun _ => rfl)).squeeze S128x512 squeezes_S1x128x512_S128x512
  | .rsB d s => ((bufB d).slice (rectB s) (fun _ => rfl)).squeeze S64x512 squeezes_S1x64x512_S64x512
  | .agB d s => obf.slice (rect64 (gbOff w d s) (gbOff_inb w d s)) (fun _ => rfl)
  | .agA d s k => obf.slice (rect64 (gaOff w d s k) (gaOff_inb w d s k)) (fun _ => rfl)

theorem Tr.src_exact (w : Words) (t : Tr) : (t.src w).view.WordExact := by
  cases t with
  | rsA d s q => exact ((sbA_whole d).wordExact_slice rfl _ (packedA s q).wholeWords).reshape _ _
  | rsB d s => exact ((sbB_whole d).wordExact_slice rfl _ (packedB s).wholeWords).reshape _ _
  | agB d s => exact obf_whole.wordExact_slice rfl _ (gb_words w d s)
  | agA d s k => exact obf_whole.wordExact_slice rfl _ (ga_words w d s k)

theorem Tr.dst_exact (w : Words) (t : Tr) : (t.dst w).view.WordExact := by
  cases t with
  | rsA d s q => exact ((bufA_whole d).wordExact_slice rfl _ (packedA s q).wholeWords).reshape _ _
  | rsB d s => exact ((bufB_whole d).wordExact_slice rfl _ (packedB s).wholeWords).reshape _ _
  | agB d s => exact obf_whole.wordExact_slice rfl _ (gb_words w d s)
  | agA d s k => exact obf_whole.wordExact_slice rfl _ (ga_words w d s k)

/-- The device that a transfer goes to. -/
def Tr.peer (w : Words) : Tr → Dev nD
  | .rsA false _ _ => ⟨k0_dev5 w.v6, k0_dev5_lt w.v6 w.h1⟩
  | .rsA true _ _ => ⟨k0_dev7 w.v8, k0_dev7_lt w.v8 w.h2⟩
  | .rsB false _ => ⟨k0_dev33 w.v12, k0_dev33_lt w.v12 w.h3⟩
  | .rsB true _ => ⟨k0_dev34 w.v14, k0_dev34_lt w.v14 w.h4⟩
  | .agB false _ => ⟨k0_dev33 w.v12, k0_dev33_lt w.v12 w.h3⟩
  | .agB true _ => ⟨k0_dev34 w.v14, k0_dev34_lt w.v14 w.h4⟩
  | .agA false _ _ => ⟨k0_dev5 w.v6, k0_dev5_lt w.v6 w.h1⟩
  | .agA true _ _ => ⟨k0_dev7 w.v8, k0_dev7_lt w.v8 w.h2⟩

/-- Slot `i` of the staging buffer, as a copy reads it. -/
abbrev stgM (i : Fin 4) : Memref sig .tc .vmem S256x512 .f32 := (stg.slice (rectStg i) (fun _ => rfl)).squeeze S256x512 squeezes_S1x256x512_S256x512
/-- The rows of the result that a copy writes. -/
abbrev outR (w : Words) (d : Bool) (u : Fin 8) : Memref sig .tc .hbm S256x512 .f32 :=
  (outM.slice (Rect.unit (s := S4x1024x512) (outOff w d u) S1x256x512.size (outOff_inb w d u)) (fun _ => rfl)).squeeze S256x512 squeezes_S1x256x512_S256x512

/-! ## The values that the steps store -/

/-- The product of one window with the block of weights. -/
abbrev cpay (kv : FVec F S4x512 .f32) (wv : FVec F S512x512 .f32) (win : Vec F S1x272x512 .f32) : FVec F S256x512 .f32 := k0_pay8 kv wv win
abbrev stpay (kv : FVec F S4x512 .f32) (wv : FVec F S512x512 .f32) (win : Vec F S1x272x512 .f32) : FVec F S1x256x512 .bf16 := k0_pay9 (k0_pay7 kv wv win)

/-- The steps after the prologue. The last four name no operation: they only regroup what a device holds. -/
inductive Instr
  | comp (d : Bool) (j : Fin 8)
  | compSt (d : Bool)
  | barW
  | send (t : Tr)
  | recv (t : Tr)
  | sendW (t : Tr)
  | relayA (d : Bool) (s : Fin 6) (q : Fin 2)
  | lastA (d : Bool) (q : Fin 2)
  | stageB (d : Bool)
  | relayB (d : Bool) (s : Fin 2)
  | lastB (d : Bool)
  | own (d : Bool)
  | emit (d : Bool) (u : Fin 8)
  | emitW (d : Bool) (u : Fin 8)
  | cutQ (d : Bool)
  | cutB (d : Bool)
  | share (d : Bool) (u : Fin 8) (k : Fin 4)
  | unshare (d : Bool) (u : Fin 8) (k : Fin 4)
deriving DecidableEq

/-- The slot of the staging buffer that a copy to the result uses. -/
def slot (d : Bool) (u : Fin 8) : Fin 4 := ⟨(2 * u.val + d.toNat) % 4, by omega⟩

abbrev Code (F : FTy → Type) := Prog (TpuEff nD τ sig (Elt F) Λ₀ .tc) PUnit

/-- A step's program, followed by `K`. -/
def Instr.prog (w : Words) (kv : FVec F S4x512 .f32) (wv : FVec F S512x512 .f32) (K : Code F) : Instr → Code F
  | .comp d j =>
    .op (.load pad (Rect.unit (s := S4x1040x512) (winOff w d j) S1x272x512.size (winOff_inb w d j)).toLoadRect (View.loadsAt_vmem h_S1x272x512)) fun win =>
    .op (.load part (rect256 (rowOff w d j) (rowOff_inb w d j)).toLoadRect (View.loadsAt_vmem h_S256x512)) fun _ =>
    .op (.store part (rect256 (rowOff w d j) (rowOff_inb w d j)) (cpay kv wv win) Finset.univ (View.stores_vmem_bits_univ h_S256x512 rfl) (.inl rfl)) fun _ => K
  | .compSt d =>
    .op (.load pad (Rect.unit (s := S4x1040x512) (winOff w d 0) S1x272x512.size (winOff_inb w d 0)).toLoadRect (View.loadsAt_vmem h_S1x272x512)) fun win =>
    .op (.load part (rect256 (rowOff w d 0) (rowOff_inb w d 0)).toLoadRect (View.loadsAt_vmem h_S256x512)) fun _ =>
    .op (.store part (rect256 (rowOff w d 0) (rowOff_inb w d 0)) (cpay kv wv win) Finset.univ (View.stores_vmem_bits_univ h_S256x512 rfl) (.inl rfl)) fun _ =>
    .op (.load (sbA d) rectA0.toLoadRect (View.loadsAt_vmem h_S1x256x512)) fun _ =>
    .op (.store (sbA d) rectA0 (stpay kv wv win) Finset.univ (View.stores_vmem h_S1x256x512 ((sbA_whole d).storeExact_slice rfl _ packedA0) (fun _ => rfl)) (.inl rfl)) fun _ => K
  | .barW => .op (.semWait barS (4#32).toInt) fun _ => K
  | .send t => .op (.enqueueDma (t.src w) (.remote (Dev.tc (t.peer w)) (t.dst w) (.dma t.sSem)) (.dma t.rSem) (t.src_exact w) (t.dst_exact w) ⟨⟨rfl, Or.inl rfl⟩, trivial⟩) fun _ => K
  | .recv t => .op (.waitDma2 t.rSem (t.src w) (t.dst w) (t.src_exact w) (t.dst_exact w)) fun _ => K
  | .sendW t => .op (.waitDma2 t.sSem (t.dst w) (t.src w) (t.dst_exact w) (t.src_exact w)) fun _ => K
  | .relayA d s q =>
    .op (.load part (rect128 (qOff w d s.castSucc q) (qOff_inb w d s.castSucc q)).toLoadRect (View.loadsAt_vmem h_S128x512)) fun v =>
    .op (.load (bufA d) (rectA s.castSucc q).toLoadRect (View.loadsAt_vmem h_S1x128x512)) fun b =>
    .op (.load (sbA d) (rectA s.succ q).toLoadRect (View.loadsAt_vmem h_S1x128x512)) fun _ =>
    .op (.store (sbA d) (rectA s.succ q) (k0_pay19 v b) Finset.univ (View.stores_vmem h_S1x128x512 ((sbA_whole d).storeExact_slice rfl _ (packedA s.succ q)) (fun _ => rfl)) (.inl rfl)) fun _ => K
  | .lastA d q =>
    .op (.load part (rect128 (qOff w d 6 q) (qOff_inb w d 6 q)).toLoadRect (View.loadsAt_vmem h_S128x512)) fun v =>
    .op (.load (bufA d) (rectA 6 q).toLoadRect (View.loadsAt_vmem h_S1x128x512)) fun b =>
    .op (.load part (rect128 (qOff w d 6 q) (qOff_inb w d 6 q)).toLoadRect (View.loadsAt_vmem h_S128x512)) fun _ =>
    .op (.store part (rect128 (qOff w d 6 q) (qOff_inb w d 6 q)) (k0_pay78 v b) Finset.univ (View.stores_vmem_bits_univ h_S128x512 rfl) (.inl rfl)) fun _ => K
  | .stageB d =>
    .op (.load part (rect64 (b0Off w d) (b0Off_inb w d)).toLoadRect (View.loadsAt_vmem h_S64x512)) fun v =>
    .op (.load (sbB d) (rectB 0).toLoadRect (View.loadsAt_vmem h_S1x64x512)) fun _ =>
    .op (.store (sbB d) (rectB 0) (k0_pay80 v) Finset.univ (View.stores_vmem h_S1x64x512 ((sbB_whole d).storeExact_slice rfl _ (packedB 0)) (fun _ => rfl)) (.inl rfl)) fun _ => K
  | .relayB d s =>
    .op (.load part (rect64 (bOff w d s.castSucc) (bOff_inb w d s.castSucc)).toLoadRect (View.loadsAt_vmem h_S64x512)) fun v =>
    .op (.load (bufB d) (rectB s.castSucc).toLoadRect (View.loadsAt_vmem h_S1x64x512)) fun b =>
    .op (.load (sbB d) (rectB s.succ).toLoadRect (View.loadsAt_vmem h_S1x64x512)) fun _ =>
    .op (.store (sbB d) (rectB s.succ) (k0_pay81 v b) Finset.univ (View.stores_vmem h_S1x64x512 ((sbB_whole d).storeExact_slice rfl _ (packedB s.succ)) (fun _ => rfl)) (.inl rfl)) fun _ => K
  | .lastB d =>
    .op (.load part (rect64 (bOff w d 2) (bOff_inb w d 2)).toLoadRect (View.loadsAt_vmem h_S64x512)) fun v =>
    .op (.load (bufB d) (rectB 2).toLoadRect (View.loadsAt_vmem h_S1x64x512)) fun b =>
    .op (.load part (rect64 (bOff w d 2) (bOff_inb w d 2)).toLoadRect (View.loadsAt_vmem h_S64x512)) fun _ =>
    .op (.store part (rect64 (bOff w d 2) (bOff_inb w d 2)) (k0_pay86 v b) Finset.univ (View.stores_vmem_bits_univ h_S64x512 rfl) (.inl rfl)) fun _ => K
  | .own d =>
    .op (.load part (rect64 (ownOff w d) (ownOff_inb w d)).toLoadRect (View.loadsAt_vmem h_S64x512)) fun v =>
    .op (.load obf (rect64 (ownOff w d) (ownOff_inb w d)).toLoadRect (View.loadsAt_vmem h_S64x512)) fun _ =>
    .op (.store obf (rect64 (ownOff w d) (ownOff_inb w d)) (k0_pay88 v) Finset.univ (View.stores_vmem h_S64x512 (obf_whole.storeExact_slice rfl _ (own_packed w d)) (fun _ => rfl)) (.inl rfl)) fun _ => K
  | .emit d u =>
    .op (.load obf (rect256 (emOff w d u) (emOff_inb w d u)).toLoadRect (View.loadsAt_vmem h_S256x512)) fun v =>
    .op (.load stg (rectStg (slot d u)).toLoadRect (View.loadsAt_vmem h_S1x256x512)) fun _ =>
    .op (.store stg (rectStg (slot d u)) (k0_pay90 v) Finset.univ (View.stores_vmem_bits_univ h_S1x256x512 rfl) (.inl rfl)) fun _ =>
    .op (.enqueueDma (stgM (slot d u)) (.here (outR w d u)) (.dma (cpSem (slot d u))) ((View.wordExact_bits rfl).reshape _ _) ((View.wordExact_bits rfl).reshape _ _) ⟨Or.inl rfl, trivial⟩) fun _ => K
  | .emitW d u => .op (.waitDma2 (cpSem (slot d u)) (stgM (slot d u)) (outR w d u) ((View.wordExact_bits rfl).reshape _ _) ((View.wordExact_bits rfl).reshape _ _)) fun _ => K
  | .cutQ _ | .cutB _ | .share _ _ _ | .unshare _ _ _ => K

/-- The program of a list of steps. -/
def run (w : Words) (kv : FVec F S4x512 .f32) (wv : FVec F S512x512 .f32) (K : Code F) : List Instr → Code F
  | [] => K
  | i :: l => i.prog w kv wv (run w kv wv K l)

/-! ## The list -/

abbrev f7 : List (Fin 7) := [0, 1, 2, 3, 4, 5, 6]
abbrev f6 : List (Fin 6) := [0, 1, 2, 3, 4, 5]
abbrev f4 : List (Fin 4) := [0, 1, 2, 3]
abbrev f3 : List (Fin 3) := [0, 1, 2]
abbrev f2 : List (Fin 2) := [0, 1]

/-- Products of the first chunk and its two neighbours; the first sends on ring A. -/
def codeA0 : List Instr :=
  [.compSt false, .barW, .send (.rsA false 0 0), .send (.rsA false 0 1), .compSt true, .send (.rsA true 0 0), .send (.rsA true 0 1), .comp false 1, .comp true 1]

/-- One step of ring A that relays. -/
def codeA1 (s : Fin 6) : List Instr :=
  (f2.flatMap fun q => [.recv (.rsA false s.castSucc q), .relayA false s q, .send (.rsA false s.succ q)])
  ++ (f2.flatMap fun q => [.recv (.rsA true s.castSucc q), .relayA true s q, .send (.rsA true s.succ q)])
  ++ [.comp false ⟨s.val + 2, by omega⟩, .comp true ⟨s.val + 2, by omega⟩]

/-- The last step of ring A and the first send of ring B, in one direction. -/
def codeA2 (d : Bool) : List Instr :=
  .cutQ d :: (f2.flatMap fun q => [.recv (.rsA d 6 q), .lastA d q]) ++ [.cutB d, .stageB d, .send (.rsB d 0)]

/-- Ring B and the device's own blocks. -/
def codeB : List Instr :=
  (f2.flatMap fun s => [false, true].flatMap fun d => [.recv (.rsB d s.castSucc), .relayB d s, .send (.rsB d s.succ)])
  ++ ([false, true].flatMap fun d => [.recv (.rsB d 2), .lastB d]) ++ [.own false, .own true]

/-- Gathering along ring B. -/
def codeG0 : List Instr :=
  [.share false 0 0, .share true 0 0, .send (.agA false 0 0), .send (.agA true 0 0)]
  ++ (f3.flatMap fun s => [.send (.agB false s), .send (.agB true s),
      .recv (.agB false s), .share false 0 s.succ, .send (.agA false 0 s.succ), .recv (.agB true s), .share true 0 s.succ, .send (.agA true 0 s.succ)])
  ++ [.emit false 0, .emit true 0]

/-- One step of the gathering along ring A, in one direction. -/
def codeG1 (d : Bool) (s : Fin 7) : List Instr :=
  f4.flatMap fun k => .recv (.agA d s k) :: .share d s.succ k :: (if h : s.val < 6 then [.send (.agA d ⟨s.val + 1, by omega⟩ k)] else [])

/-- Copies of the gathered half chunks to the result. -/
def codeE (s : Fin 7) : List Instr :=
  [false, true].flatMap fun d => (if h : 1 ≤ s.val then [.emitW d ⟨s.val - 1, by omega⟩] else []) ++ [.emit d s.succ]

/-- The waits for everything sent. -/
def codeW : List Instr :=
  (f7.flatMap fun s => f2.flatMap fun q => [.sendW (.rsA false s q), .sendW (.rsA true s q)])
  ++ (f3.flatMap fun s => [.sendW (.rsB false s), .sendW (.rsB true s), .sendW (.agB false s), .sendW (.agB true s)])
  ++ (f7.flatMap fun s => f4.flatMap fun k => [.sendW (.agA false s k), .sendW (.agA true s k)])
  ++ [.emitW false 6, .emitW true 6, .emitW false 7, .emitW true 7]

/-- The shares of every gathered block, joined again. -/
def codeU : List Instr := [false, true].flatMap fun d => [0, 1, 2, 3, 4, 5, 6, 7].flatMap fun u => f4.map fun k => .unshare d u k

def code1 : List Instr := codeA0 ++ f6.flatMap codeA1 ++ codeA2 false ++ codeA2 true
def code2 : List Instr := codeB ++ codeG0
def code3 : List Instr := f7.flatMap fun s => codeG1 false s ++ codeG1 true s ++ codeE s
/-- Everything after the prologue. -/
def code : List Instr := code1 ++ code2 ++ code3 ++ codeW ++ codeU

/-! ## The prologue -/

theorem inbZ (b : Fin 4) (a : Fin 3) : (![b.val, 0, 0] : Fin 3 → ℕ) a + S1x8x512.size a ≤ S4x1040x512.size a := by
  revert b a; decide
theorem inbX (b : Fin 4) (a : Fin 3) : (![b.val, 8, 0] : Fin 3 → ℕ) a + S1x1024x512.size a ≤ S4x1040x512.size a := by
  revert b a; decide
theorem inbX' (b : Fin 4) (a : Fin 3) : (![b.val, 0, 0] : Fin 3 → ℕ) a + S1x1024x512.size a ≤ S4x1024x512.size a := by
  revert b a; decide
abbrev rectZ (b : Fin 4) : Rect S4x1040x512 := Rect.unit (s := S4x1040x512) ![b.val, 0, 0] S1x8x512.size (inbZ b)
/-- Batch `b` of the input. -/
abbrev xSrc (b : Fin 4) : Memref sig .tc .hbm S1024x512 .f32 :=
  (xM.slice (Rect.unit (s := S4x1024x512) ![b.val, 0, 0] S1x1024x512.size (inbX' b)) (fun _ => rfl)).squeeze S1024x512 squeezes_S1x1024x512_S1024x512
/-- Where batch `b` of the input lands. -/
abbrev xDst (b : Fin 4) : Memref sig .tc .vmem S1024x512 .f32 :=
  (pad.slice (Rect.unit (s := S4x1040x512) ![b.val, 8, 0] S1x1024x512.size (inbX b)) (fun _ => rfl)).squeeze S1024x512 squeezes_S1x1024x512_S1024x512

/-- Zero the eight rows before batch `b` and start the batch's copy. -/
def xStart (b : Fin 4) (K : Code F) : Code F :=
  .op (.load pad (rectZ b).toLoadRect (View.loadsAt_vmem h_S1x8x512)) fun _ =>
  .op (.store pad (rectZ b) (k0_pay3 (F := F)) Finset.univ (View.stores_vmem_bits_univ h_S1x8x512 rfl) (.inl rfl)) fun _ =>
  .op (.enqueueDma (xSrc b) (.here (xDst b)) (.dma (xSem b)) ((View.wordExact_bits rfl).reshape _ _) ((View.wordExact_bits rfl).reshape _ _) ⟨Or.inl rfl, trivial⟩) fun _ => K
def xWait (b : Fin 4) (K : Code F) : Code F :=
  .op (.waitDma2 (xSem b) (xSrc b) (xDst b) ((View.wordExact_bits rfl).reshape _ _) ((View.wordExact_bits rfl).reshape _ _)) fun _ => K

abbrev tabM : Memref sig .tc .smem S6x32 .i32 := win0_0.stage 0
abbrev kM : Memref sig .tc .vmem S4x512 .f32 := win0_1.stage 0
abbrev wM : Memref sig .tc .vmem S512x512 .f32 := win0_2.stage 0

/-- A word of the table, with a check of it. -/
def word (off : Dev nD → Fin 2 → ℕ) (d : Dev nD) (inb : ∀ a, off d a + S1x1.size a ≤ S6x32.size a) (K : BitVec 32 → Code F) : Code F :=
  smemLoadElt tabM (Rect.unit (s := S6x32) (off d) S1x1.size inb) (View.loads_smem_one rfl numel1_S1x1) (Shape.Idx.first (numel1_S1x1.symm ▸ Nat.one_pos)) K
def check (p : Prop) (hp : Decidable p) (K : p → Code F) : Code F := .op (.assume p hp) fun h => K h.down

/-- The prologue, up to the last of the four signals. -/
def readWords (K : Words → Code F) : Code F :=
  .op .deviceId fun d0 =>
  word k0_off1 d0 (k0_off1_inb d0) fun v4 => check (k0_chk5 v4) (k0_chk5.dec v4) fun h5 =>
  word k0_off2 d0 (k0_off2_inb d0) fun v6 => check (k0_chk1 v6) (k0_chk1.dec v6) fun h1 =>
  word k0_off3 d0 (k0_off3_inb d0) fun v8 => check (k0_chk2 v8) (k0_chk2.dec v8) fun h2 =>
  word k0_off4 d0 (k0_off4_inb d0) fun v10 => check (k0_chk6 v4 v10) (k0_chk6.dec v4 v10) fun h6 =>
  word k0_off5 d0 (k0_off5_inb d0) fun v12 => check (k0_chk3 v12) (k0_chk3.dec v12) fun h3 =>
  word k0_off6 d0 (k0_off6_inb d0) fun v14 => check (k0_chk4 v14) (k0_chk4.dec v14) fun h4 =>
  K { v4, h5, v6, h1, v8, h2, v10, h6, v12, h3, v14, h4 }

def signal (d : Dev nD) (K : Code F) : Code F := .op (.semSignal (d, .tc) barS (1#32).toInt) fun _ => K

def afterWords (w : Words) : Code F :=
  signal ⟨k0_dev1 w.v6, k0_dev1_lt w.v6 w.h1⟩ <| signal ⟨k0_dev2 w.v8, k0_dev2_lt w.v8 w.h2⟩ <|
  signal ⟨k0_dev3 w.v12, k0_dev3_lt w.v12 w.h3⟩ <| signal ⟨k0_dev4 w.v14, k0_dev4_lt w.v14 w.h4⟩ <|
  .op (.load kM (Rect.unit (s := S4x512) ![0, 0] S4x512.size inb_S4x512_S4x512_0_0).toLoadRect (View.loadsAt_vmem h_S4x512)) fun kv =>
  .op (.load wM (Rect.unit (s := S512x512) ![0, 0] S512x512.size inb_S512x512_S512x512_0_0).toLoadRect (View.loadsAt_vmem h_S512x512)) fun wv =>
  xStart 0 <| xStart 1 <| xStart 2 <| xStart 3 <| xWait 0 <| xWait 1 <| xWait 2 <| xWait 3 <|
  run w (k0_pay1 kv) (k0_pay2 wv) (.ret ⟨⟩) code

/-- The kernel's body as a list of steps. -/
def body : Code F := readWords afterWords

end Cert.KernelIdeal.Conv

end
-- ==== Proof.Place.lean ====
/-
  Places in numbers: what the table's words are on each device, and where each step's rectangle lies.
-/
module

public import proofs.«01_k».proof.Proof.Code

@[expose] public section

noncomputable section

namespace Cert.KernelIdeal.Conv

open Idealize.ShloMosaic Idealize.ShloMosaic.TcCoe Idealize.SL.Sem Cert.KernelIdeal Cert.KernelIdeal.Gen

/-- The device at place `a` of ring A and place `b` of ring B. -/
def dev (a b : ℕ) : Dev nD := ⟨4 * (a % 8) + b % 4, by show _ < 32; omega⟩
/-- The next device on ring A in direction `d`. -/
def nxA (d : Bool) (c : Dev nD) : Dev nD := dev (c.val / 4 + (if d then 7 else 1)) c.val
/-- The next device on ring B in direction `d`. -/
def nxB (d : Bool) (c : Dev nD) : Dev nD := dev (c.val / 4) (c.val + (if d then 3 else 1))

/-- The chunk of direction `d`'s `j`-th product. -/
def ch (d : Bool) (c : Dev nD) (j : ℕ) : ℕ := if d then (c.val / 4 + j) % 8 else (c.val / 4 + 8 - j) % 8
/-- The chunk that is gathered `u`-th. -/
def gch (d : Bool) (c : Dev nD) (u : ℕ) : ℕ := if d then (c.val / 4 + 7 + u) % 8 else (c.val / 4 + 9 - u) % 8
/-- The block that ring B adds to at step `k`. -/
def bb (d : Bool) (c : Dev nD) (k : ℕ) : ℕ := if d then (c.val % 4 + k) % 4 else (c.val % 4 + 4 - k) % 4
/-- The block that is gathered `k`-th. -/
def gb (d : Bool) (c : Dev nD) (k : ℕ) : ℕ := if d then (c.val % 4 + 3 + k) % 4 else (c.val % 4 + 5 - k) % 4

/-- The first row of direction `d`'s `j`-th half chunk, of a block of its last half chunk, and of the gathered half chunks and blocks. -/
def hrow (d : Bool) (c : Dev nD) (j : ℕ) : ℕ := 512 * ch d c j + 256 * d.toNat
def brow (d : Bool) (c : Dev nD) (k : ℕ) : ℕ := hrow d c 7 + 64 * bb d c k
def erow (d : Bool) (c : Dev nD) (u : ℕ) : ℕ := 512 * gch d c u + 256 * d.toNat
def grow (d : Bool) (c : Dev nD) (u k : ℕ) : ℕ := erow d c u + 64 * gb d c k

/-- The words of device `c`. -/
def W (c : Dev nD) : Words where
  v4 := BitVec.ofNat 32 (c.val / 4)
  h5 := by revert c; decide +kernel
  v6 := BitVec.ofNat 32 (nxA false c).val
  h1 := by revert c; decide +kernel
  v8 := BitVec.ofNat 32 (nxA true c).val
  h2 := by revert c; decide +kernel
  v10 := BitVec.ofNat 32 (c.val % 4)
  h6 := by revert c; decide +kernel
  v12 := BitVec.ofNat 32 (nxB false c).val
  h3 := by revert c; decide +kernel
  v14 := BitVec.ofNat 32 (nxB true c).val
  h4 := by revert c; decide +kernel

theorem winOff_W (c : Dev nD) (d : Bool) (j : Fin 8) : winOff (W c) d j = ![ch d c j / 2, 512 * (ch d c j % 2) + 256 * d.toNat, 0] := by
  revert c d j; decide +kernel
theorem rowOff_W (c : Dev nD) (d : Bool) (j : Fin 8) : rowOff (W c) d j = ![hrow d c j, 0] := by
  revert c d j; decide +kernel
theorem qOff_W (c : Dev nD) (d : Bool) (s : Fin 7) (q : Fin 2) : qOff (W c) d s q = ![hrow d c (s.val + 1) + 128 * q.val, 0] := by
  revert c d s q; decide +kernel
theorem b0Off_W (c : Dev nD) (d : Bool) : b0Off (W c) d = ![brow d c 0, 0] := by
  revert c d; decide +kernel
theorem bOff_W (c : Dev nD) (d : Bool) (s : Fin 3) : bOff (W c) d s = ![brow d c (s.val + 1), 0] := by
  revert c d s; decide +kernel
theorem ownOff_W (c : Dev nD) (d : Bool) : ownOff (W c) d = ![grow d c 0 0, 0] := by
  revert c d; decide +kernel
theorem gbOff_W (c : Dev nD) (d : Bool) (s : Fin 3) : gbOff (W c) d s = ![grow d c 0 s, 0] := by
  revert c d s; decide +kernel
theorem gaOff_W (c : Dev nD) (d : Bool) (s : Fin 7) (k : Fin 4) : gaOff (W c) d s k = ![grow d c s k, 0] := by
  revert c d s k; decide +kernel
theorem emOff_W (c : Dev nD) (d : Bool) (u : Fin 8) : emOff (W c) d u = ![erow d c u, 0] := by
  revert c d u; decide +kernel
theorem outOff_W (c : Dev nD) (d : Bool) (u : Fin 8) : outOff (W c) d u = ![gch d c u / 2, 512 * (gch d c u % 2) + 256 * d.toNat, 0] := by
  revert c d u; decide +kernel

/-- The device that a transfer of device `c` goes to, and the one that a transfer to device `c` comes from. -/
def tgt (c : Dev nD) : Tr → Dev nD
  | .rsA d _ _ => nxA d c
  | .rsB d _ => nxB d c
  | .agB d _ => nxB d c
  | .agA d _ _ => nxA d c
def orig (c : Dev nD) : Tr → Dev nD
  | .rsA d _ _ => nxA (!d) c
  | .rsB d _ => nxB (!d) c
  | .agB d _ => nxB (!d) c
  | .agA d _ _ => nxA (!d) c

theorem nxA_not (d : Bool) (c : Dev nD) : nxA (!d) (nxA d c) = c := by revert d c; decide +kernel
theorem nxB_not (d : Bool) (c : Dev nD) : nxB (!d) (nxB d c) = c := by revert d c; decide +kernel
theorem nxA_not' (d : Bool) (c : Dev nD) : nxA d (nxA (!d) c) = c := by revert d c; decide +kernel
theorem nxB_not' (d : Bool) (c : Dev nD) : nxB d (nxB (!d) c) = c := by revert d c; decide +kernel
theorem orig_tgt (c : Dev nD) (t : Tr) : orig (tgt c t) t = c := by
  cases t
  exacts [nxA_not _ _, nxB_not _ _, nxB_not _ _, nxA_not _ _]
theorem tgt_orig (c : Dev nD) (t : Tr) : tgt (orig c t) t = c := by
  cases t
  exacts [nxA_not' _ _, nxB_not' _ _, nxB_not' _ _, nxA_not' _ _]

theorem peer_W (c : Dev nD) (t : Tr) : t.peer (W c) = tgt c t := by
  rcases t with ⟨d, s, q⟩ | ⟨d, s⟩ | ⟨d, s⟩ | ⟨d, s, k⟩ <;> cases d
  all_goals first
    | exact (show ∀ c : Dev nD, (⟨k0_dev5 (W c).v6, k0_dev5_lt (W c).v6 (W c).h1⟩ : Dev nD) = nxA false c from by decide +kernel) c
    | exact (show ∀ c : Dev nD, (⟨k0_dev7 (W c).v8, k0_dev7_lt (W c).v8 (W c).h2⟩ : Dev nD) = nxA true c from by decide +kernel) c
    | exact (show ∀ c : Dev nD, (⟨k0_dev33 (W c).v12, k0_dev33_lt (W c).v12 (W c).h3⟩ : Dev nD) = nxB false c from by decide +kernel) c
    | exact (show ∀ c : Dev nD, (⟨k0_dev34 (W c).v14, k0_dev34_lt (W c).v14 (W c).h4⟩ : Dev nD) = nxB true c from by decide +kernel) c

theorem dev1_W (c : Dev nD) : (⟨k0_dev1 (W c).v6, k0_dev1_lt (W c).v6 (W c).h1⟩ : Dev nD) = nxA false c := by revert c; decide +kernel
theorem dev2_W (c : Dev nD) : (⟨k0_dev2 (W c).v8, k0_dev2_lt (W c).v8 (W c).h2⟩ : Dev nD) = nxA true c := by revert c; decide +kernel
theorem dev3_W (c : Dev nD) : (⟨k0_dev3 (W c).v12, k0_dev3_lt (W c).v12 (W c).h3⟩ : Dev nD) = nxB false c := by revert c; decide +kernel
theorem dev4_W (c : Dev nD) : (⟨k0_dev4 (W c).v14, k0_dev4_lt (W c).v14 (W c).h4⟩ : Dev nD) = nxB true c := by revert c; decide +kernel

/-- A gathered block lands where the receiver gathers it one step later. -/
theorem grow_nxA (d : Bool) (c : Dev nD) (s : Fin 7) (k : Fin 4) : grow d (nxA (!d) c) s k = grow d c (s.val + 1) k := by
  revert d c s k; decide +kernel
theorem grow_nxB (d : Bool) (c : Dev nD) (s : Fin 3) : grow d (nxB (!d) c) 0 s = grow d c 0 (s.val + 1) := by
  revert d c s; decide +kernel
/-- A half chunk is added to by the next device one step later. -/
theorem hrow_nxA (d : Bool) (c : Dev nD) (j : Fin 7) : hrow d (nxA (!d) c) j = hrow d c (j.val + 1) := by
  revert d c j; decide +kernel
theorem brow_nxB (d : Bool) (c : Dev nD) (k : Fin 3) : brow d (nxB (!d) c) k = brow d c (k.val + 1) := by
  revert d c k; decide +kernel
theorem erow_zero (d : Bool) (c : Dev nD) : erow d c 0 = hrow d c 7 := by
  revert d c; decide +kernel
theorem grow_zero (d : Bool) (c : Dev nD) : grow d c 0 0 = brow d c 3 := by
  revert d c; decide +kernel

end Cert.KernelIdeal.Conv

end
-- ==== Proof.Hold.lean ====
/-
  What a device holds of one buffer: some elements of it, at a share, with known contents. `Hold` names the elements and the contents by the indices of a memref; it splits and joins
  along a partition of the elements, it halves, and a load, a store or a slice of the memref is read off it.
-/
module

public import proofs.«01_k».proof.Proof.Place
public import proofs.«01_k».proof.Proof.Gen.KernelIdeal.Launch
public import Idealize.ShloMosaic.Lib.Pipeline.Regions
public import Idealize.ShloMosaic.Lib.Pipeline.Kit
public import Idealize.ShloMosaic.Lib.MemrefSat
public import Idealize.ShloMosaic.Lib.Tactic

@[expose] public section

noncomputable section

namespace Cert.KernelIdeal.Conv

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline library's copy (left) and the kernel's rounds, with up to four duties in a round (right). -/
abbrev UU : Type := UR sig nD τ × URounds (GSem nD τ sig) (Fin 4)

local notation "𝕄" => MT nD τ sig Unit (Elt F) ℕ UU ℕ

abbrev EP : Emb (UR sig nD τ) (MT nD τ sig Unit (Elt F) ℕ UU ℕ) := embL
abbrev ER : Emb (URounds (GSem nD τ sig) (Fin 4)) (MT nD τ sig Unit (Elt F) ℕ UU ℕ) := embR
abbrev 𝒱₀ : Variants := Variants.none

variable {sp : Space} {s s' : Shape} {e : EltTy}

/-- Device `c` holds the elements `A` of the memref `m` at share `q`, with contents `X`. -/
def Hold (c : Dev nD) (m : Memref sig .tc sp s e) (A : Finset s.Idx) (q : PosShare TreeShare) (X : s.Idx → Elt F e) : sProp 𝕄 :=
  iprop(∃ f : Buf (Elt F) (m.view.loc (c : Thread nD τ)), ⌜∀ i ∈ A, m.view.read (Elt F) f i = X i⌝ ∗ (m.view.loc (c : Thread nD τ) ↦[m.view.setOn A]{q} f))

/-- The same with some contents, at the whole share. -/
def HoldE (c : Dev nD) (m : Memref sig .tc sp s e) (A : Finset s.Idx) : sProp 𝕄 :=
  iprop(∃ f : Buf (Elt F) (m.view.loc (c : Thread nD τ)), (m.view.loc (c : Thread nD τ) ↦[m.view.setOn A]{fullShare} f))

omit [FloatOps F] in
theorem hold_some (c : Dev nD) (m : Memref sig .tc sp s e) (A : Finset s.Idx) (X : s.Idx → Elt F e) : Hold c m A fullShare X ⊢ HoldE c m A := by
  unfold Hold HoldE
  iintro ⟨%f, -, H⟩
  iexists f
  iexact H

omit [FloatOps F] in
theorem holdE_elim (c : Dev nD) (m : Memref sig .tc sp s e) (A : Finset s.Idx) : (HoldE c m A : sProp 𝕄) ⊢ iprop(∃ X, Hold c m A fullShare X) := by
  unfold Hold HoldE
  iintro ⟨%f, H⟩
  iexists m.view.read (Elt F) f
  iexists f
  isplitr; · ipureintro; intro i _; rfl
  iexact H

omit [FloatOps F] in
/-- Contents off the elements held do not matter. -/
theorem hold_congr {c : Dev nD} {m : Memref sig .tc sp s e} {A : Finset s.Idx} {q : PosShare TreeShare} {X Y : s.Idx → Elt F e} (h : ∀ i ∈ A, X i = Y i) :
    Hold c m A q X ⊢ Hold c m A q Y := by
  unfold Hold
  iintro ⟨%f, %hf, H⟩
  iexists f
  isplitr; · ipureintro; intro i hi; exact (hf i hi).trans (h i hi)
  iexact H

omit [FloatOps F] in
theorem hold_halves (c : Dev nD) (m : Memref sig .tc sp s e) (A : Finset s.Idx) (q : PosShare TreeShare) (X : s.Idx → Elt F e) :
    Hold c m A q X ⊢ iprop(Hold c m A q.left X ∗ Hold c m A q.right X) := by
  unfold Hold
  iintro ⟨%f, %hf, H⟩
  ihave H2 := (pointsTo_share (PosShare.mem_left_op_right q)).1 $$ H
  icases H2 with ⟨Hl, Hr⟩
  isplitl [Hl]
  · iexists f
    isplitr; · ipureintro; exact hf
    iexact Hl
  · iexists f
    isplitr; · ipureintro; exact hf
    iexact Hr

omit [FloatOps F] in
theorem hold_rejoin (c : Dev nD) (m : Memref sig .tc sp s e) (A : Finset s.Idx) (q : PosShare TreeShare) (X : s.Idx → Elt F e) :
    iprop(Hold c m A q.left X ∗ Hold c m A q.right X) ⊢ Hold c m A q X := by
  unfold Hold
  iintro ⟨⟨%f, %hf, Hl⟩, ⟨%g, %hg, Hr⟩⟩
  iexists f
  isplitr; · ipureintro; exact hf
  have hfg : ∀ i ∈ m.view.setOn A, g i = f i := by
    intro i hi
    obtain ⟨x, hx, rfl⟩ := Finset.mem_map.mp hi
    have h := (hg x hx).trans (hf x hx).symm
    rw [View.read_apply, View.read_apply] at h
    exact (cast_inj _).mp h
  ihave Hr := (Entails.of_eq (pointsTo_congr hfg)) $$ Hr
  iapply (pointsTo_share (PosShare.mem_left_op_right q)).2
  isplitl [Hl]; · iexact Hl
  iexact Hr

section Parts
variable {P : Type} [Fintype P] [DecidableEq P]

omit [FloatOps F] in
theorem setOn_parts (m : Memref sig .tc sp s e) {A : Finset s.Idx} {K : P → Finset s.Idx} {key : s.Idx → P} (hK : ∀ p i, i ∈ K p ↔ i ∈ A ∧ key i = p) :
    m.view.setOn A = Finset.univ.biUnion fun p => m.view.setOn (K p) := by
  ext y
  simp only [View.setOn, Finset.mem_map, Finset.mem_biUnion, Finset.mem_univ, true_and]
  constructor
  · rintro ⟨x, hx, rfl⟩; exact ⟨key x, x, (hK _ _).mpr ⟨hx, rfl⟩, rfl⟩
  · rintro ⟨p, x, hx, rfl⟩; exact ⟨x, ((hK _ _).mp hx).1, rfl⟩

omit [FloatOps F] in
theorem parts_disjoint (m : Memref sig .tc sp s e) {A : Finset s.Idx} {K : P → Finset s.Idx} {key : s.Idx → P} (hK : ∀ p i, i ∈ K p ↔ i ∈ A ∧ key i = p) :
    ∀ p ∈ (Finset.univ : Finset P), ∀ p' ∈ (Finset.univ : Finset P), p ≠ p' → Disjoint (m.view.setOn (K p)) (m.view.setOn (K p')) := by
  intro p _ p' _ hne
  refine Finset.disjoint_left.mpr fun y hy hy' => ?_
  obtain ⟨x, hx, rfl⟩ := Finset.mem_map.mp hy
  have hx' := (View.mem_setOn _).mp hy'
  exact hne ((((hK _ _).mp hx).2).symm.trans ((hK _ _).mp hx').2)

omit [FloatOps F] in
/-- Held elements split along the fibres of a map. -/
theorem hold_split (c : Dev nD) (m : Memref sig .tc sp s e) {A : Finset s.Idx} {K : P → Finset s.Idx} (key : s.Idx → P) (hK : ∀ p i, i ∈ K p ↔ i ∈ A ∧ key i = p)
    (q : PosShare TreeShare) (X : s.Idx → Elt F e) : Hold c m A q X ⊢ bigSep Finset.univ fun p => Hold c m (K p) q X := by
  unfold Hold
  iintro ⟨%f, %hf, H⟩
  have h1 : ((m.view.loc (c : Thread nD τ) ↦[m.view.setOn A]{q} f) : sProp 𝕄) = bigSep Finset.univ fun p => (m.view.loc (c : Thread nD τ) ↦[m.view.setOn (K p)]{q} f) := by
    rw [setOn_parts m hK]; exact pointsTo_biUnion _ _ (parts_disjoint m hK)
  have h2 : ((m.view.loc (c : Thread nD τ) ↦[m.view.setOn A]{q} f) : sProp 𝕄)
      ⊢ bigSep Finset.univ fun p => iprop(∃ f : Buf (Elt F) (m.view.loc (c : Thread nD τ)), ⌜∀ i ∈ K p, m.view.read (Elt F) f i = X i⌝
        ∗ (m.view.loc (c : Thread nD τ) ↦[m.view.setOn (K p)]{q} f)) := by
    rw [h1]
    have h3 : ∀ p, ((m.view.loc (c : Thread nD τ) ↦[m.view.setOn (K p)]{q} f) : sProp 𝕄)
        ⊢ iprop(∃ f : Buf (Elt F) (m.view.loc (c : Thread nD τ)), ⌜∀ i ∈ K p, m.view.read (Elt F) f i = X i⌝
          ∗ (m.view.loc (c : Thread nD τ) ↦[m.view.setOn (K p)]{q} f)) := by
      intro p
      iintro H
      iexists f
      isplitr; · ipureintro; intro i hi; exact hf i ((hK _ _).mp hi).1
      iexact H
    exact bigSep_mono fun p _ => h3 p
  iapply h2
  iexact H

omit [FloatOps F] in
theorem hold_union (c : Dev nD) (m : Memref sig .tc sp s e) {A B : Finset s.Idx} (h : Disjoint A B) (q : PosShare TreeShare) (X : s.Idx → Elt F e) :
    iprop(Hold c m A q X ∗ Hold c m B q X) ⊢ Hold c m (A ∪ B) q X := by
  unfold Hold
  iintro ⟨⟨%f, %hf, HA⟩, ⟨%g, %hg, HB⟩⟩
  have hd : Disjoint (m.view.setOn A) (m.view.setOn B) := (Finset.disjoint_map _).mpr h
  have hu : m.view.setOn (A ∪ B) = m.view.setOn A ∪ m.view.setOn B := Finset.map_union _ _
  iexists (m.view.setOn B).piecewise g f
  isplitr
  · ipureintro
    intro i hi
    by_cases hB : i ∈ B
    · rw [← hg i hB, View.read_apply, View.read_apply, Finset.piecewise_eq_of_mem _ _ _ ((View.mem_setOn _).mpr hB)]
    · rw [← hf i ((Finset.mem_union.mp hi).resolve_right hB), View.read_apply, View.read_apply,
        Finset.piecewise_eq_of_notMem _ _ _ (fun h' => hB ((View.mem_setOn _).mp h'))]
  · rw [hu]
    iapply (pointsTo_join hd)
    isplitl [HA]; · iexact HA
    iexact HB

omit [FloatOps F] in
theorem hold_biUnion (c : Dev nD) (m : Memref sig .tc sp s e) (q : PosShare TreeShare) (X : s.Idx → Elt F e) (K : P → Finset s.Idx) (S : Finset P) (hS : S.Nonempty)
    (hd : ∀ p p', p ≠ p' → Disjoint (K p) (K p')) : (bigSep S fun p => Hold c m (K p) q X) ⊢ Hold c m (S.biUnion K) q X := by
  induction hS using Finset.Nonempty.cons_induction with
  | singleton a => rw [bigSep_singleton, Finset.singleton_biUnion]
  | cons a S ha hS ih =>
    rw [Finset.cons_eq_insert, bigSep_insert ha, Finset.biUnion_insert]
    refine (sep_mono_right ih).trans (hold_union c m ?_ q X)
    exact (Finset.disjoint_biUnion_right _ _ _).mpr fun t ht => hd _ _ fun e => ha (e ▸ ht)

omit [FloatOps F] in
/-- And join. -/
theorem hold_join (c : Dev nD) (m : Memref sig .tc sp s e) {A : Finset s.Idx} {K : P → Finset s.Idx} (key : s.Idx → P) (hK : ∀ p i, i ∈ K p ↔ i ∈ A ∧ key i = p)
    (q : PosShare TreeShare) (X : s.Idx → Elt F e) [Nonempty P] : (bigSep Finset.univ fun p => Hold c m (K p) q X) ⊢ Hold c m A q X := by
  have h := hold_biUnion c m q X K Finset.univ Finset.univ_nonempty (fun p p' hne => Finset.disjoint_left.mpr fun x hx hx' =>
    hne ((((hK _ _).mp hx).2).symm.trans ((hK _ _).mp hx').2))
  have hA : Finset.univ.biUnion K = A := by
    ext x
    simp only [Finset.mem_biUnion, Finset.mem_univ, true_and]
    exact ⟨fun ⟨p, hp⟩ => ((hK _ _).mp hp).1, fun hx => ⟨key x, (hK _ _).mpr ⟨hx, rfl⟩⟩⟩
  rwa [hA] at h

omit [FloatOps F] in
theorem holdE_split (c : Dev nD) (m : Memref sig .tc sp s e) {A : Finset s.Idx} {K : P → Finset s.Idx} (key : s.Idx → P) (hK : ∀ p i, i ∈ K p ↔ i ∈ A ∧ key i = p) :
    (HoldE c m A : sProp 𝕄) ⊢ bigSep Finset.univ fun p => HoldE c m (K p) := by
  refine (holdE_elim c m A).trans ?_
  iintro ⟨%X, H⟩
  iapply ((hold_split c m key hK fullShare X).trans (bigSep_mono fun p _ => hold_some c m (K p) X))
  iexact H

omit [FloatOps F] in
theorem holdE_union (c : Dev nD) (m : Memref sig .tc sp s e) {A B : Finset s.Idx} (h : Disjoint A B) :
    (iprop(HoldE c m A ∗ HoldE c m B) : sProp 𝕄) ⊢ HoldE c m (A ∪ B) := by
  have hd : Disjoint (m.view.setOn A) (m.view.setOn B) := (Finset.disjoint_map _).mpr h
  have hu : m.view.setOn (A ∪ B) = m.view.setOn A ∪ m.view.setOn B := Finset.map_union _ _
  unfold HoldE
  iintro ⟨⟨%f, HA⟩, ⟨%g, HB⟩⟩
  iexists (m.view.setOn B).piecewise g f
  rw [hu]
  iapply (pointsTo_join hd)
  isplitl [HA]; · iexact HA
  iexact HB

omit [FloatOps F] in
theorem holdE_join (c : Dev nD) (m : Memref sig .tc sp s e) {A : Finset s.Idx} {K : P → Finset s.Idx} (key : s.Idx → P) (hK : ∀ p i, i ∈ K p ↔ i ∈ A ∧ key i = p)
    [Nonempty P] : (bigSep Finset.univ fun p => HoldE c m (K p) : sProp 𝕄) ⊢ HoldE c m A := by
  have hd : ∀ p p', p ≠ p' → Disjoint (K p) (K p') := fun p p' hne => Finset.disjoint_left.mpr fun x hx hx' =>
    hne ((((hK _ _).mp hx).2).symm.trans ((hK _ _).mp hx').2)
  have hA : Finset.univ.biUnion K = A := by
    ext x
    simp only [Finset.mem_biUnion, Finset.mem_univ, true_and]
    exact ⟨fun ⟨p, hp⟩ => ((hK _ _).mp hp).1, fun hx => ⟨key x, (hK _ _).mpr ⟨hx, rfl⟩⟩⟩
  have h : ∀ S : Finset P, S.Nonempty → (bigSep S fun p => HoldE c m (K p) : sProp 𝕄) ⊢ HoldE c m (S.biUnion K) := by
    intro S hS
    induction hS using Finset.Nonempty.cons_induction with
    | singleton a => rw [bigSep_singleton, Finset.singleton_biUnion]
    | cons a S ha hS ih =>
      rw [Finset.cons_eq_insert, bigSep_insert ha, Finset.biUnion_insert]
      refine (sep_mono_right ih).trans (holdE_union c m ?_)
      exact (Finset.disjoint_biUnion_right _ _ _).mpr fun t ht => hd _ _ fun e => ha (e ▸ ht)
  have h' := h Finset.univ Finset.univ_nonempty
  rwa [hA] at h'

end Parts

/-! ## Loads and stores -/

section Steps
variable {c : Dev nD} {csp : CoreSpace} {m : Memref sig .tc csp s e}

/-- A load of held elements reads their contents. -/
theorem hold_load {Q : PUnit → sProp 𝕄} {r : Rect s} {hl : m.view.LoadsAt r.toLoadRect} {k : (r.shape.Idx → Elt F e) → Code F} {A : Finset s.Idx} {q : PosShare TreeShare}
    {X : s.Idx → Elt F e} (hA : ∀ j, r.emb j ∈ A) :
    Hold c m A q X ⊢ iprop((Hold c m A q X -∗ wp frame (wpE (defs₀ (F := F)) 𝒱₀ (c : Thread nD τ) none) Set.univ (k fun j => X (r.emb j)) Q)
      -∗ wp frame (wpE (defs₀ (F := F)) 𝒱₀ (c : Thread nD τ) none) Set.univ (.op (.load m r.toLoadRect hl) k) Q) := by
  unfold Hold
  iintro ⟨%f, %hf, H⟩ Hk
  have hS : m.view.setOn r.toLoadRect.set ⊆ m.view.setOn A := Finset.map_subset_map.mpr fun i hi => by
    have hi' : i ∈ r.set := hi
    rw [← Rect.map_emb_univ] at hi'
    obtain ⟨j, -, rfl⟩ := Finset.mem_map.mp hi'
    exact hA j
  have hv : m.view.readAt (Elt F) r.toLoadRect f = fun j => X (r.emb j) := funext fun j => hf _ (hA j)
  iapply (wp_load 𝒱₀ (c : Thread nD τ) none Set.univ hS) $$ H
  iintro H
  rw [hv]
  iapply Hk
  iexists f
  isplitr; · ipureintro; exact hf
  iexact H

/-- A load of held elements whose value is not used. -/
theorem holdE_load {Q : PUnit → sProp 𝕄} {r : Rect s} {hl : m.view.LoadsAt r.toLoadRect} {k : (r.shape.Idx → Elt F e) → Code F} {A : Finset s.Idx} {K : Code F} (hk : ∀ v, k v = K)
    (hA : ∀ j, r.emb j ∈ A) :
    HoldE c m A ⊢ iprop((HoldE c m A -∗ wp frame (wpE (defs₀ (F := F)) 𝒱₀ (c : Thread nD τ) none) Set.univ K Q)
      -∗ wp frame (wpE (defs₀ (F := F)) 𝒱₀ (c : Thread nD τ) none) Set.univ (.op (.load m r.toLoadRect hl) k) Q) := by
  unfold HoldE
  iintro ⟨%f, H⟩ Hk
  have hS : m.view.setOn r.toLoadRect.set ⊆ m.view.setOn A := Finset.map_subset_map.mpr fun i hi => by
    have hi' : i ∈ r.set := hi
    rw [← Rect.map_emb_univ] at hi'
    obtain ⟨j, -, rfl⟩ := Finset.mem_map.mp hi'
    exact hA j
  iapply (wp_load 𝒱₀ (c : Thread nD τ) none Set.univ hS) $$ H
  iintro H
  rw [hk]
  iapply Hk
  iexists f
  iexact H

/-- A store into held elements: inside the rectangle they hold the value stored, outside what they held. -/
theorem hold_store {Q : PUnit → sProp 𝕄} {r : Rect s} {w : r.shape.Idx → Elt F e} {hx : (m.access r).Stores Finset.univ} {hm : Finset.univ = (Finset.univ : Finset r.shape.Idx) ∨ ∀ a, r.stride a = 1}
    {k : PUnit → Code F} {A : Finset s.Idx} {X Y : s.Idx → Elt F e} (hA : ∀ j, r.emb j ∈ A) (hw : ∀ j, Y (r.emb j) = w j) (hY : ∀ i ∈ A, (∀ j, r.emb j ≠ i) → Y i = X i) :
    Hold c m A fullShare X ⊢ iprop((Hold c m A fullShare Y -∗ wp frame (wpE (defs₀ (F := F)) 𝒱₀ (c : Thread nD τ) none) Set.univ (k ⟨⟩) Q)
      -∗ wp frame (wpE (defs₀ (F := F)) 𝒱₀ (c : Thread nD τ) none) Set.univ (.op (.store m r w Finset.univ hx hm) k) Q) := by
  unfold Hold
  iintro ⟨%f, %hf, H⟩ Hk
  have hS : (m.access r).setOn Finset.univ ⊆ m.view.setOn A := by
    intro y hy
    obtain ⟨j, -, rfl⟩ := Finset.mem_map.mp hy
    exact (View.mem_setOn _).mpr (hA j)
  iapply (wp_store 𝒱₀ (c : Thread nD τ) none Set.univ hS) $$ H
  iintro H
  iapply Hk
  iexists (m.access r).write (Elt F) f w Finset.univ
  isplitr
  · ipureintro
    intro i hi
    by_cases h : ∃ j, r.emb j = i
    · obtain ⟨j, rfl⟩ := h
      rw [hw j]
      exact View.read_slice_write_emb (v := m.view) r f w (Finset.mem_univ j)
    · rw [hY i hi fun j hj => h ⟨j, hj⟩, ← hf i hi]
      exact View.read_slice_write_of_not_mem (v := m.view) r f w Finset.univ (fun h' => h (by
        obtain ⟨j, -, hj⟩ := Finset.mem_map.mp h'
        exact ⟨j, hj⟩))
  iexact H

/-- A store that fills the held elements. -/
theorem holdE_store {Q : PUnit → sProp 𝕄} {r : Rect s} {w : r.shape.Idx → Elt F e} {hx : (m.access r).Stores Finset.univ} {hm : Finset.univ = (Finset.univ : Finset r.shape.Idx) ∨ ∀ a, r.stride a = 1}
    {k : PUnit → Code F} {A : Finset s.Idx} {Y : s.Idx → Elt F e} (hA : ∀ j, r.emb j ∈ A) (hw : ∀ j, Y (r.emb j) = w j) (hY : ∀ i ∈ A, ∃ j, r.emb j = i) :
    HoldE c m A ⊢ iprop((Hold c m A fullShare Y -∗ wp frame (wpE (defs₀ (F := F)) 𝒱₀ (c : Thread nD τ) none) Set.univ (k ⟨⟩) Q)
      -∗ wp frame (wpE (defs₀ (F := F)) 𝒱₀ (c : Thread nD τ) none) Set.univ (.op (.store m r w Finset.univ hx hm) k) Q) := by
  refine (holdE_elim c m A).trans ?_
  iintro ⟨%X, H⟩ Hk
  iapply (hold_store (X := X) (Y := Y) hA hw (fun i hi h => by obtain ⟨j, hj⟩ := hY i hi; exact absurd hj (h j))) $$ H
  iexact Hk

end Steps

/-! ## Slices -/

section Slices
variable {r : Rect s} {A : Finset s.Idx}

omit [FloatOps F] in
theorem setOn_rect (m : Memref sig .tc sp s e) (hA : ∀ i, i ∈ A ↔ ∃ j, r.emb j = i) : m.view.setOn A = m.view.setOn (Finset.univ.map r.emb) := by
  congr 1
  ext i
  rw [hA, Finset.mem_map]
  simp

omit [FloatOps F] in
/-- Held elements that are a rectangle, as the slice through it. -/
theorem hold_slice {c : Dev nD} {m : Memref sig .tc sp s e} (hr : ∀ a, r.stride a = 1) (hA : ∀ i, i ∈ A ↔ ∃ j, r.emb j = i) {q : PosShare TreeShare} {X : s.Idx → Elt F e}
    {Y : r.shape.Idx → Elt F e} (hY : ∀ j, X (r.emb j) = Y j) :
    (Hold c m A q X : sProp 𝕄) ⊣⊢ owns (c : Thread nD τ) (m.slice r hr) q Y := by
  have hs : m.view.setOn A = (m.slice r hr).view.set := by
    rw [setOn_rect m hA]; exact Finset.map_map _ _ _
  constructor
  · unfold Hold owns
    rw [hs]
    iintro ⟨%f, %hf, H⟩
    iexists f
    isplitr; · ipureintro; funext j; exact (hf _ ((hA _).mpr ⟨j, rfl⟩)).trans (hY j)
    iexact H
  · unfold Hold owns
    rw [hs]
    iintro ⟨%f, %hf, H⟩
    iexists f
    isplitr
    · ipureintro
      intro i hi
      obtain ⟨j, rfl⟩ := (hA i).mp hi
      exact (congrFun hf j).trans (hY j).symm
    iexact H

omit [FloatOps F] in
/-- The same for a slice with its unit axes dropped. -/
theorem hold_squeeze {c : Dev nD} {m : Memref sig .tc sp s e} (hr : ∀ a, r.stride a = 1) (hq : r.shape.Squeezes s') (hA : ∀ i, i ∈ A ↔ ∃ j, r.emb j = i) {q : PosShare TreeShare}
    {X : s.Idx → Elt F e} {Y : s'.Idx → Elt F e} (hY : ∀ j, X (r.emb (Shape.reshapeEquiv hq.numel_eq j)) = Y j) :
    (Hold c m A q X : sProp 𝕄) ⊣⊢ owns (c : Thread nD τ) ((m.slice r hr).squeeze s' hq) q Y := by
  have hs : m.view.setOn A = ((m.slice r hr).squeeze s' hq).view.set := by
    rw [setOn_rect m hA]
    refine (Finset.map_map _ _ _).trans ?_
    exact ((m.slice r hr).view.set_reshape hq.numel_eq).symm
  constructor
  · unfold Hold owns
    rw [hs]
    iintro ⟨%f, %hf, H⟩
    iexists f
    isplitr; · ipureintro; funext j; exact (hf _ ((hA _).mpr ⟨_, rfl⟩)).trans (hY j)
    iexact H
  · unfold Hold owns
    rw [hs]
    iintro ⟨%f, %hf, H⟩
    iexists f
    isplitr
    · ipureintro
      intro i hi
      obtain ⟨j, rfl⟩ := (hA i).mp hi
      obtain ⟨y, rfl⟩ := (Shape.reshapeEquiv hq.numel_eq).surjective j
      exact (congrFun hf y).trans (hY y).symm
    iexact H

/-- A memref's elements with some contents. -/
def Some' (c : Dev nD) (m : Memref sig .tc sp s e) : sProp 𝕄 :=
  iprop(∃ f : Buf (Elt F) (m.view.loc (c : Thread nD τ)), (m.view.loc (c : Thread nD τ) ↦[m.view.set]{fullShare} f))

omit [FloatOps F] in
theorem holdE_slice {c : Dev nD} {m : Memref sig .tc sp s e} (hr : ∀ a, r.stride a = 1) (hA : ∀ i, i ∈ A ↔ ∃ j, r.emb j = i) :
    (HoldE c m A : sProp 𝕄) ⊣⊢ Some' c (m.slice r hr) := by
  have hs : m.view.setOn A = (m.slice r hr).view.set := by
    rw [setOn_rect m hA]; exact Finset.map_map _ _ _
  unfold HoldE Some'
  rw [hs]

omit [FloatOps F] in
theorem holdE_squeeze {c : Dev nD} {m : Memref sig .tc sp s e} (hr : ∀ a, r.stride a = 1) (hq : r.shape.Squeezes s') (hA : ∀ i, i ∈ A ↔ ∃ j, r.emb j = i) :
    (HoldE c m A : sProp 𝕄) ⊣⊢ Some' c ((m.slice r hr).squeeze s' hq) := by
  have hs : m.view.setOn A = ((m.slice r hr).squeeze s' hq).view.set := by
    rw [setOn_rect m hA]
    refine (Finset.map_map _ _ _).trans ?_
    exact ((m.slice r hr).view.set_reshape hq.numel_eq).symm
  unfold HoldE Some'
  rw [hs]

end Slices

/-- What a device holds may be kept in an invariant. -/
instance hold_storable (c : Dev nD) (m : Memref sig .tc sp s e) (A : Finset s.Idx) (q : PosShare TreeShare) (X : s.Idx → Elt F e) :
    BI.Storable (upEmb : UEmb _ 𝕄) (Hold c m A q X) := by unfold Hold; infer_instance
instance some_storable (c : Dev nD) (m : Memref sig .tc sp s e) : BI.Storable (upEmb : UEmb _ 𝕄) (Some' c m : sProp 𝕄) := by unfold Some'; infer_instance

end Cert.KernelIdeal.Conv
-- ==== Proof.Vals.lean ====
/-
  What each buffer holds, row by row. Rows are those of the product, 0 to 4095: row `1024 b + r` is position `r` of batch `b`.

  `P c` is device `c`'s own product. On ring A `SUMA c d n` is the sum that device `c` sends on in direction `d` after `n` additions, and `PA` what its own rows become after the last
  addition. On ring B `SUMB` and `PB` are the same for the rows of a device's last half chunk. `O` is the whole sum as it is gathered: each block as the device that completes it rounds it.
-/
module

public import proofs.«01_k».proof.Proof.Hold
public import Idealize.ShloMosaic.Lib.Pointwise.Index
public import Idealize.ShloMosaic.Lib.Pipeline.Value
public import Idealize.ShloMosaic.Lib.Pipeline.ValueKit.Geometry

@[expose] public section

noncomputable section

namespace Cert.KernelIdeal.Conv

open Idealize.ShloMosaic Idealize.ShloMosaic.TcCoe Cert.KernelIdeal Cert.KernelIdeal.Gen

variable {F : FTy → Type} [FloatOps F]

/-- The operands, device by device. -/
structure Inp (F : FTy → Type) where
  x : Dev nD → S4x1024x512.Idx → Elt F .f32
  k : Dev nD → FVec F S4x512 .f32
  w : Dev nD → FVec F S512x512 .f32

variable (I : Inp F)

/-- A number as a coordinate, wrapped around. -/
def wrap (n i : ℕ) (h : 0 < n) : Fin n := ⟨i % n, Nat.mod_lt _ h⟩

/-- Row `r` of batch `b` of the padded input: eight rows of zeros first. -/
def padAt (c : Dev nD) (b r : ℕ) (col : Fin 512) : Elt F .f32 :=
  if r < 8 then Scalar.ofBits .f32 0x00000000#32
  else I.x c (ix3 (n0 := 4) (n1 := 1024) (n2 := 512) (wrap 4 b (by decide)) (wrap 1024 (r - 8) (by decide)) col)

/-- The padded input, as the buffer holds it. -/
def padX (c : Dev nD) : S4x1040x512.Idx → Elt F .f32 := fun i => padAt I c (i 0).val (i 1).val (i 2)

/-- The window of half chunk `h`. -/
def win (c : Dev nD) (h : ℕ) : Vec F S1x272x512 .f32 := fun i => padAt I c (h / 4) (512 * (h / 2 % 2) + 256 * (h % 2) + (i 1).val) (i 2)

/-- Device `c`'s own product. -/
def P (c : Dev nD) (g : ℕ) (col : Fin 512) : Elt F .f32 :=
  k0_pay7 (I.k c) (I.w c) (win I c (g / 256)) (ix2 (n0 := 256) (n1 := 512) (wrap 256 g (by decide)) col)

def nar (a : Elt F .f32) : Elt F .bf16 := FloatOps.truncf (F := F) (φ := .f32) .bf16 bitsLt_bf16_f32 a
def wid (a : Elt F .bf16) : Elt F .f32 := FloatOps.extf (F := F) (φ := .bf16) .f32 bitsLt_bf16_f32 a
def add (a b : Elt F .f32) : Elt F .f32 := FloatOps.addf (F := F) (φ := .f32) a b

/-- What device `c` sends on along ring A after `n` additions. -/
def SUMA (d : Bool) : ℕ → Dev nD → ℕ → Fin 512 → Elt F .bf16
  | 0, c, g, col => nar (P I c g col)
  | n + 1, c, g, col => nar (add (P I c g col) (wid (SUMA d n (nxA (!d) c) g col)))
/-- A device's own rows after the last addition of ring A. -/
def PA (d : Bool) (c : Dev nD) (g : ℕ) (col : Fin 512) : Elt F .f32 := add (P I c g col) (wid (SUMA I d 6 (nxA (!d) c) g col))
/-- What device `c` sends on along ring B after `n` additions. -/
def SUMB (d : Bool) : ℕ → Dev nD → ℕ → Fin 512 → Elt F .bf16
  | 0, c, g, col => nar (PA I d c g col)
  | n + 1, c, g, col => nar (add (PA I d c g col) (wid (SUMB d n (nxB (!d) c) g col)))
/-- A device's own rows after the last addition of ring B. -/
def PB (d : Bool) (c : Dev nD) (g : ℕ) (col : Fin 512) : Elt F .f32 := add (PA I d c g col) (wid (SUMB I d 2 (nxB (!d) c) g col))

/-- The direction that carries row `g`, and the device that completes it. -/
def dirOf (g : ℕ) : Bool := g / 256 % 2 == 1
def ownerOf (g : ℕ) : Dev nD :=
  if dirOf g then dev (g / 512 + 1) (g / 64 % 4 + 1) else dev (g / 512 + 7) (g / 64 % 4 + 3)
/-- The gathered sum. -/
def O (g : ℕ) (col : Fin 512) : Elt F .bf16 := nar (PB I (dirOf g) (ownerOf g) g col)
/-- The result. -/
def Res0 (g : ℕ) (col : Fin 512) : Elt F .f32 := wid (O I g col)

/-! ## The buffers' contents -/

/-- Contents by row and column, and by slot, row and column. -/
def X2 {α : Type} {a : ℕ} (G : ℕ → Fin 512 → α) : (⟨2, ![a, 512]⟩ : Shape).Idx → α := fun i => G (i 0).val (i 1)
def X3 {α : Type} {a b : ℕ} (G : ℕ → ℕ → Fin 512 → α) : (⟨3, ![a, b, 512]⟩ : Shape).Idx → α := fun i => G (i 0).val (i 1).val (i 2)

/-- Slot `n` of the buffers that the reduce-scatter rings send from, at row `row` of the slot. -/
def sbAX (d : Bool) (c : Dev nD) : S7x256x512.Idx → Elt F .bf16 := X3 fun n row => SUMA I d n c (hrow d c n + row)
def sbBX (d : Bool) (c : Dev nD) : S3x64x512.Idx → Elt F .bf16 := X3 fun n row => SUMB I d n c (brow d c n + row)
def partX (G : ℕ → Fin 512 → Elt F .f32) : S4096x512.Idx → Elt F .f32 := X2 G
def obfX : S4096x512.Idx → Elt F .bf16 := X2 (O I)
/-- Half a chunk's rows once the first half of them has been added to. -/
def PAq (d : Bool) (c : Dev nD) (g : ℕ) (col : Fin 512) : Elt F .f32 := if g < hrow d c 7 + 128 then PA I d c g col else P I c g col
/-- Half a chunk's rows once the last block of ring B has been added to. -/
def PAB (d : Bool) (c : Dev nD) (g : ℕ) (col : Fin 512) : Elt F .f32 :=
  if brow d c 3 ≤ g ∧ g < brow d c 3 + 64 then PB I d c g col else PA I d c g col
/-- The result's contents. -/
def outX : S4x1024x512.Idx → Elt F .f32 := X3 fun b r => Res0 I (1024 * b + r)
/-- A staging slot's contents as the copy of half chunk `u` reads them. -/
def stX (d : Bool) (c : Dev nD) (u : ℕ) : S4x256x512.Idx → Elt F .f32 := X3 fun _ r => Res0 I (erow d c u + r)
/-- What a transfer moves. -/
def srcX (c : Dev nD) : (t : Tr) → t.shape.Idx → Elt F .bf16
  | .rsA d s q => X2 fun r => SUMA I d s c (hrow d c s + (128 * q + r))
  | .rsB d s => X2 fun r => SUMB I d s c (brow d c s + r)
  | .agB d s => X2 fun r => O I (grow d c 0 s + r)
  | .agA d s k => X2 fun r => O I (grow d c s k + r)

/-- Rows `o` to `o + n`, of a buffer and of slot `n0` of a buffer. -/
def rows {a : ℕ} (o n : ℕ) : Finset (⟨2, ![a, 512]⟩ : Shape).Idx := Finset.univ.filter fun i => o ≤ (i 0).val ∧ (i 0).val < o + n
def slab {a b : ℕ} (n0 o n : ℕ) : Finset (⟨3, ![a, b, 512]⟩ : Shape).Idx := Finset.univ.filter fun i => (i 0).val = n0 ∧ o ≤ (i 1).val ∧ (i 1).val < o + n

section Boxes
omit [FloatOps F]

theorem emb_val {s : Shape} {off off' size : Fin s.rank → ℕ} (h : ∀ a, off a + size a ≤ s.size a) (e : off = off') (j : (Rect.unit off size h).shape.Idx) (a : Fin s.rank) :
    ((Rect.unit off size h).emb j a).val = off' a + (j a).val := by subst e; exact ValueKit.rect_emb_unit_val off size h j a

theorem emb_iff {s : Shape} {off off' size : Fin s.rank → ℕ} (h : ∀ a, off a + size a ≤ s.size a) (e : off = off') (i : s.Idx) :
    (∃ j, (Rect.unit off size h).emb j = i) ↔ ∀ a, off' a ≤ (i a).val ∧ (i a).val < off' a + size a := by
  subst e
  rw [← Rect.mem_set_unit (inb := h), ← Rect.map_emb_univ, Finset.mem_map]
  simp

theorem mem_rows {a o n : ℕ} {off size : Fin 2 → ℕ} (h : ∀ x, off x + size x ≤ (⟨2, ![a, 512]⟩ : Shape).size x) (e : off = ![o, 0]) (es : size = ![n, 512]) (i : (⟨2, ![a, 512]⟩ : Shape).Idx) :
    i ∈ rows o n ↔ ∃ j, (Rect.unit (s := ⟨2, ![a, 512]⟩) off size h).emb j = i := by
  subst es
  rw [emb_iff (s := ⟨2, ![a, 512]⟩) h e, rows, Finset.mem_filter]
  have h1 : (i 1).val < 512 := (i 1).isLt
  constructor
  · rintro ⟨-, h0⟩ x
    match x with
    | ⟨0, _⟩ => exact h0
    | ⟨1, _⟩ => exact ⟨Nat.zero_le _, by show (i 1).val < 0 + 512; omega⟩
  · exact fun hx => ⟨Finset.mem_univ _, hx 0⟩

theorem mem_slab {a b n0 o n : ℕ} {off size : Fin 3 → ℕ} (h : ∀ x, off x + size x ≤ (⟨3, ![a, b, 512]⟩ : Shape).size x) (e : off = ![n0, o, 0]) (es : size = ![1, n, 512])
    (i : (⟨3, ![a, b, 512]⟩ : Shape).Idx) : i ∈ slab n0 o n ↔ ∃ j, (Rect.unit (s := ⟨3, ![a, b, 512]⟩) off size h).emb j = i := by
  subst es
  rw [emb_iff (s := ⟨3, ![a, b, 512]⟩) h e, slab, Finset.mem_filter]
  have h1 : (i 2).val < 512 := (i 2).isLt
  constructor
  · rintro ⟨-, h0, h2⟩ x
    match x with
    | ⟨0, _⟩ => exact ⟨h0.ge, by show (i 0).val < n0 + 1; omega⟩
    | ⟨1, _⟩ => exact h2
    | ⟨2, _⟩ => exact ⟨Nat.zero_le _, by show (i 2).val < 0 + 512; omega⟩
  · intro hx
    have h0 : n0 ≤ (i 0).val ∧ (i 0).val < n0 + 1 := hx 0
    exact ⟨Finset.mem_univ _, by omega, hx 1⟩

theorem x2_emb {α : Type} {a o n : ℕ} {off size : Fin 2 → ℕ} (h : ∀ x, off x + size x ≤ (⟨2, ![a, 512]⟩ : Shape).size x) (e : off = ![o, 0]) (es : size = ![n, 512])
    (G : ℕ → Fin 512 → α) (j : (⟨2, ![n, 512]⟩ : Shape).Idx) :
    X2 G ((Rect.unit (s := ⟨2, ![a, 512]⟩) off size h).emb (es ▸ j)) = G (o + (j 0).val) (j 1) := by
  subst es
  have v0 := emb_val (s := ⟨2, ![a, 512]⟩) h e j 0
  have v1 := emb_val (s := ⟨2, ![a, 512]⟩) h e j 1
  have e1 : (Rect.unit (s := ⟨2, ![a, 512]⟩) off ![n, 512] h).emb j 1 = j 1 := Fin.ext (v1.trans (Nat.zero_add _))
  unfold X2
  rw [v0]
  exact congrArg (G (o + (j 0).val)) e1

theorem x3_emb {α : Type} {a b n0 o n : ℕ} {off : Fin 3 → ℕ} (h : ∀ x, off x + (![1, n, 512] : Fin 3 → ℕ) x ≤ (⟨3, ![a, b, 512]⟩ : Shape).size x) (e : off = ![n0, o, 0])
    (G : ℕ → ℕ → Fin 512 → α) (j : (⟨3, ![1, n, 512]⟩ : Shape).Idx) :
    X3 G ((Rect.unit (s := ⟨3, ![a, b, 512]⟩) off ![1, n, 512] h).emb j) = G n0 (o + (j 1).val) (j 2) := by
  have v0 := emb_val (s := ⟨3, ![a, b, 512]⟩) h e j 0
  have v1 := emb_val (s := ⟨3, ![a, b, 512]⟩) h e j 1
  have v2 := emb_val (s := ⟨3, ![a, b, 512]⟩) h e j 2
  have j0 : (j 0).val = 0 := by have : (j 0).val < 1 := (j 0).isLt; omega
  have e2 : (Rect.unit (s := ⟨3, ![a, b, 512]⟩) off ![1, n, 512] h).emb j 2 = j 2 := Fin.ext (v2.trans (Nat.zero_add _))
  rw [j0] at v0
  have v0' : ((Rect.unit (s := ⟨3, ![a, b, 512]⟩) off ![1, n, 512] h).emb j 0).val = n0 := v0
  have v1' : ((Rect.unit (s := ⟨3, ![a, b, 512]⟩) off ![1, n, 512] h).emb j 1).val = o + (j 1).val := v1
  unfold X3
  rw [v0', v1']
  exact congrArg (G n0 (o + (j 1).val)) e2

/-- A slot with its unit axis dropped. -/
theorem squeeze_idx {n : ℕ} (h : (⟨2, ![n, 512]⟩ : Shape).numel = (⟨3, ![1, n, 512]⟩ : Shape).numel) (j : (⟨2, ![n, 512]⟩ : Shape).Idx) :
    Shape.reshapeEquiv h j = ix3 (n0 := 1) (n1 := n) (n2 := 512) 0 (j 0) (j 1) := by
  refine (shapeCast_dropUnit_apply ![n, 512] (fun i => i) (by unfold Shape.ShapeCasts; exact h) j).trans ?_
  funext a
  match a with
  | ⟨0, _⟩ => rfl
  | ⟨1, _⟩ => rfl
  | ⟨2, _⟩ => rfl
end Boxes

/-! ## The values stored -/

section Pay
omit [FloatOps F] in
theorem cast_add {α : Type} (n : ℕ) (v : (⟨2, ![n, 512]⟩ : Shape).Idx → α) (h : (⟨2, ![n, 512]⟩ : Shape).ShapeCasts ⟨3, ![1, n, 512]⟩) (j : (⟨3, ![1, n, 512]⟩ : Shape).Idx) :
    shapeCast ⟨3, ![1, n, 512]⟩ v h j = v (ix2 (n0 := n) (n1 := 512) (j 1) (j 2)) := by
  refine (shapeCast_addUnit_apply ![n, 512] v h j).trans (congrArg v ?_)
  exact Shape.idx_ext₂ rfl rfl

omit [FloatOps F] in
theorem cast_drop {α : Type} (n : ℕ) (v : (⟨3, ![1, n, 512]⟩ : Shape).Idx → α) (h : (⟨3, ![1, n, 512]⟩ : Shape).ShapeCasts ⟨2, ![n, 512]⟩) (j : (⟨2, ![n, 512]⟩ : Shape).Idx) :
    shapeCast ⟨2, ![n, 512]⟩ v h j = v (ix3 (n0 := 1) (n1 := n) (n2 := 512) 0 (j 0) (j 1)) := by
  refine (shapeCast_dropUnit_apply ![n, 512] v h j).trans (congrArg v ?_)
  funext a
  match a with
  | ⟨0, _⟩ => rfl
  | ⟨1, _⟩ => rfl
  | ⟨2, _⟩ => rfl

theorem pay8_eq (kv : FVec F S4x512 .f32) (wv : FVec F S512x512 .f32) (v : Vec F S1x272x512 .f32) : cpay kv wv v = k0_pay7 kv wv v := shapeCast_self _ _
theorem stpay_apply (kv : FVec F S4x512 .f32) (wv : FVec F S512x512 .f32) (v : Vec F S1x272x512 .f32) (j : S1x256x512.Idx) :
    stpay kv wv v j = nar (k0_pay7 kv wv v (ix2 (n0 := 256) (n1 := 512) (j 1) (j 2))) := by
  unfold stpay k0_pay9; exact cast_add 256 _ _ j
theorem pay19_apply (v : Vec F S128x512 .f32) (b : Vec F S1x128x512 .bf16) (j : S1x128x512.Idx) :
    k0_pay19 v b j = nar (add (v (ix2 (n0 := 128) (n1 := 512) (j 1) (j 2))) (wid (b (ix3 (n0 := 1) (n1 := 128) (n2 := 512) 0 (j 1) (j 2))))) := by
  unfold k0_pay19
  refine (cast_add 128 _ _ j).trans ?_
  exact congrArg (fun z => nar (add (v _) (wid z))) (cast_drop 128 b _ _)
theorem pay78_apply (v : Vec F S128x512 .f32) (b : Vec F S1x128x512 .bf16) (j : S128x512.Idx) :
    k0_pay78 v b j = add (v j) (wid (b (ix3 (n0 := 1) (n1 := 128) (n2 := 512) 0 (j 0) (j 1)))) := by
  unfold k0_pay78
  refine (congrFun (shapeCast_self _ _) j).trans ?_
  exact congrArg (fun z => add (v _) (wid z)) (cast_drop 128 b _ _)
theorem pay80_apply (v : Vec F S64x512 .f32) (j : S1x64x512.Idx) : k0_pay80 v j = nar (v (ix2 (n0 := 64) (n1 := 512) (j 1) (j 2))) := by
  unfold k0_pay80; exact cast_add 64 _ _ j
theorem pay81_apply (v : Vec F S64x512 .f32) (b : Vec F S1x64x512 .bf16) (j : S1x64x512.Idx) :
    k0_pay81 v b j = nar (add (v (ix2 (n0 := 64) (n1 := 512) (j 1) (j 2))) (wid (b (ix3 (n0 := 1) (n1 := 64) (n2 := 512) 0 (j 1) (j 2))))) := by
  unfold k0_pay81
  refine (cast_add 64 _ _ j).trans ?_
  exact congrArg (fun z => nar (add (v _) (wid z))) (cast_drop 64 b _ _)
theorem pay86_apply (v : Vec F S64x512 .f32) (b : Vec F S1x64x512 .bf16) (j : S64x512.Idx) :
    k0_pay86 v b j = add (v j) (wid (b (ix3 (n0 := 1) (n1 := 64) (n2 := 512) 0 (j 0) (j 1)))) := by
  unfold k0_pay86
  refine (congrFun (shapeCast_self _ _) j).trans ?_
  exact congrArg (fun z => add (v _) (wid z)) (cast_drop 64 b _ _)
theorem pay88_apply (v : Vec F S64x512 .f32) (j : S64x512.Idx) : k0_pay88 v j = nar (v j) := by
  unfold k0_pay88; exact congrFun (shapeCast_self _ _) j
theorem pay90_apply (v : Vec F S256x512 .bf16) (j : S1x256x512.Idx) : k0_pay90 v j = wid (v (ix2 (n0 := 256) (n1 := 512) (j 1) (j 2))) := by
  unfold k0_pay90; exact cast_add 256 _ _ j

/-- Only the first 264 rows of a window matter. -/
theorem pay7_congr (kv : FVec F S4x512 .f32) (wv : FVec F S512x512 .f32) {v v' : Vec F S1x272x512 .f32} (h : ∀ j : S1x272x512.Idx, (j 1).val < 264 → v j = v' j) :
    k0_pay7 kv wv v = k0_pay7 kv wv v' := by
  have hs : ∀ (o : ℕ) (ho : o ≤ 8) (hsl : S272x512.Slices ![o, 0] S256x512), extractStridedSlice S256x512 ![o, 0] (shapeCast S272x512 v shapeCasts_S1x272x512_S272x512) hsl
      = extractStridedSlice S256x512 ![o, 0] (shapeCast S272x512 v' shapeCasts_S1x272x512_S272x512) hsl := by
    intro o ho hsl
    funext j
    have hj : (j 0).val < 256 := (j 0).isLt
    have hj1 : (j 1).val < 512 := (j 1).isLt
    have e : ∀ u : Vec F S1x272x512 .f32, extractStridedSlice S256x512 ![o, 0] (shapeCast S272x512 u shapeCasts_S1x272x512_S272x512) hsl j
        = u (ix3 (n0 := 1) (n1 := 272) (n2 := 512) 0 ⟨o + (j 0).val, by omega⟩ (j 1)) := by
      intro u
      refine (extractStridedSlice_apply ![o, 0] _ hsl j (ix2 (n0 := 272) (n1 := 512) ⟨o + (j 0).val, by omega⟩ (j 1)) ?_).trans ?_
      · intro a
        match a with
        | ⟨0, _⟩ => rfl
        | ⟨1, _⟩ => exact (Nat.zero_add _).symm
      · exact cast_drop 272 u _ _
    rw [e, e]
    exact h _ (show o + (j 0).val < 264 by omega)
  unfold k0_pay7
  dsimp only
  rw [hs 5 (by decide), hs 6 (by decide), hs 7 (by decide), hs 8 (by decide)]
end Pay

/-! ## What each store leaves -/

section Stores
variable (c : Dev nD) (d : Bool)

theorem P_row (j : Fin 8) (r : ℕ) (hr : r < 256) (col : Fin 512) :
    P I c (hrow d c j.val + r) col = k0_pay7 (I.k c) (I.w c) (win I c (2 * ch d c j + d.toNat)) (ix2 (n0 := 256) (n1 := 512) ⟨r, hr⟩ col) := by
  unfold P
  have hd : d.toNat ≤ 1 := by cases d <;> decide
  have h1 : (hrow d c j.val + r) / 256 = 2 * ch d c j + d.toNat := by unfold hrow; omega
  have h2 : wrap 256 (hrow d c j.val + r) (by decide) = ⟨r, hr⟩ := Fin.ext (by show (hrow d c j.val + r) % 256 = r; unfold hrow; omega)
  rw [h1, h2]

/-- The padded input wherever it is filled. -/
def Padded (X : S4x1040x512.Idx → Elt F .f32) : Prop := ∀ i, (i 1).val < 1032 → X i = padX I c i

variable {I c d}

theorem win_eq {X : S4x1040x512.Idx → Elt F .f32} (hX : Padded I c X) (j : Fin 8) (i : S1x272x512.Idx) (hi : (i 1).val < 264) :
    X ((Rect.unit (s := S4x1040x512) (winOff (W c) d j) S1x272x512.size (winOff_inb (W c) d j)).emb i) = win I c (2 * ch d c j + d.toNat) i := by
  have hd : d.toNat ≤ 1 := by cases d <;> decide
  have hc : ch d c j < 8 := by unfold ch; split <;> omega
  have v := emb_val (s := S4x1040x512) (winOff_inb (W c) d j) (winOff_W c d j) i
  have i0 : (i 0).val = 0 := by have : (i 0).val < 1 := (i 0).isLt; omega
  have v0 := v 0
  have v1 := v 1
  have v2 := v 2
  rw [i0] at v0
  generalize (Rect.unit (s := S4x1040x512) (winOff (W c) d j) S1x272x512.size (winOff_inb (W c) d j)).emb i = y at v0 v1 v2 ⊢
  have w0 : (y 0).val = ch d c j / 2 := v0
  have w1 : (y 1).val = 512 * (ch d c j % 2) + 256 * d.toNat + (i 1).val := v1
  have w2 : y 2 = i 2 := Fin.ext (v2.trans (Nat.zero_add _))
  rw [hX _ (by rw [w1]; omega)]
  unfold padX win
  rw [w0, w1]
  have e1 : 512 * (ch d c j % 2) + 256 * d.toNat + (i 1).val = 512 * ((2 * ch d c j + d.toNat) / 2 % 2) + 256 * ((2 * ch d c j + d.toNat) % 2) + (i 1).val := by omega
  have e0 : ch d c j / 2 = (2 * ch d c j + d.toNat) / 4 := by omega
  rw [← e1, ← e0]
  exact congrArg (padAt I c _ _) w2

theorem comp_val {X : S4x1040x512.Idx → Elt F .f32} (hX : Padded I c X) (j : Fin 8) :
    k0_pay7 (I.k c) (I.w c) (fun i => X ((Rect.unit (s := S4x1040x512) (winOff (W c) d j) S1x272x512.size (winOff_inb (W c) d j)).emb i))
      = k0_pay7 (I.k c) (I.w c) (win I c (2 * ch d c j + d.toNat)) :=
  pay7_congr _ _ fun i hi => win_eq hX j i hi

end Stores

end Cert.KernelIdeal.Conv
-- ==== Proof.Res.lean ====
/-
  What a device holds between two steps, as a set of named pieces. `Res` names the pieces and `interp` says what each one is. A set of pieces is a number whose bits are the pieces'
  codes; `Seps` is a list of pieces, `St` a set of them, and the two are exchanged piece by piece.
-/
module

public import proofs.«01_k».proof.Proof.Vals

@[expose] public section

noncomputable section

namespace Cert.KernelIdeal.Conv

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cells and amounts -/

abbrev sCell (c : Dev nD) (t : Tr) : GSem nD τ sig := ((c : Thread nD τ), .dma t.sSem)
abbrev rCell (c : Dev nD) (t : Tr) : GSem nD τ sig := ((c : Thread nD τ), .dma t.rSem)
abbrev bCell (c : Dev nD) : GSem nD τ sig := ((c : Thread nD τ), .reg barS)
abbrev cCell (c : Dev nD) (i : Fin 4) : GSem nD τ sig := ((c : Thread nD τ), .dma (cpSem i))
abbrev xCell (c : Dev nD) (b : Fin 4) : GSem nD τ sig := ((c : Thread nD τ), .dma (xSem b))

/-- What a transfer's landing adds to its semaphores, a copy to the result, and a copy of the input. -/
def amt (t : Tr) : ℕ := (t.dst (W 0)).view.dmaCredit
def cAmt : ℕ := (outR (W 0) false 0).view.dmaCredit
def xAmt : ℕ := (xDst 0).view.dmaCredit
theorem amt_dst (w : Words) (t : Tr) : (t.dst w).view.dmaCredit = amt t := by rcases t with ⟨d, s, q⟩ | ⟨d, s⟩ | ⟨d, s⟩ | ⟨d, s, k⟩ <;> rfl
theorem amt_src (w : Words) (t : Tr) : (t.src w).view.dmaCredit = amt t := by
  rcases t with ⟨d, s, q⟩ | ⟨d, s⟩ | ⟨d, s⟩ | ⟨d, s, k⟩
  · cases d <;> rfl
  · cases d <;> rfl
  · rfl
  · rfl
theorem cAmt_eq (w : Words) (d : Bool) (u : Fin 8) : (outR w d u).view.dmaCredit = cAmt := rfl
theorem xAmt_eq (b : Fin 4) : (xDst b).view.dmaCredit = xAmt := rfl
theorem amt_pos (t : Tr) : 0 < amt t := by
  unfold amt
  refine View.dmaCredit_pos _ ?_
  rcases t with ⟨d, s, q⟩ | ⟨d, s⟩ | ⟨d, s⟩ | ⟨d, s, k⟩
  · exact (by decide : 0 < S128x512.numel)
  · exact (by decide : 0 < S64x512.numel)
  · exact (by decide : 0 < S64x512.numel)
  · exact (by decide : 0 < S64x512.numel)
theorem cAmt_pos : 0 < cAmt := View.dmaCredit_pos _ (by decide)
theorem xAmt_pos : 0 < xAmt := View.dmaCredit_pos _ (by decide)

/-! ## The pieces -/

inductive Res
  /-- the right to start a transfer, and the sender's semaphore -/
  | tok (t : Tr)
  /-- where a transfer lands -/
  | land (t : Tr)
  /-- a transfer on its way, for its sender -/
  | sent (t : Tr)
  | clS (t : Tr)
  /-- the right to wait for a landing -/
  | wt (t : Tr)
  | clR (t : Tr)
  /-- a slot of a buffer that a transfer reads, at anything, and filled -/
  | srcU (t : Tr)
  | srcF (t : Tr)
  /-- a slot of a buffer that a transfer landed in -/
  | bufF (t : Tr)
  /-- the rows of one product: at anything, with the product, and after the additions -/
  | partU (d : Bool) (j : Fin 8)
  | partP (d : Bool) (j : Fin 8)
  | partQ (d : Bool)
  | partA (d : Bool)
  | partB (d : Bool)
  /-- the device's own block of the sum, at anything -/
  | obfU (d : Bool)
  /-- a block of the sum: all of it, and the three shares of it -/
  | obfF (d : Bool) (u : Fin 8) (k : Fin 4)
  | obfE (d : Bool) (u : Fin 8) (k : Fin 4)
  | obfA (d : Bool) (u : Fin 8) (k : Fin 4)
  | obfB (d : Bool) (u : Fin 8) (k : Fin 4)
  /-- a half chunk of the result: at anything, and filled -/
  | outU (d : Bool) (u : Fin 8)
  | outF (d : Bool) (u : Fin 8)
  /-- a copy to the result: on its way, and the right to start it -/
  | stW (d : Bool) (u : Fin 8)
  | cpTok (d : Bool) (u : Fin 8)
  /-- a slot of the staging buffer -/
  | stU (i : Fin 4)
  | cpP (i : Fin 4) (r : Fin 5)
  /-- the barrier's semaphore -/
  | bar
  | clBar
  | pad

/-- A transfer's number. -/
abbrev Tr.num (t : Tr) : ℕ := (t.semNo 0).val

def Res.tag : Res → ℕ
  | .tok _ => 0 | .land _ => 1 | .sent _ => 2 | .clS _ => 3 | .wt _ => 4 | .clR _ => 5 | .srcU _ => 6 | .srcF _ => 7 | .bufF _ => 8
  | .partU _ _ => 9 | .partP _ _ => 10 | .partQ _ => 11 | .partA _ => 12 | .partB _ => 13 | .obfU _ => 14
  | .obfF _ _ _ => 15 | .obfE _ _ _ => 16 | .obfA _ _ _ => 17 | .obfB _ _ _ => 18 | .outU _ _ => 19 | .outF _ _ => 20 | .stW _ _ => 21 | .cpTok _ _ => 22
  | .stU _ => 23 | .cpP _ _ => 24 | .bar => 25 | .clBar => 26 | .pad => 27
def Res.idx : Res → ℕ
  | .tok t => t.num | .land t => t.num | .sent t => t.num | .clS t => t.num | .wt t => t.num | .clR t => t.num | .srcU t => t.num | .srcF t => t.num | .bufF t => t.num
  | .partU d j => 8 * d.toNat + j | .partP d j => 8 * d.toNat + j | .partQ d => d.toNat | .partA d => d.toNat | .partB d => d.toNat | .obfU d => d.toNat
  | .obfF d u k => 4 * (8 * d.toNat + u) + k | .obfE d u k => 4 * (8 * d.toNat + u) + k | .obfA d u k => 4 * (8 * d.toNat + u) + k | .obfB d u k => 4 * (8 * d.toNat + u) + k
  | .outU d u => 8 * d.toNat + u | .outF d u => 8 * d.toNat + u | .stW d u => 8 * d.toNat + u | .cpTok d u => 8 * d.toNat + u
  | .stU i => i | .cpP i r => 5 * i + r | .bar => 0 | .clBar => 0 | .pad => 0
def Res.code (r : Res) : ℕ := 32 * r.idx + r.tag

theorem num_inj {t t' : Tr} (h : t.num = t'.num) : t = t' := by
  rcases t with ⟨d, s, q⟩ | ⟨d, s⟩ | ⟨d, s⟩ | ⟨d, s, k⟩ <;> rcases t' with ⟨d', s', q'⟩ | ⟨d', s'⟩ | ⟨d', s'⟩ | ⟨d', s', k'⟩ <;>
    unfold Tr.num Tr.semNo at h <;> dsimp only [Fin.val_zero] at h <;> cases d <;> cases d' <;> simp only [Bool.toNat_false, Bool.toNat_true] at h <;>
    first
    | (exfalso; omega)
    | (congr 1 <;> exact Fin.ext (by omega))

theorem bool_inj {d d' : Bool} (h : d.toNat = d'.toNat) : d = d' := by revert d d'; decide

set_option maxHeartbeats 4000000 in
theorem code_inj {r r' : Res} (h : r.code = r'.code) : r = r' := by
  have tl : ∀ r : Res, r.tag < 32 := by intro r; cases r <;> (dsimp only [Res.tag]; decide)
  have ht : r.tag = r'.tag := by have := tl r; have := tl r'; unfold Res.code at h; omega
  have hi : r.idx = r'.idx := by have := tl r; have := tl r'; unfold Res.code at h; omega
  have two : ∀ {d d' : Bool} {j j' : Fin 8}, 8 * d.toNat + j.val = 8 * d'.toNat + j'.val → d = d' ∧ j = j' := by decide
  have three : ∀ {d d' : Bool} {j j' : Fin 8} {k k' : Fin 4}, 4 * (8 * d.toNat + j.val) + k.val = 4 * (8 * d'.toNat + j'.val) + k'.val → d = d' ∧ j = j' ∧ k = k' := by
    intro d d' j j' k k' h
    have h1 := two (d := d) (d' := d') (j := j) (j' := j') (by omega)
    exact ⟨h1.1, h1.2, Fin.ext (by omega)⟩
  cases r <;> cases r' <;> first
    | (exfalso; dsimp only [Res.tag] at ht; exact absurd ht (by decide))
    | rfl
    | exact congrArg _ (num_inj hi)
    | exact congrArg _ (bool_inj hi)
    | exact congrArg _ (Fin.ext hi)
    | (obtain ⟨rfl, rfl⟩ := two hi; rfl)
    | (obtain ⟨rfl, rfl, rfl⟩ := three hi; rfl)
    | (unfold Res.idx at hi; dsimp only at hi; congr 1 <;> exact Fin.ext (by omega))

variable (I : Inp F)

/-- The share of its source that a transfer holds. -/
def tq : Tr → PosShare TreeShare
  | .rsA _ _ _ => fullShare
  | .rsB _ _ => fullShare
  | .agB _ _ => fullShare.right.right
  | .agA _ _ _ => fullShare.right.left

/-- The round of slot `slot d u` in which half chunk `u` is copied. -/
def rnd (d : Bool) (u : Fin 8) : ℕ := (2 * u.val + d.toNat) / 4

/-- What each piece is, on device `c`. -/
def interp (c : Dev nD) : Res → sProp 𝕄
  | .tok t => iprop(dutyTok ER (sCell c t) 0 0 ∗ dutyTok ER (rCell (tgt c t) t) 0 0 ∗ atPos ER (sCell c t) 0 ∅ 0 ∗ reached ER (sCell c t) 0)
  | .land t => iprop(Some' (tgt c t) (t.dst (W c)) ∗ reached ER (rCell (tgt c t) t) 0)
  | .sent t => iprop(atPos ER (sCell c t) 0 ∅ 0 ∗ cred (tallyAt (sCell c t) () (amt t)))
  | .clS t => semVal (sCell c t) 0
  | .wt t => iprop(atPos ER (rCell c t) 0 ∅ 0 ∗ cred (tallyAt (rCell c t) () (amt t)))
  | .clR t => semVal (rCell c t) 0
  | .srcU (.rsA d s q) => HoldE c (sbA d) (slab s (128 * q) 128)
  | .srcU (.rsB d s) => HoldE c (sbB d) (slab s 0 64)
  | .srcU _ => iprop(emp)
  | .srcF (.rsA d s q) => Hold c (sbA d) (slab s (128 * q) 128) fullShare (sbAX I d c)
  | .srcF (.rsB d s) => Hold c (sbB d) (slab s 0 64) fullShare (sbBX I d c)
  | .srcF _ => iprop(emp)
  | .bufF (.rsA d s q) => Hold c (bufA d) (slab s (128 * q) 128) fullShare (sbAX I d (nxA (!d) c))
  | .bufF (.rsB d s) => Hold c (bufB d) (slab s 0 64) fullShare (sbBX I d (nxB (!d) c))
  | .bufF _ => iprop(emp)
  | .partU d j => HoldE c part (rows (hrow d c j) 256)
  | .partP d j => Hold c part (rows (hrow d c j) 256) fullShare (partX (P I c))
  | .partQ d => Hold c part (rows (hrow d c 7) 256) fullShare (partX (PAq I d c))
  | .partA d => Hold c part (rows (hrow d c 7) 256) fullShare (partX (PA I d c))
  | .partB d => Hold c part (rows (hrow d c 7) 256) fullShare (partX (PAB I d c))
  | .obfU d => HoldE c obf (rows (grow d c 0 0) 64)
  | .obfF d u k => Hold c obf (rows (grow d c u k) 64) fullShare (obfX I)
  | .obfE d u k => Hold c obf (rows (grow d c u k) 64) fullShare.left (obfX I)
  | .obfA d u k => Hold c obf (rows (grow d c u k) 64) fullShare.right.left (obfX I)
  | .obfB d u k => Hold c obf (rows (grow d c u k) 64) fullShare.right.right (obfX I)
  | .outU d u => HoldE c outM (slab (gch d c u / 2) (512 * (gch d c u % 2) + 256 * d.toNat) 256)
  | .outF d u => Hold c outM (slab (gch d c u / 2) (512 * (gch d c u % 2) + 256 * d.toNat) 256) fullShare (outX I)
  | .stW d u => iprop(atPos ER (cCell c (slot d u)) (rnd d u) ∅ 0 ∗ cred (tallyAt (cCell c (slot d u)) () cAmt))
  | .cpTok d u => dutyTok ER (cCell c (slot d u)) (rnd d u) 0
  | .stU i => HoldE c stg (slab i 0 256)
  | .cpP i r => iprop(atPos ER (cCell c i) r ∅ 0 ∗ reached ER (cCell c i) r)
  | .bar => iprop(atPos ER (bCell c) 0 ∅ 0 ∗ cred (tallyAt (bCell c) () 4))
  | .clBar => semVal (bCell c) 0
  | .pad => iprop(∃ X, ⌜Padded I c X⌝ ∗ Hold c Conv.pad Finset.univ fullShare X)

/-- The pieces of a list. -/
def Seps (c : Dev nD) : List Res → sProp 𝕄
  | [] => iprop(emp)
  | r :: l => iprop(interp I c r ∗ Seps c l)

theorem seps_cons (c : Dev nD) (r : Res) (l : List Res) : Seps I c (r :: l) = iprop(interp I c r ∗ Seps I c l) := rfl
theorem seps_nil (c : Dev nD) : Seps I c [] = iprop(emp) := rfl

omit [FloatOps F] in
theorem sep_three {A B C : sProp 𝕄} : iprop((A ∗ B) ∗ C) ⊢ iprop(A ∗ B ∗ C) := by
  iintro ⟨⟨HA, HB⟩, HC⟩
  isplitl [HA]; · iexact HA
  isplitl [HB] <;> iassumption

theorem seps_append (c : Dev nD) (l l' : List Res) : iprop(Seps I c l ∗ Seps I c l') ⊣⊢ Seps I c (l ++ l') := by
  induction l with
  | nil =>
    constructor
    · iintro ⟨-, H⟩; iexact H
    · iintro H; isplitr; · (rw [seps_nil]; iempintro)
      iexact H
  | cons r l ih =>
    rw [List.cons_append, seps_cons, seps_cons]
    constructor
    · iintro ⟨⟨Hr, Hl⟩, H⟩
      isplitl [Hr]; · iexact Hr
      iapply ih.1; isplitl [Hl] <;> iassumption
    · iintro ⟨Hr, H⟩
      ihave H := ih.2 $$ H
      icases H with ⟨Hl, H⟩
      isplitr [H]
      · isplitl [Hr] <;> iassumption
      · iexact H

/-- The piece whose code is `n`. -/
def interpN (c : Dev nD) (n : ℕ) : sProp 𝕄 :=
  open Classical in if h : ∃ r : Res, r.code = n then interp I c h.choose else iprop(emp)
theorem interpN_code (c : Dev nD) (r : Res) : interpN I c r.code = interp I c r := by
  unfold interpN
  have h : ∃ r' : Res, r'.code = r.code := ⟨r, rfl⟩
  rw [dif_pos h, code_inj h.choose_spec]

/-- The bound of the codes, and the codes that a number's bits name. -/
def codeMax : ℕ := 8192
def bits (A : ℕ) : Finset ℕ := (Finset.range codeMax).filter fun n => A.testBit n
/-- The pieces whose codes are the bits of `A`. -/
def St (c : Dev nD) (A : ℕ) : sProp 𝕄 := bigSep (bits A) (interpN I c)

def takeR (A : ℕ) (r : Res) : Option ℕ := if A.testBit r.code && Nat.blt r.code codeMax then some (A ^^^ (2 ^ r.code)) else none
def putR (A : ℕ) (r : Res) : Option ℕ := if !A.testBit r.code && Nat.blt r.code codeMax then some (A ^^^ (2 ^ r.code)) else none
def takeAll (A : ℕ) : List Res → Option ℕ
  | [] => some A
  | r :: l => (takeR A r).bind fun A => takeAll A l
def putAll (A : ℕ) : List Res → Option ℕ
  | [] => some A
  | r :: l => (putR A r).bind fun A => putAll A l

theorem takeAll_cons (A : ℕ) (r : Res) (l : List Res) : takeAll A (r :: l) = (takeR A r).bind fun A => takeAll A l := rfl
theorem putAll_cons (A : ℕ) (r : Res) (l : List Res) : putAll A (r :: l) = (putR A r).bind fun A => putAll A l := rfl

theorem bits_take {A : ℕ} {r : Res} (h : A.testBit r.code = true) : bits (A ^^^ 2 ^ r.code) = (bits A).erase r.code := by
  ext n
  unfold bits
  rw [Finset.mem_erase, Finset.mem_filter, Finset.mem_filter, Nat.testBit_xor, Nat.testBit_two_pow]
  by_cases hn : n = r.code
  · subst hn; simp [h]
  · have hn' : ¬ r.code = n := fun h => hn h.symm
    simp [hn, hn']
theorem bits_put {A : ℕ} {r : Res} (h : A.testBit r.code = false) (hc : r.code < codeMax) : bits (A ^^^ 2 ^ r.code) = insert r.code (bits A) := by
  ext n
  unfold bits
  rw [Finset.mem_insert, Finset.mem_filter, Finset.mem_filter, Nat.testBit_xor, Nat.testBit_two_pow]
  by_cases hn : n = r.code
  · subst hn; simp [h, Finset.mem_range.mpr hc]
  · have hn' : ¬ r.code = n := fun h => hn h.symm
    simp [hn, hn']

theorem st_take (c : Dev nD) {A B : ℕ} {r : Res} (h : takeR A r = some B) : St I c A ⊢ iprop(interp I c r ∗ St I c B) := by
  unfold takeR at h
  split at h
  · next hh =>
    rw [Bool.and_eq_true] at hh
    obtain rfl := Option.some.inj h
    unfold St
    rw [bits_take hh.1, ← interpN_code]
    have hm : r.code ∈ bits A := Finset.mem_filter.mpr ⟨Finset.mem_range.mpr (Nat.blt_eq.mp hh.2), hh.1⟩
    conv_lhs => rw [← Finset.insert_erase hm, bigSep_insert (Finset.notMem_erase _ _)]
    exact BI.Entails.refl _
  · cases h
theorem st_put (c : Dev nD) {A B : ℕ} {r : Res} (h : putR A r = some B) : iprop(interp I c r ∗ St I c A) ⊢ St I c B := by
  unfold putR at h
  split at h
  · next hh =>
    rw [Bool.and_eq_true, Bool.not_eq_true'] at hh
    obtain rfl := Option.some.inj h
    unfold St
    rw [bits_put hh.1 (Nat.blt_eq.mp hh.2), ← interpN_code, bigSep_insert (fun hm => by
      have := (Finset.mem_filter.mp hm).2; rw [hh.1] at this; exact absurd this (by decide))]
    exact BI.Entails.refl _
  · cases h

attribute [irreducible] St

theorem st_takeAll (c : Dev nD) {l : List Res} : ∀ {A B : ℕ}, takeAll A l = some B → (St I c A ⊢ iprop(Seps I c l ∗ St I c B)) := by
  induction l with
  | nil => intro A B h; obtain rfl := Option.some.inj h; iintro H; isplitr; · (rw [seps_nil]; iempintro)
           iexact H
  | cons r l ih =>
    intro A B h
    rw [takeAll_cons] at h
    obtain ⟨A', h1, h2⟩ := Option.bind_eq_some_iff.mp h
    rw [seps_cons]
    iintro H
    ihave H := (st_take I c h1) $$ H
    icases H with ⟨Hr, H⟩
    ihave H := (ih h2) $$ H
    icases H with ⟨Hl, H⟩
    isplitr [H]
    · isplitl [Hr] <;> iassumption
    · iexact H
theorem st_putAll (c : Dev nD) {l : List Res} : ∀ {A B : ℕ}, putAll A l = some B → (iprop(Seps I c l ∗ St I c A) ⊢ St I c B) := by
  induction l with
  | nil => intro A B h; obtain rfl := Option.some.inj h; iintro ⟨-, H⟩; iexact H
  | cons r l ih =>
    intro A B h
    rw [putAll_cons] at h
    obtain ⟨A', h1, h2⟩ := Option.bind_eq_some_iff.mp h
    rw [seps_cons]
    iintro ⟨⟨Hr, Hl⟩, H⟩
    iapply (ih h2)
    isplitl [Hl]; · iexact Hl
    iapply (st_put I c h1)
    isplitl [Hr] <;> iassumption

end Cert.KernelIdeal.Conv

end
-- ==== Proof.Local.lean ====
/-
  The steps that load, add and store: what each needs and what it leaves.
-/
module

public import proofs.«01_k».proof.Proof.Res

@[expose] public section

noncomputable section

namespace Cert.KernelIdeal.Conv

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Device `c` may run `K`, ending in `Q`. -/
abbrev WP (c : Dev nD) (K : Code F) (Q : PUnit → sProp 𝕄) : sProp 𝕄 := wp frame (wpE (defs₀ (F := F)) 𝒱₀ (c : Thread nD τ) none) Set.univ K Q

variable {I : Inp F} {c : Dev nD}

/-! ## Rows -/

section Rows
omit [FloatOps F]
theorem rows_iff {a o n : ℕ} (i : (⟨2, ![a, 512]⟩ : Shape).Idx) : i ∈ (rows o n : Finset (⟨2, ![a, 512]⟩ : Shape).Idx) ↔ o ≤ (i 0).val ∧ (i 0).val < o + n := by
  unfold rows; rw [Finset.mem_filter]; exact ⟨fun h => h.2, fun h => ⟨Finset.mem_univ _, h⟩⟩
theorem slab_iff {a b n0 o n : ℕ} (i : (⟨3, ![a, b, 512]⟩ : Shape).Idx) :
    i ∈ (slab n0 o n : Finset (⟨3, ![a, b, 512]⟩ : Shape).Idx) ↔ (i 0).val = n0 ∧ o ≤ (i 1).val ∧ (i 1).val < o + n := by
  unfold slab; rw [Finset.mem_filter]; exact ⟨fun h => h.2, fun h => ⟨Finset.mem_univ _, h⟩⟩
theorem emb_rows {a o n o' n' : ℕ} {off size : Fin 2 → ℕ} (h : ∀ x, off x + size x ≤ (⟨2, ![a, 512]⟩ : Shape).size x) (e : off = ![o, 0]) (es : size = ![n, 512])
    (h1 : o' ≤ o) (h2 : o + n ≤ o' + n') (j : (Rect.unit (s := ⟨2, ![a, 512]⟩) off size h).shape.Idx) :
    (Rect.unit (s := ⟨2, ![a, 512]⟩) off size h).emb j ∈ (rows o' n' : Finset (⟨2, ![a, 512]⟩ : Shape).Idx) := by
  have h3 := (rows_iff _).mp ((mem_rows h e es _).mpr ⟨j, rfl⟩)
  rw [rows_iff]
  omega
theorem emb_slab {a b n0 o n o' n' : ℕ} {off size : Fin 3 → ℕ} (h : ∀ x, off x + size x ≤ (⟨3, ![a, b, 512]⟩ : Shape).size x) (e : off = ![n0, o, 0]) (es : size = ![1, n, 512])
    (h1 : o' ≤ o) (h2 : o + n ≤ o' + n') (j : (Rect.unit (s := ⟨3, ![a, b, 512]⟩) off size h).shape.Idx) :
    (Rect.unit (s := ⟨3, ![a, b, 512]⟩) off size h).emb j ∈ (slab n0 o' n' : Finset (⟨3, ![a, b, 512]⟩ : Shape).Idx) := by
  have h3 := (slab_iff _).mp ((mem_slab h e es _).mpr ⟨j, rfl⟩)
  rw [slab_iff]
  omega
/-- Off a rectangle's rows. -/
theorem off_rows {a o n : ℕ} {off size : Fin 2 → ℕ} (h : ∀ x, off x + size x ≤ (⟨2, ![a, 512]⟩ : Shape).size x) (e : off = ![o, 0]) (es : size = ![n, 512])
    (i : (⟨2, ![a, 512]⟩ : Shape).Idx) (hi : ∀ j, (Rect.unit (s := ⟨2, ![a, 512]⟩) off size h).emb j ≠ i) : ¬ (o ≤ (i 0).val ∧ (i 0).val < o + n) := fun h' => by
  obtain ⟨j, hj⟩ := (mem_rows h e es i).mp ((rows_iff i).mpr h')
  exact hi j hj
theorem slab_halves {a b n0 o n n' : ℕ} : (slab n0 o (n + n') : Finset (⟨3, ![a, b, 512]⟩ : Shape).Idx) = slab n0 o n ∪ slab n0 (o + n) n' := by
  ext i
  rw [Finset.mem_union, slab_iff, slab_iff, slab_iff]
  omega
theorem slab_disjoint {a b n0 o n n' : ℕ} : Disjoint (slab n0 o n : Finset (⟨3, ![a, b, 512]⟩ : Shape).Idx) (slab n0 (o + n) n') :=
  Finset.disjoint_left.mpr fun i h h' => by
    have h1 := (slab_iff i).mp h
    have h2 := (slab_iff i).mp h'
    omega
theorem sub_hold {sp : Space} {s : Shape} {e : EltTy} {m : Memref sig .tc sp s e} {A B : Finset s.Idx} {q : PosShare TreeShare} {X : s.Idx → Elt F e} (h : Disjoint A B) :
    (Hold c m (A ∪ B) q X : sProp 𝕄) ⊢ iprop(Hold c m A q X ∗ Hold c m B q X) := by
  classical
  have hs := hold_split (F := F) c m (A := A ∪ B) (K := fun b : Bool => if b then A else B) (fun i => decide (i ∈ A)) (by
    intro p i
    have hd : i ∈ A → i ∉ B := fun ha hb => (Finset.disjoint_left (s := A) (t := B)).mp h ha hb
    cases p
    · simp only [Finset.mem_union, decide_eq_false_iff_not, Bool.false_eq_true, if_false]; tauto
    · simp only [Finset.mem_union, decide_eq_true_eq, if_true]; tauto) q X
  refine hs.trans ?_
  have hu : (Finset.univ : Finset Bool) = insert true {false} := rfl
  rw [hu, bigSep_insert (by decide), bigSep_singleton]
  exact BI.Entails.refl _
end Rows

theorem bb_lt (d : Bool) (c : Dev nD) (k : ℕ) : bb d c k < 4 := by unfold bb; split <;> omega
theorem gb_lt (d : Bool) (c : Dev nD) (k : ℕ) : gb d c k < 4 := by unfold gb; split <;> omega

/-! ## The pieces' meanings -/

section Meanings
variable (I c)
theorem i_partU (d : Bool) (j : Fin 8) : interp I c (.partU d j) = HoldE c part (rows (hrow d c j) 256) := rfl
theorem i_partP (d : Bool) (j : Fin 8) : interp I c (.partP d j) = Hold c part (rows (hrow d c j) 256) fullShare (partX (P I c)) := rfl
theorem i_partP' (d : Bool) (s : Fin 6) (h : s.val + 1 < 8) : interp I c (.partP d ⟨s.val + 1, h⟩) = Hold c part (rows (hrow d c (s.val + 1)) 256) fullShare (partX (P I c)) := rfl
theorem i_partQ (d : Bool) : interp I c (.partQ d) = Hold c part (rows (hrow d c 7) 256) fullShare (partX (PAq I d c)) := rfl
theorem i_partA (d : Bool) : interp I c (.partA d) = Hold c part (rows (hrow d c 7) 256) fullShare (partX (PA I d c)) := rfl
theorem i_partB (d : Bool) : interp I c (.partB d) = Hold c part (rows (hrow d c 7) 256) fullShare (partX (PAB I d c)) := rfl
theorem i_srcUA (d : Bool) (s : Fin 7) (q : Fin 2) : interp I c (.srcU (.rsA d s q)) = HoldE c (sbA d) (slab s (128 * q) 128) := rfl
theorem i_srcUB (d : Bool) (s : Fin 3) : interp I c (.srcU (.rsB d s)) = HoldE c (sbB d) (slab s 0 64) := rfl
theorem i_srcFA (d : Bool) (s : Fin 7) (q : Fin 2) : interp I c (.srcF (.rsA d s q)) = Hold c (sbA d) (slab s (128 * q) 128) fullShare (sbAX I d c) := rfl
theorem i_srcFB (d : Bool) (s : Fin 3) : interp I c (.srcF (.rsB d s)) = Hold c (sbB d) (slab s 0 64) fullShare (sbBX I d c) := rfl
theorem i_bufFA (d : Bool) (s : Fin 7) (q : Fin 2) : interp I c (.bufF (.rsA d s q)) = Hold c (bufA d) (slab s (128 * q) 128) fullShare (sbAX I d (nxA (!d) c)) := rfl
theorem i_bufFB (d : Bool) (s : Fin 3) : interp I c (.bufF (.rsB d s)) = Hold c (bufB d) (slab s 0 64) fullShare (sbBX I d (nxB (!d) c)) := rfl
theorem i_obfU (d : Bool) : interp I c (.obfU d) = HoldE c obf (rows (grow d c 0 0) 64) := rfl
theorem i_obfF (d : Bool) (u : Fin 8) (k : Fin 4) : interp I c (.obfF d u k) = Hold c obf (rows (grow d c u k) 64) fullShare (obfX I) := rfl
theorem i_obfE (d : Bool) (u : Fin 8) (k : Fin 4) : interp I c (.obfE d u k) = Hold c obf (rows (grow d c u k) 64) fullShare.left (obfX I) := rfl
theorem i_obfA (d : Bool) (u : Fin 8) (k : Fin 4) : interp I c (.obfA d u k) = Hold c obf (rows (grow d c u k) 64) fullShare.right.left (obfX I) := rfl
theorem i_obfB (d : Bool) (u : Fin 8) (k : Fin 4) : interp I c (.obfB d u k) = Hold c obf (rows (grow d c u k) 64) fullShare.right.right (obfX I) := rfl
theorem i_outU (d : Bool) (u : Fin 8) : interp I c (.outU d u) = HoldE c outM (slab (gch d c u / 2) (512 * (gch d c u % 2) + 256 * d.toNat) 256) := rfl
theorem i_outF (d : Bool) (u : Fin 8) : interp I c (.outF d u) = Hold c outM (slab (gch d c u / 2) (512 * (gch d c u % 2) + 256 * d.toNat) 256) fullShare (outX I) := rfl
theorem i_stU (i : Fin 4) : interp I c (.stU i) = HoldE c stg (slab i 0 256) := rfl
theorem i_cpP (i : Fin 4) (r : Fin 5) : interp I c (.cpP i r) = iprop(atPos ER (cCell c i) r ∅ 0 ∗ reached ER (cCell c i) r) := rfl
end Meanings

/-! ## Products -/

theorem comp_store (d : Bool) (j : Fin 8) {X : S4x1040x512.Idx → Elt F .f32} (hX : Padded I c X) (i : S256x512.Idx) :
    partX (P I c) ((rect256 (rowOff (W c) d j) (rowOff_inb (W c) d j)).emb i)
      = cpay (I.k c) (I.w c) (fun j' => X ((Rect.unit (s := S4x1040x512) (winOff (W c) d j) S1x272x512.size (winOff_inb (W c) d j)).emb j')) i := by
  refine (x2_emb (a := 4096) (n := 256) (rowOff_inb (W c) d j) (rowOff_W c d j) rfl (P I c) i).trans ?_
  rw [pay8_eq, comp_val hX]
  refine (P_row I c d j (i 0).val (i 0).isLt (i 1)).trans (congrArg _ ?_)
  exact Shape.idx_ext₂ rfl rfl

theorem step_comp (d : Bool) (j : Fin 8) (K : Code F) {Q : PUnit → sProp 𝕄} :
    iprop(interp I c .pad ∗ interp I c (.partU d j)) ⊢ iprop(((interp I c .pad ∗ interp I c (.partP d j)) -∗ WP c K Q)
      -∗ WP c ((Instr.comp d j).prog (W c) (I.k c) (I.w c) K) Q) := by
  unfold interp Instr.prog WP
  iintro ⟨⟨%X, %hX, Hp⟩, Hu⟩ Hk
  iapply (hold_load (X := X) (fun j => Finset.mem_univ _)) $$ Hp
  iintro Hp
  have hm := emb_rows (rowOff_inb (W c) d j) (rowOff_W c d j) (n := 256) rfl (le_refl _) (le_refl _)
  iapply (holdE_load (fun _ => rfl) hm) $$ Hu
  iintro Hu
  iapply (holdE_store (Y := partX (P I c)) hm (comp_store d j hX) (fun i hi => (mem_rows _ (rowOff_W c d j) rfl i).mp hi)) $$ Hu
  iintro Hu
  iapply Hk
  isplitr [Hu]
  · iexists X
    isplitr; · ipureintro; exact hX
    iexact Hp
  iexact Hu

/-- The first product also goes to the buffer that ring A sends from. -/
theorem step_compSt (d : Bool) (K : Code F) {Q : PUnit → sProp 𝕄} :
    iprop(interp I c .pad ∗ interp I c (.partU d 0) ∗ interp I c (.srcU (.rsA d 0 0)) ∗ interp I c (.srcU (.rsA d 0 1)))
      ⊢ iprop(((interp I c .pad ∗ interp I c (.partP d 0) ∗ interp I c (.srcF (.rsA d 0 0)) ∗ interp I c (.srcF (.rsA d 0 1))) -∗ WP c K Q)
      -∗ WP c ((Instr.compSt d).prog (W c) (I.k c) (I.w c) K) Q) := by
  unfold interp Instr.prog WP
  iintro ⟨⟨%X, %hX, Hp⟩, Hu, Hs0, Hs1⟩ Hk
  iapply (hold_load (X := X) (fun j => Finset.mem_univ _)) $$ Hp
  iintro Hp
  have hm := emb_rows (rowOff_inb (W c) d 0) (rowOff_W c d 0) (n := 256) rfl (le_refl _) (le_refl _)
  iapply (holdE_load (fun _ => rfl) hm) $$ Hu
  iintro Hu
  iapply (holdE_store (Y := partX (P I c)) hm (comp_store d 0 hX) (fun i hi => (mem_rows _ (rowOff_W c d 0) rfl i).mp hi)) $$ Hu
  iintro Hu
  have hj : (iprop(HoldE c (sbA d) (slab 0 0 128) ∗ HoldE c (sbA d) (slab 0 128 128)) : sProp 𝕄) ⊢ HoldE c (sbA d) (slab 0 0 256) := by
    have h := holdE_union (F := F) c (sbA d) (slab_disjoint (a := 7) (b := 256) (n0 := 0) (o := 0) (n := 128) (n' := 128))
    rwa [← slab_halves] at h
  ihave Hs := hj $$ [Hs0 Hs1]
  · isplitl [Hs0]; · iexact Hs0
    iexact Hs1
  have hms := emb_slab (a := 7) (b := 256) inbA0 rfl (n := 256) rfl (le_refl 0) (le_refl _)
  iapply (holdE_load (fun _ => rfl) hms) $$ Hs
  iintro Hs
  iapply (holdE_store (Y := sbAX I d c) hms (fun i => by
      refine ((x3_emb (a := 7) (b := 256) (n := 256) inbA0 rfl _ i).trans ?_).trans (stpay_apply _ _ _ _).symm
      refine congrArg nar ?_
      refine Eq.trans ?_ (congrFun (comp_val hX 0) _).symm
      refine (congrArg (fun r => P I c (hrow d c 0 + r) (i 2)) (Nat.zero_add _)).trans ?_
      exact (P_row I c d 0 (i 1).val (i 1).isLt (i 2)).trans (congrArg _ (Shape.idx_ext₂ rfl rfl))) (fun i hi => (mem_slab inbA0 rfl rfl i).mp hi)) $$ Hs
  iintro Hs
  iapply Hk
  isplitl [Hp]
  · iexists X
    isplitr; · ipureintro; exact hX
    iexact Hp
  isplitl [Hu]; · iexact Hu
  have hs : (Hold c (sbA d) (slab 0 0 256) fullShare (sbAX I d c) : sProp 𝕄)
      ⊢ iprop(Hold c (sbA d) (slab 0 0 128) fullShare (sbAX I d c) ∗ Hold c (sbA d) (slab 0 128 128) fullShare (sbAX I d c)) := by
    have h := sub_hold (F := F) (c := c) (m := sbA d) (q := fullShare) (X := sbAX I d c) (slab_disjoint (a := 7) (b := 256) (n0 := 0) (o := 0) (n := 128) (n' := 128))
    rwa [← slab_halves] at h
  iapply hs
  iexact Hs

/-! ## Ring A's additions -/

theorem part_at {n o : ℕ} {off size : Fin 2 → ℕ} (h : ∀ x, off x + size x ≤ S4096x512.size x) (e : off = ![o, 0]) (es : size = ![n, 512])
    (G : ℕ → Fin 512 → Elt F .f32) (j : (⟨2, ![n, 512]⟩ : Shape).Idx) : partX G ((Rect.unit (s := S4096x512) off size h).emb (es ▸ j)) = G (o + (j 0).val) (j 1) := x2_emb (a := 4096) h e es G j

theorem step_relayA (d : Bool) (s : Fin 6) (q : Fin 2) (K : Code F) {Q : PUnit → sProp 𝕄} :
    iprop(interp I c (.partP d ⟨s.val + 1, by omega⟩) ∗ interp I c (.bufF (.rsA d s.castSucc q)) ∗ interp I c (.srcU (.rsA d s.succ q)))
      ⊢ iprop(((interp I c (.partP d ⟨s.val + 1, by omega⟩) ∗ interp I c (.bufF (.rsA d s.castSucc q)) ∗ interp I c (.srcF (.rsA d s.succ q))) -∗ WP c K Q)
      -∗ WP c ((Instr.relayA d s q).prog (W c) (I.k c) (I.w c) K) Q) := by
  rw [i_partP', i_bufFA, i_srcUA, i_srcFA]
  unfold Instr.prog WP
  iintro ⟨Hp, Hb, Hs⟩ Hk
  have hq := q.isLt
  have hmp := emb_rows (qOff_inb (W c) d s.castSucc q) (qOff_W c d s.castSucc q) (n := 128) rfl (o' := hrow d c (s.val + 1)) (n' := 256) (Nat.le_add_right _ _)
    (by show hrow d c (s.val + 1) + 128 * q.val + 128 ≤ hrow d c (s.val + 1) + 256; omega)
  iapply (hold_load (X := partX (P I c)) hmp) $$ Hp
  iintro Hp
  iapply (hold_load (X := sbAX I d (nxA (!d) c)) (emb_slab (a := 7) (b := 256) (inbA s.castSucc q) rfl (n := 128) rfl (le_refl _) (le_refl _))) $$ Hb
  iintro Hb
  have hms := emb_slab (a := 7) (b := 256) (inbA s.succ q) rfl (n := 128) rfl (le_refl (128 * q.val)) (le_refl _)
  iapply (holdE_load (fun _ => rfl) hms) $$ Hs
  iintro Hs
  iapply (holdE_store (Y := sbAX I d c) hms (fun i => by
      refine (x3_emb (a := 7) (b := 256) (n := 128) (inbA s.succ q) rfl _ i).trans ?_
      rw [pay19_apply]
      have e1 := part_at (n := 128) (qOff_inb (W c) d s.castSucc q) (qOff_W c d s.castSucc q) rfl (P I c) (ix2 (n0 := 128) (n1 := 512) (i 1) (i 2))
      have e2 := x3_emb (a := 7) (b := 256) (n := 128) (inbA s.castSucc q) rfl (fun n row => SUMA I d n (nxA (!d) c) (hrow d (nxA (!d) c) n + row)) (ix3 (n0 := 1) (n1 := 128) (n2 := 512) 0 (i 1) (i 2))
      have e3 := hrow_nxA d c s.castSucc
      refine Eq.trans ?_ (congrArg₂ (fun a b => nar (add a (wid b))) e1.symm e2.symm)
      show nar (add (P I c (hrow d c (s.val + 1) + (128 * q.val + (i 1).val)) (i 2)) (wid (SUMA I d s.val (nxA (!d) c) (hrow d c (s.val + 1) + (128 * q.val + (i 1).val)) (i 2)))) = _
      rw [← Nat.add_assoc]
      refine congrArg (fun g => nar (add _ (wid (SUMA I d s.val (nxA (!d) c) g (i 2))))) ?_
      show _ = hrow d (nxA (!d) c) s.castSucc.val + (128 * q.val + (i 1).val)
      rw [e3]; exact Nat.add_assoc _ _ _) (fun i hi => (mem_slab (inbA s.succ q) rfl rfl i).mp hi)) $$ Hs
  iintro Hs
  iapply Hk
  isplitl [Hp]; · iexact Hp
  isplitl [Hb]; · iexact Hb
  iexact Hs

theorem PAq_lo {d : Bool} {g : ℕ} (h : g < hrow d c 7 + 128) : PAq I d c g = PA I d c g := by funext col; unfold PAq; rw [if_pos h]
theorem PAq_hi {d : Bool} {g : ℕ} (h : ¬ g < hrow d c 7 + 128) : PAq I d c g = P I c g := by funext col; unfold PAq; rw [if_neg h]

/-- The last addition of ring A on one quarter: the rows go from the contents `X` to the contents `Y`. -/
theorem last_quarter (d : Bool) (q : Fin 2) (X Y : ℕ → Fin 512 → Elt F .f32)
    (hX : ∀ r, r < 128 → X (hrow d c 7 + 128 * q.val + r) = P I c (hrow d c 7 + 128 * q.val + r))
    (hY : ∀ r, r < 128 → Y (hrow d c 7 + 128 * q.val + r) = PA I d c (hrow d c 7 + 128 * q.val + r))
    (hO : ∀ g, hrow d c 7 ≤ g → g < hrow d c 7 + 256 → ¬ (hrow d c 7 + 128 * q.val ≤ g ∧ g < hrow d c 7 + 128 * q.val + 128) → Y g = X g) (K : Code F) {Q : PUnit → sProp 𝕄} :
    iprop(Hold c part (rows (hrow d c 7) 256) fullShare (partX X) ∗ interp I c (.bufF (.rsA d 6 q)))
      ⊢ iprop(((Hold c part (rows (hrow d c 7) 256) fullShare (partX Y) ∗ interp I c (.bufF (.rsA d 6 q))) -∗ WP c K Q)
      -∗ WP c ((Instr.lastA d q).prog (W c) (I.k c) (I.w c) K) Q) := by
  rw [i_bufFA]
  unfold Instr.prog WP
  iintro ⟨Hp, Hb⟩ Hk
  have hq := q.isLt
  have hmp := emb_rows (qOff_inb (W c) d 6 q) (qOff_W c d 6 q) (n := 128) rfl (o' := hrow d c 7) (n' := 256) (Nat.le_add_right _ _)
    (by show hrow d c 7 + 128 * q.val + 128 ≤ hrow d c 7 + 256; omega)
  iapply (hold_load (X := partX X) hmp) $$ Hp
  iintro Hp
  iapply (hold_load (X := sbAX I d (nxA (!d) c)) (emb_slab (a := 7) (b := 256) (inbA 6 q) rfl (n := 128) rfl (le_refl _) (le_refl _))) $$ Hb
  iintro Hb
  iapply (hold_load (X := partX X) hmp) $$ Hp
  iintro Hp
  iapply (hold_store (X := partX X) (Y := partX Y) hmp (fun i => by
      refine Eq.trans ?_ (pay78_apply _ _ _).symm
      have e1 := part_at (n := 128) (qOff_inb (W c) d 6 q) (qOff_W c d 6 q) rfl X i
      have e1' := part_at (n := 128) (qOff_inb (W c) d 6 q) (qOff_W c d 6 q) rfl Y i
      have e2 := x3_emb (a := 7) (b := 256) (n := 128) (inbA 6 q) rfl (fun n row => SUMA I d n (nxA (!d) c) (hrow d (nxA (!d) c) n + row)) (ix3 (n0 := 1) (n1 := 128) (n2 := 512) 0 (i 0) (i 1))
      refine Eq.trans ?_ (congrArg₂ (fun a b => add a (wid b)) e1.symm e2.symm)
      refine e1'.trans ?_
      have h1 := congrFun (hX (i 0).val (i 0).isLt) (i 1)
      have h2 := congrFun (hY (i 0).val (i 0).isLt) (i 1)
      refine h2.trans ?_
      refine Eq.trans ?_ (congrArg (fun a => add a (wid _)) h1.symm)
      unfold PA
      refine congrArg (fun g => add _ (wid (SUMA I d 6 (nxA (!d) c) g (i 1)))) ?_
      show hrow d c 7 + 128 * q.val + (i 0).val = hrow d (nxA (!d) c) (6 : Fin 7).val + (128 * q.val + (i 0).val)
      rw [hrow_nxA d c 6]; exact Nat.add_assoc _ _ _)
      (fun i hi h => by
        have h1 := (rows_iff i).mp hi
        have h2 := off_rows _ (qOff_W c d 6 q) (n := 128) rfl i h
        exact congrFun (hO _ h1.1 h1.2 h2) _)) $$ Hp
  iintro Hp
  iapply Hk
  isplitl [Hp]; · iexact Hp
  iexact Hb

theorem step_lastA0 (d : Bool) (K : Code F) {Q : PUnit → sProp 𝕄} :
    iprop(interp I c (.partP d 7) ∗ interp I c (.bufF (.rsA d 6 0))) ⊢ iprop(((interp I c (.partQ d) ∗ interp I c (.bufF (.rsA d 6 0))) -∗ WP c K Q)
      -∗ WP c ((Instr.lastA d 0).prog (W c) (I.k c) (I.w c) K) Q) := by
  rw [i_partQ]
  refine last_quarter d 0 (P I c) (PAq I d c) (fun _ _ => rfl) (fun r hr => PAq_lo ?_) (fun g h1 h2 h3 => PAq_hi ?_) K
  · show hrow d c 7 + 128 * 0 + r < _; omega
  · have h3' : ¬ (hrow d c 7 + 128 * 0 ≤ g ∧ g < hrow d c 7 + 128 * 0 + 128) := h3
    omega
theorem step_lastA1 (d : Bool) (K : Code F) {Q : PUnit → sProp 𝕄} :
    iprop(interp I c (.partQ d) ∗ interp I c (.bufF (.rsA d 6 1))) ⊢ iprop(((interp I c (.partA d) ∗ interp I c (.bufF (.rsA d 6 1))) -∗ WP c K Q)
      -∗ WP c ((Instr.lastA d 1).prog (W c) (I.k c) (I.w c) K) Q) := by
  rw [i_partQ, i_partA]
  refine last_quarter d 1 (PAq I d c) (PA I d c) (fun r hr => PAq_hi ?_) (fun _ _ => rfl) (fun g h1 h2 h3 => (PAq_lo ?_).symm) K
  · show ¬ hrow d c 7 + 128 * 1 + r < _; omega
  · have h3' : ¬ (hrow d c 7 + 128 * 1 ≤ g ∧ g < hrow d c 7 + 128 * 1 + 128) := h3
    omega

/-! ## Ring B's additions -/

theorem brow_in (d : Bool) (c : Dev nD) (k : ℕ) : hrow d c 7 ≤ brow d c k ∧ brow d c k + 64 ≤ hrow d c 7 + 256 := by
  have := bb_lt d c k
  unfold brow; omega

theorem step_stageB (d : Bool) (K : Code F) {Q : PUnit → sProp 𝕄} :
    iprop(interp I c (.partA d) ∗ interp I c (.srcU (.rsB d 0))) ⊢ iprop(((interp I c (.partA d) ∗ interp I c (.srcF (.rsB d 0))) -∗ WP c K Q)
      -∗ WP c ((Instr.stageB d).prog (W c) (I.k c) (I.w c) K) Q) := by
  rw [i_partA, i_srcUB, i_srcFB]
  unfold Instr.prog WP
  iintro ⟨Hp, Hs⟩ Hk
  have hmp := emb_rows (b0Off_inb (W c) d) (b0Off_W c d) (n := 64) rfl (o' := hrow d c 7) (n' := 256) (brow_in d c 0).1 (brow_in d c 0).2
  iapply (hold_load (X := partX (PA I d c)) hmp) $$ Hp
  iintro Hp
  have hms := emb_slab (a := 3) (b := 64) (inbB 0) rfl (n := 64) rfl (le_refl 0) (le_refl _)
  iapply (holdE_load (fun _ => rfl) hms) $$ Hs
  iintro Hs
  iapply (holdE_store (Y := sbBX I d c) hms (fun i => by
      refine ((x3_emb (a := 3) (b := 64) (n := 64) (inbB 0) rfl _ i).trans ?_).trans (pay80_apply _ _).symm
      have e1 := part_at (n := 64) (b0Off_inb (W c) d) (b0Off_W c d) rfl (PA I d c) (ix2 (n0 := 64) (n1 := 512) (i 1) (i 2))
      refine Eq.trans ?_ (congrArg nar e1.symm)
      exact congrArg (fun r => nar (PA I d c (brow d c 0 + r) (i 2))) (Nat.zero_add _)) (fun i hi => (mem_slab (inbB 0) rfl rfl i).mp hi)) $$ Hs
  iintro Hs
  iapply Hk
  isplitl [Hp]; · iexact Hp
  iexact Hs

theorem step_relayB (d : Bool) (s : Fin 2) (K : Code F) {Q : PUnit → sProp 𝕄} :
    iprop(interp I c (.partA d) ∗ interp I c (.bufF (.rsB d s.castSucc)) ∗ interp I c (.srcU (.rsB d s.succ)))
      ⊢ iprop(((interp I c (.partA d) ∗ interp I c (.bufF (.rsB d s.castSucc)) ∗ interp I c (.srcF (.rsB d s.succ))) -∗ WP c K Q)
      -∗ WP c ((Instr.relayB d s).prog (W c) (I.k c) (I.w c) K) Q) := by
  rw [i_partA, i_bufFB, i_srcUB, i_srcFB]
  unfold Instr.prog WP
  iintro ⟨Hp, Hb, Hs⟩ Hk
  have hmp := emb_rows (bOff_inb (W c) d s.castSucc) (bOff_W c d s.castSucc) (n := 64) rfl (o' := hrow d c 7) (n' := 256) (brow_in d c _).1 (brow_in d c _).2
  iapply (hold_load (X := partX (PA I d c)) hmp) $$ Hp
  iintro Hp
  iapply (hold_load (X := sbBX I d (nxB (!d) c)) (emb_slab (a := 3) (b := 64) (inbB s.castSucc) rfl (n := 64) rfl (le_refl _) (le_refl _))) $$ Hb
  iintro Hb
  have hms := emb_slab (a := 3) (b := 64) (inbB s.succ) rfl (n := 64) rfl (le_refl 0) (le_refl _)
  iapply (holdE_load (fun _ => rfl) hms) $$ Hs
  iintro Hs
  iapply (holdE_store (Y := sbBX I d c) hms (fun i => by
      refine ((x3_emb (a := 3) (b := 64) (n := 64) (inbB s.succ) rfl _ i).trans ?_).trans (pay81_apply _ _ _).symm
      have e1 := part_at (n := 64) (bOff_inb (W c) d s.castSucc) (bOff_W c d s.castSucc) rfl (PA I d c) (ix2 (n0 := 64) (n1 := 512) (i 1) (i 2))
      have e2 := x3_emb (a := 3) (b := 64) (n := 64) (inbB s.castSucc) rfl (fun n row => SUMB I d n (nxB (!d) c) (brow d (nxB (!d) c) n + row)) (ix3 (n0 := 1) (n1 := 64) (n2 := 512) 0 (i 1) (i 2))
      have e3 := brow_nxB d c s.castSucc
      refine Eq.trans ?_ (congrArg₂ (fun a b => nar (add a (wid b))) e1.symm e2.symm)
      show nar (add (PA I d c (brow d c (s.val + 1) + (0 + (i 1).val)) (i 2)) (wid (SUMB I d s.val (nxB (!d) c) (brow d c (s.val + 1) + (0 + (i 1).val)) (i 2))))
        = nar (add (PA I d c (brow d c (s.val + 1) + (i 1).val) (i 2)) (wid (SUMB I d s.val (nxB (!d) c) (brow d (nxB (!d) c) s.castSucc.val + (0 + (i 1).val)) (i 2))))
      rw [e3, Nat.zero_add]; rfl) (fun i hi => (mem_slab (inbB s.succ) rfl rfl i).mp hi)) $$ Hs
  iintro Hs
  iapply Hk
  isplitl [Hp]; · iexact Hp
  isplitl [Hb]; · iexact Hb
  iexact Hs

theorem step_lastB (d : Bool) (K : Code F) {Q : PUnit → sProp 𝕄} :
    iprop(interp I c (.partA d) ∗ interp I c (.bufF (.rsB d 2))) ⊢ iprop(((interp I c (.partB d) ∗ interp I c (.bufF (.rsB d 2))) -∗ WP c K Q)
      -∗ WP c ((Instr.lastB d).prog (W c) (I.k c) (I.w c) K) Q) := by
  rw [i_partA, i_partB, i_bufFB]
  unfold Instr.prog WP
  iintro ⟨Hp, Hb⟩ Hk
  have hmp := emb_rows (bOff_inb (W c) d 2) (bOff_W c d 2) (n := 64) rfl (o' := hrow d c 7) (n' := 256) (brow_in d c 3).1 (brow_in d c 3).2
  iapply (hold_load (X := partX (PA I d c)) hmp) $$ Hp
  iintro Hp
  iapply (hold_load (X := sbBX I d (nxB (!d) c)) (emb_slab (a := 3) (b := 64) (inbB 2) rfl (n := 64) rfl (le_refl _) (le_refl _))) $$ Hb
  iintro Hb
  iapply (hold_load (X := partX (PA I d c)) hmp) $$ Hp
  iintro Hp
  iapply (hold_store (X := partX (PA I d c)) (Y := partX (PAB I d c)) hmp (fun i => by
      refine Eq.trans ?_ (pay86_apply _ _ _).symm
      have e1 := part_at (n := 64) (bOff_inb (W c) d 2) (bOff_W c d 2) rfl (PA I d c) i
      have e1' := part_at (n := 64) (bOff_inb (W c) d 2) (bOff_W c d 2) rfl (PAB I d c) i
      have e2 := x3_emb (a := 3) (b := 64) (n := 64) (inbB 2) rfl (fun n row => SUMB I d n (nxB (!d) c) (brow d (nxB (!d) c) n + row)) (ix3 (n0 := 1) (n1 := 64) (n2 := 512) 0 (i 0) (i 1))
      refine Eq.trans ?_ (congrArg₂ (fun a b => add a (wid b)) e1.symm e2.symm)
      refine e1'.trans ?_
      have hi : (i 0).val < 64 := (i 0).isLt
      have hin : brow d c 3 ≤ brow d c 3 + (i 0).val ∧ brow d c 3 + (i 0).val < brow d c 3 + 64 := ⟨Nat.le_add_right _ _, by omega⟩
      refine (if_pos hin).trans ?_
      unfold PB
      refine congrArg (fun g => add _ (wid (SUMB I d 2 (nxB (!d) c) g (i 1)))) ?_
      show brow d c 3 + (i 0).val = brow d (nxB (!d) c) (2 : Fin 3).val + (0 + (i 0).val)
      rw [brow_nxB d c 2, Nat.zero_add]; rfl)
      (fun i hi h => if_neg (off_rows _ (bOff_W c d 2) (n := 64) rfl i h))) $$ Hp
  iintro Hp
  iapply Hk
  isplitl [Hp]; · iexact Hp
  iexact Hb

/-- The device's own block of the gathered sum is the one that it has completed. -/
theorem own_place (d : Bool) (c : Dev nD) (r : Fin 64) : dirOf (grow d c 0 0 + r.val) = d ∧ ownerOf (grow d c 0 0 + r.val) = c := by
  revert d c r; decide +kernel

theorem step_own (d : Bool) (K : Code F) {Q : PUnit → sProp 𝕄} :
    iprop(interp I c (.partB d) ∗ interp I c (.obfU d)) ⊢ iprop(((interp I c (.partB d) ∗ interp I c (.obfF d 0 0)) -∗ WP c K Q)
      -∗ WP c ((Instr.own d).prog (W c) (I.k c) (I.w c) K) Q) := by
  rw [i_partB, i_obfU, i_obfF]
  unfold Instr.prog WP
  iintro ⟨Hp, Hs⟩ Hk
  have hg := grow_zero d c
  have hmp := emb_rows (ownOff_inb (W c) d) (ownOff_W c d) (n := 64) rfl (o' := hrow d c 7) (n' := 256) (hg ▸ (brow_in d c 3).1) (hg ▸ (brow_in d c 3).2)
  iapply (hold_load (X := partX (PAB I d c)) hmp) $$ Hp
  iintro Hp
  have hms := emb_rows (ownOff_inb (W c) d) (ownOff_W c d) (n := 64) rfl (le_refl _) (le_refl _)
  iapply (holdE_load (fun _ => rfl) hms) $$ Hs
  iintro Hs
  iapply (holdE_store (Y := obfX I) hms (fun i => by
      refine ((x2_emb (a := 4096) (n := 64) (ownOff_inb (W c) d) (ownOff_W c d) rfl (O I) i).trans ?_).trans (pay88_apply _ _).symm
      have e1 := part_at (n := 64) (ownOff_inb (W c) d) (ownOff_W c d) rfl (PAB I d c) i
      refine Eq.trans ?_ (congrArg nar e1.symm)
      have hi : (i 0).val < 64 := (i 0).isLt
      have hin : brow d c 3 ≤ grow d c 0 0 + (i 0).val ∧ grow d c 0 0 + (i 0).val < brow d c 3 + 64 := by rw [hg]; omega
      refine Eq.trans ?_ (congrArg nar (if_pos hin).symm)
      obtain ⟨o1, o2⟩ := own_place d c ⟨(i 0).val, hi⟩
      show nar (PB I (dirOf (grow d c 0 0 + (i 0).val)) (ownerOf (grow d c 0 0 + (i 0).val)) (grow d c 0 0 + (i 0).val) (i 1)) = nar (PB I d c (grow d c 0 0 + (i 0).val) (i 1))
      rw [o1, o2]) (fun i hi => (mem_rows (ownOff_inb (W c) d) (ownOff_W c d) rfl i).mp hi)) $$ Hs
  iintro Hs
  iapply Hk
  isplitl [Hp]; · iexact Hp
  iexact Hs

/-! ## Shares of a gathered block -/

theorem share_split (d : Bool) (u : Fin 8) (k : Fin 4) : interp I c (.obfF d u k) ⊢ iprop(interp I c (.obfE d u k) ∗ interp I c (.obfA d u k) ∗ interp I c (.obfB d u k)) := by
  rw [i_obfF, i_obfE, i_obfA, i_obfB]
  iintro H
  ihave H := (hold_halves c obf _ fullShare (obfX I)) $$ H
  icases H with ⟨Hl, Hr⟩
  isplitl [Hl]; · iexact Hl
  iapply (hold_halves c obf _ fullShare.right (obfX I))
  iexact Hr
theorem share_join (d : Bool) (u : Fin 8) (k : Fin 4) : iprop(interp I c (.obfE d u k) ∗ interp I c (.obfA d u k) ∗ interp I c (.obfB d u k)) ⊢ interp I c (.obfF d u k) := by
  rw [i_obfF, i_obfE, i_obfA, i_obfB]
  iintro ⟨Hl, Hr⟩
  iapply (hold_rejoin c obf _ fullShare (obfX I))
  isplitl [Hl]; · iexact Hl
  iapply (hold_rejoin c obf _ fullShare.right (obfX I))
  iexact Hr

end Cert.KernelIdeal.Conv

end
-- ==== Proof.Sched.lean ====
/-
  The rounds: for each semaphore, what lands on it and what the landing hands to its owner; the order in which a device pays what it owes; and the two rules, for a wait and for a
  remote copy, that the steps use.

  * A transfer's sender's semaphore hands back the transfer's source; its receiver's semaphore hands over the rows where it lands, with what the sender had.
  * The barrier's semaphore hands over the rows on the four neighbours where the device's own transfers land: each neighbour's signal brings its own.
  * Slot `i` of the staging buffer is used four times, each copy handing back the slot and the rows of the result that it wrote.
  * The input's copies hand over the rows of the padded input and the input.
-/
module

public import proofs.«01_k».proof.Proof.Res

@[expose] public section

noncomputable section

namespace Cert.KernelIdeal.Conv

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Kinds of semaphore -/

inductive Kind'
  | bar
  | snd (t : Tr)
  | rcv (t : Tr)
  | cp (i : Fin 4)
  | x (b : Fin 4)
  | none

theorem sNo_lt (r : Fin 2) (t : Tr) : 3 ≤ (t.semNo r).val ∧ (t.semNo r).val < 195 := by
  rcases t with ⟨d, s, q⟩ | ⟨d, s⟩ | ⟨d, s⟩ | ⟨d, s, k⟩ <;> unfold Tr.semNo <;> dsimp only <;> cases d <;> simp only [Bool.toNat_false, Bool.toNat_true] <;> omega
theorem sNo_ne (t t' : Tr) : (t.semNo 0).val ≠ (t'.semNo 1).val := by
  rcases t with ⟨d, s, q⟩ | ⟨d, s⟩ | ⟨d, s⟩ | ⟨d, s, k⟩ <;> rcases t' with ⟨d', s', q'⟩ | ⟨d', s'⟩ | ⟨d', s'⟩ | ⟨d', s', k'⟩ <;>
    unfold Tr.semNo <;> cases d <;> cases d' <;> simp only [Bool.toNat_false, Bool.toNat_true] <;>
    simp only [Fin.val_zero, Fin.val_one] <;> omega
theorem num1 (t : Tr) : (t.semNo 1).val = t.num + match t with
    | .rsA _ _ _ => 14 | .rsB _ _ => 3 | .agB _ _ => 3 | .agA _ _ _ => 28 := by
  rcases t with ⟨d, s, q⟩ | ⟨d, s⟩ | ⟨d, s⟩ | ⟨d, s, k⟩ <;> unfold Tr.num Tr.semNo <;> simp only [Fin.val_zero, Fin.val_one] <;> omega
theorem rNo_inj {t t' : Tr} (h : (t.semNo 1).val = (t'.semNo 1).val) : t = t' := by
  rcases t with ⟨d, s, q⟩ | ⟨d, s⟩ | ⟨d, s⟩ | ⟨d, s, k⟩ <;> rcases t' with ⟨d', s', q'⟩ | ⟨d', s'⟩ | ⟨d', s'⟩ | ⟨d', s', k'⟩ <;>
    unfold Tr.semNo at h <;> cases d <;> cases d' <;> simp only [Bool.toNat_false, Bool.toNat_true, Fin.val_one] at h <;>
    first
    | (exfalso; omega)
    | (congr 1 <;> exact Fin.ext (by omega))

open Classical in
def kindOf (sm : SemLoc sig) : Kind' :=
  if sm = .reg barS then .bar
  else if h : ∃ t : Tr, sm = .dma t.sSem then .snd h.choose
  else if h : ∃ t : Tr, sm = .dma t.rSem then .rcv h.choose
  else if h : ∃ i, sm = .dma (cpSem i) then .cp h.choose
  else if h : ∃ b, sm = .dma (xSem b) then .x h.choose
  else .none

theorem dma_val {a b : DmaSem sig} (h : (SemLoc.dma a : SemLoc sig) = .dma b) : (show Fin 203 from a).val = (show Fin 203 from b).val := by
  cases h; rfl
theorem kind_bar : kindOf (.reg barS) = .bar := by unfold kindOf; rw [if_pos rfl]
theorem kind_snd (t : Tr) : kindOf (.dma t.sSem) = .snd t := by
  unfold kindOf
  have h : ∃ t' : Tr, (SemLoc.dma t.sSem : SemLoc sig) = .dma t'.sSem := ⟨t, rfl⟩
  rw [if_neg (fun h => by cases h), dif_pos h]
  exact congrArg Kind'.snd (num_inj (dma_val h.choose_spec)).symm
theorem kind_rcv (t : Tr) : kindOf (.dma t.rSem) = .rcv t := by
  unfold kindOf
  have h : ∃ t' : Tr, (SemLoc.dma t.rSem : SemLoc sig) = .dma t'.rSem := ⟨t, rfl⟩
  rw [if_neg (fun h => by cases h), dif_neg (fun ⟨t', h'⟩ => sNo_ne t' t (dma_val h').symm), dif_pos h]
  exact congrArg Kind'.rcv (rNo_inj (dma_val h.choose_spec)).symm
theorem kind_cp (i : Fin 4) : kindOf (.dma (cpSem i)) = .cp i := by
  unfold kindOf
  have h : ∃ i' : Fin 4, (SemLoc.dma (cpSem i) : SemLoc sig) = .dma (cpSem i') := ⟨i, rfl⟩
  have v : ∀ i : Fin 4, (show Fin 203 from cpSem i).val = 195 + i.val := fun _ => rfl
  rw [if_neg (fun h => by cases h), dif_neg (fun ⟨t', h'⟩ => by have h1 : (t'.semNo 0).val = 195 + i.val := (dma_val h').symm.trans (v i); have := (sNo_lt 0 t').2; omega),
    dif_neg (fun ⟨t', h'⟩ => by have h1 : (t'.semNo 1).val = 195 + i.val := (dma_val h').symm.trans (v i); have := (sNo_lt 1 t').2; omega), dif_pos h]
  have h1 := dma_val h.choose_spec
  have h2 := v i
  have h3 := v h.choose
  exact congrArg Kind'.cp (Fin.ext (by omega))
theorem kind_x (b : Fin 4) : kindOf (.dma (xSem b)) = .x b := by
  unfold kindOf
  have h : ∃ i' : Fin 4, (SemLoc.dma (xSem b) : SemLoc sig) = .dma (xSem i') := ⟨b, rfl⟩
  have v : ∀ i : Fin 4, (show Fin 203 from xSem i).val = 199 + i.val := fun _ => rfl
  have v' : ∀ i : Fin 4, (show Fin 203 from cpSem i).val = 195 + i.val := fun _ => rfl
  rw [if_neg (fun h => by cases h), dif_neg (fun ⟨t', h'⟩ => by have h1 : (t'.semNo 0).val = 199 + b.val := (dma_val h').symm.trans (v b); have := (sNo_lt 0 t').2; omega),
    dif_neg (fun ⟨t', h'⟩ => by have h1 : (t'.semNo 1).val = 199 + b.val := (dma_val h').symm.trans (v b); have := (sNo_lt 1 t').2; omega),
    dif_neg (fun ⟨t', h'⟩ => by have h1 := dma_val h'; have h2 := v b; have h3 := v' t'; exact absurd (h2.symm.trans (h1.trans h3)) (by omega)), dif_pos h]
  have h1 := dma_val h.choose_spec
  have h2 := v b
  have h3 := v h.choose
  exact congrArg Kind'.x (Fin.ext (by omega))

/-! ## The neighbours -/

/-- The four neighbours, and the direction in which a device is its neighbour's neighbour. -/
def nb (δ : Fin 4) (c : Dev nD) : Dev nD := match δ with
  | 0 => nxA false c | 1 => nxA true c | 2 => nxB false c | 3 => nxB true c
def opp (δ : Fin 4) : Fin 4 := match δ with
  | 0 => 1 | 1 => 0 | 2 => 3 | 3 => 2
theorem nb_opp (δ : Fin 4) (c : Dev nD) : nb (opp δ) (nb δ c) = c := by revert δ c; decide +kernel
theorem nb_opp' (δ : Fin 4) (c : Dev nD) : nb δ (nb (opp δ) c) = c := by revert δ c; decide +kernel

/-- The transfers of one direction of one ring. -/
def ringA (d : Bool) : List Tr := (f7.flatMap fun s => f2.map fun q => .rsA d s q) ++ f7.flatMap fun s => f4.map fun k => .agA d s k
def ringB (d : Bool) : List Tr := f3.map (fun s => .rsB d s) ++ f3.map fun s => .agB d s
def barTr (δ : Fin 4) : List Tr := match δ with
  | 0 => ringA false | 1 => ringA true | 2 => ringB false | 3 => ringB true
def dir : Tr → Fin 4
  | .rsA d _ _ => if d then 1 else 0
  | .agA d _ _ => if d then 1 else 0
  | .rsB d _ => if d then 3 else 2
  | .agB d _ => if d then 3 else 2
theorem tgt_nb (c : Dev nD) (t : Tr) : tgt c t = nb (dir t) c := by
  rcases t with ⟨d, s, q⟩ | ⟨d, s⟩ | ⟨d, s⟩ | ⟨d, s, k⟩ <;> cases d <;> rfl
theorem orig_nb (c : Dev nD) (t : Tr) : orig c t = nb (opp (dir t)) c := by
  rcases t with ⟨d, s, q⟩ | ⟨d, s⟩ | ⟨d, s⟩ | ⟨d, s, k⟩ <;> cases d <;> rfl
theorem dir_barTr : ∀ δ, ∀ t ∈ barTr δ, dir t = δ := by decide +kernel

/-! ## The schedule -/

variable (I : Inp F)

/-- The half chunk that round `r` of slot `i` copies. -/
def cpD (i : Fin 4) : Bool := i.val % 2 == 1
def cpU (i : Fin 4) (r : ℕ) : Fin 8 := wrap 8 ((4 * r + i.val) / 2) (by decide)
theorem cpD_slot (d : Bool) (u : Fin 8) : cpD (slot d u) = d := by revert d u; decide
theorem cpU_slot (d : Bool) (u : Fin 8) : cpU (slot d u) (rnd d u) = u := by revert d u; decide
theorem rnd_lt (d : Bool) (u : Fin 8) : rnd d u < 4 := by revert d u; decide

/-- What lands. -/
def pay (c : Dev nD) (r : ℕ) (δ : Fin 4) : Kind' → sProp 𝕄
  | .bar => Seps I c ((barTr δ).map .land)
  | .snd t => owns (c : Thread nD τ) (t.src (W c)) (tq t) (srcX I c t)
  | .rcv t => owns (c : Thread nD τ) (t.dst (W (orig c t))) fullShare (srcX I (orig c t) t)
  | .cp i => iprop(interp I c (.stU i) ∗ interp I c (.outF (cpD i) (cpU i r)))
  | .x b => iprop(Hold c Conv.pad (slab b 8 1024) fullShare (padX I c) ∗ Hold c xM (slab b 0 1024) fullShare (I.x c))
  | .none => iprop(emp)

def amtK : Kind' → ℕ
  | .bar => 1 | .snd t => amt t | .rcv t => amt t | .cp _ => cAmt | .x _ => xAmt | .none => 1
def dutK (r : ℕ) : Kind' → Finset (Fin 4)
  | .bar => if r = 0 then Finset.univ else ∅
  | .cp _ => if r < 4 then {0} else ∅
  | .none => ∅
  | _ => if r = 0 then {0} else ∅

def Rd : Rounds.Schedule (GSem nD τ sig) (Fin 4) 𝕄 where
  duties g r := dutK r (kindOf g.2)
  unitless _ := False
  amount g _ _ := amtK (kindOf g.2)
  payload g r δ := pay I g.1.1 r δ (kindOf g.2)
  amount_pos g _ _ _ := by
    cases kindOf g.2
    exacts [Nat.one_pos, amt_pos _, amt_pos _, cAmt_pos, xAmt_pos, Nat.one_pos]

theorem pay_snd (c : Dev nD) (r : ℕ) (δ : Fin 4) (t : Tr) : pay I c r δ (.snd t) = owns (c : Thread nD τ) (t.src (W c)) (tq t) (srcX I c t) := rfl
theorem pay_rcv (c : Dev nD) (r : ℕ) (δ : Fin 4) (t : Tr) :
    pay I c r δ (.rcv t) = owns (c : Thread nD τ) (t.dst (W (orig c t))) fullShare (srcX I (orig c t) t) := rfl
instance land_storable (c : Dev nD) (l : List Tr) : BI.Storable (upEmb : UEmb _ 𝕄) (Seps I c (l.map .land)) := by
  induction l with
  | nil => rw [List.map_nil, seps_nil]; infer_instance
  | cons t l ih =>
    rw [List.map_cons, seps_cons]
    haveI := ih
    unfold interp
    infer_instance
instance owns_storable {sp : Space} {s : Shape} {e : EltTy} (c : Dev nD) (m : Memref sig .tc sp s e) (q : PosShare TreeShare) (X : s.Idx → Elt F e) :
    BI.Storable (upEmb : UEmb _ 𝕄) (owns (c : Thread nD τ) m q X : sProp 𝕄) := by unfold owns; infer_instance
instance holdE_storable {sp : Space} {s : Shape} {e : EltTy} (c : Dev nD) (m : Memref sig .tc sp s e) (A : Finset s.Idx) :
    BI.Storable (upEmb : UEmb _ 𝕄) (HoldE c m A : sProp 𝕄) := by unfold HoldE; infer_instance
instance pay_storable (c : Dev nD) (r : ℕ) (δ : Fin 4) (κ : Kind') : BI.Storable (upEmb : UEmb _ 𝕄) (pay I c r δ κ) := by
  cases κ <;> unfold pay <;> (try unfold interp) <;> infer_instance
instance Rd_storable (g : GSem nD τ sig) (r : ℕ) (δ : Fin 4) : BI.Storable (upEmb : UEmb _ 𝕄) ((Rd I).payload g r δ) := pay_storable I _ _ _ _

/-! ## What a device owes, and the levels -/

/-- A transfer's place in the order in which a device sends. -/
def pos : Tr → ℕ
  | .rsA d s q => 4 * s + 2 * d.toNat + q
  | .rsB d s => if s.val = 0 then 28 + d.toNat else 28 + 2 * s + d.toNat
  | .agB d s => 36 + 4 * s + d.toNat
  | .agA d s k => if s.val = 0 then (if k.val = 0 then 34 + d.toNat else 38 + 4 * (k.val - 1) + d.toNat) else 48 + 8 * (s.val - 1) + 4 * d.toNat + k

/-- The landings still owed, for the transfers still to send. -/
def Ow (c : Dev nD) : List Tr → CellTallies nD τ sig Unit
  | [] => 0
  | t :: l => Ow c l + tallyAt (rCell (tgt c t) t) () (amt t)
theorem Ow_pos {c : Dev nD} {g : GSem nD τ sig} {u : Unit} : ∀ {l : List Tr}, 0 < Ow c l g u → ∃ t ∈ l, g = rCell (tgt c t) t
  | [], h => absurd h (Nat.lt_irrefl 0)
  | t :: l, h => by
    unfold Ow at h
    rw [Pi.add_apply, Finsupp.add_apply] at h
    rcases Nat.add_pos_iff_pos_or_pos.mp h with h | h
    · obtain ⟨t', ht, hg⟩ := Ow_pos h
      exact ⟨t', List.mem_cons_of_mem _ ht, hg⟩
    · rw [tallyAt_apply] at h
      split at h
      · next hg => exact ⟨t, List.mem_cons_self, hg.1⟩
      · exact absurd h (Nat.lt_irrefl 0)

def L (g : GSem nD τ sig) : Finset Unit := if g.1.2 = .tc then {()} else ∅
def lvK : Kind' → ℕ
  | .bar => 1 | .rcv t => 2 + pos t | _ => 0
def lv (g : GSem nD τ sig) (_ : Unit) : ℕ := lvK (kindOf g.2)
theorem L_of_ne (g : GSem nD τ sig) (h : g.1.2 ≠ .tc) : L g = ∅ := if_neg h
theorem L_tc (c : Dev nD) (sm : SemLoc sig) : L ((c : Thread nD τ), sm) = {()} := if_pos rfl

/-- The levels, as a resource. -/
def Levs : sProp 𝕄 := levAts L lv
instance levs_persistent : BI.Persistent (Levs : sProp 𝕄) := by unfold Levs; infer_instance
omit [FloatOps F] in
theorem mayWait (c : Dev nD) (sm : SemLoc sig) (rem : List Tr) (h : ∀ t ∈ rem, lvK (kindOf sm) < 2 + pos t) :
    (Levs : sProp 𝕄) ⊢ MayWait (c : Thread nD τ) sm () (Ow c rem) := by
  unfold Levs
  exact MayOwe.of_cut (L := L) (lev := lv) (lvK (kindOf sm)) (fun p hp => by rw [Finset.mem_singleton.mp hp, L_tc]; exact Finset.mem_singleton_self _)
    (fun g u hg => by
      obtain ⟨t, -, rfl⟩ := Ow_pos hg
      rw [L_tc]; exact Finset.mem_singleton_self _)
    (fun p hp => by rw [Finset.mem_singleton.mp hp]; exact le_rfl)
    (fun g u hg => by
      obtain ⟨t, ht, rfl⟩ := Ow_pos hg
      show lvK (kindOf (.dma t.rSem)) > _
      rw [kind_rcv]; exact h t ht)
attribute [irreducible] Levs

/-! ## The cells -/

/-- The kernel's own semaphores. -/
def osem (i : Fin 200) : SemLoc sig := .dma (⟨3 + i.val, by omega⟩ : Fin 203)
theorem osem_inj : Function.Injective osem := fun i j h => Fin.ext (by have := dma_val h; exact Nat.add_left_cancel this)
def barEmb : Dev nD ↪ GSem nD τ sig := ⟨fun c => bCell c, fun _ _ h => congrArg (fun g : GSem nD τ sig => g.1.1) h⟩
def scEmb : Dev nD × Fin 200 ↪ GSem nD τ sig :=
  ⟨fun ck => ((ck.1 : Thread nD τ), osem ck.2), fun _ _ h =>
    Prod.ext (congrArg (fun g : GSem nD τ sig => g.1.1) h) (osem_inj (congrArg Prod.snd h))⟩
def barCells : Finset (GSem nD τ sig) := Finset.univ.map barEmb
def scCells : Finset (GSem nD τ sig) := Finset.univ.map scEmb
theorem disjoint_cells : Disjoint barCells scCells := by
  rw [Finset.disjoint_left]
  rintro g h₁ h₂
  obtain ⟨c, -, rfl⟩ := Finset.mem_map.mp h₁
  obtain ⟨ck, -, h⟩ := Finset.mem_map.mp h₂
  have := congrArg Prod.snd h
  cases this
theorem bar_mem (c : Dev nD) : bCell c ∈ barCells ∪ scCells :=
  Finset.mem_union_left _ (Finset.mem_map_of_mem barEmb (Finset.mem_univ c))
theorem sc_mem (c : Dev nD) (n : Fin 203) (h : 3 ≤ n.val) : ((c : Thread nD τ), SemLoc.dma n) ∈ barCells ∪ scCells := by
  refine Finset.mem_union_right _ (Finset.mem_map.mpr ⟨(c, ⟨n.val - 3, by omega⟩), Finset.mem_univ _, ?_⟩)
  show (((c : Thread nD τ), osem ⟨n.val - 3, _⟩) : GSem nD τ sig) = _
  unfold osem
  have : (⟨3 + (n.val - 3), by omega⟩ : Fin 203) = n := Fin.ext (by show 3 + (n.val - 3) = n.val; omega)
  rw [this]
theorem tr_mem (c : Dev nD) (r : Fin 2) (t : Tr) : ((c : Thread nD τ), SemLoc.dma (t.semNo r)) ∈ barCells ∪ scCells := sc_mem c _ (sNo_lt r t).1
theorem cp_mem (c : Dev nD) (i : Fin 4) : cCell c i ∈ barCells ∪ scCells := sc_mem c _ (by show 3 ≤ 195 + i.val; omega)
theorem x_mem (c : Dev nD) (i : Fin 4) : xCell c i ∈ barCells ∪ scCells := sc_mem c _ (by show 3 ≤ 199 + i.val; omega)

/-- What every device may consult: every cell's rounds, that the barrier's first round is reached, and the levels. -/
def Ctx (κ : GSem nD τ sig → ℕ) : sProp 𝕄 :=
  iprop((bigSep (barCells ∪ scCells) fun g => cellInv ER (Rd I) (κ g) g) ∗ (bigSep barCells fun g => reached ER g 0) ∗ Levs)
instance ctx_persistent (κ : GSem nD τ sig → ℕ) : BI.Persistent (Ctx I κ) := by unfold Ctx; infer_instance
theorem ctx_inv (κ : GSem nD τ sig → ℕ) {g : GSem nD τ sig} (hg : g ∈ barCells ∪ scCells) : Ctx I κ ⊢ cellInv ER (Rd I) (κ g) g := by
  unfold Ctx
  iintro ⟨H, -, -⟩
  iapply (show (bigSep (barCells ∪ scCells) fun g => (cellInv ER (Rd I) (κ g) g : sProp 𝕄)) ⊢ cellInv ER (Rd I) (κ g) g from bigSep_elim hg)
  iexact H
theorem ctx_bar (κ : GSem nD τ sig → ℕ) (c : Dev nD) : Ctx I κ ⊢ reached ER (bCell c) 0 := by
  unfold Ctx
  iintro ⟨-, H, -⟩
  iapply (show (bigSep barCells fun g => (reached ER g 0 : sProp 𝕄)) ⊢ reached ER (bCell c) 0 from bigSep_elim (Finset.mem_map_of_mem barEmb (Finset.mem_univ c)))
  iexact H
theorem ctx_lev (κ : GSem nD τ sig → ℕ) : Ctx I κ ⊢ (Levs : sProp 𝕄) := by
  unfold Ctx
  iintro ⟨-, -, H⟩
  iexact H

theorem ctx_may (κ : GSem nD τ sig → ℕ) (c : Dev nD) (sm : SemLoc sig) (rem : List Tr) (h : ∀ t ∈ rem, lvK (kindOf sm) < 2 + pos t) :
    Ctx I κ ⊢ MayWait (c : Thread nD τ) sm () (Ow c rem) := (ctx_lev I κ).trans (mayWait c sm rem h)

/-- What a device owes, whatever it has waited for. -/
def Owes (c : Dev nD) (O : CellTallies nD τ sig Unit) : sProp 𝕄 := iprop(∃ Wt, owes (c : Thread nD τ) O Wt)

/-! ## The two rules -/

section Rules
variable {κ : GSem nD τ sig → ℕ} {c : Dev nD}

/-- A wait for a copy: the cell's next round, with what has landed. -/
theorem wait_dma {Q : PUnit → sProp 𝕄} {K : Code F} {n : Fin 203} {sp sp' : Space} {s s' : Shape} {e e' : EltTy} {src : Memref sig .tc sp' s' e'} {dst : Memref sig .tc sp s e}
    {hs : src.view.WordExact} {hd : dst.view.WordExact} {R N : ℕ} {rem : List Tr} (hn : 3 ≤ n.val) (hN : dst.view.dmaCredit = N)
    (hD : dutK R (kindOf (.dma n)) = {0}) (hA : amtK (kindOf (.dma n)) = N) (hL : ∀ t ∈ rem, lvK (kindOf (.dma n)) < 2 + pos t) :
    iprop(Ctx I κ ∗ cred (tallyAt ((c : Thread nD τ), SemLoc.dma n) () N) ∗ Owes c (Ow c rem) ∗ atPos ER ((c : Thread nD τ), SemLoc.dma n) R ∅ 0)
      ⊢ iprop(((Owes c (Ow c rem) ∗ atPos ER ((c : Thread nD τ), SemLoc.dma n) (R + 1) ∅ 0 ∗ reached ER ((c : Thread nD τ), SemLoc.dma n) (R + 1)
            ∗ pay I c R 0 (kindOf (.dma n))) -∗ wp frame (wpE (defs₀ (F := F)) 𝒱₀ (c : Thread nD τ) none) Set.univ K Q)
          -∗ wp frame (wpE (defs₀ (F := F)) 𝒱₀ (c : Thread nD τ) none) Set.univ (.op (.waitDma2 n src dst hs hd) fun _ => K) Q) := by
  subst hN
  unfold Owes
  have hMW := ctx_may I κ c (.dma n) rem hL
  iintro ⟨#HC, Hc, ⟨%Wt, HO⟩, Hat⟩ Hk
  have hd' : (Rd I).duties ((c : Thread nD τ), SemLoc.dma n) R = {0} := hD
  have hE : (Rd I).expect ((c : Thread nD τ), SemLoc.dma n) R = dst.view.dmaCredit := by
    unfold Schedule.expect Schedule.amountOf; rw [hd', Finset.sum_singleton]; exact hA
  iapply (Rounds.wp_wait_rest_token 𝒱₀ ER (Rd I) (c : Thread nD τ) none (κ := κ ((c : Thread nD τ), SemLoc.dma n))
      (wpE_waitDma2_eq 𝒱₀ (c : Thread nD τ) none Set.univ) (Set.mem_univ _) () (O := Ow c rem) (W := Wt) (R := R) (m := 0) (T := ∅)
      (by rw [Nat.zero_add, hE])) $$ [Hc HO Hat]
  · isplitr; · iapply (ctx_inv I κ (sc_mem c n hn)); iexact HC
    isplitl [Hc]; · iexact Hc
    isplitl [HO]; · iexact HO
    isplitr; · iapply hMW; iexact HC
    iexact Hat
  iintro ⟨HO, Hat, Hr, Hp⟩
  iapply Hk
  isplitl [HO]; · iexists _; iexact HO
  isplitl [Hat]; · iexact Hat
  isplitl [Hr]; · iexact Hr
  have hp : (bigSep ((Rd I).duties ((c : Thread nD τ), SemLoc.dma n) R \ ∅) fun d => (Rd I).payload ((c : Thread nD τ), SemLoc.dma n) R d) = pay I c R 0 (kindOf (.dma n)) := by
    rw [Finset.sdiff_empty, hd', bigSep_singleton]; rfl
  iapply (Entails.of_eq hp)
  iexact Hp

theorem close (g : GSem nD τ sig) (hg : g ∈ barCells ∪ scCells) (R : ℕ) (h : ∀ r, R ≤ r → dutK r (kindOf g.2) = ∅) :
    iprop(Ctx I κ ∗ atPos ER g R ∅ 0) ⊢ (|={Set.univ}=> semVal g 0 : sProp 𝕄) := by
  iintro ⟨#HC, Hat⟩
  iapply (Rounds.cell_close ER (Rd I) (Set.mem_univ (κ g)) id h)
  isplitr; · iapply (ctx_inv I κ hg); iexact HC
  iexact Hat

/-- A remote copy: the landing is paid to the receiver, who is owed it. -/
theorem send_tr (t : Tr) {Q : PUnit → sProp 𝕄} {K : Code F} (n : Dev nD) (hn : n = tgt c t)
    {hsc : (t.dst (W c)).view.ref.isScScratch = false} {hs : (t.src (W c)).view.WordExact} {hd : (t.dst (W c)).view.WordExact}
    {hsem : DmaTarget.Typed .vmem (.dma t.rSem) (.remote (Dev.tc n : Thread nD τ) (t.dst (W c)) (.dma t.sSem) hsc)} (O : CellTallies nD τ sig Unit) :
    iprop(Ctx I κ ∗ owns (c : Thread nD τ) (t.src (W c)) (tq t) (srcX I c t) ∗ interp I c (.tok t) ∗ interp I c (.land t) ∗ Owes c (O + tallyAt (rCell (tgt c t) t) () (amt t)))
      ⊢ iprop(((interp I c (.sent t) ∗ Owes c O) -∗ wp frame (wpE (defs₀ (F := F)) 𝒱₀ (c : Thread nD τ) none) Set.univ K Q)
          -∗ wp frame (wpE (defs₀ (F := F)) 𝒱₀ (c : Thread nD τ) none) Set.univ
              (.op (.enqueueDma (t.src (W c)) (.remote (Dev.tc n : Thread nD τ) (t.dst (W c)) (.dma t.sSem) hsc) (.dma t.rSem) hs hd hsem) fun _ => K) Q) := by
  subst hn
  unfold Owes interp owns Some'
  iintro ⟨#HC, ⟨%fs, %hfs, Hs⟩, ⟨Ht1, Ht2, Hat, #Hr1⟩, ⟨⟨%fd, Hd⟩, #Hr2⟩, ⟨%Wt, HO⟩⟩ Hk
  iapply (Rounds.wp_send_pointsTo 𝒱₀ ER (Rd I) (c : Thread nD τ) none (κ₁ := κ (sCell c t)) (κ₂ := κ (rCell (tgt c t) t))
    (r₁ := 0) (r₂ := 0) (d₁ := 0) (d₂ := 0) (fd := fd) (fs := fs) (q := tq t)
    (show (0 : Fin 4) ∈ dutK 0 (kindOf (.dma t.sSem)) by rw [kind_snd]; exact Finset.mem_singleton_self _)
    (show (0 : Fin 4) ∈ dutK 0 (kindOf (.dma t.rSem)) by rw [kind_rcv]; exact Finset.mem_singleton_self _)
    () () (amt t) (amt_dst _ t) (show amtK (kindOf (.dma t.sSem)) = amt t by rw [kind_snd]; rfl) (show amtK (kindOf (.dma t.rSem)) = amt t by rw [kind_rcv]; rfl)
    O rfl (W := Wt)
    (show _ ⊢ pay I c 0 0 (kindOf (.dma t.sSem)) by
      rw [kind_snd, pay_snd]; unfold owns
      iintro H
      iexists fs
      isplitr; · ipureintro; exact hfs
      iexact H)
    (show _ ⊢ pay I (tgt c t) 0 0 (kindOf (.dma t.rSem)) by
      rw [kind_rcv, pay_rcv, orig_tgt]; unfold owns
      iintro H
      iexists ((t.dst (W c)).view.write (Elt F) fd ((t.src (W c)).view.read (Elt F) fs) Finset.univ)
      isplitr
      · ipureintro; exact (View.read_write_univ _ _).trans hfs
      iexact H)) $$ [Hs Hd HO Ht1 Ht2]
  · isplitr; · iapply (ctx_inv I κ (tr_mem c 0 t)); iexact HC
    isplitr; · iapply (ctx_inv I κ (tr_mem (tgt c t) 1 t)); iexact HC
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitr [HO]
  · isplitl [Hat]; · iexact Hat
    iexact Hc
  iexists _; iexact HO

end Rules

end Cert.KernelIdeal.Conv

end
-- ==== Proof.Comm.lean ====
/-
  The steps that communicate: remote copies, the waits for them, the barrier, and the copies to the result.
-/
module

public import proofs.«01_k».proof.Proof.Local
public import proofs.«01_k».proof.Proof.Sched

@[expose] public section

noncomputable section

namespace Cert.KernelIdeal.Conv

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {I : Inp F} {c : Dev nD}

/-! ## The ends of a transfer, as the pieces -/

section Ends
omit [FloatOps F]
/-- Rows of a slot, as the slice that a transfer names. -/
theorem hold_sq {a b n n0 o : ℕ} {off : Fin 3 → ℕ} {sp : Space} {e : EltTy} {m : Memref sig .tc sp ⟨3, ![a, b, 512]⟩ e} (h : ∀ x, off x + (![1, n, 512] : Fin 3 → ℕ) x ≤ (⟨3, ![a, b, 512]⟩ : Shape).size x)
    (ho : off = ![n0, o, 0]) (hr : ∀ x, (Rect.unit (s := ⟨3, ![a, b, 512]⟩) off ![1, n, 512] h).stride x = 1)
    (hq : (Rect.unit (s := ⟨3, ![a, b, 512]⟩) off ![1, n, 512] h).shape.Squeezes ⟨2, ![n, 512]⟩) {q : PosShare TreeShare} (G : ℕ → ℕ → Fin 512 → Elt F e) {Y : (⟨2, ![n, 512]⟩ : Shape).Idx → Elt F e}
    (hY : ∀ j, G n0 (o + (j 0).val) (j 1) = Y j) :
    (Hold c m (slab n0 o n) q (X3 G) : sProp 𝕄) ⊣⊢ owns (c : Thread nD τ) ((m.slice (Rect.unit (s := ⟨3, ![a, b, 512]⟩) off ![1, n, 512] h) hr).squeeze ⟨2, ![n, 512]⟩ hq) q Y := by
  refine hold_squeeze hr hq (fun i => mem_slab h ho rfl i) (fun j => ?_)
  rw [squeeze_idx]
  exact (x3_emb h ho G _).trans (hY j)
theorem hold_sl {a n o : ℕ} {off : Fin 2 → ℕ} {sp : Space} {e : EltTy} {m : Memref sig .tc sp ⟨2, ![a, 512]⟩ e} (h : ∀ x, off x + (![n, 512] : Fin 2 → ℕ) x ≤ (⟨2, ![a, 512]⟩ : Shape).size x)
    (ho : off = ![o, 0]) (hr : ∀ x, (Rect.unit (s := ⟨2, ![a, 512]⟩) off ![n, 512] h).stride x = 1) {q : PosShare TreeShare} (G : ℕ → Fin 512 → Elt F e) :
    (Hold c m (rows o n) q (X2 G) : sProp 𝕄) ⊣⊢ owns (c : Thread nD τ) (m.slice (Rect.unit (s := ⟨2, ![a, 512]⟩) off ![n, 512] h) hr) q (X2 fun r => G (o + r)) :=
  hold_slice hr (fun i => mem_rows h ho rfl i) (fun j => x2_emb h ho rfl G j)
end Ends

/-- What a transfer's sender gives and gets back, and what its landing leaves to its receiver. -/
def srcRes : Tr → Res
  | .rsA d s q => .srcF (.rsA d s q)
  | .rsB d s => .srcF (.rsB d s)
  | .agB d s => .obfB d 0 s.castSucc
  | .agA d s k => .obfA d s.castSucc k
def dstRes : Tr → Res
  | .rsA d s q => .bufF (.rsA d s q)
  | .rsB d s => .bufF (.rsB d s)
  | .agB d s => .obfF d 0 s.succ
  | .agA d s k => .obfF d s.succ k

theorem src_own (t : Tr) : interp I c (srcRes t) ⊣⊢ owns (c : Thread nD τ) (t.src (W c)) (tq t) (srcX I c t) := by
  rcases t with ⟨d, s, q⟩ | ⟨d, s⟩ | ⟨d, s⟩ | ⟨d, s, k⟩
  · exact hold_sq (a := 7) (b := 256) (n := 128) (m := sbA d) (inbA s q) rfl (fun _ => rfl) squeezes_S1x128x512_S128x512 _ (fun j => rfl)
  · exact hold_sq (a := 3) (b := 64) (n := 64) (m := sbB d) (inbB s) rfl (fun _ => rfl) squeezes_S1x64x512_S64x512 _ (fun j => congrArg (fun r => SUMB I d s.val c (brow d c s.val + r) (j 1)) (Nat.zero_add _))
  · exact hold_sl (a := 4096) (n := 64) (m := obf) (gbOff_inb (W c) d s) (gbOff_W c d s) (fun _ => rfl) (O I)
  · exact hold_sl (a := 4096) (n := 64) (m := obf) (gaOff_inb (W c) d s k) (gaOff_W c d s k) (fun _ => rfl) (O I)

theorem dst_own (t : Tr) : owns (c : Thread nD τ) (t.dst (W (orig c t))) fullShare (srcX I (orig c t) t) ⊢ interp I c (dstRes t) := by
  rcases t with ⟨d, s, q⟩ | ⟨d, s⟩ | ⟨d, s⟩ | ⟨d, s, k⟩
  · exact (hold_sq (a := 7) (b := 256) (n := 128) (m := bufA d) (inbA s q) rfl (fun _ => rfl) squeezes_S1x128x512_S128x512 (fun n row => SUMA I d n (nxA (!d) c) (hrow d (nxA (!d) c) n + row)) (fun j => rfl)).2
  · exact (hold_sq (a := 3) (b := 64) (n := 64) (m := bufB d) (inbB s) rfl (fun _ => rfl) squeezes_S1x64x512_S64x512 (fun n row => SUMB I d n (nxB (!d) c) (brow d (nxB (!d) c) n + row))
      (fun j => congrArg (fun r => SUMB I d s.val (nxB (!d) c) (brow d (nxB (!d) c) s.val + r) (j 1)) (Nat.zero_add _))).2
  · have h := (hold_sl (F := F) (c := c) (a := 4096) (n := 64) (m := obf) (q := fullShare) (gbOff_inb (W (nxB (!d) c)) d s) (gbOff_W (nxB (!d) c) d s) (fun _ => rfl) (O I)).2
    rw [grow_nxB d c s] at h
    have hX : srcX I (orig c (.agB d s)) (.agB d s) = X2 fun r => O I (grow d c 0 (s.val + 1) + r) := by
      rw [← grow_nxB d c s]; rfl
    rw [hX]
    exact h
  · have h := (hold_sl (F := F) (c := c) (a := 4096) (n := 64) (m := obf) (q := fullShare) (gaOff_inb (W (nxA (!d) c)) d s k) (gaOff_W (nxA (!d) c) d s k) (fun _ => rfl) (O I)).2
    rw [grow_nxA d c s k] at h
    have hX : srcX I (orig c (.agA d s k)) (.agA d s k) = X2 fun r => O I (grow d c (s.val + 1) k + r) := by
      rw [← grow_nxA d c s k]; rfl
    rw [hX]
    exact h

/-! ## Transfers -/

section Steps
variable {κ : GSem nD τ sig → ℕ}

theorem i_tok (t : Tr) : interp I c (.tok t) = iprop(dutyTok ER (sCell c t) 0 0 ∗ dutyTok ER (rCell (tgt c t) t) 0 0 ∗ atPos ER (sCell c t) 0 ∅ 0 ∗ reached ER (sCell c t) 0) := rfl
theorem i_sent (t : Tr) : interp I c (.sent t) = iprop(atPos ER (sCell c t) 0 ∅ 0 ∗ cred (tallyAt (sCell c t) () (amt t))) := rfl
theorem i_wt (t : Tr) : interp I c (.wt t) = iprop(atPos ER (rCell c t) 0 ∅ 0 ∗ cred (tallyAt (rCell c t) () (amt t))) := rfl
theorem i_clS (t : Tr) : interp I c (.clS t) = semVal (sCell c t) 0 := rfl
theorem i_clR (t : Tr) : interp I c (.clR t) = semVal (rCell c t) 0 := rfl

theorem step_send (t : Tr) (rem : List Tr) (K : Code F) {Q : PUnit → sProp 𝕄} :
    iprop(Ctx I κ ∗ Owes c (Ow c (t :: rem)) ∗ interp I c (.tok t) ∗ interp I c (.land t) ∗ interp I c (srcRes t))
      ⊢ iprop(((Owes c (Ow c rem) ∗ interp I c (.sent t)) -∗ WP c K Q) -∗ WP c ((Instr.send t).prog (W c) (I.k c) (I.w c) K) Q) := by
  unfold Instr.prog WP
  iintro ⟨#HC, HO, Ht, Hl, Hs⟩ Hk
  iapply (send_tr I t (κ := κ) (c := c) (t.peer (W c)) (peer_W c t) (Ow c rem)) $$ [HO Ht Hl Hs]
  · isplitr; · iexact HC
    isplitl [Hs]; · (iapply (src_own t).1; iexact Hs)
    isplitl [Ht]; · iexact Ht
    isplitl [Hl]; · iexact Hl
    iexact HO
  iintro ⟨Hs, HO⟩
  iapply Hk
  isplitl [HO]; · iexact HO
  iexact Hs

theorem close_tr (r : Fin 2) (t : Tr) : iprop(Ctx I κ ∗ atPos ER ((c : Thread nD τ), SemLoc.dma (t.semNo r)) 1 ∅ 0) ⊢ (|={Set.univ}=> semVal ((c : Thread nD τ), SemLoc.dma (t.semNo r)) 0 : sProp 𝕄) := by
  refine close I ((c : Thread nD τ), SemLoc.dma (t.semNo r)) (tr_mem c r t) 1 fun r' hr' => ?_
  have hne : r' ≠ 0 := by omega
  show dutK r' (kindOf (.dma (t.semNo r))) = ∅
  have h2 : r = 0 ∨ r = 1 := by revert r; decide
  rcases h2 with rfl | rfl
  · rw [kind_snd]; exact if_neg hne
  · rw [kind_rcv]; exact if_neg hne

theorem step_recv (t : Tr) (rem : List Tr) (hrem : ∀ t' ∈ rem, pos t < pos t') (K : Code F) {Q : PUnit → sProp 𝕄} :
    iprop(Ctx I κ ∗ Owes c (Ow c rem) ∗ interp I c (.wt t))
      ⊢ iprop(((Owes c (Ow c rem) ∗ interp I c (.clR t) ∗ interp I c (dstRes t)) -∗ WP c K Q) -∗ WP c ((Instr.recv t).prog (W c) (I.k c) (I.w c) K) Q) := by
  rw [i_wt, i_clR]
  unfold Instr.prog WP
  iintro ⟨#HC, HO, Hat, Hc⟩ Hk
  iapply (wait_dma I (κ := κ) (c := c) (n := t.semNo 1) (R := 0) (N := amt t) (rem := rem) (sNo_lt 1 t).1 (amt_dst _ t) (by rw [kind_rcv]; rfl) (by rw [kind_rcv]; rfl)
      (by rw [kind_rcv]; exact fun t' ht' => Nat.add_lt_add_left (hrem t' ht') 2)) $$ [HO Hat Hc]
  · isplitr; · iexact HC
    isplitl [Hc]; · iexact Hc
    isplitl [HO]; · iexact HO
    iexact Hat
  iintro ⟨HO, Hat, -, Hp⟩
  iapply fupd_wp
  imod (close_tr (I := I) (κ := κ) (c := c) 1 t) $$ [Hat] with Hsem
  · isplitr; · iexact HC
    iexact Hat
  imodintro
  iapply Hk
  isplitl [HO]; · iexact HO
  isplitl [Hsem]; · iexact Hsem
  have h : pay I c 0 0 (kindOf (.dma (t.semNo 1))) ⊢ interp I c (dstRes t) := by
    rw [kind_rcv, pay_rcv]; exact dst_own t
  iapply h
  iexact Hp

theorem step_sendW (t : Tr) (rem : List Tr) (K : Code F) {Q : PUnit → sProp 𝕄} :
    iprop(Ctx I κ ∗ Owes c (Ow c rem) ∗ interp I c (.sent t))
      ⊢ iprop(((Owes c (Ow c rem) ∗ interp I c (.clS t) ∗ interp I c (srcRes t)) -∗ WP c K Q) -∗ WP c ((Instr.sendW t).prog (W c) (I.k c) (I.w c) K) Q) := by
  rw [i_sent, i_clS]
  unfold Instr.prog WP
  iintro ⟨#HC, HO, Hat, Hc⟩ Hk
  iapply (wait_dma I (κ := κ) (c := c) (n := t.semNo 0) (R := 0) (N := amt t) (rem := rem) (sNo_lt 0 t).1 (amt_src _ t) (by rw [kind_snd]; rfl) (by rw [kind_snd]; rfl)
      (by rw [kind_snd]; exact fun t' _ => (Nat.succ_pos _).trans_le (Nat.le_add_left _ _ |>.trans (Nat.add_comm _ _).le))) $$ [HO Hat Hc]
  · isplitr; · iexact HC
    isplitl [Hc]; · iexact Hc
    isplitl [HO]; · iexact HO
    iexact Hat
  iintro ⟨HO, Hat, -, Hp⟩
  iapply fupd_wp
  imod (close_tr (I := I) (κ := κ) (c := c) 0 t) $$ [Hat] with Hsem
  · isplitr; · iexact HC
    iexact Hat
  imodintro
  iapply Hk
  isplitl [HO]; · iexact HO
  isplitl [Hsem]; · iexact Hsem
  have h : pay I c 0 0 (kindOf (.dma (t.semNo 0))) ⊢ interp I c (srcRes t) := by
    rw [kind_snd, pay_snd]; exact (src_own t).2
  iapply h
  iexact Hp

/-! ## The barrier -/

theorem i_bar : interp I c .bar = iprop(atPos ER (bCell c) 0 ∅ 0 ∗ cred (tallyAt (bCell c) () 4)) := rfl
theorem i_clBar : interp I c .clBar = semVal (bCell c) 0 := rfl

/-- What the four neighbours bring: the rows where the device's own transfers land. -/
theorem bar_pay : (bigSep ((Rd I).duties (bCell c) 0 \ ∅) fun d => (Rd I).payload (bCell c) 0 d)
    ⊢ Seps I c ((barTr 0 ++ (barTr 1 ++ (barTr 2 ++ barTr 3))).map .land) := by
  have hd : (Rd I).duties (bCell c) 0 = Finset.univ := by
    show dutK 0 (kindOf (.reg barS)) = _
    rw [kind_bar]; rfl
  have hp : ∀ d, (Rd I).payload (bCell c) 0 d = Seps I c ((barTr d).map .land) := fun d => by
    show pay I c 0 d (kindOf (.reg barS)) = _
    rw [kind_bar]; rfl
  rw [Finset.sdiff_empty, hd]
  simp only [hp]
  have h4 : (bigSep Finset.univ fun d : Fin 4 => Seps I c ((barTr d).map .land)) = iprop(Seps I c ((barTr 0).map .land) ∗ Seps I c ((barTr 1).map .land) ∗ Seps I c ((barTr 2).map .land) ∗ Seps I c ((barTr 3).map .land)) := by
    have hu : (Finset.univ : Finset (Fin 4)) = insert 0 (insert 1 (insert 2 {3})) := by decide
    rw [hu, bigSep_insert (by decide), bigSep_insert (by decide), bigSep_insert (by decide), bigSep_singleton]; rfl
  rw [h4, List.map_append, List.map_append, List.map_append]
  iintro ⟨H0, H1, H2, H3⟩
  iapply (seps_append I c _ _).1
  isplitl [H0]; · iexact H0
  iapply (seps_append I c _ _).1
  isplitl [H1]; · iexact H1
  iapply (seps_append I c _ _).1
  isplitl [H2]; · iexact H2
  iexact H3

theorem step_bar (rem : List Tr) (K : Code F) {Q : PUnit → sProp 𝕄} :
    iprop(Ctx I κ ∗ Owes c (Ow c rem) ∗ interp I c .bar)
      ⊢ iprop(((Owes c (Ow c rem) ∗ interp I c .clBar ∗ Seps I c ((barTr 0 ++ (barTr 1 ++ (barTr 2 ++ barTr 3))).map .land)) -∗ WP c K Q)
        -∗ WP c (Instr.barW.prog (W c) (I.k c) (I.w c) K) Q) := by
  rw [i_bar, i_clBar]
  have hMW := ctx_may I κ c (.reg barS) rem (by
    rw [kind_bar]
    exact fun t _ => (Nat.lt_succ_self 1).trans_le (Nat.le_add_right _ _))
  have hE : (Rd I).expect (bCell c) 0 = 4 := by
    unfold Schedule.expect Schedule.amountOf
    have hd : (Rd I).duties (bCell c) 0 = Finset.univ := by
      show dutK 0 (kindOf (.reg barS)) = _
      rw [kind_bar]; rfl
    have ha : ∀ d, (Rd I).amount (bCell c) 0 d = 1 := fun d => by
      show amtK (kindOf (.reg barS)) = 1
      rw [kind_bar]; rfl
    rw [hd, Finset.sum_congr rfl fun d _ => ha d]; rfl
  unfold Instr.prog WP Owes
  iintro ⟨#HC, ⟨%Wt, HO⟩, Hat, Hc⟩ Hk
  iapply (Rounds.wp_wait_rest_token 𝒱₀ ER (Rd I) (c : Thread nD τ) none (κ := κ (bCell c))
      (wpE_semWait_eq 𝒱₀ (c : Thread nD τ) none Set.univ) (Set.mem_univ _) () (O := Ow c rem) (W := Wt) (R := 0) (m := 0) (T := ∅)
      (by rw [hE]; decide)) $$ [HO Hat Hc]
  · isplitr; · iapply (ctx_inv I κ (bar_mem c)); iexact HC
    isplitl [Hc]; · iexact Hc
    isplitl [HO]; · iexact HO
    isplitr; · iapply hMW; iexact HC
    iexact Hat
  iintro ⟨HO, Hat, -, Hp⟩
  iapply fupd_wp
  imod (close I (κ := κ) (bCell c) (bar_mem c) 1 (fun r hr => by
      show dutK r (kindOf (.reg barS)) = ∅
      rw [kind_bar]
      exact if_neg (by omega))) $$ [Hat] with Hsem
  · isplitr; · iexact HC
    iexact Hat
  imodintro
  iapply Hk
  isplitl [HO]; · iexists _; iexact HO
  isplitl [Hsem]; · iexact Hsem
  iapply bar_pay
  iexact Hp

/-! ## Copies to the result -/

/-- The block of a half chunk that holds a row, and its number in the order of the gathering. -/
def blk (d : Bool) (c : Dev nD) (g : ℕ) : Fin 4 := if d then ⟨(g + 5 - c.val % 4) % 4, Nat.mod_lt _ (by decide)⟩ else ⟨(c.val % 4 + 5 - g % 4) % 4, Nat.mod_lt _ (by decide)⟩
theorem blk_iff (d : Bool) (c : Dev nD) (g : Fin 4) (k : Fin 4) : blk d c g.val = k ↔ gb d c k = g.val := by
  revert d c g k; decide +kernel
theorem blocks (d : Bool) (u : Fin 8) (k : Fin 4) (i : S4096x512.Idx) :
    i ∈ (rows (grow d c u k) 64 : Finset S4096x512.Idx) ↔ i ∈ (rows (erow d c u) 256 : Finset S4096x512.Idx) ∧ blk d c (((i 0).val - erow d c u) / 64) = k := by
  have hg := gb_lt d c k
  constructor
  · intro h
    have h1 := (rows_iff (a := 4096) i).mp h
    unfold grow at h1
    refine ⟨(rows_iff (a := 4096) i).mpr (by omega), ?_⟩
    have e : ((i 0).val - erow d c u) / 64 = gb d c k := by omega
    rw [e]
    exact (blk_iff d c ⟨gb d c k, hg⟩ k).mpr rfl
  · rintro ⟨h, hk⟩
    have h1 := (rows_iff (a := 4096) i).mp h
    have e := (blk_iff d c ⟨((i 0).val - erow d c u) / 64, by omega⟩ k).mp hk
    have e' : gb d c k = ((i 0).val - erow d c u) / 64 := e
    refine (rows_iff (a := 4096) i).mpr ?_
    unfold grow
    omega

theorem blocks4 (d : Bool) (u : Fin 8) : (bigSep Finset.univ fun k : Fin 4 => interp I c (.obfE d u k))
    = iprop(interp I c (.obfE d u 0) ∗ interp I c (.obfE d u 1) ∗ interp I c (.obfE d u 2) ∗ interp I c (.obfE d u 3)) := by
  have hu : (Finset.univ : Finset (Fin 4)) = insert 0 (insert 1 (insert 2 {3})) := by decide
  rw [hu, bigSep_insert (by decide), bigSep_insert (by decide), bigSep_insert (by decide), bigSep_singleton]; rfl
theorem blocks_join (d : Bool) (u : Fin 8) : iprop(interp I c (.obfE d u 0) ∗ interp I c (.obfE d u 1) ∗ interp I c (.obfE d u 2) ∗ interp I c (.obfE d u 3))
    ⊢ Hold c obf (rows (erow d c u) 256) fullShare.left (obfX I) := by
  rw [← blocks4]
  exact hold_join c obf (K := fun k : Fin 4 => rows (grow d c u k) 64) (fun i => blk d c (((i 0).val - erow d c u) / 64)) (fun k i => blocks d u k i) _ _
theorem blocks_split (d : Bool) (u : Fin 8) : Hold c obf (rows (erow d c u) 256) fullShare.left (obfX I)
    ⊢ iprop(interp I c (.obfE d u 0) ∗ interp I c (.obfE d u 1) ∗ interp I c (.obfE d u 2) ∗ interp I c (.obfE d u 3)) := by
  rw [← blocks4]
  exact hold_split c obf (K := fun k : Fin 4 => rows (grow d c u k) 64) (fun i => blk d c (((i 0).val - erow d c u) / 64)) (fun k i => blocks d u k i) _ _

theorem out_own (d : Bool) (u : Fin 8) : owns (c : Thread nD τ) (outR (W c) d u) fullShare (X2 (a := 256) fun r => Res0 I (erow d c u + r)) ⊢ interp I c (.outF d u) := by
  rw [i_outF]
  refine (hold_sq (a := 4) (b := 1024) (n := 256) (m := outM) (outOff_inb (W c) d u) (outOff_W c d u) (fun _ => rfl) squeezes_S1x256x512_S256x512 (fun b r => Res0 I (1024 * b + r)) (fun j => ?_)).2
  refine congrArg (fun g => Res0 I g (j 1)) ?_
  unfold erow
  omega
theorem out_some (d : Bool) (u : Fin 8) : interp I c (.outU d u) ⊢ Some' c (outR (W c) d u) := by
  rw [i_outU]
  exact (holdE_squeeze (fun _ => rfl) squeezes_S1x256x512_S256x512 (fun i => mem_slab (a := 4) (b := 1024) (outOff_inb (W c) d u) (outOff_W c d u) rfl i)).1

/-- Starting the copy of a half chunk. -/
theorem step_emit (d : Bool) (u : Fin 8) (h : rnd d u < 5) (K : Code F) {Q : PUnit → sProp 𝕄} :
    iprop(Ctx I κ ∗ (interp I c (.obfE d u 0) ∗ interp I c (.obfE d u 1) ∗ interp I c (.obfE d u 2) ∗ interp I c (.obfE d u 3)) ∗ interp I c (.stU (slot d u)) ∗ interp I c (.outU d u)
        ∗ interp I c (.cpTok d u) ∗ interp I c (.cpP (slot d u) ⟨rnd d u, h⟩))
      ⊢ iprop((((interp I c (.obfE d u 0) ∗ interp I c (.obfE d u 1) ∗ interp I c (.obfE d u 2) ∗ interp I c (.obfE d u 3)) ∗ interp I c (.stW d u)) -∗ WP c K Q)
        -∗ WP c ((Instr.emit d u).prog (W c) (I.k c) (I.w c) K) Q) := by
  rw [i_stU, i_cpP, show interp I c (.cpTok d u) = dutyTok ER (cCell c (slot d u)) (rnd d u) 0 from rfl,
    show interp I c (.stW d u) = iprop(atPos ER (cCell c (slot d u)) (rnd d u) ∅ 0 ∗ cred (tallyAt (cCell c (slot d u)) () cAmt)) from rfl]
  unfold Instr.prog WP
  iintro ⟨#HC, Ho, Hst, Hout, Htok, Hat, #Hr⟩ Hk
  ihave Ho := (blocks_join (I := I) (c := c) d u) $$ Ho
  have hmo := emb_rows (emOff_inb (W c) d u) (emOff_W c d u) (n := 256) rfl (le_refl _) (le_refl _)
  iapply (hold_load (X := obfX I) hmo) $$ Ho
  iintro Ho
  have hms := emb_slab (a := 4) (b := 256) (inbStg (slot d u)) rfl (n := 256) rfl (le_refl 0) (le_refl _)
  iapply (holdE_load (fun _ => rfl) hms) $$ Hst
  iintro Hst
  iapply (holdE_store (Y := stX I d c u) hms (fun i => by
      refine ((x3_emb (a := 4) (b := 256) (n := 256) (inbStg (slot d u)) rfl _ i).trans ?_).trans (pay90_apply _ _).symm
      have e1 := x2_emb (a := 4096) (n := 256) (emOff_inb (W c) d u) (emOff_W c d u) rfl (O I) (ix2 (n0 := 256) (n1 := 512) (i 1) (i 2))
      refine Eq.trans ?_ (congrArg wid e1.symm)
      exact congrArg (fun r => wid (O I (erow d c u + r) (i 2))) (Nat.zero_add _)) (fun i hi => (mem_slab (inbStg (slot d u)) rfl rfl i).mp hi)) $$ Hst
  iintro Hst
  have hsrc : (Hold c stg (slab (slot d u) 0 256) fullShare (stX I d c u) : sProp 𝕄) ⊢ owns (c : Thread nD τ) (stgM (slot d u)) fullShare (X2 (a := 256) fun r => Res0 I (erow d c u + r)) :=
    (hold_sq (a := 4) (b := 256) (n := 256) (m := stg) (inbStg (slot d u)) rfl (fun _ => rfl) squeezes_S1x256x512_S256x512 (fun _ r => Res0 I (erow d c u + r))
      (fun j => congrArg (fun r => Res0 I (erow d c u + r) (j 1)) (Nat.zero_add _))).1
  ihave Hs := hsrc $$ Hst
  ihave Hd := (out_some (I := I) (c := c) d u) $$ Hout
  have hback : (Some' c (stgM (slot d u)) : sProp 𝕄) ⊢ interp I c (.stU (slot d u)) :=
    (holdE_squeeze (fun _ => rfl) squeezes_S1x256x512_S256x512 (fun i => mem_slab (a := 4) (b := 256) (inbStg (slot d u)) rfl rfl i)).2
  unfold owns Some'
  icases Hs with ⟨%fs, %hfs, Hs⟩
  icases Hd with ⟨%fd, Hd⟩
  iapply (Rounds.wp_copy_pointsTo 𝒱₀ ER (Rd I) (c : Thread nD τ) none (κ := κ (cCell c (slot d u))) (r := rnd d u) (d := 0) (fs := fs) (fd := fd) (q := fullShare)
    (show (0 : Fin 4) ∈ dutK (rnd d u) (kindOf (.dma (cpSem (slot d u)))) by
      rw [kind_cp]
      show (0 : Fin 4) ∈ (if rnd d u < 4 then ({0} : Finset (Fin 4)) else ∅)
      rw [if_pos (rnd_lt d u)]; exact Finset.mem_singleton_self _)
    () cAmt (cAmt_eq (W c) d u) (show amtK (kindOf (.dma (cpSem (slot d u)))) = cAmt by rw [kind_cp]; rfl)
    (show _ ⊢ pay I c (rnd d u) 0 (kindOf (.dma (cpSem (slot d u)))) by
      rw [kind_cp]
      show _ ⊢ iprop(interp I c (.stU (slot d u)) ∗ interp I c (.outF (cpD (slot d u)) (cpU (slot d u) (rnd d u))))
      rw [cpD_slot, cpU_slot]
      iintro ⟨Hd, Hs⟩
      isplitl [Hs]
      · iapply hback
        unfold Some'
        iexists fs
        iexact Hs
      · iapply (out_own (I := I) (c := c) d u)
        unfold owns
        iexists ((outR (W c) d u).view.write (Elt F) fd ((stgM (slot d u)).view.read (Elt F) fs) Finset.univ)
        isplitr
        · ipureintro; exact (View.read_write_univ _ _).trans hfs
        iexact Hd)) $$ [Hs Hd Htok]
  · isplitr; · iapply (ctx_inv I κ (cp_mem c (slot d u))); iexact HC
    isplitl [Hs]; · iexact Hs
    isplitl [Hd]; · iexact Hd
    isplitl [Htok]; · iexact Htok
    iexact Hr
  iintro Hc
  iapply Hk
  isplitl [Ho]
  · iapply (blocks_split (I := I) (c := c) d u); iexact Ho
  isplitl [Hat]; · iexact Hat
  iexact Hc

/-- The wait for it. -/
theorem step_emitW (d : Bool) (u : Fin 8) (h : rnd d u + 1 < 5) (rem : List Tr) (K : Code F) {Q : PUnit → sProp 𝕄} :
    iprop(Ctx I κ ∗ Owes c (Ow c rem) ∗ interp I c (.stW d u))
      ⊢ iprop(((Owes c (Ow c rem) ∗ interp I c (.stU (slot d u)) ∗ interp I c (.outF d u) ∗ interp I c (.cpP (slot d u) ⟨rnd d u + 1, h⟩)) -∗ WP c K Q)
        -∗ WP c ((Instr.emitW d u).prog (W c) (I.k c) (I.w c) K) Q) := by
  rw [i_cpP, show interp I c (.stW d u) = iprop(atPos ER (cCell c (slot d u)) (rnd d u) ∅ 0 ∗ cred (tallyAt (cCell c (slot d u)) () cAmt)) from rfl]
  unfold Instr.prog WP
  iintro ⟨#HC, HO, Hat, Hc⟩ Hk
  iapply (wait_dma I (κ := κ) (c := c) (n := cpSem (slot d u)) (R := rnd d u) (N := cAmt) (rem := rem) (Nat.le_add_right_of_le (by decide)) (cAmt_eq (W c) d u)
      (by rw [kind_cp]; exact if_pos (rnd_lt d u)) (by rw [kind_cp]; rfl)
      (by rw [kind_cp]; exact fun t' _ => (Nat.succ_pos 1).trans_le (Nat.le_add_right _ _))) $$ [HO Hat Hc]
  · isplitr; · iexact HC
    isplitl [Hc]; · iexact Hc
    isplitl [HO]; · iexact HO
    iexact Hat
  iintro ⟨HO, Hat, Hr, Hp⟩
  iapply Hk
  isplitl [HO]; · iexact HO
  have h : pay I c (rnd d u) 0 (kindOf (.dma (cpSem (slot d u)))) ⊢ iprop(interp I c (.stU (slot d u)) ∗ interp I c (.outF d u)) := by
    rw [kind_cp]
    show iprop(interp I c (.stU (slot d u)) ∗ interp I c (.outF (cpD (slot d u)) (cpU (slot d u) (rnd d u)))) ⊢ _
    rw [cpD_slot, cpU_slot]
  ihave Hp := h $$ Hp
  icases Hp with ⟨Hs, Ho⟩
  isplitl [Hs]; · iexact Hs
  isplitl [Ho]; · iexact Ho
  isplitl [Hat]; · iexact Hat
  iexact Hr

end Steps

end Cert.KernelIdeal.Conv

end
-- ==== Proof.Steps.lean ====
/-
  The steps together: what each needs and leaves, and the whole list of them, checked by following the set of the pieces that a device holds.
-/
module

public import proofs.«01_k».proof.Proof.Comm

@[expose] public section

noncomputable section

namespace Cert.KernelIdeal.Conv

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What a step needs and leaves -/

/-- The landing zones that the barrier brings. -/
def lands : List Res := (barTr 0 ++ (barTr 1 ++ (barTr 2 ++ barTr 3))).map .land

def Instr.pre : Instr → List Res
  | .comp d j => [.pad, .partU d j]
  | .compSt d => [.pad, .partU d 0, .srcU (.rsA d 0 0), .srcU (.rsA d 0 1)]
  | .barW => [.bar]
  | .send t => [.tok t, .land t, srcRes t]
  | .recv t => [.wt t]
  | .sendW t => [.sent t]
  | .relayA d s q => [.partP d ⟨s.val + 1, by omega⟩, .bufF (.rsA d s.castSucc q), .srcU (.rsA d s.succ q)]
  | .lastA d 0 => [.partP d 7, .bufF (.rsA d 6 0)]
  | .lastA d 1 => [.partQ d, .bufF (.rsA d 6 1)]
  | .stageB d => [.partA d, .srcU (.rsB d 0)]
  | .relayB d s => [.partA d, .bufF (.rsB d s.castSucc), .srcU (.rsB d s.succ)]
  | .lastB d => [.partA d, .bufF (.rsB d 2)]
  | .own d => [.partB d, .obfU d]
  | .emit d u => [.obfE d u 0, .obfE d u 1, .obfE d u 2, .obfE d u 3, .stU (slot d u), .outU d u, .cpTok d u, .cpP (slot d u) ⟨rnd d u, (rnd_lt d u).trans (by decide)⟩]
  | .emitW d u => [.stW d u]
  | .cutQ _ => []
  | .cutB _ => []
  | .share d u k => [.obfF d u k]
  | .unshare d u k => [.obfE d u k, .obfA d u k, .obfB d u k]

def Instr.post : Instr → List Res
  | .comp d j => [.pad, .partP d j]
  | .compSt d => [.pad, .partP d 0, .srcF (.rsA d 0 0), .srcF (.rsA d 0 1)]
  | .barW => .clBar :: lands
  | .send t => [.sent t]
  | .recv t => [.clR t, dstRes t]
  | .sendW t => [.clS t, srcRes t]
  | .relayA d s q => [.partP d ⟨s.val + 1, by omega⟩, .bufF (.rsA d s.castSucc q), .srcF (.rsA d s.succ q)]
  | .lastA d 0 => [.partQ d, .bufF (.rsA d 6 0)]
  | .lastA d 1 => [.partA d, .bufF (.rsA d 6 1)]
  | .stageB d => [.partA d, .srcF (.rsB d 0)]
  | .relayB d s => [.partA d, .bufF (.rsB d s.castSucc), .srcF (.rsB d s.succ)]
  | .lastB d => [.partB d, .bufF (.rsB d 2)]
  | .own d => [.partB d, .obfF d 0 0]
  | .emit d u => [.obfE d u 0, .obfE d u 1, .obfE d u 2, .obfE d u 3, .stW d u]
  | .emitW d u => [.stU (slot d u), .outF d u, .cpP (slot d u) ⟨rnd d u + 1, Nat.succ_lt_succ (rnd_lt d u)⟩]
  | .cutQ _ => []
  | .cutB _ => []
  | .share d u k => [.obfE d u k, .obfA d u k, .obfB d u k]
  | .unshare d u k => [.obfF d u k]

/-- The transfers still to send after a step, if the step may run: a transfer is sent in its place, and waited for only when everything still to send comes later. -/
def Instr.next : Instr → List Tr → Option (List Tr)
  | .send t, l => match l with
    | [] => none
    | t' :: l => if t = t' then some l else none
  | .recv t, l => if l.all (fun t' => Nat.blt (pos t) (pos t')) then some l else none
  | _, l => some l

theorem two : ∀ q : Fin 2, q = 0 ∨ q = 1 := by decide

section Step
variable {I : Inp F} {c : Dev nD} {κ : GSem nD τ sig → ℕ}

omit [FloatOps F] in
theorem sepE (P : sProp 𝕄) : iprop(P ∗ emp) = P := equiv_iff.mp Idealize.SL.BI.sep_emp

theorem seps1 (a : Res) : Seps I c [a] = interp I c a := by rw [seps_cons, seps_nil, sepE]
theorem seps2 (a b : Res) : Seps I c [a, b] = iprop(interp I c a ∗ interp I c b) := by rw [seps_cons, seps1]
theorem seps3 (a b d : Res) : Seps I c [a, b, d] = iprop(interp I c a ∗ interp I c b ∗ interp I c d) := by rw [seps_cons, seps2]
theorem seps4 (a b d e : Res) : Seps I c [a, b, d, e] = iprop(interp I c a ∗ interp I c b ∗ interp I c d ∗ interp I c e) := by rw [seps_cons, seps3]

/-- A step that touches nothing but its pieces. -/
theorem lift_local {Pre Post : sProp 𝕄} {Z K : Code F} {Q : PUnit → sProp 𝕄} (O : CellTallies nD τ sig Unit)
    (h : Pre ⊢ iprop((Post -∗ WP c K Q) -∗ WP c Z Q)) :
    iprop(Ctx I κ ∗ Owes c O ∗ Pre) ⊢ iprop(((Owes c O ∗ Post) -∗ WP c K Q) -∗ WP c Z Q) := by
  iintro ⟨-, HO, HP⟩ Hk
  iapply h $$ HP
  iintro HP
  iapply Hk
  isplitl [HO]; · iexact HO
  iexact HP

/-- One step. -/
theorem step (i : Instr) (rem rem' : List Tr) (hn : i.next rem = some rem') (K : Code F) {Q : PUnit → sProp 𝕄} :
    iprop(Ctx I κ ∗ Owes c (Ow c rem) ∗ Seps I c i.pre)
      ⊢ iprop(((Owes c (Ow c rem') ∗ Seps I c i.post) -∗ WP c K Q) -∗ WP c (i.prog (W c) (I.k c) (I.w c) K) Q) := by
  cases i with
  | comp d j =>
    obtain rfl := Option.some.inj hn
    unfold Instr.pre Instr.post; rw [seps2, seps2]
    exact lift_local _ (step_comp d j K)
  | compSt d =>
    obtain rfl := Option.some.inj hn
    unfold Instr.pre Instr.post; rw [seps4, seps4]
    exact lift_local _ (step_compSt d K)
  | barW =>
    obtain rfl := Option.some.inj hn
    unfold Instr.pre Instr.post; rw [seps1, seps_cons]
    exact step_bar rem K
  | send t =>
    unfold Instr.next at hn
    cases rem with
    | nil => cases hn
    | cons t' l =>
      dsimp only at hn
      split at hn
      · next h =>
        subst h
        obtain rfl := Option.some.inj hn
        unfold Instr.pre Instr.post; rw [seps3, seps1]
        exact step_send t l K
      · cases hn
  | recv t =>
    replace hn : (if rem.all (fun t' => Nat.blt (pos t) (pos t')) then some rem else none) = some rem' := hn
    split at hn
    · next h =>
      obtain rfl := Option.some.inj hn
      unfold Instr.pre Instr.post; rw [seps1, seps2]
      exact step_recv t rem (fun t' ht' => Nat.blt_eq.mp (List.all_eq_true.mp h t' ht')) K
    · cases hn
  | sendW t =>
    obtain rfl := Option.some.inj hn
    unfold Instr.pre Instr.post; rw [seps1, seps2]
    exact step_sendW t rem K
  | relayA d s q =>
    obtain rfl := Option.some.inj hn
    unfold Instr.pre Instr.post; rw [seps3, seps3]
    exact lift_local _ (step_relayA d s q K)
  | lastA d q =>
    obtain rfl := Option.some.inj hn
    have h2 : q = 0 ∨ q = 1 := two q
    rcases h2 with rfl | rfl
    · show iprop(Ctx I κ ∗ Owes c (Ow c rem) ∗ Seps I c [.partP d 7, .bufF (.rsA d 6 0)])
        ⊢ iprop(((Owes c (Ow c rem) ∗ Seps I c [.partQ d, .bufF (.rsA d 6 0)]) -∗ WP c K Q) -∗ WP c ((Instr.lastA d 0).prog (W c) (I.k c) (I.w c) K) Q)
      rw [seps2, seps2]
      exact lift_local _ (step_lastA0 d K)
    · show iprop(Ctx I κ ∗ Owes c (Ow c rem) ∗ Seps I c [.partQ d, .bufF (.rsA d 6 1)])
        ⊢ iprop(((Owes c (Ow c rem) ∗ Seps I c [.partA d, .bufF (.rsA d 6 1)]) -∗ WP c K Q) -∗ WP c ((Instr.lastA d 1).prog (W c) (I.k c) (I.w c) K) Q)
      rw [seps2, seps2]
      exact lift_local _ (step_lastA1 d K)
  | stageB d =>
    obtain rfl := Option.some.inj hn
    unfold Instr.pre Instr.post; rw [seps2, seps2]
    exact lift_local _ (step_stageB d K)
  | relayB d s =>
    obtain rfl := Option.some.inj hn
    unfold Instr.pre Instr.post; rw [seps3, seps3]
    exact lift_local _ (step_relayB d s K)
  | lastB d =>
    obtain rfl := Option.some.inj hn
    unfold Instr.pre Instr.post; rw [seps2, seps2]
    exact lift_local _ (step_lastB d K)
  | own d =>
    obtain rfl := Option.some.inj hn
    unfold Instr.pre Instr.post; rw [seps2, seps2]
    exact lift_local _ (step_own d K)
  | emit d u =>
    obtain rfl := Option.some.inj hn
    unfold Instr.pre Instr.post
    simp only [seps_cons, seps_nil]
    iintro ⟨#HC, HO, H0, H1, H2, H3, Hs, Hu, Ht, Hc, -⟩ Hk
    iapply (step_emit (I := I) (c := c) (κ := κ) d u ((rnd_lt d u).trans (by decide)) K) $$ [H0 H1 H2 H3 Hs Hu Ht Hc]
    · isplitr; · iexact HC
      isplitl [H0 H1 H2 H3]
      · isplitl [H0]; · iexact H0
        isplitl [H1]; · iexact H1
        isplitl [H2]; · iexact H2
        iexact H3
      isplitl [Hs]; · iexact Hs
      isplitl [Hu]; · iexact Hu
      isplitl [Ht]; · iexact Ht
      iexact Hc
    iintro ⟨⟨H0, H1, H2, H3⟩, Hw⟩
    iapply Hk
    isplitl [HO]; · iexact HO
    isplitl [H0]; · iexact H0
    isplitl [H1]; · iexact H1
    isplitl [H2]; · iexact H2
    isplitl [H3]; · iexact H3
    isplitl [Hw]; · iexact Hw
    iempintro
  | emitW d u =>
    obtain rfl := Option.some.inj hn
    unfold Instr.pre Instr.post; rw [seps1, seps3]
    exact step_emitW d u (Nat.succ_lt_succ (rnd_lt d u)) rem K
  | cutQ d =>
    obtain rfl := Option.some.inj hn
    iintro ⟨-, H⟩ Hk
    iapply Hk; iexact H
  | cutB d =>
    obtain rfl := Option.some.inj hn
    iintro ⟨-, H⟩ Hk
    iapply Hk; iexact H
  | share d u k =>
    obtain rfl := Option.some.inj hn
    unfold Instr.pre Instr.post; rw [seps1, seps3]
    refine lift_local _ ?_
    iintro H Hk
    iapply Hk; iapply (share_split (I := I) (c := c) d u k); iexact H
  | unshare d u k =>
    obtain rfl := Option.some.inj hn
    unfold Instr.pre Instr.post; rw [seps1, seps3]
    refine lift_local _ ?_
    iintro H Hk
    iapply Hk; iapply (share_join (I := I) (c := c) d u k); iexact H

end Step

/-! ## The whole list -/

/-- The set of the pieces and the transfers still to send, after a list of steps. -/
def exec : List Instr → ℕ → List Tr → Option (ℕ × List Tr)
  | [], A, rem => some (A, rem)
  | i :: l, A, rem => (takeAll A i.pre).bind fun A => (putAll A i.post).bind fun A => (i.next rem).bind fun rem => exec l A rem

theorem exec_cons (i : Instr) (l : List Instr) (A : ℕ) (rem : List Tr) :
    exec (i :: l) A rem = (takeAll A i.pre).bind fun A => (putAll A i.post).bind fun A => (i.next rem).bind fun rem => exec l A rem := rfl

theorem run_wp {I : Inp F} {c : Dev nD} {κ : GSem nD τ sig → ℕ} (K : Code F) {Q : PUnit → sProp 𝕄} (l : List Instr) : ∀ (A : ℕ) (rem : List Tr) (A' : ℕ) (rem' : List Tr), exec l A rem = some (A', rem') →
    (iprop(Ctx I κ ∗ Owes c (Ow c rem) ∗ St I c A)
      ⊢ iprop(((Owes c (Ow c rem') ∗ St I c A') -∗ WP c K Q) -∗ WP c (run (W c) (I.k c) (I.w c) K l) Q)) := by
  induction l with
  | nil =>
    intro A rem A' rem' h
    have h' := Option.some.inj h
    obtain rfl : A = A' := congrArg Prod.fst h'
    obtain rfl : rem = rem' := congrArg Prod.snd h'
    unfold run
    iintro ⟨-, H⟩ Hk
    iapply Hk; iexact H
  | cons i l ih =>
    intro A rem A' rem' h
    rw [exec_cons] at h
    obtain ⟨A1, h1, h⟩ := Option.bind_eq_some_iff.mp h
    obtain ⟨A2, h2, h⟩ := Option.bind_eq_some_iff.mp h
    obtain ⟨rem1, h3, h⟩ := Option.bind_eq_some_iff.mp h
    unfold run
    iintro ⟨#HC, HO, HA⟩ Hk
    ihave HA := (st_takeAll I c h1) $$ HA
    icases HA with ⟨Hp, HA⟩
    iapply (step (I := I) (c := c) (κ := κ) i rem rem1 h3 (run (W c) (I.k c) (I.w c) K l)) $$ [HO Hp]
    · isplitr; · iexact HC
      isplitl [HO]; · iexact HO
      iexact Hp
    iintro ⟨HO, Hp⟩
    iapply (ih A2 rem1 A' rem' h) $$ [HO Hp HA]
    · isplitr; · iexact HC
      isplitl [HO]; · iexact HO
      iapply (st_putAll I c h2)
      isplitl [Hp] <;> iassumption
    iexact Hk

/-! ## The pieces at the start and at the end -/

abbrev f8 : List (Fin 8) := [0, 1, 2, 3, 4, 5, 6, 7]
abbrev fb : List Bool := [false, true]
abbrev trs : List Tr := barTr 0 ++ (barTr 1 ++ (barTr 2 ++ barTr 3))
/-- The transfers that read and land in slots of their own. -/
abbrev trR : List Tr := (fb.flatMap fun d => f7.flatMap fun s => f2.map fun q => .rsA d s q) ++ fb.flatMap fun d => f3.map fun s => .rsB d s
def prod8 (f : Bool → Fin 8 → Res) : List Res := fb.flatMap fun d => f8.map fun u => f d u

def initList : List Res :=
  trs.map .tok ++ (trs.map .wt ++ (trR.map .srcU ++ (prod8 .partU ++ (fb.map .obfU ++ (prod8 .outU ++ (f4.map .stU ++ (prod8 .cpTok ++ (f4.map (fun i => .cpP i 0) ++ [.bar, .pad]))))))))
def finalList : List Res :=
  trs.map .clS ++ (trs.map .clR ++ (trR.map .srcF ++ (trR.map .bufF ++ ((fb.flatMap fun d => f7.map fun j => .partP d j.castSucc) ++ (fb.map .partB
    ++ ((fb.flatMap fun d => f8.flatMap fun u => f4.map fun k => .obfF d u k) ++ (prod8 .outF ++ (f4.map .stU ++ (f4.map (fun i => .cpP i 4) ++ [.clBar, .pad])))))))))
/-- The transfers in the order in which they are sent. -/
def sends : List Tr := code.filterMap fun i => match i with
  | .send t => some t
  | _ => none
def mask (l : List Res) : ℕ := (putAll 0 l).getD 0

set_option maxRecDepth 100000 in
theorem init_mask : putAll 0 initList = some (mask initList) := by decide +kernel
set_option maxRecDepth 100000 in
theorem final_mask : takeAll (mask finalList) finalList = some 0 := by decide +kernel
set_option maxRecDepth 100000 in
/-- The steps run from the pieces at the start to those at the end, sending all the transfers. -/
theorem exec_code : exec code (mask initList) sends = some (mask finalList, []) := by decide +kernel

end Cert.KernelIdeal.Conv

end
-- ==== Proof.Prologue.lean ====
/-
  The steps before the first product: the table's words, the four signals, and the padded input.
-/
module

public import proofs.«01_k».proof.Proof.Steps

@[expose] public section

noncomputable section

namespace Cert.KernelIdeal.Conv

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The table's words -/

/-- The table. -/
def tabX : S6x32.Idx → Elt F .i32 := fun i => lit0 (S6x32.rowMajor i)

abbrev first1 : S1x1.Idx := Shape.Idx.first (numel1_S1x1.symm ▸ Nat.one_pos)
theorem tab1 (c : Dev nD) : lit0 (S6x32.rowMajor ((Rect.unit (s := S6x32) (k0_off1 c) S1x1.size (k0_off1_inb c)).emb first1)) = (W c).v4 := by revert c; decide +kernel
theorem tab2 (c : Dev nD) : lit0 (S6x32.rowMajor ((Rect.unit (s := S6x32) (k0_off2 c) S1x1.size (k0_off2_inb c)).emb first1)) = (W c).v6 := by revert c; decide +kernel
theorem tab3 (c : Dev nD) : lit0 (S6x32.rowMajor ((Rect.unit (s := S6x32) (k0_off3 c) S1x1.size (k0_off3_inb c)).emb first1)) = (W c).v8 := by revert c; decide +kernel
theorem tab4 (c : Dev nD) : lit0 (S6x32.rowMajor ((Rect.unit (s := S6x32) (k0_off4 c) S1x1.size (k0_off4_inb c)).emb first1)) = (W c).v10 := by revert c; decide +kernel
theorem tab5 (c : Dev nD) : lit0 (S6x32.rowMajor ((Rect.unit (s := S6x32) (k0_off5 c) S1x1.size (k0_off5_inb c)).emb first1)) = (W c).v12 := by revert c; decide +kernel
theorem tab6 (c : Dev nD) : lit0 (S6x32.rowMajor ((Rect.unit (s := S6x32) (k0_off6 c) S1x1.size (k0_off6_inb c)).emb first1)) = (W c).v14 := by revert c; decide +kernel

section Pro
variable {I : Inp F} {c : Dev nD} {κ : GSem nD τ sig → ℕ}

theorem word_step {off : Dev nD → Fin 2 → ℕ} {d : Dev nD} {inb : ∀ a, off d a + S1x1.size a ≤ S6x32.size a} {K : BitVec 32 → Code F} {v : BitVec 32} {Q : PUnit → sProp 𝕄}
    (hv : lit0 (S6x32.rowMajor ((Rect.unit (s := S6x32) (off d) S1x1.size inb).emb first1)) = v) :
    Hold c tabM Finset.univ fullShare (tabX (F := F)) ⊢ iprop((Hold c tabM Finset.univ fullShare (tabX (F := F)) -∗ WP c (K v) Q) -∗ WP c (word off d inb K) Q) := by
  subst hv
  unfold word smemLoadElt WP
  iintro H Hk
  iapply (hold_load (X := tabX (F := F)) (fun _ => Finset.mem_univ _)) $$ H
  iexact Hk

theorem check_step {p : Prop} {hp : Decidable p} {K : p → Code F} {Q : PUnit → sProp 𝕄} (h : p) : WP c (check p hp K) Q = WP c (K h) Q := by
  unfold check WP; exact wp_assume_of 𝒱₀ (c : Thread nD τ) none Set.univ h

/-- The table gives each device its words. -/
theorem read_step (K : Words → Code F) {Q : PUnit → sProp 𝕄} :
    Hold c tabM Finset.univ fullShare (tabX (F := F)) ⊢ iprop((Hold c tabM Finset.univ fullShare (tabX (F := F)) -∗ WP c (K (W c)) Q) -∗ WP c (readWords K) Q) := by
  unfold readWords
  rw [show ∀ k : Dev nD → Code F, WP c (.op .deviceId k) Q = WP c (k c) Q from fun k => wp_deviceId (defs := defs₀ (F := F)) 𝒱₀ (c : Thread nD τ) none Set.univ]
  iintro H Hk
  iapply (word_step (tab1 c)) $$ H; iintro H
  rw [check_step (W c).h5]
  iapply (word_step (tab2 c)) $$ H; iintro H
  rw [check_step (W c).h1]
  iapply (word_step (tab3 c)) $$ H; iintro H
  rw [check_step (W c).h2]
  iapply (word_step (tab4 c)) $$ H; iintro H
  rw [check_step (W c).h6]
  iapply (word_step (tab5 c)) $$ H; iintro H
  rw [check_step (W c).h3]
  iapply (word_step (tab6 c)) $$ H; iintro H
  rw [check_step (W c).h4]
  iapply Hk; iexact H

/-! ## The signals -/

/-- What device `c` gives its neighbour `δ`: the neighbour's duty, with its own landing rows. -/
def Sig (I : Inp F) (c : Dev nD) (δ : Fin 4) : sProp 𝕄 :=
  iprop(dutyTok ER (bCell (nb δ c)) 0 (opp δ) ∗ Seps I (nb δ c) ((barTr (opp δ)).map .land))

theorem signal_step (δ : Fin 4) (n : Dev nD) (hn : n = nb δ c) (O : CellTallies nD τ sig Unit) (K : Code F) {Q : PUnit → sProp 𝕄} :
    iprop(Ctx I κ ∗ Owes c (O + tallyAt (bCell (nb δ c)) () 1) ∗ Sig I c δ) ⊢ iprop((Owes c O -∗ WP c K Q) -∗ WP c (signal n K) Q) := by
  subst hn
  unfold signal WP Owes Sig
  iintro ⟨#HC, ⟨%Wt, HO⟩, Ht, Hp⟩ Hk
  iapply (Rounds.wp_signal 𝒱₀ ER (Rd I) (c : Thread nD τ) none (dst := (nb δ c : Thread nD τ)) (κ := κ (bCell (nb δ c))) (r := 0) (d := opp δ)
      (show opp δ ∈ dutK 0 (kindOf (.reg barS)) by rw [kind_bar]; exact Finset.mem_univ _)
      ((show amtK (kindOf (.reg barS)) = 1 by rw [kind_bar]; rfl).trans (by decide)) () O rfl) $$ [HO Ht Hp]
  · isplitr; · iapply (ctx_inv I κ (bar_mem (nb δ c))); iexact HC
    isplitl [HO]; · iexact HO
    isplitl [Ht]; · iexact Ht
    isplitl [Hp]
    · have h : Seps I (nb δ c) ((barTr (opp δ)).map .land) ⊢ (Rd I).payload ((nb δ c : Thread nD τ), .reg barS) 0 (opp δ) := by
        show _ ⊢ pay I (nb δ c) 0 (opp δ) (kindOf (.reg barS))
        rw [kind_bar]; exact .rfl
      iapply h; iexact Hp
    iapply (ctx_bar I κ (nb δ c)); iexact HC
  iintro HO
  iapply Hk
  iexists Wt; iexact HO

/-! ## The padded input -/

/-- The input by batch, row and column. -/
def xG (I : Inp F) (c : Dev nD) (b r : ℕ) (col : Fin 512) : Elt F .f32 := I.x c (ix3 (n0 := 4) (n1 := 1024) (n2 := 512) (wrap 4 b (by decide)) (wrap 1024 r (by decide)) col)
theorem x_eq : I.x c = X3 (xG I c) := by
  funext i
  refine congrArg (I.x c) (funext fun a => ?_)
  match a with
  | ⟨0, _⟩ => exact Fin.ext (Nat.mod_eq_of_lt (i 0).isLt).symm
  | ⟨1, _⟩ => exact Fin.ext (Nat.mod_eq_of_lt (i 1).isLt).symm
  | ⟨2, _⟩ => rfl
theorem pad_zero (b : ℕ) (r : ℕ) (hr : r < 8) (col : Fin 512) : padAt I c b r col = Scalar.ofBits .f32 0x00000000#32 := if_pos hr
theorem pad_x (b r : ℕ) (col : Fin 512) : padAt I c b (8 + r) col = xG I c b r col := by
  unfold padAt xG
  rw [if_neg (by omega), Nat.add_sub_cancel_left]

theorem pay3_apply (j : S1x8x512.Idx) : k0_pay3 (F := F) j = Scalar.ofBits .f32 0x00000000#32 := rfl

/-- What starting batch `b`'s copy needs. -/
def XPre (I : Inp F) (c : Dev nD) (b : Fin 4) : sProp 𝕄 :=
  iprop(HoldE c pad (slab b 0 8) ∗ HoldE c pad (slab b 8 1024) ∗ Hold c xM (slab b 0 1024) fullShare (I.x c) ∗ dutyTok ER (xCell c b) 0 0 ∗ reached ER (xCell c b) 0)

theorem xStart_step (b : Fin 4) (K : Code F) {Q : PUnit → sProp 𝕄} :
    iprop(Ctx I κ ∗ XPre I c b) ⊢ iprop(((Hold c pad (slab b 0 8) fullShare (padX I c) ∗ cred (tallyAt (xCell c b) () xAmt)) -∗ WP c K Q) -∗ WP c (xStart b K) Q) := by
  unfold xStart WP XPre
  iintro ⟨#HC, Hz, Hp, Hx, Htok, #Hr⟩ Hk
  have hm := emb_slab (a := 4) (b := 1040) (inbZ b) rfl (n := 8) rfl (le_refl 0) (le_refl _)
  iapply (holdE_load (fun _ => rfl) hm) $$ Hz
  iintro Hz
  iapply (holdE_store (Y := padX I c) hm (fun j => by
      refine (x3_emb (a := 4) (b := 1040) (n := 8) (inbZ b) rfl (padAt I c) j).trans ?_
      exact (pad_zero _ _ (by have : (j 1).val < 8 := (j 1).isLt; omega) _).trans (pay3_apply j).symm) (fun i hi => (mem_slab (inbZ b) rfl rfl i).mp hi)) $$ Hz
  iintro Hz
  have hs1 : (Hold c xM (slab b 0 1024) fullShare (I.x c) : sProp 𝕄) ⊣⊢ owns (c : Thread nD τ) (xSrc b) fullShare (X2 (a := 1024) fun r => xG I c b r) := by
    rw [x_eq]
    exact hold_sq (a := 4) (b := 1024) (n := 1024) (m := xM) (inbX' b) rfl (fun _ => rfl) squeezes_S1x1024x512_S1024x512 (xG I c) (fun j => congrArg (fun r => xG I c b r (j 1)) (Nat.zero_add _))
  have hs2 : owns (c : Thread nD τ) (xDst b) fullShare (X2 (a := 1024) fun r => xG I c b r) ⊢ (Hold c pad (slab b 8 1024) fullShare (padX I c) : sProp 𝕄) :=
    (hold_sq (a := 4) (b := 1040) (n := 1024) (m := pad) (inbX b) rfl (fun _ => rfl) squeezes_S1x1024x512_S1024x512 (padAt I c) (fun j => pad_x b (j 0).val (j 1))).2
  have hd : (HoldE c pad (slab b 8 1024) : sProp 𝕄) ⊢ Some' c (xDst b) :=
    (holdE_squeeze (fun _ => rfl) squeezes_S1x1024x512_S1024x512 (fun i => mem_slab (a := 4) (b := 1040) (inbX b) rfl rfl i)).1
  ihave Hs := hs1.1 $$ Hx
  ihave Hd := hd $$ Hp
  replace hs1 := hs1.2
  unfold owns at hs1 hs2
  unfold owns Some'
  icases Hs with ⟨%fs, %hfs, Hs⟩
  icases Hd with ⟨%fd, Hd⟩
  iapply (Rounds.wp_copy_pointsTo 𝒱₀ ER (Rd I) (c : Thread nD τ) none (κ := κ (xCell c b)) (r := 0) (d := 0) (fs := fs) (fd := fd) (q := fullShare)
    (show (0 : Fin 4) ∈ dutK 0 (kindOf (.dma (xSem b))) by rw [kind_x]; exact Finset.mem_singleton_self _)
    () xAmt (xAmt_eq b) (show amtK (kindOf (.dma (xSem b))) = xAmt by rw [kind_x]; rfl)
    (show _ ⊢ pay I c 0 0 (kindOf (.dma (xSem b))) by
      rw [kind_x]
      show _ ⊢ iprop(Hold c Conv.pad (slab b 8 1024) fullShare (padX I c) ∗ Hold c xM (slab b 0 1024) fullShare (I.x c))
      iintro ⟨Hd, Hs⟩
      isplitl [Hd]
      · iapply hs2
        iexists ((xDst b).view.write (Elt F) fd ((xSrc b).view.read (Elt F) fs) Finset.univ)
        isplitr
        · ipureintro; exact (View.read_write_univ _ _).trans hfs
        iexact Hd
      · iapply hs1
        iexists fs
        isplitr; · ipureintro; exact hfs
        iexact Hs)) $$ [Hs Hd Htok]
  · isplitr; · iapply (ctx_inv I κ (x_mem c b)); iexact HC
    isplitl [Hs]; · iexact Hs
    isplitl [Hd]; · iexact Hd
    isplitl [Htok]; · iexact Htok
    iexact Hr
  iintro Hc
  iapply Hk
  isplitl [Hz]; · iexact Hz
  iexact Hc

theorem xWait_step (b : Fin 4) (rem : List Tr) (K : Code F) {Q : PUnit → sProp 𝕄} :
    iprop(Ctx I κ ∗ Owes c (Ow c rem) ∗ atPos ER (xCell c b) 0 ∅ 0 ∗ cred (tallyAt (xCell c b) () xAmt))
      ⊢ iprop(((Owes c (Ow c rem) ∗ semVal (xCell c b) 0 ∗ Hold c pad (slab b 8 1024) fullShare (padX I c) ∗ Hold c xM (slab b 0 1024) fullShare (I.x c)) -∗ WP c K Q)
        -∗ WP c (xWait b K) Q) := by
  unfold xWait WP
  iintro ⟨#HC, HO, Hat, Hc⟩ Hk
  iapply (wait_dma I (κ := κ) (c := c) (n := xSem b) (R := 0) (N := xAmt) (rem := rem) (Nat.le_add_right_of_le (by decide)) (xAmt_eq b)
      (by rw [kind_x]; rfl) (by rw [kind_x]; rfl)
      (by rw [kind_x]; exact fun t' _ => (Nat.succ_pos 1).trans_le (Nat.le_add_right _ _))) $$ [HO Hat Hc]
  · isplitr; · iexact HC
    isplitl [Hc]; · iexact Hc
    isplitl [HO]; · iexact HO
    iexact Hat
  iintro ⟨HO, Hat, -, Hp⟩
  iapply fupd_wp
  imod (close I (κ := κ) (xCell c b) (x_mem c b) 1 (fun r hr => by
      show dutK r (kindOf (.dma (xSem b))) = ∅
      rw [kind_x]
      exact if_neg (by omega))) $$ [Hat] with Hsem
  · isplitr; · iexact HC
    iexact Hat
  imodintro
  iapply Hk
  isplitl [HO]; · iexact HO
  isplitl [Hsem]; · iexact Hsem
  have h : pay I c 0 0 (kindOf (.dma (xSem b))) ⊢ iprop(Hold c pad (slab b 8 1024) fullShare (padX I c) ∗ Hold c xM (slab b 0 1024) fullShare (I.x c)) := by
    rw [kind_x]; exact .rfl
  iapply h
  iexact Hp

end Pro

end Cert.KernelIdeal.Conv

end
-- ==== Proof.Body.lean ====
/-
  The body's run: from what a device starts with to what it ends with. The padded input is taken apart by batch and region, and put together again before the first product.
-/
module

public import proofs.«01_k».proof.Proof.Prologue

@[expose] public section

noncomputable section

namespace Cert.KernelIdeal.Conv

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
/-- A separating conjunction over four, written out. -/
theorem four (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ
omit [FloatOps F] in
theorem three (Φ : Fin 3 → sProp 𝕄) : bigSep Finset.univ Φ = iprop(Φ 0 ∗ Φ 1 ∗ Φ 2) :=
  bigSep_univ_eq_bigSepL [(0 : Fin 3), 1, 2] (by decide) (by decide) Φ

/-! ## The padded input's regions -/

/-- A region of a batch's rows: the zero rows before it, its rows, and the rows after it. -/
def zone (p : Fin 4 × Fin 3) : Finset S4x1040x512.Idx := match p.2 with
  | 0 => slab p.1 0 8 | 1 => slab p.1 8 1024 | 2 => slab p.1 1032 8
def zoneKey (i : S4x1040x512.Idx) : Fin 4 × Fin 3 := (⟨(i 0).val, (i 0).isLt⟩, if (i 1).val < 8 then 0 else if (i 1).val < 1032 then 1 else 2)
theorem zone_key (p : Fin 4 × Fin 3) (i : S4x1040x512.Idx) : i ∈ zone p ↔ i ∈ Finset.univ ∧ zoneKey i = p := by
  obtain ⟨b, k⟩ := p
  have h1 : (i 1).val < 1040 := (i 1).isLt
  unfold zoneKey
  rw [Prod.mk.injEq, Fin.ext_iff]
  match k with
  | 0 | 1 | 2 =>
    unfold zone slab
    dsimp only
    rw [Finset.mem_filter]
    constructor
    · rintro ⟨-, h0, hl, hh⟩
      refine ⟨Finset.mem_univ _, h0, ?_⟩
      split
      · first | rfl | (exfalso; omega)
      · first | (exfalso; omega) | rfl | (split <;> first | rfl | (exfalso; omega))
    · rintro ⟨-, h0, h⟩
      refine ⟨Finset.mem_univ _, h0, ?_⟩
      split at h
      · first | (cases h; done) | omega
      · split at h
        · first | (cases h; done) | omega
        · first | (cases h; done) | omega

section Runs
variable {I : Inp F} {c : Dev nD} {κ : GSem nD τ sig → ℕ}

theorem pad_split : (HoldE c pad Finset.univ : sProp 𝕄) ⊢ bigSep Finset.univ fun b : Fin 4 =>
    iprop(HoldE c pad (slab b 0 8) ∗ HoldE c pad (slab b 8 1024) ∗ HoldE c pad (slab b 1032 8)) := by
  refine (holdE_split c pad zoneKey zone_key).trans ?_
  rw [bigSep_univ_prod]
  refine bigSep_mono fun b _ => ?_
  rw [three]
  exact BI.Entails.refl _

theorem pad_join : (bigSep Finset.univ fun b : Fin 4 => (iprop(Hold c pad (slab b 0 8) fullShare (padX I c) ∗ Hold c pad (slab b 8 1024) fullShare (padX I c) ∗ HoldE c pad (slab b 1032 8)) : sProp 𝕄))
    ⊢ interp I c .pad := by
  have h1 : ∀ b : Fin 4, (HoldE c pad (slab b 1032 8) : sProp 𝕄) ⊢ iprop(∃ X, Hold c pad (slab b 1032 8) fullShare X) := fun b => holdE_elim c pad _
  have key : ∀ Y : Fin 4 → S4x1040x512.Idx → Elt F .f32, (bigSep Finset.univ fun b : Fin 4 => (iprop(Hold c pad (slab b 0 8) fullShare (padX I c)
      ∗ Hold c pad (slab b 8 1024) fullShare (padX I c) ∗ Hold c pad (slab b 1032 8) fullShare (Y b)) : sProp 𝕄)) ⊢ interp I c .pad := by
    intro Y
    let X : S4x1040x512.Idx → Elt F .f32 := fun i => if (i 1).val < 1032 then padX I c i else Y (i 0) i
    have hX : ∀ i : S4x1040x512.Idx, (i 1).val < 1032 → padX I c i = X i := fun i hi => (if_pos hi).symm
    have hY : ∀ (b : Fin 4) (i : S4x1040x512.Idx), i ∈ (slab b 1032 8 : Finset S4x1040x512.Idx) → Y b i = X i := fun b i hi => by
      obtain ⟨-, h0, hl, -⟩ := Finset.mem_filter.mp hi
      have : X i = Y (i 0) i := if_neg (by omega)
      rw [this, show i 0 = b from Fin.ext h0]
    have hj := hold_join c pad zoneKey zone_key fullShare X (F := F)
    rw [bigSep_univ_prod] at hj
    have hm : (bigSep Finset.univ fun b : Fin 4 => (iprop(Hold c pad (slab b 0 8) fullShare (padX I c)
      ∗ Hold c pad (slab b 8 1024) fullShare (padX I c) ∗ Hold c pad (slab b 1032 8) fullShare (Y b)) : sProp 𝕄)) ⊢
      bigSep Finset.univ fun b : Fin 4 => bigSep Finset.univ fun k : Fin 3 => Hold c pad (zone (b, k)) fullShare X := by
      refine bigSep_mono fun b _ => ?_
      rw [three]
      exact BI.sep_mono (hold_congr fun i hi => hX i (by have := (Finset.mem_filter.mp hi).2; omega))
        (BI.sep_mono (hold_congr fun i hi => hX i (by have := (Finset.mem_filter.mp hi).2; omega)) (hold_congr fun i hi => hY b i hi))
    refine (hm.trans hj).trans ?_
    show _ ⊢ iprop(∃ X, ⌜Padded I c X⌝ ∗ Hold c Conv.pad Finset.univ fullShare X)
    iintro H
    iexists X
    isplitr
    · ipureintro; exact fun i hi => (hX i hi).symm
    iexact H
  rw [four]
  iintro ⟨⟨H00, H01, H02⟩, ⟨H10, H11, H12⟩, ⟨H20, H21, H22⟩, H30, H31, H32⟩
  ihave H02 := (h1 0) $$ H02
  ihave H12 := (h1 1) $$ H12
  ihave H22 := (h1 2) $$ H22
  ihave H32 := (h1 3) $$ H32
  icases H02 with ⟨%Y0, H02⟩
  icases H12 with ⟨%Y1, H12⟩
  icases H22 with ⟨%Y2, H22⟩
  icases H32 with ⟨%Y3, H32⟩
  have k := key ![Y0, Y1, Y2, Y3]
  rw [four] at k
  iapply k
  isplitl [H00 H01 H02]
  · isplitl [H00]; · iexact H00
    isplitl [H01]; · iexact H01
    iexact H02
  isplitl [H10 H11 H12]
  · isplitl [H10]; · iexact H10
    isplitl [H11]; · iexact H11
    iexact H12
  isplitl [H20 H21 H22]
  · isplitl [H20]; · iexact H20
    isplitl [H21]; · iexact H21
    iexact H22
  isplitl [H30]; · iexact H30
  isplitl [H31]; · iexact H31
  iexact H32

def xKey (i : S4x1024x512.Idx) : Fin 4 := ⟨(i 0).val, (i 0).isLt⟩
theorem x_parts (b : Fin 4) (i : S4x1024x512.Idx) : i ∈ (slab b 0 1024 : Finset S4x1024x512.Idx) ↔ i ∈ Finset.univ ∧ xKey i = b := by
  unfold slab
  rw [Finset.mem_filter]
  have h1 : (i 1).val < 1024 := (i 1).isLt
  exact ⟨fun h => ⟨Finset.mem_univ _, Fin.ext h.2.1⟩, fun h => ⟨Finset.mem_univ _, congrArg Fin.val h.2, by omega, by omega⟩⟩

/-! ## What a device starts with and ends with -/

/-- The pieces that the steps start with, but for the padded input. -/
def init0 : List Res := trs.map .tok ++ (trs.map .wt ++ (trR.map .srcU ++ (prod8 .partU ++ (fb.map .obfU ++ (prod8 .outU
  ++ (f4.map .stU ++ (prod8 .cpTok ++ (f4.map (fun i => .cpP i 0) ++ [.bar]))))))))
set_option maxRecDepth 100000 in
theorem init0_mask : putAll 0 init0 = some (mask init0) := by decide +kernel
set_option maxRecDepth 100000 in
theorem init0_pad : putAll (mask init0) [.pad] = some (mask initList) := by decide +kernel
theorem st_zero : (iprop(emp) : sProp 𝕄) ⊢ St I c 0 := by
  unfold St
  rw [show bits 0 = ∅ from by unfold bits; simp, bigSep_empty]
  exact BI.Entails.refl _

/-- What a device owes at the start: its landings, and a signal to each of its neighbours. -/
def Ow0 (c : Dev nD) : CellTallies nD τ sig Unit :=
  (((Ow c sends + tallyAt (bCell (nb 3 c)) () 1) + tallyAt (bCell (nb 2 c)) () 1) + tallyAt (bCell (nb 1 c)) () 1) + tallyAt (bCell (nb 0 c)) () 1

/-- What the semaphore of a batch's copy starts with. -/
def XTok (c : Dev nD) (b : Fin 4) : sProp 𝕄 := iprop(dutyTok ER (xCell c b) 0 0 ∗ reached ER (xCell c b) 0 ∗ atPos ER (xCell c b) 0 ∅ 0)

def Start (I : Inp F) (c : Dev nD) : sProp 𝕄 :=
  iprop((bigSep Finset.univ fun δ : Fin 4 => Sig I c δ) ∗ HoldE c pad Finset.univ ∗ Hold c xM Finset.univ fullShare (I.x c)
    ∗ (bigSep Finset.univ fun b : Fin 4 => XTok c b) ∗ Seps I c init0)
def Finish (I : Inp F) (c : Dev nD) : sProp 𝕄 :=
  iprop(Hold c xM Finset.univ fullShare (I.x c) ∗ (bigSep Finset.univ fun b : Fin 4 => semVal (xCell c b) 0) ∗ Seps I c finalList)
/-- The three windows. -/
def Wins (c : Dev nD) (kX : S4x512.Idx → Elt F .f32) (wX : S512x512.Idx → Elt F .f32) : sProp 𝕄 :=
  iprop(Hold c tabM Finset.univ fullShare (tabX (F := F)) ∗ Hold c kM Finset.univ fullShare kX ∗ Hold c wM Finset.univ fullShare wX)

/-! ## The run -/

theorem emb_all {s : Shape} {off : Fin s.rank → ℕ} (h0 : ∀ a, off a = 0) (h : ∀ a, off a + s.size a ≤ s.size a) (j : (Rect.unit off s.size h).shape.Idx) :
    (Rect.unit off s.size h).emb j = j := by
  funext a
  refine Fin.ext ?_
  show off a + 1 * (j a).val = (j a).val
  rw [h0, Nat.zero_add, Nat.one_mul]

theorem body_wp (kX : S4x512.Idx → Elt F .f32) (wX : S512x512.Idx → Elt F .f32) (hk : k0_pay1 kX = I.k c) (hw : k0_pay2 wX = I.w c) {Q : PUnit → sProp 𝕄} :
    iprop(Ctx I κ ∗ Owes c (Ow0 c) ∗ Wins c kX wX ∗ Start I c) ⊢ iprop(((Owes c 0 ∗ Wins c kX wX ∗ Finish I c) -∗ Q ⟨⟩) -∗ WP c body Q) := by
  unfold body Start Wins
  rw [four, four]
  iintro ⟨#HC, HO, ⟨Htab, Hkm, Hwm⟩, ⟨Hs0, Hs1, Hs2, Hs3⟩, Hpad, Hx, ⟨Hx0, Hx1, Hx2, Hx3⟩, Hinit⟩ Hk
  iapply (read_step afterWords) $$ Htab
  iintro Htab
  unfold afterWords
  unfold Ow0
  iapply (signal_step (I := I) (κ := κ) (c := c) 0 _ (dev1_W c) _ _) $$ [HO Hs0]
  · isplitr; · iexact HC
    isplitl [HO]; · iexact HO
    iexact Hs0
  iintro HO
  iapply (signal_step (I := I) (κ := κ) (c := c) 1 _ (dev2_W c) _ _) $$ [HO Hs1]
  · isplitr; · iexact HC
    isplitl [HO]; · iexact HO
    iexact Hs1
  iintro HO
  iapply (signal_step (I := I) (κ := κ) (c := c) 2 _ (dev3_W c) _ _) $$ [HO Hs2]
  · isplitr; · iexact HC
    isplitl [HO]; · iexact HO
    iexact Hs2
  iintro HO
  iapply (signal_step (I := I) (κ := κ) (c := c) 3 _ (dev4_W c) _ _) $$ [HO Hs3]
  · isplitr; · iexact HC
    isplitl [HO]; · iexact HO
    iexact Hs3
  iintro HO
  unfold WP
  iapply (hold_load (X := kX) (fun _ => Finset.mem_univ _)) $$ Hkm
  iintro Hkm
  iapply (hold_load (X := wX) (fun _ => Finset.mem_univ _)) $$ Hwm
  iintro Hwm
  rw [show (fun j => kX ((Rect.unit (s := S4x512) ![0, 0] S4x512.size inb_S4x512_S4x512_0_0).emb j)) = kX from
      funext fun j => congrArg kX (emb_all (s := S4x512) (by decide) inb_S4x512_S4x512_0_0 j),
    show (fun j => wX ((Rect.unit (s := S512x512) ![0, 0] S512x512.size inb_S512x512_S512x512_0_0).emb j)) = wX from
      funext fun j => congrArg wX (emb_all (s := S512x512) (by decide) inb_S512x512_S512x512_0_0 j), hk, hw]
  have hps := pad_split (F := F) (c := c)
  rw [four] at hps
  ihave Hpad := hps $$ Hpad
  icases Hpad with ⟨⟨P00, P01, P02⟩, ⟨P10, P11, P12⟩, ⟨P20, P21, P22⟩, P30, P31, P32⟩
  have hxs := hold_split c xM xKey x_parts fullShare (I.x c) (F := F)
  rw [four] at hxs
  ihave Hx := hxs $$ Hx
  icases Hx with ⟨X0, X1, X2, X3⟩
  unfold XTok
  icases Hx0 with ⟨T0, R0, A0⟩
  icases Hx1 with ⟨T1, R1, A1⟩
  icases Hx2 with ⟨T2, R2, A2⟩
  icases Hx3 with ⟨T3, R3, A3⟩
  iapply (show iprop(Ctx I κ ∗ XPre I c 0) ⊢ _ from xStart_step (I := I) (κ := κ) (c := c) 0 _) $$ [P00 P01 X0 T0 R0]
  · isplitr; · iexact HC
    unfold XPre
    isplitl [P00]; · iexact P00
    isplitl [P01]; · iexact P01
    isplitl [X0]; · iexact X0
    isplitl [T0]; · iexact T0
    iexact R0
  iintro ⟨P00, C0⟩
  iapply (show iprop(Ctx I κ ∗ XPre I c 1) ⊢ _ from xStart_step (I := I) (κ := κ) (c := c) 1 _) $$ [P10 P11 X1 T1 R1]
  · isplitr; · iexact HC
    unfold XPre
    isplitl [P10]; · iexact P10
    isplitl [P11]; · iexact P11
    isplitl [X1]; · iexact X1
    isplitl [T1]; · iexact T1
    iexact R1
  iintro ⟨P10, C1⟩
  iapply (show iprop(Ctx I κ ∗ XPre I c 2) ⊢ _ from xStart_step (I := I) (κ := κ) (c := c) 2 _) $$ [P20 P21 X2 T2 R2]
  · isplitr; · iexact HC
    unfold XPre
    isplitl [P20]; · iexact P20
    isplitl [P21]; · iexact P21
    isplitl [X2]; · iexact X2
    isplitl [T2]; · iexact T2
    iexact R2
  iintro ⟨P20, C2⟩
  iapply (show iprop(Ctx I κ ∗ XPre I c 3) ⊢ _ from xStart_step (I := I) (κ := κ) (c := c) 3 _) $$ [P30 P31 X3 T3 R3]
  · isplitr; · iexact HC
    unfold XPre
    isplitl [P30]; · iexact P30
    isplitl [P31]; · iexact P31
    isplitl [X3]; · iexact X3
    isplitl [T3]; · iexact T3
    iexact R3
  iintro ⟨P30, C3⟩
  iapply (xWait_step (I := I) (κ := κ) (c := c) 0 sends _) $$ [HO A0 C0]
  · isplitr; · iexact HC
    isplitl [HO]; · iexact HO
    isplitl [A0]; · iexact A0
    iexact C0
  iintro ⟨HO, V0, P01, X0⟩
  iapply (xWait_step (I := I) (κ := κ) (c := c) 1 sends _) $$ [HO A1 C1]
  · isplitr; · iexact HC
    isplitl [HO]; · iexact HO
    isplitl [A1]; · iexact A1
    iexact C1
  iintro ⟨HO, V1, P11, X1⟩
  iapply (xWait_step (I := I) (κ := κ) (c := c) 2 sends _) $$ [HO A2 C2]
  · isplitr; · iexact HC
    isplitl [HO]; · iexact HO
    isplitl [A2]; · iexact A2
    iexact C2
  iintro ⟨HO, V2, P21, X2⟩
  iapply (xWait_step (I := I) (κ := κ) (c := c) 3 sends _) $$ [HO A3 C3]
  · isplitr; · iexact HC
    isplitl [HO]; · iexact HO
    isplitl [A3]; · iexact A3
    iexact C3
  iintro ⟨HO, V3, P31, X3⟩
  have hp := pad_join (I := I) (c := c)
  rw [four] at hp
  ihave Hpad := hp $$ [P00 P01 P02 P10 P11 P12 P20 P21 P22 P30 P31 P32]
  · isplitl [P00 P01 P02]
    · isplitl [P00]; · iexact P00
      isplitl [P01]; · iexact P01
      iexact P02
    isplitl [P10 P11 P12]
    · isplitl [P10]; · iexact P10
      isplitl [P11]; · iexact P11
      iexact P12
    isplitl [P20 P21 P22]
    · isplitl [P20]; · iexact P20
      isplitl [P21]; · iexact P21
      iexact P22
    isplitl [P30]; · iexact P30
    isplitl [P31]; · iexact P31
    iexact P32
  have hi : iprop(interp I c .pad ∗ Seps I c init0) ⊢ St I c (mask initList) := by
    iintro ⟨Hp, Hi⟩
    iapply (st_putAll I c init0_pad)
    rw [seps_cons, seps_nil]
    isplitl [Hp]
    · isplitl [Hp]; · iexact Hp
      iempintro
    iapply (st_putAll I c init0_mask)
    isplitl [Hi]; · iexact Hi
    iapply (st_zero (I := I) (c := c))
    iempintro
  ihave Hst := hi $$ [Hpad Hinit]
  · isplitl [Hpad] <;> iassumption
  iapply (run_wp (I := I) (κ := κ) (c := c) (.ret ⟨⟩) code (mask initList) sends (mask finalList) [] exec_code) $$ [HO Hst]
  · isplitr; · iexact HC
    isplitl [HO] <;> iassumption
  iintro ⟨HO, Hst⟩
  unfold WP
  rw [wp_ret]
  imodintro
  iapply Hk
  isplitl [HO]; · iexact HO
  isplitl [Htab Hkm Hwm]
  · isplitl [Htab]; · iexact Htab
    isplitl [Hkm] <;> iassumption
  unfold Finish
  isplitl [X0 X1 X2 X3]
  · have hx := hold_join c xM xKey x_parts fullShare (I.x c) (F := F)
    rw [four] at hx
    iapply hx
    isplitl [X0]; · iexact X0
    isplitl [X1]; · iexact X1
    isplitl [X2]; · iexact X2
    iexact X3
  isplitl [V0 V1 V2 V3]
  · rw [four]
    isplitl [V0]; · iexact V0
    isplitl [V1]; · iexact V1
    isplitl [V2]; · iexact V2
    iexact V3
  ihave H := (st_takeAll I c final_mask) $$ Hst
  icases H with ⟨H, -⟩
  iexact H

end Runs

end Cert.KernelIdeal.Conv

end
-- ==== Proof.Parts.lean ====
/-
  The buffers' parts: what the steps start with, out of the buffers whole, and the buffers whole out of what the steps leave.
-/
module

public import proofs.«01_k».proof.Proof.Body
public import Idealize.ShloMosaic.Lib.Pipeline.BigSepL

@[expose] public section

noncomputable section

namespace Cert.KernelIdeal.Conv

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Indices -/

abbrev TA := Bool × Fin 7 × Fin 2
abbrev TB := Bool × Fin 3
abbrev TC := Bool × Fin 7 × Fin 4
abbrev trA (p : TA) : Tr := .rsA p.1 p.2.1 p.2.2
abbrev trB (p : TB) : Tr := .rsB p.1 p.2
abbrev trG (p : TB) : Tr := .agB p.1 p.2
abbrev trH (p : TC) : Tr := .agA p.1 p.2.1 p.2.2
/-- The transfers by ring. -/
def trEquiv : (TA ⊕ TB ⊕ TB ⊕ TC) ≃ Tr where
  toFun | .inl p => trA p | .inr (.inl p) => trB p | .inr (.inr (.inl p)) => trG p | .inr (.inr (.inr p)) => trH p
  invFun | .rsA d s q => .inl (d, s, q) | .rsB d s => .inr (.inl (d, s)) | .agB d s => .inr (.inr (.inl (d, s))) | .agA d s k => .inr (.inr (.inr (d, s, k)))
  left_inv := by rintro (p | p | p | p) <;> rfl
  right_inv := by rintro (⟨d, s, q⟩ | ⟨d, s⟩ | ⟨d, s⟩ | ⟨d, s, k⟩) <;> rfl
instance : Fintype Tr := Fintype.ofEquiv _ trEquiv

omit [FloatOps F] in
theorem bigSep_Tr (Φ : Tr → sProp 𝕄) : bigSep Finset.univ Φ = iprop((bigSep Finset.univ fun p => Φ (trA p)) ∗ (bigSep Finset.univ fun p => Φ (trB p))
    ∗ (bigSep Finset.univ fun p => Φ (trG p)) ∗ (bigSep Finset.univ fun p => Φ (trH p))) := by
  rw [bigSep_univ_equiv trEquiv, bigSep_univ_sum, bigSep_univ_sum, bigSep_univ_sum]
  rfl
omit [FloatOps F] in
theorem bools (Φ : Bool → sProp 𝕄) : bigSep Finset.univ Φ = iprop(Φ false ∗ Φ true) :=
  bigSep_univ_eq_bigSepL [false, true] (by decide) (by decide) Φ
omit [FloatOps F] in
theorem first {n : ℕ} (Φ : Fin (n + 1) → sProp 𝕄) : bigSep Finset.univ Φ = iprop(Φ 0 ∗ bigSep Finset.univ fun k : Fin n => Φ k.succ) := by
  rw [Fin.univ_succ, Finset.cons_eq_insert, bigSep_insert (by simp [Fin.succ_ne_zero]), bigSep_map]; rfl
omit [FloatOps F] in
theorem last {n : ℕ} (Φ : Fin (n + 1) → sProp 𝕄) : bigSep Finset.univ Φ = iprop(Φ (Fin.last n) ∗ bigSep Finset.univ fun k : Fin n => Φ k.castSucc) := by
  rw [Fin.univ_castSuccEmb, Finset.cons_eq_insert, bigSep_insert (by simp), bigSep_map]; rfl

theorem trs_all (t : Tr) : t ∈ trs := by
  rcases t with ⟨d, s, q⟩ | ⟨d, s⟩ | ⟨d, s⟩ | ⟨d, s, k⟩
  · revert d s q; decide +kernel
  · revert d s; decide +kernel
  · revert d s; decide +kernel
  · revert d s k; decide +kernel
theorem trs_nodup : trs.Nodup := by decide +kernel
theorem trs_univ : (Finset.univ : Finset Tr) = trs.toFinset := by
  ext t; simp only [Finset.mem_univ, List.mem_toFinset, trs_all]

section Lists
variable {I : Inp F} {c : Dev nD}

theorem seps_list {α : Type} (l : List α) (f : α → Res) : Seps I c (l.map f) = bigSepL l fun a => interp I c (f a) := by
  induction l with
  | nil => rfl
  | cons a l ih => rw [List.map_cons, seps_cons, ih, bigSepL_cons']
theorem seps_univ {α : Type} [Fintype α] [DecidableEq α] (l : List α) (h : Finset.univ = l.toFinset) (hn : l.Nodup) (f : α → Res) :
    Seps I c (l.map f) = bigSep Finset.univ fun a => interp I c (f a) := by
  rw [seps_list, bigSep_univ_eq_bigSepL l h hn]
theorem seps_trs (f : Tr → Res) : Seps I c (trs.map f) = bigSep Finset.univ fun t => interp I c (f t) := seps_univ trs trs_univ trs_nodup f

def lA : List TA := fb.flatMap fun d => f7.flatMap fun s => f2.map fun q => (d, s, q)
def lB : List TB := fb.flatMap fun d => f3.map fun s => (d, s)
def l8 : List (Bool × Fin 8) := fb.flatMap fun d => f8.map fun u => (d, u)
def l7 : List (Bool × Fin 7) := fb.flatMap fun d => f7.map fun u => (d, u)
def lO : List (Bool × Fin 8 × Fin 4) := fb.flatMap fun d => f8.flatMap fun u => f4.map fun k => (d, u, k)
theorem lA_univ : (Finset.univ : Finset TA) = lA.toFinset := by decide +kernel
theorem lA_nodup : lA.Nodup := by decide +kernel
theorem lB_univ : (Finset.univ : Finset TB) = lB.toFinset := by decide +kernel
theorem lB_nodup : lB.Nodup := by decide +kernel
theorem l8_univ : (Finset.univ : Finset (Bool × Fin 8)) = l8.toFinset := by decide +kernel
theorem l8_nodup : l8.Nodup := by decide +kernel
theorem l7_univ : (Finset.univ : Finset (Bool × Fin 7)) = l7.toFinset := by decide +kernel
theorem l7_nodup : l7.Nodup := by decide +kernel
theorem lO_univ : (Finset.univ : Finset (Bool × Fin 8 × Fin 4)) = lO.toFinset := by decide +kernel
theorem lO_nodup : lO.Nodup := by decide +kernel

omit [FloatOps F] in
theorem trR_eq (f : Tr → Res) : trR.map f = (lA.map fun p => f (trA p)) ++ lB.map fun p => f (trB p) := rfl
theorem seps_trR (f : Tr → Res) : Seps I c (trR.map f) = iprop((bigSep Finset.univ fun p => interp I c (f (trA p))) ∗ bigSep Finset.univ fun p => interp I c (f (trB p))) := by
  rw [trR_eq, ← equiv_iff.mp ⟨(seps_append I c _ _).1, (seps_append I c _ _).2⟩, seps_univ lA lA_univ lA_nodup (fun p => f (trA p)), seps_univ lB lB_univ lB_nodup (fun p => f (trB p))]
theorem seps_prod8 (f : Bool → Fin 8 → Res) : Seps I c (prod8 f) = bigSep Finset.univ fun p : Bool × Fin 8 => interp I c (f p.1 p.2) :=
  (congrArg (Seps I c) (show prod8 f = l8.map fun p => f p.1 p.2 from rfl)).trans (seps_univ l8 l8_univ l8_nodup _)
theorem seps_fb (f : Bool → Res) : Seps I c (fb.map f) = bigSep Finset.univ fun d => interp I c (f d) := seps_univ fb (by decide) (by decide) f
theorem seps_f4 (f : Fin 4 → Res) : Seps I c (f4.map f) = bigSep Finset.univ fun d => interp I c (f d) := seps_univ f4 (by decide) (by decide) f

end Lists

/-! ## The buffers' parts -/

def keyA (i : S7x256x512.Idx) : Fin 7 × Fin 2 := (⟨(i 0).val, (i 0).isLt⟩, ⟨(i 1).val / 128, by have : (i 1).val < 256 := (i 1).isLt; omega⟩)
theorem partsA (p : Fin 7 × Fin 2) (i : S7x256x512.Idx) : i ∈ (slab p.1 (128 * p.2.val) 128 : Finset S7x256x512.Idx) ↔ i ∈ Finset.univ ∧ keyA i = p := by
  obtain ⟨s, q⟩ := p
  have h1 : (i 1).val < 256 := (i 1).isLt
  unfold slab keyA
  rw [Finset.mem_filter, Prod.mk.injEq, Fin.ext_iff, Fin.ext_iff]
  dsimp only
  constructor
  · rintro ⟨-, h0, hl, hh⟩; exact ⟨Finset.mem_univ _, h0, by omega⟩
  · rintro ⟨-, h0, h⟩; exact ⟨Finset.mem_univ _, h0, by omega, by omega⟩

def keyB (i : S3x64x512.Idx) : Fin 3 := ⟨(i 0).val, (i 0).isLt⟩
theorem partsB (s : Fin 3) (i : S3x64x512.Idx) : i ∈ (slab s 0 64 : Finset S3x64x512.Idx) ↔ i ∈ Finset.univ ∧ keyB i = s := by
  have h1 : (i 1).val < 64 := (i 1).isLt
  unfold slab keyB
  rw [Finset.mem_filter, Fin.ext_iff]
  exact ⟨fun h => ⟨Finset.mem_univ _, h.2.1⟩, fun h => ⟨Finset.mem_univ _, h.2, by omega, by omega⟩⟩

def keyS (i : S4x256x512.Idx) : Fin 4 := ⟨(i 0).val, (i 0).isLt⟩
theorem partsS (s : Fin 4) (i : S4x256x512.Idx) : i ∈ (slab s 0 256 : Finset S4x256x512.Idx) ↔ i ∈ Finset.univ ∧ keyS i = s := by
  have h1 : (i 1).val < 256 := (i 1).isLt
  unfold slab keyS
  rw [Finset.mem_filter, Fin.ext_iff]
  exact ⟨fun h => ⟨Finset.mem_univ _, h.2.1⟩, fun h => ⟨Finset.mem_univ _, h.2, by omega, by omega⟩⟩

/-- The direction of row `g`'s half chunk, and its number among the products, among the half chunks gathered, and its block's number. -/
def rowD (g : ℕ) : Bool := g / 256 % 2 == 1
def rowJ (c : Dev nD) (g : ℕ) : Fin 8 := ⟨(if rowD g then g / 512 + 8 - c.val / 4 else c.val / 4 + 8 - g / 512) % 8, Nat.mod_lt _ (by decide)⟩
theorem rowJ_val (c : Dev nD) (g : ℕ) : (rowJ c g).val = (if rowD g then g / 512 + 8 - c.val / 4 else c.val / 4 + 8 - g / 512) % 8 := rfl
def rowU (c : Dev nD) (g : ℕ) : Fin 8 := ⟨(if rowD g then g / 512 + 9 - c.val / 4 else c.val / 4 + 9 - g / 512) % 8, Nat.mod_lt _ (by decide)⟩
theorem rowU_val (c : Dev nD) (g : ℕ) : (rowU c g).val = (if rowD g then g / 512 + 9 - c.val / 4 else c.val / 4 + 9 - g / 512) % 8 := rfl
def rowK (c : Dev nD) (g : ℕ) : Fin 4 := ⟨(if rowD g then g / 64 % 4 + 5 - c.val % 4 else c.val % 4 + 5 - g / 64 % 4) % 4, Nat.mod_lt _ (by decide)⟩

theorem rowK_val (c : Dev nD) (g : ℕ) : (rowK c g).val = (if rowD g then g / 64 % 4 + 5 - c.val % 4 else c.val % 4 + 5 - g / 64 % 4) % 4 := rfl

theorem rowD_iff (g : ℕ) (d : Bool) : rowD g = d ↔ g / 256 % 2 = d.toNat := by
  unfold rowD
  have : g / 256 % 2 < 2 := Nat.mod_lt _ (by decide)
  cases d
  · rw [beq_eq_false_iff_ne, Bool.toNat_false]; omega
  · rw [beq_iff_eq, Bool.toNat_true]
theorem half_iff (c : Dev nD) (d : Bool) (j : Fin 8) (g : ℕ) (hg : g < 4096) : (hrow d c j ≤ g ∧ g < hrow d c j + 256) ↔ (rowD g = d ∧ rowJ c g = j) := by
  have hc : c.val < 32 := c.isLt
  rw [rowD_iff]
  unfold hrow ch
  rw [Fin.ext_iff, rowJ_val]
  cases hd : rowD g
  · have := (rowD_iff g false).mp hd
    cases d <;> simp only [Bool.toNat_false, Bool.toNat_true, if_true, if_false, Bool.false_eq_true] at * <;> omega
  · have := (rowD_iff g true).mp hd
    cases d <;> simp only [Bool.toNat_false, Bool.toNat_true, if_true, if_false, Bool.false_eq_true] at * <;> omega
theorem echunk_iff (c : Dev nD) (d : Bool) (u : Fin 8) (g : ℕ) (hg : g < 4096) : (erow d c u ≤ g ∧ g < erow d c u + 256) ↔ (rowD g = d ∧ rowU c g = u) := by
  have hc : c.val < 32 := c.isLt
  rw [rowD_iff]
  unfold erow gch
  rw [Fin.ext_iff, rowU_val]
  cases hd : rowD g
  · have := (rowD_iff g false).mp hd
    cases d <;> simp only [Bool.toNat_false, Bool.toNat_true, if_true, if_false, Bool.false_eq_true] at * <;> omega
  · have := (rowD_iff g true).mp hd
    cases d <;> simp only [Bool.toNat_false, Bool.toNat_true, if_true, if_false, Bool.false_eq_true] at * <;> omega
theorem block_iff (c : Dev nD) (d : Bool) (u : Fin 8) (k : Fin 4) (g : ℕ) (hg : g < 4096) :
    (grow d c u k ≤ g ∧ g < grow d c u k + 64) ↔ (rowD g = d ∧ rowU c g = u ∧ rowK c g = k) := by
  have hc : c.val < 32 := c.isLt
  have h := echunk_iff c d u g hg
  have hb : gb d c k < 4 := by unfold gb; split <;> exact Nat.mod_lt _ (by decide)
  have he : erow d c u % 256 = 0 := by unfold erow; omega
  have hk : (erow d c u ≤ g ∧ g < erow d c u + 256) → rowD g = d → ((g / 64 % 4 = gb d c k) ↔ rowK c g = k) := by
    intro _ hd
    unfold gb
    rw [Fin.ext_iff, rowK_val, hd]
    cases d <;> simp only [if_true, if_false, Bool.false_eq_true] <;> omega
  unfold grow
  constructor
  · rintro ⟨hl, hh⟩
    have h1 : erow d c u ≤ g ∧ g < erow d c u + 256 := ⟨by omega, by omega⟩
    obtain ⟨hd, hu⟩ := h.mp h1
    exact ⟨hd, hu, (hk h1 hd).mp (by omega)⟩
  · rintro ⟨hd, hu, hk'⟩
    have h1 := h.mpr ⟨hd, hu⟩
    have := (hk h1 hd).mpr hk'
    omega

def keyP (c : Dev nD) (i : S4096x512.Idx) : Bool × Fin 8 := (rowD (i 0).val, rowJ c (i 0).val)
theorem partsP (c : Dev nD) (p : Bool × Fin 8) (i : S4096x512.Idx) : i ∈ (rows (hrow p.1 c p.2) 256 : Finset S4096x512.Idx) ↔ i ∈ Finset.univ ∧ keyP c i = p := by
  obtain ⟨d, j⟩ := p
  unfold rows keyP
  rw [Finset.mem_filter, Prod.mk.injEq, half_iff c d j _ (i 0).isLt]
def keyO (c : Dev nD) (i : S4096x512.Idx) : Bool × Fin 8 × Fin 4 := (rowD (i 0).val, rowU c (i 0).val, rowK c (i 0).val)
theorem partsO (c : Dev nD) (p : Bool × Fin 8 × Fin 4) (i : S4096x512.Idx) : i ∈ (rows (grow p.1 c p.2.1 p.2.2) 64 : Finset S4096x512.Idx) ↔ i ∈ Finset.univ ∧ keyO c i = p := by
  obtain ⟨d, u, k⟩ := p
  unfold rows keyO
  rw [Finset.mem_filter, Prod.mk.injEq, Prod.mk.injEq, block_iff c d u k _ (i 0).isLt]
def outRow (i : S4x1024x512.Idx) : ℕ := 1024 * (i 0).val + (i 1).val
theorem outRow_lt (i : S4x1024x512.Idx) : outRow i < 4096 := by
  have h0 : (i 0).val < 4 := (i 0).isLt
  have h1 : (i 1).val < 1024 := (i 1).isLt
  unfold outRow; omega
def keyR (c : Dev nD) (i : S4x1024x512.Idx) : Bool × Fin 8 := (rowD (outRow i), rowU c (outRow i))
theorem partsR (c : Dev nD) (p : Bool × Fin 8) (i : S4x1024x512.Idx) :
    i ∈ (slab (gch p.1 c p.2 / 2) (512 * (gch p.1 c p.2 % 2) + 256 * p.1.toNat) 256 : Finset S4x1024x512.Idx) ↔ i ∈ Finset.univ ∧ keyR c i = p := by
  obtain ⟨d, u⟩ := p
  have h0 : (i 0).val < 4 := (i 0).isLt
  have h1 : (i 1).val < 1024 := (i 1).isLt
  unfold slab keyR
  rw [Finset.mem_filter, Prod.mk.injEq, ← echunk_iff c d u _ (outRow_lt i)]
  dsimp only
  unfold erow outRow
  have hg : gch d c u < 8 := by unfold gch; split <;> exact Nat.mod_lt _ (by decide)
  generalize gch d c u = e at *
  have hd : d.toNat < 2 := by cases d <;> decide
  generalize d.toNat = b at *
  simp only [Finset.mem_univ, true_and]
  omega

/-! ## In and out -/

/-- Where a transfer to device `c` lands. -/
def landZ (c : Dev nD) : Tr → sProp 𝕄
  | .rsA d s q => HoldE c (bufA d) (slab s (128 * q) 128)
  | .rsB d s => HoldE c (bufB d) (slab s 0 64)
  | .agB d s => HoldE c obf (rows (grow d c 0 (s.val + 1)) 64)
  | .agA d s k => HoldE c obf (rows (grow d c (s.val + 1) k) 64)
omit [FloatOps F] in
theorem landZ_some (c : Dev nD) (t : Tr) : (landZ c t : sProp 𝕄) ⊢ Some' c (t.dst (W (orig c t))) := by
  rcases t with ⟨d, s, q⟩ | ⟨d, s⟩ | ⟨d, s⟩ | ⟨d, s, k⟩
  · exact (holdE_squeeze (fun _ => rfl) squeezes_S1x128x512_S128x512 (fun i => mem_slab (a := 7) (b := 256) (inbA s q) rfl rfl i)).1
  · exact (holdE_squeeze (fun _ => rfl) squeezes_S1x64x512_S64x512 (fun i => mem_slab (a := 3) (b := 64) (inbB s) rfl rfl i)).1
  · have h := (holdE_slice (F := F) (c := c) (m := obf) (fun _ => rfl) (fun i => mem_rows (a := 4096) (gbOff_inb (W (nxB (!d) c)) d s) (gbOff_W (nxB (!d) c) d s) rfl i)).1
    rw [grow_nxB d c s] at h
    exact h
  · have h := (holdE_slice (F := F) (c := c) (m := obf) (fun _ => rfl) (fun i => mem_rows (a := 4096) (gaOff_inb (W (nxA (!d) c)) d s k) (gaOff_W (nxA (!d) c) d s k) rfl i)).1
    rw [grow_nxA d c s k] at h
    exact h

/-- The kernel's own buffers, at anything. -/
def Scr (c : Dev nD) : sProp 𝕄 :=
  iprop(HoldE c pad Finset.univ ∗ HoldE c part Finset.univ ∗ HoldE c obf Finset.univ ∗ (HoldE c (bufA false) Finset.univ ∗ HoldE c (bufA true) Finset.univ)
    ∗ (HoldE c (bufB false) Finset.univ ∗ HoldE c (bufB true) Finset.univ) ∗ (HoldE c (sbA false) Finset.univ ∗ HoldE c (sbA true) Finset.univ)
    ∗ (HoldE c (sbB false) Finset.univ ∗ HoldE c (sbB true) Finset.univ) ∗ HoldE c stg Finset.univ)

section InOut
variable {I : Inp F} {c : Dev nD}

omit [FloatOps F] in
theorem dirs {β : Type} [Fintype β] (Φ : Bool × β → sProp 𝕄) : bigSep Finset.univ Φ = iprop((bigSep Finset.univ fun b => Φ (false, b)) ∗ bigSep Finset.univ fun b => Φ (true, b)) := by
  rw [bigSep_univ_prod, bools]

omit [FloatOps F] in
theorem two_split {sp : Space} {s : Shape} {e : EltTy} {P : Type} [Fintype P] [DecidableEq P] (m : Bool → Memref sig .tc sp s e) {K : P → Finset s.Idx} (key : s.Idx → P)
    (hK : ∀ p i, i ∈ K p ↔ i ∈ Finset.univ ∧ key i = p) :
    (iprop(HoldE c (m false) Finset.univ ∗ HoldE c (m true) Finset.univ) : sProp 𝕄) ⊢ bigSep Finset.univ fun p : Bool × P => HoldE c (m p.1) (K p.2) := by
  rw [dirs]
  exact BI.sep_mono (holdE_split c (m false) key hK) (holdE_split c (m true) key hK)
omit [FloatOps F] in
theorem two_join {sp : Space} {s : Shape} {e : EltTy} {P : Type} [Fintype P] [DecidableEq P] [Nonempty P] (m : Bool → Memref sig .tc sp s e) {K : P → Finset s.Idx} (key : s.Idx → P)
    (hK : ∀ p i, i ∈ K p ↔ i ∈ Finset.univ ∧ key i = p) :
    (bigSep Finset.univ fun p : Bool × P => HoldE c (m p.1) (K p.2) : sProp 𝕄) ⊢ iprop(HoldE c (m false) Finset.univ ∗ HoldE c (m true) Finset.univ) := by
  rw [dirs]
  exact BI.sep_mono (holdE_join c (m false) key hK) (holdE_join c (m true) key hK)

/-- The gathered blocks: the device's own, and those that land. -/
theorem obf_split : (HoldE c obf Finset.univ : sProp 𝕄) ⊢ iprop((bigSep Finset.univ fun d => interp I c (.obfU d)) ∗ (bigSep Finset.univ fun p => landZ c (trG p)) ∗ bigSep Finset.univ fun p => landZ c (trH p)) := by
  refine (holdE_split c obf (keyO c) (partsO c)).trans ?_
  have e : ∀ d : Bool, (bigSep Finset.univ fun p : Fin 8 × Fin 4 => (HoldE c obf (rows (grow d c p.1 p.2) 64) : sProp 𝕄))
      = iprop((HoldE c obf (rows (grow d c 0 0) 64) ∗ bigSep Finset.univ fun s : Fin 3 => HoldE c obf (rows (grow d c 0 (s.val + 1)) 64))
        ∗ bigSep Finset.univ fun p : Fin 7 × Fin 4 => HoldE c obf (rows (grow d c (p.1.val + 1) p.2) 64)) := by
    intro d
    rw [bigSep_univ_prod, first, first, bigSep_univ_prod]
    rfl
  rw [dirs, bools, dirs, dirs, e, e, show interp I c (.obfU false) = HoldE c obf (rows (grow false c 0 0) 64) from rfl,
    show interp I c (.obfU true) = HoldE c obf (rows (grow true c 0 0) 64) from rfl]
  iintro ⟨⟨⟨A, B⟩, C⟩, ⟨D, E⟩, G⟩
  isplitl [A D]
  · isplitl [A]
    · iexact A
    · iexact D
  isplitl [B E]
  · isplitl [B]
    · iexact B
    · iexact E
  isplitl [C]
  · iexact C
  · iexact G

/-- What the steps start with, out of the buffers. -/
theorem enter : iprop(Scr c ∗ HoldE c outM Finset.univ) ⊢ (iprop(HoldE c pad Finset.univ ∗ (bigSep Finset.univ fun t => landZ c t) ∗ Seps I c (trR.map .srcU) ∗ Seps I c (prod8 .partU)
    ∗ Seps I c (fb.map .obfU) ∗ Seps I c (prod8 .outU) ∗ Seps I c (f4.map .stU)) : sProp 𝕄) := by
  rw [bigSep_Tr, seps_trR, seps_prod8, seps_fb, seps_prod8, seps_f4]
  unfold Scr
  iintro ⟨⟨Hpad, Hpart, Hobf, HbA, HbB, HsA, HsB, Hst⟩, Hout⟩
  isplitl [Hpad]; · iexact Hpad
  ihave Hobf := (obf_split (I := I) (c := c)) $$ Hobf
  icases Hobf with ⟨HoU, HoG, HoH⟩
  isplitl [HbA HbB HoG HoH]
  · isplitl [HbA]
    · iapply (two_split (F := F) (c := c) bufA keyA partsA); iexact HbA
    isplitl [HbB]
    · iapply (two_split (F := F) (c := c) bufB keyB partsB); iexact HbB
    isplitl [HoG] <;> iassumption
  isplitl [HsA HsB]
  · isplitl [HsA]
    · iapply (two_split (F := F) (c := c) sbA keyA partsA); iexact HsA
    · iapply (two_split (F := F) (c := c) sbB keyB partsB); iexact HsB
  isplitl [Hpart]
  · iapply (holdE_split (F := F) c part (keyP c) (partsP c)); iexact Hpart
  isplitl [HoU]; · iexact HoU
  isplitl [Hout]
  · iapply (holdE_split (F := F) c outM (keyR c) (partsR c)); iexact Hout
  iapply (holdE_split (F := F) c stg keyS partsS); iexact Hst

/-- The products' rows, whatever the last additions left. -/
theorem part_join : iprop(Seps I c (fb.flatMap fun d => f7.map fun j => .partP d j.castSucc) ∗ Seps I c (fb.map .partB)) ⊢ (HoldE c part Finset.univ : sProp 𝕄) := by
  rw [show (fb.flatMap fun d => f7.map fun j => Res.partP d j.castSucc) = l7.map fun p => .partP p.1 p.2.castSucc from rfl, seps_univ l7 l7_univ l7_nodup, seps_fb]
  have hj := holdE_join (F := F) c part (keyP c) (partsP c)
  rw [dirs, last (n := 7), last (n := 7)] at hj
  rw [dirs, bools]
  have h : ∀ d, (bigSep Finset.univ fun j : Fin 7 => interp I c (.partP d j.castSucc)) ⊢ (bigSep Finset.univ fun k : Fin 7 => HoldE c part (rows (hrow d c k.castSucc) 256) : sProp 𝕄) :=
    fun d => bigSep_mono fun j _ => hold_some c part _ _
  have hB : ∀ d, interp I c (.partB d) ⊢ (HoldE c part (rows (hrow d c (Fin.last 7)) 256) : sProp 𝕄) := fun d => hold_some c part _ _
  iintro ⟨⟨A, B⟩, C, D⟩
  iapply hj
  isplitl [A C]
  · isplitl [C]
    · iapply (hB false); iexact C
    · iapply (h false); iexact A
  · isplitl [D]
    · iapply (hB true); iexact D
    · iapply (h true); iexact B

/-- The buffers whole, out of what the steps leave. -/
theorem leave : iprop(Seps I c (trR.map .srcF) ∗ Seps I c (trR.map .bufF) ∗ Seps I c (fb.flatMap fun d => f7.map fun j => .partP d j.castSucc) ∗ Seps I c (fb.map .partB)
    ∗ Seps I c (fb.flatMap fun d => f8.flatMap fun u => f4.map fun k => .obfF d u k) ∗ Seps I c (prod8 .outF) ∗ Seps I c (f4.map .stU) ∗ interp I c .pad)
    ⊢ (iprop(Scr c ∗ Hold c outM Finset.univ fullShare (outX I)) : sProp 𝕄) := by
  rw [show (fb.flatMap fun d => f8.flatMap fun u => f4.map fun k => Res.obfF d u k) = lO.map fun p => .obfF p.1 p.2.1 p.2.2 from rfl, seps_univ lO lO_univ lO_nodup,
    seps_trR, seps_trR, seps_prod8, seps_f4]
  unfold Scr
  have hA : (bigSep Finset.univ fun p => interp I c (.srcF (trA p))) ⊢ (bigSep Finset.univ fun p : TA => HoldE c (sbA p.1) (slab p.2.1 (128 * p.2.2.val) 128) : sProp 𝕄) :=
    bigSep_mono fun p _ => hold_some c _ _ _
  have hB : (bigSep Finset.univ fun p => interp I c (.srcF (trB p))) ⊢ (bigSep Finset.univ fun p : TB => HoldE c (sbB p.1) (slab p.2 0 64) : sProp 𝕄) :=
    bigSep_mono fun p _ => hold_some c _ _ _
  have hA' : (bigSep Finset.univ fun p => interp I c (.bufF (trA p))) ⊢ (bigSep Finset.univ fun p : TA => HoldE c (bufA p.1) (slab p.2.1 (128 * p.2.2.val) 128) : sProp 𝕄) :=
    bigSep_mono fun p _ => hold_some c _ _ _
  have hB' : (bigSep Finset.univ fun p => interp I c (.bufF (trB p))) ⊢ (bigSep Finset.univ fun p : TB => HoldE c (bufB p.1) (slab p.2 0 64) : sProp 𝕄) :=
    bigSep_mono fun p _ => hold_some c _ _ _
  have hO : (bigSep Finset.univ fun p : Bool × Fin 8 × Fin 4 => interp I c (.obfF p.1 p.2.1 p.2.2)) ⊢ (HoldE c obf Finset.univ : sProp 𝕄) :=
    (hold_join (F := F) c obf (keyO c) (partsO c) fullShare (obfX I)).trans (hold_some c obf _ _)
  have hp : interp I c .pad ⊢ (HoldE c pad Finset.univ : sProp 𝕄) := by
    show iprop(∃ X, ⌜Padded I c X⌝ ∗ Hold c Conv.pad Finset.univ fullShare X) ⊢ _
    iintro ⟨%X, -, H⟩
    iapply (hold_some c pad Finset.univ X)
    iexact H
  iintro ⟨⟨SA, SB⟩, ⟨BA, BB⟩, P1, P2, O', Ho, Hst, Hpad⟩
  isplitr [Ho]
  · isplitl [Hpad]; · (iapply hp; iexact Hpad)
    isplitl [P1 P2]
    · iapply (part_join (I := I) (c := c)); isplitl [P1] <;> iassumption
    isplitl [O']; · (iapply hO; iexact O')
    isplitl [BA]
    · iapply (two_join (F := F) (c := c) bufA keyA partsA); iapply hA'; iexact BA
    isplitl [BB]
    · iapply (two_join (F := F) (c := c) bufB keyB partsB); iapply hB'; iexact BB
    isplitl [SA]
    · iapply (two_join (F := F) (c := c) sbA keyA partsA); iapply hA; iexact SA
    isplitl [SB]
    · iapply (two_join (F := F) (c := c) sbB keyB partsB); iapply hB; iexact SB
    iapply (holdE_join (F := F) c stg keyS partsS); iexact Hst
  · iapply (hold_join (F := F) c outM (keyR c) (partsR c) fullShare (outX I)); iexact Ho

end InOut

end Cert.KernelIdeal.Conv

end
-- ==== Proof.Ends.lean ====
/-
  What a device starts and ends with, in terms of its buffers whole and its semaphores one by one.
-/
module

public import proofs.«01_k».proof.Proof.Parts

@[expose] public section

noncomputable section

namespace Cert.KernelIdeal.Conv

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The semaphores by use -/

abbrev Use := Tr ⊕ Tr ⊕ Fin 4 ⊕ Fin 4
def useSem : Use → Fin 203
  | .inl t => t.semNo 0 | .inr (.inl t) => t.semNo 1 | .inr (.inr (.inl i)) => ⟨195 + i, by omega⟩ | .inr (.inr (.inr b)) => ⟨199 + b, by omega⟩
theorem useSem_le (u : Use) : 3 ≤ (useSem u).val := by
  rcases u with t | t | i | b
  · exact (sNo_lt 0 t).1
  · exact (sNo_lt 1 t).1
  · exact (Nat.le_add_right_of_le (by decide))
  · exact (Nat.le_add_right_of_le (by decide))
theorem useSem_inj : Function.Injective useSem := by
  rintro (t | t | i | b) (t' | t' | i' | b') h <;> replace h := congrArg Fin.val h <;> dsimp only [useSem] at h
  · rw [num_inj h]
  · exact absurd h (sNo_ne _ _)
  · have := (sNo_lt 0 t).2; omega
  · have := (sNo_lt 0 t).2; omega
  · exact absurd h.symm (sNo_ne _ _)
  · rw [rNo_inj h]
  · have := (sNo_lt 1 t).2; omega
  · have := (sNo_lt 1 t).2; omega
  · have := (sNo_lt 0 t').2; omega
  · have := (sNo_lt 1 t').2; omega
  · rw [Fin.ext (by omega : i.val = i'.val)]
  · omega
  · have := (sNo_lt 0 t').2; omega
  · have := (sNo_lt 1 t').2; omega
  · omega
  · rw [Fin.ext (by omega : b.val = b'.val)]
def useIx (u : Use) : Fin 200 := ⟨(useSem u).val - 3, by have := (useSem u).isLt; omega⟩
theorem useIx_inj : Function.Injective useIx := fun u v h => useSem_inj (Fin.ext (by
  have h := congrArg Fin.val h
  have h1 := useSem_le u
  have h2 := useSem_le v
  dsimp only [useIx] at h
  omega))
theorem use_card : Fintype.card Use = Fintype.card (Fin 200) := by
  have h : Fintype.card Tr = 96 := (Fintype.ofEquiv_card trEquiv).trans (by simp)
  simp [h]
def useEquiv : Use ≃ Fin 200 := Equiv.ofBijective useIx ((Fintype.bijective_iff_injective_and_card useIx).mpr ⟨useIx_inj, use_card⟩)
theorem osem_use (u : Use) : osem (useEquiv u) = .dma (useSem u) := by
  show osem (useIx u) = _
  unfold osem useIx
  have := useSem_le u
  exact congrArg SemLoc.dma (Fin.ext (by show 3 + ((useSem u).val - 3) = (useSem u).val; omega))

omit [FloatOps F] in
theorem own_cells (Φ : SemLoc sig → sProp 𝕄) : (bigSep Finset.univ fun i : Fin 200 => Φ (osem i))
    = iprop((bigSep Finset.univ fun t : Tr => Φ (.dma t.sSem)) ∗ (bigSep Finset.univ fun t : Tr => Φ (.dma t.rSem))
      ∗ (bigSep Finset.univ fun i : Fin 4 => Φ (.dma (cpSem i))) ∗ bigSep Finset.univ fun b : Fin 4 => Φ (.dma (xSem b))) := by
  rw [bigSep_univ_equiv useEquiv, bigSep_univ_sum, bigSep_univ_sum, bigSep_univ_sum]
  simp only [osem_use]
  rfl

/-! ## The start -/

/-- A cell's first round, not begun. -/
def At (g : GSem nD τ sig) : sProp 𝕄 := iprop(atPos ER g 0 ∅ 0 ∗ reached ER g 0)

/-- What the launch deals to a device. -/
def Dealt (c : Dev nD) : sProp 𝕄 :=
  iprop((bigSep Finset.univ fun δ : Fin 4 => dutyTok ER (bCell (nb δ c)) 0 (opp δ))
    ∗ (bigSep Finset.univ fun t : Tr => dutyTok ER (sCell c t) 0 0) ∗ (bigSep Finset.univ fun t : Tr => dutyTok ER (rCell (tgt c t) t) 0 0)
    ∗ (bigSep Finset.univ fun b : Fin 4 => dutyTok ER (xCell c b) 0 0) ∗ (bigSep Finset.univ fun p : Bool × Fin 8 => dutyTok ER (cCell c (slot p.1 p.2)) (rnd p.1 p.2) 0)
    ∗ atPos ER (bCell c) 0 ∅ 0 ∗ cred (tallyAt (bCell c) () 4) ∗ bigSep Finset.univ fun t : Tr => cred (tallyAt (rCell c t) () (amt t)))
/-- The device's own semaphores, opened. -/
def Opened (c : Dev nD) : sProp 𝕄 := bigSep Finset.univ fun i : Fin 200 => At ((c : Thread nD τ), osem i)

section Ends
variable {I : Inp F} {c : Dev nD} {κ : GSem nD τ sig → ℕ}

theorem land_in (e : Dev nD) (t : Tr) (h1 : tgt e t = c) (h2 : orig c t = e) : iprop(landZ c t ∗ reached ER (rCell c t) 0) ⊢ interp I e (.land t) := by
  subst h2
  show _ ⊢ iprop(Some' (tgt (orig c t) t) (t.dst (W (orig c t))) ∗ reached ER (rCell (tgt (orig c t) t) t) 0)
  rw [h1]
  exact BI.sep_mono (landZ_some c t) (BI.Entails.refl _)

theorem opp_opp (δ : Fin 4) : opp (opp δ) = δ := by revert δ; decide
theorem lands_in (δ : Fin 4) : (bigSepL (barTr (opp δ)) fun t => iprop(landZ c t ∗ reached ER (rCell c t) 0)) ⊢ Seps I (nb δ c) ((barTr (opp δ)).map .land) := by
  rw [seps_list]
  refine bigSepL_mono fun t ht => ?_
  have hd := dir_barTr (opp δ) t ht
  exact land_in (nb δ c) t (by rw [tgt_nb, hd, nb_opp]) (by rw [orig_nb, hd, opp_opp])
theorem trs'_nodup : (barTr (opp 0) ++ (barTr (opp 1) ++ (barTr (opp 2) ++ barTr (opp 3)))).Nodup := by decide +kernel
theorem trs'_univ : (Finset.univ : Finset Tr) = (barTr (opp 0) ++ (barTr (opp 1) ++ (barTr (opp 2) ++ barTr (opp 3)))).toFinset := by
  rw [trs_univ]
  ext t
  rw [List.mem_toFinset, List.mem_toFinset]
  revert t
  simp only [List.mem_append, show opp 0 = 1 from rfl, show opp 1 = 0 from rfl, show opp 2 = 3 from rfl, show opp 3 = 2 from rfl]
  intro t
  constructor <;> rintro (h | h | h | h) <;> simp only [h, true_or, or_true]
theorem lands_all : (bigSep Finset.univ fun t : Tr => iprop(landZ c t ∗ reached ER (rCell c t) 0)) ⊢ bigSep Finset.univ fun δ : Fin 4 => Seps I (nb δ c) ((barTr (opp δ)).map .land) := by
  rw [bigSep_univ_eq_bigSepL _ trs'_univ trs'_nodup, bigSepL_append, bigSepL_append, bigSepL_append, four]
  exact BI.sep_mono (lands_in 0) (BI.sep_mono (lands_in 1) (BI.sep_mono (lands_in 2) (lands_in 3)))

theorem start : iprop(Scr c ∗ HoldE c outM Finset.univ ∗ Hold c xM Finset.univ fullShare (I.x c) ∗ Dealt c ∗ Opened c) ⊢ Start I c := by
  unfold Start Dealt Opened Sig init0
  rw [own_cells fun sm => At ((c : Thread nD τ), sm)]
  unfold At XTok
  rw [bigSep_sep', bigSep_sep', bigSep_sep', bigSep_sep', bigSep_sep', bigSep_sep', bigSep_sep']
  iintro ⟨Hscr, Hout, Hx, ⟨Dbar, Ds, Dr, Dx, Dc, Hbat, Hbc, Hcr⟩, ⟨As, Rs⟩, ⟨Ar, Rr⟩, ⟨Ac, Rc⟩, Ax, Rx⟩
  ihave Hb := (enter (I := I) (c := c)) $$ [Hscr Hout]
  · isplitl [Hscr] <;> iassumption
  icases Hb with ⟨Hpad, Hland, Hsrc, Hpart, Hobf, HoutU, Hst⟩
  isplitl [Dbar Hland Rr]
  · isplitl [Dbar]; · iexact Dbar
    iapply (lands_all (I := I) (c := c))
    rw [bigSep_sep']
    isplitl [Hland] <;> iassumption
  isplitl [Hpad]; · iexact Hpad
  isplitl [Hx]; · iexact Hx
  isplitl [Dx Rx Ax]
  · isplitl [Dx]; · iexact Dx
    isplitl [Rx] <;> iassumption
  iapply (seps_append I c _ _).1
  isplitl [Ds Dr As Rs]
  · rw [seps_trs]
    have h : (bigSep Finset.univ fun t : Tr => interp I c (.tok t)) = iprop((bigSep Finset.univ fun t : Tr => dutyTok ER (sCell c t) 0 0)
        ∗ (bigSep Finset.univ fun t : Tr => dutyTok ER (rCell (tgt c t) t) 0 0) ∗ (bigSep Finset.univ fun t : Tr => atPos ER (sCell c t) 0 ∅ 0)
        ∗ bigSep Finset.univ fun t : Tr => reached ER (sCell c t) 0) := by
      rw [← bigSep_sep', ← bigSep_sep', ← bigSep_sep']; rfl
    rw [h]
    isplitl [Ds]; · iexact Ds
    isplitl [Dr]; · iexact Dr
    isplitl [As] <;> iassumption
  iapply (seps_append I c _ _).1
  isplitl [Ar Hcr]
  · rw [seps_trs]
    have h : (bigSep Finset.univ fun t : Tr => interp I c (.wt t)) = iprop((bigSep Finset.univ fun t : Tr => atPos ER (rCell c t) 0 ∅ 0)
        ∗ bigSep Finset.univ fun t : Tr => cred (tallyAt (rCell c t) () (amt t))) := by
      rw [← bigSep_sep']; rfl
    rw [h]
    isplitl [Ar] <;> iassumption
  iapply (seps_append I c _ _).1
  isplitl [Hsrc]; · iexact Hsrc
  iapply (seps_append I c _ _).1
  isplitl [Hpart]; · iexact Hpart
  iapply (seps_append I c _ _).1
  isplitl [Hobf]; · iexact Hobf
  iapply (seps_append I c _ _).1
  isplitl [HoutU]; · iexact HoutU
  iapply (seps_append I c _ _).1
  isplitl [Hst]; · iexact Hst
  iapply (seps_append I c _ _).1
  isplitl [Dc]
  · rw [seps_prod8]; iexact Dc
  iapply (seps_append I c _ _).1
  isplitl [Ac Rc]
  · rw [seps_f4]
    have h : (bigSep Finset.univ fun i : Fin 4 => interp I c (.cpP i 0)) = iprop((bigSep Finset.univ fun i : Fin 4 => atPos ER (cCell c i) 0 ∅ 0)
        ∗ bigSep Finset.univ fun i : Fin 4 => reached ER (cCell c i) 0) := by
      rw [← bigSep_sep']; rfl
    rw [h]
    isplitl [Ac] <;> iassumption
  rw [seps1, i_bar]
  isplitl [Hbat] <;> iassumption

/-! ## The end -/

theorem cp_close (i : Fin 4) : iprop(Ctx I κ ∗ interp I c (.cpP i 4)) ⊢ (|={Set.univ}=> semVal (cCell c i) 0 : sProp 𝕄) := by
  show iprop(Ctx I κ ∗ (atPos ER (cCell c i) 4 ∅ 0 ∗ reached ER (cCell c i) 4)) ⊢ _
  iintro ⟨#HC, Hat, -⟩
  iapply (close I (κ := κ) (cCell c i) (cp_mem c i) 4 (fun r hr => by
    show dutK r (kindOf (.dma (cpSem i))) = ∅
    rw [kind_cp]
    exact if_neg (by omega)))
  isplitr; · iexact HC
  iexact Hat

theorem finish : iprop(Ctx I κ ∗ Finish I c) ⊢ (|={Set.univ}=> (Scr c ∗ Hold c outM Finset.univ fullShare (outX I) ∗ Hold c xM Finset.univ fullShare (I.x c)
    ∗ semVal (bCell c) 0 ∗ bigSep Finset.univ fun i : Fin 200 => semVal ((c : Thread nD τ), osem i) 0) : sProp 𝕄) := by
  unfold Finish finalList
  iintro ⟨#HC, Hx, Vx, H⟩
  ihave H := (seps_append I c _ _).2 $$ H; icases H with ⟨Vs, H⟩
  ihave H := (seps_append I c _ _).2 $$ H; icases H with ⟨Vr, H⟩
  ihave H := (seps_append I c _ _).2 $$ H; icases H with ⟨HsF, H⟩
  ihave H := (seps_append I c _ _).2 $$ H; icases H with ⟨HbF, H⟩
  ihave H := (seps_append I c _ _).2 $$ H; icases H with ⟨HpP, H⟩
  ihave H := (seps_append I c _ _).2 $$ H; icases H with ⟨HpB, H⟩
  ihave H := (seps_append I c _ _).2 $$ H; icases H with ⟨HoF, H⟩
  ihave H := (seps_append I c _ _).2 $$ H; icases H with ⟨Hout, H⟩
  ihave H := (seps_append I c _ _).2 $$ H; icases H with ⟨Hst, H⟩
  ihave H := (seps_append I c _ _).2 $$ H; icases H with ⟨Hcp, H⟩
  have h2 : Seps I c [.clBar, .pad] ⊢ iprop(semVal (bCell c) 0 ∗ interp I c .pad) := by rw [seps2, i_clBar]
  ihave H := h2 $$ H
  icases H with ⟨Vb, Hpad⟩
  have hcp : iprop(Ctx I κ ∗ Seps I c (f4.map fun i => .cpP i 4)) ⊢ (|={Set.univ}=> bigSep Finset.univ fun i : Fin 4 => semVal (cCell c i) 0 : sProp 𝕄) := by
    rw [seps_f4]
    exact (bigSep_with_persistent (R := Ctx I κ) fun i _ => cp_close i).trans (bigSep_fupd _ _)
  imod hcp $$ [Hcp] with Vc
  · isplitr; · iexact HC
    iexact Hcp
  imodintro
  ihave Hb := (leave (I := I) (c := c)) $$ [HsF HbF HpP HpB HoF Hout Hst Hpad]
  · isplitl [HsF]; · iexact HsF
    isplitl [HbF]; · iexact HbF
    isplitl [HpP]; · iexact HpP
    isplitl [HpB]; · iexact HpB
    isplitl [HoF]; · iexact HoF
    isplitl [Hout]; · iexact Hout
    isplitl [Hst] <;> iassumption
  icases Hb with ⟨Hscr, Hout⟩
  isplitl [Hscr]; · iexact Hscr
  isplitl [Hout]; · iexact Hout
  isplitl [Hx]; · iexact Hx
  isplitl [Vb]; · iexact Vb
  have hV : iprop(Seps I c (trs.map .clS) ∗ Seps I c (trs.map .clR) ∗ (bigSep Finset.univ fun i : Fin 4 => semVal (cCell c i) 0)
      ∗ bigSep Finset.univ fun b : Fin 4 => semVal (xCell c b) 0) ⊢ (bigSep Finset.univ fun i : Fin 200 => semVal ((c : Thread nD τ), osem i) 0 : sProp 𝕄) := by
    rw [own_cells fun sm => semVal ((c : Thread nD τ), sm) 0, seps_trs, seps_trs]
    exact BI.Entails.refl _
  iapply hV
  isplitl [Vs]; · iexact Vs
  isplitl [Vr]; · iexact Vr
  isplitl [Vc] <;> iassumption

end Ends

end Cert.KernelIdeal.Conv

end
-- ==== Proof.Deal.lean ====
/-
  What the launch deals: every duty's token to the device that pays it, and every device's credit for the landings it is owed.
-/
module

public import proofs.«01_k».proof.Proof.Ends

@[expose] public section

noncomputable section

namespace Cert.KernelIdeal.Conv

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The tokens -/

/-- The duties on one device's semaphores. -/
abbrev Duty := Fin 4 ⊕ Tr ⊕ Tr ⊕ Fin 4 ⊕ (Bool × Fin 8)
/-- A duty's semaphore, round and number. -/
def duty : Duty → SemLoc sig × ℕ × Fin 4
  | .inl δ => (.reg barS, 0, δ)
  | .inr (.inl t) => (.dma t.sSem, 0, 0)
  | .inr (.inr (.inl t)) => (.dma t.rSem, 0, 0)
  | .inr (.inr (.inr (.inl b))) => (.dma (xSem b), 0, 0)
  | .inr (.inr (.inr (.inr p))) => (.dma (cpSem (slot p.1 p.2)), rnd p.1 p.2, 0)
theorem slot_rnd_inj : ∀ d d' : Bool, ∀ u u' : Fin 8, slot d u = slot d' u' → rnd d u = rnd d' u' → d = d' ∧ u = u' := by decide +kernel
theorem duty_inj : Function.Injective duty := by
  rintro (δ | t | t | b | ⟨d, u⟩) (δ' | t' | t' | b' | ⟨d', u'⟩) h <;>
    have hk := congrArg (fun x => kindOf x.1) h <;> have hr := congrArg (fun x => x.2.1) h <;> have hd := congrArg (fun x => x.2.2) h <;>
    dsimp only [duty] at hk hr hd <;> simp only [kind_bar, kind_snd, kind_rcv, kind_x, kind_cp] at hk <;> first | (injection hk; done) | skip
  · rw [hd]
  all_goals first
    | (cases hk; done)
    | (injection hk with hk; subst hk; rfl)
    | skip
  · injection hk with hk
    obtain ⟨rfl, rfl⟩ := slot_rnd_inj _ _ _ _ hk hr
    rfl

def toks : Finset (GSem nD τ sig × ℕ × Fin 4) :=
  Finset.univ.map ⟨fun ck : Dev nD × Duty => (((ck.1 : Thread nD τ), (duty ck.2).1), (duty ck.2).2.1, (duty ck.2).2.2), fun a b h =>
    Prod.ext (congrArg (fun t : GSem nD τ sig × ℕ × Fin 4 => t.1.1.1) h)
      (duty_inj (Prod.ext (congrArg (fun t : GSem nD τ sig × ℕ × Fin 4 => t.1.2) h)
        (Prod.ext (congrArg (fun t : GSem nD τ sig × ℕ × Fin 4 => t.2.1) h) (congrArg (fun t : GSem nD τ sig × ℕ × Fin 4 => t.2.2) h))))⟩

def nbEquiv (δ : Fin 4) : Dev nD ≃ Dev nD := ⟨nb δ, nb (opp δ), nb_opp δ, nb_opp' δ⟩
def oppEquiv : Fin 4 ≃ Fin 4 := ⟨opp, opp, opp_opp, opp_opp⟩
def tgtEquiv (t : Tr) : Dev nD ≃ Dev nD := ⟨fun c => tgt c t, fun c => orig c t, fun c => orig_tgt c t, fun c => tgt_orig c t⟩

/-- The tokens a device is dealt. -/
def Toks (c : Dev nD) : sProp 𝕄 :=
  iprop((bigSep Finset.univ fun δ : Fin 4 => dutyTok ER (bCell (nb δ c)) 0 (opp δ))
    ∗ (bigSep Finset.univ fun t : Tr => dutyTok ER (sCell c t) 0 0) ∗ (bigSep Finset.univ fun t : Tr => dutyTok ER (rCell (tgt c t) t) 0 0)
    ∗ (bigSep Finset.univ fun b : Fin 4 => dutyTok ER (xCell c b) 0 0) ∗ (bigSep Finset.univ fun p : Bool × Fin 8 => dutyTok ER (cCell c (slot p.1 p.2)) (rnd p.1 p.2) 0))

omit [FloatOps F] in
theorem bar_around : (bigSep Finset.univ fun c : Dev nD => bigSep Finset.univ fun δ : Fin 4 => (dutyTok ER (bCell c) 0 δ : sProp 𝕄))
    = bigSep Finset.univ fun c : Dev nD => bigSep Finset.univ fun δ : Fin 4 => dutyTok ER (bCell (nb δ c)) 0 (opp δ) := by
  rw [bigSep_univ_comm, bigSep_univ_equiv oppEquiv, bigSep_univ_comm (fun (c : Dev nD) (δ : Fin 4) => (dutyTok ER (bCell (nb δ c)) 0 (opp δ) : sProp 𝕄))]
  exact bigSep_congr fun δ _ => bigSep_univ_equiv (nbEquiv δ) _
omit [FloatOps F] in
theorem rcv_around : (bigSep Finset.univ fun c : Dev nD => bigSep Finset.univ fun t : Tr => (dutyTok ER (rCell c t) 0 0 : sProp 𝕄))
    = bigSep Finset.univ fun c : Dev nD => bigSep Finset.univ fun t : Tr => dutyTok ER (rCell (tgt c t) t) 0 0 := by
  rw [bigSep_univ_comm, bigSep_univ_comm (fun (c : Dev nD) (t : Tr) => (dutyTok ER (rCell (tgt c t) t) 0 0 : sProp 𝕄))]
  exact bigSep_congr fun t _ => bigSep_univ_equiv (tgtEquiv t) _

omit [FloatOps F] in
/-- The tokens, dealt. -/
theorem toks_dealt : bigSep toks (fun x => (dutyTok ER x.1 x.2.1 x.2.2 : sProp 𝕄)) = bigSep Finset.univ fun c : Dev nD => Toks c := by
  unfold toks Toks
  rw [bigSep_map, bigSep_univ_prod, bigSep_sep', bigSep_sep', bigSep_sep', bigSep_sep', ← bar_around, ← rcv_around, ← bigSep_sep', ← bigSep_sep', ← bigSep_sep', ← bigSep_sep']
  refine bigSep_congr fun c _ => ?_
  rw [bigSep_univ_sum, bigSep_univ_sum, bigSep_univ_sum, bigSep_univ_sum]
  rfl

/-! ## The credit -/

theorem rcv_cell {c e : Dev nD} {t u : Tr} (h : rCell c t = rCell e u) : c = e ∧ t = u :=
  ⟨congrArg (fun g : GSem nD τ sig => g.1.1) h, by
    have h := congrArg (fun g : GSem nD τ sig => kindOf g.2) h
    have h : kindOf (.dma t.rSem) = kindOf (.dma u.rSem) := h
    rw [kind_rcv, kind_rcv] at h
    injection h⟩
theorem bar_rcv {c e : Dev nD} {t : Tr} (h : bCell c = rCell e t) : False := by
  have h : (SemLoc.reg barS : SemLoc sig) = .dma t.rSem := congrArg Prod.snd h
  cases h
theorem bar_cell {c e : Dev nD} (h : bCell c = bCell e) : c = e := congrArg (fun g : GSem nD τ sig => g.1.1) h

theorem ow_bar (d c : Dev nD) (l : List Tr) : Ow d l (bCell c) () = 0 :=
  Nat.eq_zero_of_not_pos fun h => by obtain ⟨t, -, h⟩ := Ow_pos h; exact bar_rcv h
theorem ow_rcv (d c : Dev nD) (t : Tr) : ∀ l : List Tr, l.Nodup → Ow d l (rCell c t) () = if d = orig c t ∧ t ∈ l then amt t else 0
  | [], _ => by rw [if_neg (fun h => absurd h.2 List.not_mem_nil)]; rfl
  | u :: l, h => by
    obtain ⟨hu, hl⟩ := List.nodup_cons.mp h
    unfold Ow
    rw [Pi.add_apply, Finsupp.add_apply, ow_rcv d c t l hl, tallyAt_apply]
    by_cases he : rCell c t = rCell (tgt d u) u
    · obtain ⟨h1, rfl⟩ := rcv_cell he
      have h2 : d = orig c t := by rw [h1, orig_tgt]
      rw [if_neg (fun h => hu h.2), if_pos ⟨he, rfl⟩, if_pos ⟨h2, List.mem_cons_self⟩, Nat.zero_add]
    · rw [if_neg (c := rCell c t = rCell (tgt d u) u ∧ () = ()) (fun h => he h.1), Nat.add_zero]
      refine if_congr (and_congr_right fun h2 => ?_) rfl rfl
      rw [List.mem_cons]
      refine (or_iff_right ?_).symm
      rintro rfl
      exact he (by rw [h2, tgt_orig])

theorem bar_at (δ : Fin 4) (d c : Dev nD) : (tallyAt (bCell (nb δ d)) () 1 : CellTallies nD τ sig Unit) (bCell c) () = if d = nb (opp δ) c then 1 else 0 := by
  rw [tallyAt_apply]
  by_cases h : d = nb (opp δ) c
  · rw [if_pos h, if_pos ⟨by rw [h, nb_opp'], rfl⟩]
  · rw [if_neg h, if_neg (fun h' => h (by rw [bar_cell h'.1, nb_opp]))]

theorem sends_nodup : sends.Nodup := by decide +kernel
theorem sends_trs : ∀ t ∈ trs, t ∈ sends := by decide +kernel
theorem mem_sends (t : Tr) : t ∈ sends := sends_trs t (trs_all t)

theorem owed_bar (d c : Dev nD) : Ow0 d (bCell c) () = (if d = nb (opp 3) c then 1 else 0) + (if d = nb (opp 2) c then 1 else 0) + (if d = nb (opp 1) c then 1 else 0)
    + if d = nb (opp 0) c then 1 else 0 := by
  unfold Ow0
  simp only [Pi.add_apply, Finsupp.add_apply, ow_bar, bar_at, Nat.zero_add]
theorem owed_rcv (d c : Dev nD) (t : Tr) : Ow0 d (rCell c t) () = if d = orig c t then amt t else 0 := by
  unfold Ow0
  have h (δ : Fin 4) : (tallyAt (bCell (nb δ d)) () 1 : CellTallies nD τ sig Unit) (rCell c t) () = 0 := by
    rw [tallyAt_apply]; exact if_neg (fun h => bar_rcv h.1.symm)
  simp only [Pi.add_apply, Finsupp.add_apply, h, Nat.add_zero]
  rw [ow_rcv d c t _ sends_nodup]
  exact if_congr (and_iff_left (mem_sends t)) rfl rfl

theorem launch_bar (c : Dev nD) : tallyOn (bCell c) (launchCredit (Pipeline.owing Ow0) 0 (bCell c)) = (tallyAt (bCell c) () 4 : CellTallies nD τ sig Unit) := by
  unfold tallyAt; refine congrArg _ (Finsupp.ext fun u => ?_); cases u
  rw [Pipeline.launchCredit_owing, Finsupp.single_eq_same, Finset.sum_congr rfl fun d _ => owed_bar d c]
  simp only [Finset.sum_add_distrib, Finset.sum_ite_eq', Finset.mem_univ, if_true]
theorem launch_rcv (c : Dev nD) (t : Tr) :
    tallyOn (rCell c t) (launchCredit (Pipeline.owing Ow0) 0 (rCell c t)) = (tallyAt (rCell c t) () (amt t) : CellTallies nD τ sig Unit) := by
  unfold tallyAt; refine congrArg _ (Finsupp.ext fun u => ?_); cases u
  rw [Pipeline.launchCredit_owing, Finsupp.single_eq_same, Finset.sum_congr rfl fun d _ => owed_rcv d c t, Finset.sum_ite_eq' Finset.univ (orig c t) fun _ => amt t,
    if_pos (Finset.mem_univ _)]

def rcvEmb : Tr ↪ SemLoc sig := ⟨fun t => .dma t.rSem, fun t u h => by
  have h := congrArg kindOf h
  dsimp only at h
  rw [kind_rcv, kind_rcv] at h
  injection h⟩

omit [FloatOps F] in
/-- A device's credit: four signals, and every landing. -/
theorem creds (c : Dev nD) : (Pipeline.launchCred Ow0 c : sProp 𝕄) ⊢ iprop(cred (tallyAt (bCell c) () 4) ∗ bigSep Finset.univ fun t : Tr => cred (tallyAt (rCell c t) () (amt t))) := by
  unfold Pipeline.launchCred
  rw [bigSep_univ_at _ (SemLoc.reg barS), launch_bar]
  refine sep_mono_right ?_
  have h : (Finset.univ.map rcvEmb : Finset (SemLoc sig)) ⊆ Finset.univ.erase (.reg barS) := fun sm hsm => by
    obtain ⟨t, -, rfl⟩ := Finset.mem_map.mp hsm
    exact Finset.mem_erase.mpr ⟨fun h => (by cases h), Finset.mem_univ _⟩
  refine (bigSep_subset h).trans ?_
  rw [bigSep_map]
  exact Entails.of_eq (bigSep_congr fun t _ => by rw [← launch_rcv]; rfl)

/-- Whatever is owed, is owed to the barrier's semaphore or to a receiver's. -/
theorem Ow0_pos {c : Dev nD} {g : GSem nD τ sig} {u : Unit} (h : 0 < Ow0 c g u) : (∃ e, g = bCell e) ∨ ∃ e t, g = rCell e t := by
  have hb (δ : Fin 4) (h : 0 < (tallyAt (bCell (nb δ c)) () 1 : CellTallies nD τ sig Unit) g u) : ∃ e, g = bCell e := by
    rw [tallyAt_apply] at h
    split at h
    · next hg => exact ⟨_, hg.1⟩
    · exact absurd h (Nat.lt_irrefl 0)
  unfold Ow0 at h
  simp only [Pi.add_apply, Finsupp.add_apply] at h
  rcases Nat.add_pos_iff_pos_or_pos.mp h with h | h
  · rcases Nat.add_pos_iff_pos_or_pos.mp h with h | h
    · rcases Nat.add_pos_iff_pos_or_pos.mp h with h | h
      · rcases Nat.add_pos_iff_pos_or_pos.mp h with h | h
        · obtain ⟨t, -, hg⟩ := Ow_pos h
          exact .inr ⟨_, t, hg⟩
        · exact .inl (hb 3 h)
      · exact .inl (hb 2 h)
    · exact .inl (hb 1 h)
  · exact .inl (hb 0 h)

end Cert.KernelIdeal.Conv

end
-- ==== Proof.CodeEq.lean ====
/-
  The printed body is the list of steps of `Code`.
-/
module

public import proofs.«01_k».proof.Proof.Code
public import proofs.«01_k».proof.Proof.Gen.KernelIdeal.Points
public import Idealize.ShloMosaic.Lib.Pipeline.Regions

@[expose] public section

noncomputable section

namespace Cert.KernelIdeal.Conv

open Idealize.ShloMosaic Idealize.ShloMosaic.TcCoe Idealize.SL.Sem Cert.KernelIdeal Cert.KernelIdeal.Gen

variable {F : FTy → Type} [FloatOps F]

/-- The body that the pipeline calls is the list of steps. -/
theorem bodyAt0_eq (t : Fin cfg0.N) : bodyAt0 (F := F) t = body := by chain_rfl

end Cert.KernelIdeal.Conv

end
-- ==== Proof.Region.lean ====
/-
  The kernel's region: what the device holds before it and after it, the body's obligation, and the region as a segment of @main.
-/
module

public import proofs.«01_k».proof.Proof.Deal
public import proofs.«01_k».proof.Proof.CodeEq
public import proofs.«01_k».proof.Proof.Gen.KernelIdeal.Frame
public import Idealize.ShloMosaic.Lib.Pipeline.RegionTalk

@[expose] public section

noncomputable section

namespace Cert.KernelIdeal.Conv

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The operands and the result -/

/-- The operands in the memory. -/
def inp : Inp F where
  x c := m ((c : Thread nD τ).loc main_arg0)
  k c := k0_pay1 (m ((c : Thread nD τ).loc main_arg1))
  w c := k0_pay2 (m ((c : Thread nD τ).loc main_arg2))

/-- The buffers at the launch, before the kernel, and after it. -/
def V₀ (c : Dev nD) : Valuation τ sig (Elt F) := fun b => m (c, b)
def V₁ (c : Dev nD) : Valuation τ sig (Elt F) := StableHlo.after hostOps0 (V₀ m c)
def V₂ (c : Dev nD) : Valuation τ sig (Elt F) :=
  Function.update (V₁ m c) (Proc.devRef .tc main_v1) (outX (inp m) : main_v1.ty.Contents (Elt F))

theorem V₁_arg0 (c : Dev nD) : V₁ m c main_arg0 = m ((c : Thread nD τ).loc main_arg0) := V_main_arg0 m c
theorem V₁_arg1 (c : Dev nD) : V₁ m c main_arg1 = m ((c : Thread nD τ).loc main_arg1) := V_main_arg1 m c
theorem V₁_arg2 (c : Dev nD) : V₁ m c main_arg2 = m ((c : Thread nD τ).loc main_arg2) := V_main_arg2 m c
theorem V₁_tab (c : Dev nD) : V₁ m c main_c = (tabX (F := F) : main_c.ty.Contents (Elt F)) := by
  show StableHlo.after hostOps0 (V₀ m c) (Proc.devRef .tc main_c) = _
  rw [StableHlo.after_cons, StableHlo.after_nil, StableHlo.nullary_result]
  rfl
theorem V₂_out (c : Dev nD) : V₂ m c main_v1 = (outX (inp m) : main_v1.ty.Contents (Elt F)) := Function.update_self ..
theorem V₂_ne (c : Dev nD) (b : Ref sig .tc) (h : b ≠ main_v1) : V₂ m c b = V₁ m c b :=
  Function.update_of_ne (StableHlo.devRef_ne_of_ne h) _ _

/-! ## Whole buffers -/

omit [FloatOps F] in
theorem setOn_whole (b : Ref sig .tc) : (Memref.whole b).view.setOn Finset.univ = Finset.univ := by
  rw [View.setOn_univ, Memref.view_whole, View.set_whole]
omit [FloatOps F] in
/-- A buffer whole, with some contents, is its memref whole. -/
theorem holdE_whole (c : Dev nD) (b : Ref sig .tc) : (HoldE c (Memref.whole b) Finset.univ : sProp 𝕄)
    = iprop(∃ f : Buf (Elt F) ((c : Thread nD τ).loc b), ((c : Thread nD τ).loc b) ↦{fullShare} f) := by
  unfold HoldE
  rw [setOn_whole]
omit [FloatOps F] in
theorem hold_whole (c : Dev nD) (b : Ref sig .tc) (X : b.ty.Contents (Elt F)) :
    (Hold c (Memref.whole b) Finset.univ fullShare X : sProp 𝕄) ⊣⊢ (((c : Thread nD τ).loc b) ↦{fullShare} X) := by
  unfold Hold
  rw [setOn_whole]
  refine ⟨?_, ?_⟩
  · iintro ⟨%f, %hf, H⟩
    obtain rfl : f = X := funext fun i => hf i (Finset.mem_univ i)
    iexact H
  · iintro H
    iexists X
    isplitr; · ipureintro; exact fun i _ => rfl
    iexact H

/-! ## The windows -/

theorem blk0 (t : Fin cfg0.N) (f : main_c.ty.Contents (Elt F)) : ((cfg0.win 0).blk t).view.read (Elt F) f = f := by
  obtain rfl := fin_N0 t
  funext i
  refine congrArg f (funext fun a => Fin.ext ?_)
  fin_cases a <;> exact Nat.zero_add _ |>.trans (Nat.one_mul _)
theorem blk1 (t : Fin cfg0.N) (f : main_arg1.ty.Contents (Elt F)) : ((cfg0.win 1).blk t).view.read (Elt F) f = f := by
  obtain rfl := fin_N0 t
  funext i
  refine congrArg f (funext fun a => Fin.ext ?_)
  fin_cases a <;> exact Nat.zero_add _ |>.trans (Nat.one_mul _)
theorem blk2 (t : Fin cfg0.N) (f : main_arg2.ty.Contents (Elt F)) : ((cfg0.win 2).blk t).view.read (Elt F) f = f := by
  obtain rfl := fin_N0 t
  funext i
  refine congrArg f (funext fun a => Fin.ext ?_)
  fin_cases a <;> exact Nat.zero_add _ |>.trans (Nat.one_mul _)

/-! ## The proof data -/

/-- The buffers that the kernel addresses itself: the input and the result. -/
def Hs : Finset (DevRef τ sig) := {Proc.devRef .tc main_arg0, Proc.devRef .tc main_v1}
omit [FloatOps F] in
theorem held_Hs (c : Dev nD) (W : Valuation τ sig (Elt F)) : (StableHlo.held (c : Thread nD τ) Hs W : sProp 𝕄)
    = iprop((((c : Thread nD τ).loc main_arg0) ↦{fullShare} W main_arg0) ∗ (((c : Thread nD τ).loc main_v1) ↦{fullShare} W main_v1)) := by
  unfold StableHlo.held
  rw [bigSep_eq_bigSepL_of_eq [Proc.devRef .tc main_arg0, Proc.devRef .tc main_v1] (by decide) (by decide)]
  rfl

omit [FloatOps F] in
theorem ownSems (c : Dev nD) : (Pipeline.ownSems0 osem c : sProp 𝕄) = bigSep Finset.univ fun i : Fin 200 => semVal ((c : Thread nD τ), osem i) 0 := by
  unfold Pipeline.ownSems0
  rfl

/-- What enters the region. -/
def Xk (c : Dev nD) : sProp 𝕄 := iprop(∃ κ, Ctx (inp m) κ ∗ Dealt c ∗ Opened c)
/-- What leaves it. -/
def Yk (c : Dev nD) : sProp 𝕄 := semVal (bCell c) 0

def Phi0 (c : Dev nD) : sProp 𝕄 := iprop(Pipeline.scopedRest spec0 c ∗ (∃ r, prngReg c r) ∗ StableHlo.held (c : Thread nD τ) Hs (V₁ m c) ∗ Xk m c)
def Phi1 (c : Dev nD) : sProp 𝕄 :=
  iprop(Pipeline.scopedRest spec0 c ∗ (∃ r, prngReg c r) ∗ StableHlo.held (c : Thread nD τ) Hs (V₂ m c) ∗ Pipeline.ownSems0 osem c ∗ Yk c)

def dats (_ : Fin 1) (c : Dev nD) : Dat τ (Elt F) Unit ℕ UU ℕ cfg0 c where
  A w := V₁ m c (Proc.devRef .tc (Pipeline.arrRef spec0 w))
  after w _ := match w with
    | ⟨0, _⟩ => (tabX (F := F))
    | ⟨1, _⟩ => m ((c : Thread nD τ).loc main_arg1)
    | ⟨2, _⟩ => m ((c : Thread nD τ).loc main_arg2)
  Φ t := if t.val = 0 then Phi0 m c else Phi1 m c
  q _ := fullShare
  owed t := if t.val = 0 then Ow0 c else 0

theorem owed_first (c : Dev nD) : (dats (F := F) m 0 c).owed t0_0.castSucc = Ow0 c := by
  show (if (t0_0.castSucc : Fin (cfg0.N + 1)).val = 0 then Ow0 c else 0) = _
  exact if_pos rfl
theorem owed_last (c : Dev nD) : (dats (F := F) m 0 c).owed t0_0.succ = 0 := by
  show (if (t0_0.succ : Fin (cfg0.N + 1)).val = 0 then Ow0 c else 0) = _
  exact if_neg (Nat.succ_ne_zero _)
theorem Phi_first (c : Dev nD) : (dats (F := F) m 0 c).Φ t0_0.castSucc = Phi0 m c := by
  show (if (t0_0.castSucc : Fin (cfg0.N + 1)).val = 0 then Phi0 m c else Phi1 m c) = _
  exact if_pos rfl
theorem Phi_last (c : Dev nD) : (dats (F := F) m 0 c).Φ t0_0.succ = Phi1 m c := by
  show (if (t0_0.succ : Fin (cfg0.N + 1)).val = 0 then Phi0 m c else Phi1 m c) = _
  exact if_neg (Nat.succ_ne_zero _)
theorem before0 (c : Dev nD) (t : Fin cfg0.N) (d) : (dats m 0 c).before 0 t d = (tabX (F := F)) := by
  unfold Dat.before
  rw [if_pos (fetch0_0 t)]
  exact (blk0 t (V₁ m c main_c)).trans (V₁_tab m c)
theorem before1 (c : Dev nD) (t : Fin cfg0.N) (d) : (dats m 0 c).before 1 t d = m ((c : Thread nD τ).loc main_arg1) := by
  unfold Dat.before
  rw [if_pos (fetch0_1 t)]
  exact (blk1 t (V₁ m c main_arg1)).trans (V₁_arg1 m c)
theorem before2 (c : Dev nD) (t : Fin cfg0.N) (d) : (dats m 0 c).before 2 t d = m ((c : Thread nD τ).loc main_arg2) := by
  unfold Dat.before
  rw [if_pos (fetch0_2 t)]
  exact (blk2 t (V₁ m c main_arg2)).trans (V₁_arg2 m c)

omit [FloatOps F] in
theorem scr (c : Dev nD) : (Pipeline.scopedRest spec0 c : sProp 𝕄) ⊣⊢ Scr c := by
  rw [scopedRest0_eq]
  unfold Scr
  have h0 : (HoldE c pad Finset.univ : sProp 𝕄) = _ := holdE_whole c cc0_scratch0
  have h1 : (HoldE c part Finset.univ : sProp 𝕄) = _ := holdE_whole c cc0_scratch1
  have h2 : (HoldE c obf Finset.univ : sProp 𝕄) = _ := holdE_whole c cc0_scratch2
  have h3 : (HoldE c (bufA false) Finset.univ : sProp 𝕄) = _ := holdE_whole c cc0_scratch3
  have h4 : (HoldE c (bufA true) Finset.univ : sProp 𝕄) = _ := holdE_whole c cc0_scratch4
  have h5 : (HoldE c (bufB false) Finset.univ : sProp 𝕄) = _ := holdE_whole c cc0_scratch5
  have h6 : (HoldE c (bufB true) Finset.univ : sProp 𝕄) = _ := holdE_whole c cc0_scratch6
  have h7 : (HoldE c (sbA false) Finset.univ : sProp 𝕄) = _ := holdE_whole c cc0_scratch7
  have h8 : (HoldE c (sbA true) Finset.univ : sProp 𝕄) = _ := holdE_whole c cc0_scratch8
  have h9 : (HoldE c (sbB false) Finset.univ : sProp 𝕄) = _ := holdE_whole c cc0_scratch9
  have h10 : (HoldE c (sbB true) Finset.univ : sProp 𝕄) = _ := holdE_whole c cc0_scratch10
  have h27 : (HoldE c stg Finset.univ : sProp 𝕄) = _ := holdE_whole c cc0_scratch27
  rw [h0, h1, h2, h3, h4, h5, h6, h7, h8, h9, h10, h27]
  refine ⟨?_, ?_⟩
  · iintro ⟨H0, H1, H2, H3, H4, H5, H6, H7, H8, H9, H10, H27⟩
    isplitl [H0]; · iexact H0
    isplitl [H1]; · iexact H1
    isplitl [H2]; · iexact H2
    isplitl [H3 H4]; · isplitl [H3] <;> iassumption
    isplitl [H5 H6]; · isplitl [H5] <;> iassumption
    isplitl [H7 H8]; · isplitl [H7] <;> iassumption
    isplitl [H9 H10]; · isplitl [H9] <;> iassumption
    iexact H27
  · iintro ⟨H0, H1, H2, ⟨H3, H4⟩, ⟨H5, H6⟩, ⟨H7, H8⟩, ⟨H9, H10⟩, H27⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H27

omit [FloatOps F] in
theorem owns_hold {sp : Space} {s : Shape} {e : EltTy} (c : Dev nD) (M : Memref sig .tc sp s e) (X : s.Idx → Elt F e) :
    (owns (c : Thread nD τ) M fullShare X : sProp 𝕄) ⊣⊢ Hold c M Finset.univ fullShare X := by
  unfold owns Hold
  rw [View.setOn_univ]
  refine ⟨?_, ?_⟩
  · iintro ⟨%f, %hf, H⟩
    iexists f
    isplitr; · ipureintro; exact fun i _ => congrFun hf i
    iexact H
  · iintro ⟨%f, %hf, H⟩
    iexists f
    isplitr; · ipureintro; exact funext fun i => hf i (Finset.mem_univ i)
    iexact H

/-- What the device owes, as the region states it. -/
theorem owes_in (c : Dev nD) : ((dats (F := F) m 0 c).owesAt () t0_0.castSucc : sProp 𝕄) ⊢ Owes c (Ow0 c) := by
  unfold Dat.owesAt Pipeline.owesWithin Owes
  rw [owed_first]
  iintro ⟨%Wt, -, HO⟩
  iexists Wt
  iexact HO
theorem owes_out (c : Dev nD) : (Owes c 0 : sProp 𝕄) ⊢ (dats (F := F) m 0 c).owesAt () t0_0.succ := by
  unfold Dat.owesAt Pipeline.owesWithin Dat.bound Owes
  rw [owed_last]
  iintro ⟨%Wt, HO⟩
  iexists Wt
  isplitr; · ipureintro; exact fun _ _ => Or.inl trivial
  iexact HO

set_option maxRecDepth 100000 in
omit m in
/-- The routine that the region calls is the body. -/
theorem called : (defs₀ (F := F)) .tc cfg0.body (cfg0.bodyArgs t0_0 (cfg0.slots t0_0)) = body := bodyAt0_eq t0_0

set_option maxRecDepth 100000 in
/-- The body, as the region asks it. -/
theorem body_ob (c : Dev nD) : BodyObligation (dats (F := F) m 0 c) defs₀ 𝒱₀ () Set.univ := fun t => by
  obtain rfl := fin_N0 t
  rw [bigSep_W0, bigSep_W0]
  rw [Phi_first, Phi_last]
  rw [called]
  show iprop(Phi0 m c ∗ (dats m 0 c).owesAt () t0_0.castSucc
      ∗ (∃ d, owns (c : Thread nD τ) tabM fullShare ((dats m 0 c).before 0 t0_0 d))
      ∗ (∃ d, owns (c : Thread nD τ) kM fullShare ((dats m 0 c).before 1 t0_0 d))
      ∗ (∃ d, owns (c : Thread nD τ) wM fullShare ((dats m 0 c).before 2 t0_0 d)))
    ⊢ WP c body fun _ =>
      iprop(Phi1 m c ∗ (dats m 0 c).owesAt () t0_0.succ
        ∗ owns (c : Thread nD τ) tabM fullShare (tabX (F := F))
        ∗ owns (c : Thread nD τ) kM fullShare (m ((c : Thread nD τ).loc main_arg1))
        ∗ owns (c : Thread nD τ) wM fullShare (m ((c : Thread nD τ).loc main_arg2)))
  unfold Phi0 Phi1 Xk Yk
  simp only [before0, before1, before2]
  rw [held_Hs, held_Hs, V₂_ne m c main_arg0 (by decide), V₁_arg0, V₂_out]
  iintro ⟨⟨Hscr, Hp, ⟨Hx, Hout⟩, ⟨%κ, #HC, Hd, Ho⟩⟩, HO, ⟨%_, Ht⟩, ⟨%_, Hk⟩, ⟨%_, Hw⟩⟩
  ihave HO := (owes_in m c) $$ HO
  ihave Hscr := (scr (F := F) c).1 $$ Hscr
  ihave Hx := (hold_whole c main_arg0 (m ((c : Thread nD τ).loc main_arg0))).2 $$ Hx
  ihave Hout := ((hold_whole c main_v1 (V₁ m c main_v1)).2.trans (hold_some c outM Finset.univ _)) $$ Hout
  ihave Ht := (owns_hold c tabM _).1 $$ Ht
  ihave Hk := (owns_hold c kM _).1 $$ Hk
  ihave Hw := (owns_hold c wM _).1 $$ Hw
  ihave HS := (start (I := inp m) (c := c)) $$ [Hscr Hout Hx Hd Ho]
  · isplitl [Hscr]; · iexact Hscr
    isplitl [Hout]; · iexact Hout
    isplitl [Hx]; · iexact Hx
    isplitl [Hd] <;> iassumption
  iapply (wp_fupd _ _ _ (body (F := F)) _)
  iapply (body_wp (I := inp m) (κ := κ) (c := c) (m ((c : Thread nD τ).loc main_arg1)) (m ((c : Thread nD τ).loc main_arg2)) rfl rfl) $$ [HO Ht Hk Hw HS]
  · isplitr; · iexact HC
    isplitl [HO]; · iexact HO
    isplitr [HS]
    · unfold Wins
      isplitl [Ht]; · iexact Ht
      isplitl [Hk] <;> iassumption
    · iexact HS
  unfold Wins
  iintro ⟨HO, ⟨Ht, Hk, Hw⟩, HF⟩
  imod (finish (I := inp m) (c := c) (κ := κ)) $$ [HF] with ⟨Hscr, Hout, Hx, Hb, Hs⟩
  · isplitr; · iexact HC
    iexact HF
  ihave HO := (owes_out m c) $$ HO
  ihave Hscr := (scr (F := F) c).2 $$ Hscr
  ihave Hx := (hold_whole c main_arg0 _).1 $$ Hx
  ihave Hout := (hold_whole c main_v1 _).1 $$ Hout
  ihave Ht := (owns_hold c tabM _).2 $$ Ht
  ihave Hk := (owns_hold c kM _).2 $$ Hk
  ihave Hw := (owns_hold c wM _).2 $$ Hw
  imodintro
  isplitl [Hscr Hp Hx Hout Hs Hb]
  · isplitl [Hscr]; · iexact Hscr
    isplitl [Hp]; · iexact Hp
    isplitl [Hx Hout]
    · isplitl [Hx]
      · iexact Hx
      · iexact Hout
    isplitl [Hs]; · iapply (Entails.of_eq (ownSems c).symm); iexact Hs
    iexact Hb
  isplitl [HO]; · iexact HO
  isplitl [Ht]; · iexact Ht
  isplitl [Hk]; · iexact Hk
  iexact Hw

/-! ## The region -/

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | ⟨0, _⟩ => dats m 0

theorem cellOf_inj : Function.Injective (Pipeline.cellOf (nD := nD) (τ := τ) (Pipeline.pin (pcfgs (F := F)) adm)) :=
  Pipeline.cellOf_injective _ (fun p => by fin_cases p; exact (by decide : Pipeline.SpecSemsDistinct spec0))
    (fun p p' h => by fin_cases p; fin_cases p'; exact absurd rfl h)

/-- The invariants of all cells, and the barrier cells' first rounds. -/
def Recs (κ : GSem nD τ sig → ℕ) : sProp 𝕄 :=
  iprop((bigSep (barCells ∪ scCells) fun g => cellInv ER (Rd (inp m)) (κ g) g) ∗ (bigSep barCells fun g => reached ER g 0))
instance (κ : GSem nD τ sig → ℕ) : BI.Persistent (Recs (F := F) m κ) := by unfold Recs; infer_instance

/-- What a device brings into the region: the records, its dealt part, and the unopened cells of its own. -/
def Tk (c : Dev nD) : sProp 𝕄 := iprop(∃ κ, Recs m κ ∗ Dealt c ∗ bigSep Finset.univ fun i : Fin 200 => Rounds.openTok ER ((c : Thread nD τ), osem i))

theorem open_cells (κ : GSem nD τ sig → ℕ) (c : Dev nD) :
    iprop(Recs m κ ∗ (bigSep Finset.univ fun i : Fin 200 => Rounds.openTok ER ((c : Thread nD τ), osem i))
      ∗ (bigSep Finset.univ fun i : Fin 200 => semVal ((c : Thread nD τ), osem i) 0)) ⊢ (|={Set.univ}=> Opened c : sProp 𝕄) := by
  have hone (i : Fin 200) : iprop(Recs m κ ∗ (Rounds.openTok ER ((c : Thread nD τ), osem i) ∗ semVal ((c : Thread nD τ), osem i) 0))
      ⊢ (|={Set.univ}=> At ((c : Thread nD τ), osem i) : sProp 𝕄) := by
    unfold Recs At
    iintro ⟨⟨#HI, -⟩, Ho, Hv⟩
    have hm : ((c : Thread nD τ), osem i) ∈ barCells ∪ scCells := Finset.mem_union_right _ (Finset.mem_map.mpr ⟨(c, i), Finset.mem_univ _, rfl⟩)
    iapply (Rounds.cell_open ER (Rd (inp m)) (g := ((c : Thread nD τ), osem i)) (Set.mem_univ (κ ((c : Thread nD τ), osem i))))
    isplitr
    · iapply (show (bigSep (barCells ∪ scCells) fun g => (cellInv ER (Rd (inp m)) (κ g) g : sProp 𝕄)) ⊢ cellInv ER (Rd (inp m)) (κ ((c : Thread nD τ), osem i)) ((c : Thread nD τ), osem i) from bigSep_elim hm)
      iexact HI
    isplitl [Ho] <;> iassumption
  have hall := (bigSep_with_persistent (S := Finset.univ) (R := Recs m κ) fun i _ => hone i).trans (bigSep_fupd Finset.univ _)
  unfold Opened
  iintro ⟨#HR, Ho, Hv⟩
  iapply hall
  isplitr; · iexact HR
  rw [bigSep_sep']
  isplitl [Ho] <;> iassumption

theorem hopen (c : Dev nD) : iprop(Tk m c ∗ Pipeline.ownSems0 osem c ∗ levAts L lv) ⊢ (|={Set.univ}=> Xk m c : sProp 𝕄) := by
  rw [ownSems, show (levAts L lv : sProp 𝕄) = Levs by unfold Levs; rfl]
  unfold Tk Xk
  iintro ⟨⟨%κ, #HR, Hd, Ho⟩, Hv, #HL⟩
  imod (open_cells m κ c) $$ [Ho Hv] with Ho
  · isplitr; · iexact HR
    isplitl [Ho] <;> iassumption
  imodintro
  iexists κ
  isplitr
  · unfold Ctx Recs
    icases HR with ⟨#H1, #H2⟩
    isplitr; · iexact H1
    isplitr; · iexact H2
    iexact HL
  isplitl [Hd] <;> iassumption

theorem hin (c : Dev nD) : iprop(Pipeline.scopedRest (Pipeline.pin (pcfgs (F := F)) adm 0).spec c ∗ (∃ r, prngReg c r) ∗ StableHlo.held (c.tc : Thread nD τ) Hs (V₁ m c) ∗ Xk m c)
    ⊢ (pdats m 0 c).Φ 0 := by
  rw [show (pdats m 0 c).Φ 0 = Phi0 m c from Phi_first m c]
  exact BI.Entails.refl _
theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) Hs (V₂ m c) ∗ Pipeline.ownSems0 osem c ∗ Yk c) := by
  rw [show (pdats m 0 c).Φ (Fin.last _) = Phi1 m c from Phi_last m c]
  exact BI.Entails.refl _

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem cutD (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then Ow0 c else 0 := rfl
  rw [e] at h
  split at h
  · rcases Ow0_pos h with ⟨e, rfl⟩ | ⟨e, t, rfl⟩
    · exact ⟨by rw [L_tc]; exact Finset.mem_singleton_self _, by unfold lv; rw [kind_bar]; decide⟩
    · exact ⟨by rw [L_tc]; exact Finset.mem_singleton_self _, by unfold lv; rw [kind_rcv]; exact Nat.lt_of_lt_of_le Nat.zero_lt_two (Nat.le_add_right _ _)⟩
  · exact absurd h (Nat.lt_irrefl 0)

theorem kind_none (n : Fin 203) (h : n.val < 3) : kindOf (.dma n) = .none := by
  unfold kindOf
  rw [if_neg (by intro e; cases e), dif_neg, dif_neg, dif_neg, dif_neg]
  · rintro ⟨b, e⟩
    have e : n.val = 199 + b.val := dma_val e
    omega
  · rintro ⟨b, e⟩
    have e : n.val = 195 + b.val := dma_val e
    omega
  · rintro ⟨t, e⟩
    have e : n.val = (t.semNo 1).val := dma_val e
    have := (sNo_lt 1 t).1
    omega
  · rintro ⟨t, e⟩
    have e : n.val = (t.semNo 0).val := dma_val e
    have := (sNo_lt 0 t).1
    omega
theorem stage_sem (w : Fin 3) (s) : (show Fin 203 from (cfg0.win w).sem s).val < 3 := by
  revert s w
  decide

theorem stage_lv (c : Dev nD) (w : Fin 3) (s) : () ∈ L (((c : Thread nD τ), SemLoc.dma ((cfg0.win w).sem s)) : GSem nD τ sig)
    ∧ lv (((c : Thread nD τ), SemLoc.dma ((cfg0.win w).sem s)) : GSem nD τ sig) () ≤ 0 := by
  refine ⟨by rw [L_tc]; exact Finset.mem_singleton_self _, ?_⟩
  show lvK (kindOf (.dma ((cfg0.win w).sem s))) ≤ 0
  rw [kind_none _ (stage_sem w s)]
  exact Nat.le_refl 0

theorem osem_stage (k : Fin 200) (w : Fin 3) (s) : osem k ≠ .dma ((cfg0.win w).sem s) := by
  intro e
  have e : 3 + k.val = (show Fin 203 from (cfg0.win w).sem s).val := dma_val e
  have := stage_sem w s
  omega

theorem arr_in (c : Dev nD) (w : Fin 3) : (dats m 0 c).arrAt w 0 = V₁ m c (Proc.devRef .tc (Pipeline.arrRef spec0 w)) := rfl
theorem arr_out (c : Dev nD) (w : Fin 3) : (dats m 0 c).arrAt w cfg0.N = V₂ m c (Proc.devRef .tc (Pipeline.arrRef spec0 w)) := by
  rw [(dats m 0 c).arrAt_in w (by revert w; decide) _]
  exact (V₂_ne m c _ (by revert w; decide)).symm

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem ⟨by decide, osem_inj, osem_stage⟩
    Hs Hs (Finset.Subset.refl _) kitP rfl (fun c => (body_ob m c).loose)
    (fun _ => 0) Ow0 (fun c => (owed_first m c).trans (zero_add _).symm) (fun c => owed_last m c) (fun _ => rfl)
    (fun c w => by unfold Dat.share; split <;> rfl)
    (V₁ m) (V₂ m) (fun _ b hb => absurd hb (by rw [Finset.sdiff_self]; exact Finset.notMem_empty b))
    (Tk m) Yk (Xk m) Yk (hopen m) (hin m) (hout m)
    (fun c => by iintro H; imodintro; iexact H)
    (fun _ => 0)
    ⟨fun c w s => (stage_lv c w s).1, fun c w s => (stage_lv c w s).2, fun c t g i h => cutD m c t g i h⟩
    (fun _ => iprop(emp))
    (fun c w => arr_in m c w) (fun c w => arr_out m c w)

end Cert.KernelIdeal.Conv

end
-- ==== Proof.Launch.lean ====
/-
  The launch: every semaphore's rounds funded, the tokens and the credit dealt to the devices that use them, and the run of @main.
-/
module

public import proofs.«01_k».proof.Proof.Region

@[expose] public section

noncomputable section

namespace Cert.KernelIdeal.Conv

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The buffers -/

omit [FloatOps F] in
theorem held_all (c : Dev nD) (W : Valuation τ sig (Elt F)) : (StableHlo.held (c : Thread nD τ) (Pipeline.ucRefs τ sig) W : sProp 𝕄)
    = iprop((((c : Thread nD τ).loc main_c) ↦{fullShare} W main_c) ∗ (((c : Thread nD τ).loc main_arg1) ↦{fullShare} W main_arg1)
      ∗ (((c : Thread nD τ).loc main_arg2) ↦{fullShare} W main_arg2)
      ∗ (((c : Thread nD τ).loc main_arg0) ↦{fullShare} W main_arg0) ∗ (((c : Thread nD τ).loc main_v1) ↦{fullShare} W main_v1)) := by
  unfold StableHlo.held
  rw [bigSep_eq_bigSepL_of_eq [Proc.devRef .tc main_c, Proc.devRef .tc main_arg1, Proc.devRef .tc main_arg2, Proc.devRef .tc main_arg0, Proc.devRef .tc main_v1] (by decide) (by decide)]
  rfl
omit [FloatOps F] in
theorem held_arrs (c : Dev nD) (W : Valuation τ sig (Elt F)) : (StableHlo.held (c : Thread nD τ) (Pipeline.arrRefs (τ := τ) spec0) W : sProp 𝕄)
    = iprop((((c : Thread nD τ).loc main_c) ↦{fullShare} W main_c) ∗ (((c : Thread nD τ).loc main_arg1) ↦{fullShare} W main_arg1)
      ∗ (((c : Thread nD τ).loc main_arg2) ↦{fullShare} W main_arg2)) := by
  unfold StableHlo.held
  rw [bigSep_eq_bigSepL_of_eq [Proc.devRef .tc main_c, Proc.devRef .tc main_arg1, Proc.devRef .tc main_arg2] (by decide) (by decide)]
  rfl
omit [FloatOps F] in
/-- All the buffers are the windows' arrays and the two that the kernel addresses itself. -/
theorem held_split (c : Dev nD) (W : Valuation τ sig (Elt F)) : (StableHlo.held (c : Thread nD τ) (Pipeline.ucRefs τ sig) W : sProp 𝕄)
    ⊣⊢ iprop(StableHlo.held (c : Thread nD τ) (Pipeline.arrRefs (τ := τ) spec0) W ∗ StableHlo.held (c : Thread nD τ) Hs W) := by
  rw [held_all, held_arrs, held_Hs]
  refine ⟨?_, ?_⟩
  · iintro ⟨H1, H2, H3, H4⟩
    isplitr [H4]
    · isplitl [H1]; · iexact H1
      isplitl [H2] <;> iassumption
    · iexact H4
  · iintro ⟨⟨H1, H2, H3⟩, H4⟩
    isplitl [H1]; · iexact H1
    isplitl [H2]; · iexact H2
    isplitl [H3] <;> iassumption

omit [FloatOps F] in
theorem unscopedSems0_eq (c : Dev nD) : (unscopedSems0 c : sProp 𝕄) = semVal (bCell c) 0 := by
  unfold unscopedSems0
  rw [show (Finset.univ.filter fun sm : SemLoc sig => ¬ sm.isScoped .tc) = {SemLoc.reg barS} from by decide, BI.bigSep_singleton]

/-! ## The segments -/

/-- What a device holds through the host's operations beside the buffers. -/
def R (c : Dev nD) : sProp 𝕄 := iprop(Tk m c ∗ (∃ r, prngReg c r) ∗ Owes c (Ow0 c))

def seg0 : Pipeline.HostSeg (Name := ℕ) (U := UU) (pcfgs (F := F)) defs₀ 𝒱₀ L lv :=
  Pipeline.HostSeg.ofOps _ _ _ _ _ (Pipeline.ucRefs τ sig) hostOps0
    (fun op h => Pipeline.sub_ucRefs op (List.forall_iff_forall_mem.mp hostOps0_sub op h))
    (List.forall_iff_forall_mem.mp hostOps0_fresh) (V₀ m) (R m)

def segs : List (Pipeline.Seg (pcfgs (F := F)) adm (pdats m) () defs₀ 𝒱₀ L lv) := [.host (seg0 m), .region (reg m)]

theorem reg_pre (c : Dev nD) : iprop(StableHlo.held (c : Thread nD τ) (Pipeline.ucRefs τ sig) (V₁ m c) ∗ R m c) ⊢ (reg m).pre c := by
  show _ ⊢ iprop(StableHlo.held (c.tc : Thread nD τ) (Pipeline.arrRefs (τ := τ) spec0) (V₁ m c) ∗ (∃ r, prngReg c r)
    ∗ (StableHlo.held (c.tc : Thread nD τ) Hs (V₁ m c) ∗ emp) ∗ Tk m c ∗ ∃ Wd, owes (c : Thread nD τ) (0 + Ow0 c) Wd)
  rw [zero_add]
  unfold R Owes
  iintro ⟨Hh, HT, Hp, HO⟩
  ihave Hh := (held_split (F := F) c _).1 $$ Hh
  icases Hh with ⟨Ha, Hh⟩
  isplitl [Ha]; · iexact Ha
  isplitl [Hp]; · iexact Hp
  isplitl [Hh]
  · isplitl [Hh]; · iexact Hh
    iempintro
  isplitl [HT] <;> iassumption

theorem reg_post (c : Dev nD) : (reg m).post c
    ⊢ iprop((StableHlo.held (c : Thread nD τ) (Pipeline.ucRefs τ sig) (V₂ m c) ∗ semVal (bCell c) 0) ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) Hs (V₂ m c) ∗ emp) ∗ Yk c ∗ ∃ Wd, owes (c : Thread nD τ) (0 : CellTallies nD τ sig Unit) Wd) ⊢ _
  unfold Yk
  iintro ⟨Ha, -, ⟨Hh, -⟩, Hb, HO⟩
  isplitr [HO]
  · isplitr [Hb]
    · iapply (held_split (F := F) c _).2
      isplitl [Ha] <;> iassumption
    · iexact Hb
  · iexact HO

/-! ## The launch -/

/-- The launch element: the pipeline's staging cells, and every cell of the protocol with every duty's token. -/
def u₀ : UU :=
  (initOf (Pipeline.cells (Pipeline.pin (pcfgs (F := F)) adm) cellOf_inj) (Pipeline.launchToks (Pipeline.pin (pcfgs (F := F)) adm) cellOf_inj),
    launchOf barCells scCells toks)

/-- A resource kept whole by one device. -/
def onDev (e : Dev nD) (X : sProp 𝕄) (c : Dev nD) : sProp 𝕄 := if c = e then X else iprop(emp)
omit [FloatOps F] in
theorem bigSep_onDev (e : Dev nD) (X : sProp 𝕄) : bigSep Finset.univ (onDev e X) = X := by
  rw [bigSep_univ_at _ e, bigSep_congr (s := Finset.univ.erase e) (Ψ := fun _ => (BI.emp : sProp 𝕄))
      fun c hc => by unfold onDev; rw [if_neg (Finset.ne_of_mem_erase hc)]; rfl, BI.bigSep_emp_const]
  unfold onDev
  rw [if_pos rfl]
  exact BI.equiv_iff.mp sep_emp
def G : Dev nD → sProp 𝕄 := onDev 0 (BI.own (ER (launchOf barCells scCells toks)))

/-- What a device keeps of the funding. -/
def Lin (c : Dev nD) : sProp 𝕄 :=
  iprop(atPos ER (bCell c) 0 ∅ 0 ∗ (bigSep Finset.univ fun i : Fin 200 => openTok ER ((c : Thread nD τ), osem i)) ∗ Toks c)
/-- And beside it. -/
def Own (c : Dev nD) : sProp 𝕄 :=
  iprop(StableHlo.held (c : Thread nD τ) (Pipeline.ucRefs τ sig) (V₀ m c) ∗ (cred (tallyAt (bCell c) () 4) ∗ bigSep Finset.univ fun t : Tr => cred (tallyAt (rCell c t) () (amt t)))
    ∗ (∃ r, prngReg c r) ∗ Owes c (Ow0 c))

def T₀ (c : Dev nD) : sProp 𝕄 := iprop(StableHlo.held (c : Thread nD τ) (Pipeline.ucRefs τ sig) (V₀ m c) ∗ R m c)
def Tₙ (c : Dev nD) : sProp 𝕄 := iprop(StableHlo.held (c : Thread nD τ) (Pipeline.ucRefs τ sig) (V₂ m c) ∗ semVal (bCell c) 0)

theorem T₀_intro (κ : GSem nD τ sig → ℕ) (c : Dev nD) : iprop(Recs m κ ∗ (Lin c ∗ Own m c)) ⊢ T₀ m c := by
  unfold Lin Own T₀ R Tk Toks Dealt
  iintro ⟨#HR, ⟨HaB, Ho, Ht1, Ht2, Ht3, Ht4, Ht5⟩, Hh, ⟨Hc1, Hc2⟩, Hp, HO⟩
  isplitl [Hh]; · iexact Hh
  isplitr [Hp HO]
  · iexists κ
    isplitr; · iexact HR
    isplitr [Ho]
    · isplitl [Ht1]; · iexact Ht1
      isplitl [Ht2]; · iexact Ht2
      isplitl [Ht3]; · iexact Ht3
      isplitl [Ht4]; · iexact Ht4
      isplitl [Ht5]; · iexact Ht5
      isplitl [HaB]; · iexact HaB
      isplitl [Hc1] <;> iassumption
    · iexact Ho
  · isplitl [Hp] <;> iassumption

/-- The launch makes every device's part. -/
theorem init :
    iprop((bigSep Finset.univ fun c : Dev nD => iprop(unscopedBufs c (fun b => m ((c : Thread nD τ).loc b)) ∗ unscopedSems0 c
          ∗ owes (c : Thread nD τ) (Ow0 c) ∅ ∗ Pipeline.launchCred Ow0 c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (Ow0 c) ∅ ∗ Pipeline.launchCred Ow0 c ∗ prngReg c (ρ c) ∗ G c)
      ⊢ (iprop(Own m c ∗ (semVal (bCell c) 0 ∗ G c)) : sProp 𝕄) := by
    rw [show unscopedBufs c (fun b => m ((c : Thread nD τ).loc b)) = StableHlo.held (c : Thread nD τ) (Pipeline.ucRefs τ sig) (V₀ m c) from Pipeline.unscopedBufs_held c (V₀ m c),
      unscopedSems0_eq]
    unfold Own Owes
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [Hp]; · iexists (ρ c); iexact Hp
      iexists ∅
      iexact HO
    isplitl [Hus] <;> iassumption
  have hv : bigSep Finset.univ (fun c : Dev nD => (semVal (bCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (bCell c) 0 ∅ 0 : sProp 𝕄)) :=
    Entails.of_eq (bigSep_map (s := Finset.univ) barEmb (Φ := fun g : GSem nD τ sig => (atPos ER g 0 ∅ 0 : sProp 𝕄)))
  have hop : bigSep scCells (fun g => (openTok ER g : sProp 𝕄))
      ⊢ bigSep Finset.univ (fun c : Dev nD => bigSep Finset.univ fun i : Fin 200 => openTok ER ((c : Thread nD τ), osem i)) :=
    Entails.of_eq (by
      unfold scCells
      rw [bigSep_map, bigSep_univ_prod]
      rfl)
  have hall : (bigSep Finset.univ fun c : Dev nD => iprop(unscopedBufs c (fun b => m ((c : Thread nD τ).loc b)) ∗ unscopedSems0 c
          ∗ owes (c : Thread nD τ) (Ow0 c) ∅ ∗ Pipeline.launchCred Ow0 c ∗ prngReg c (ρ c) ∗ G c))
      ⊢ (iprop(bigSep Finset.univ (Own m) ∗ bigSep Finset.univ (fun c : Dev nD => semVal (bCell c) 0) ∗ bigSep Finset.univ (G (F := F))) : sProp 𝕄) :=
    by
      refine (bigSep_mono fun c _ => hcore c).trans ?_
      rw [bigSep_sep', bigSep_sep']
      exact BI.Entails.refl _
  have hlin : iprop((bigSep Finset.univ fun c : Dev nD => atPos ER (bCell c) 0 ∅ 0)
        ∗ (bigSep Finset.univ fun c : Dev nD => bigSep Finset.univ fun i : Fin 200 => openTok ER ((c : Thread nD τ), osem i))
        ∗ bigSep Finset.univ fun c : Dev nD => Toks c) ⊢ (bigSep Finset.univ fun c : Dev nD => Lin c : sProp 𝕄) :=
    Entails.of_eq (by unfold Lin; rw [bigSep_sep', bigSep_sep'])
  have hfin (κ : GSem nD τ sig → ℕ) : iprop(Recs m κ ∗ bigSep Finset.univ (fun c : Dev nD => Lin c) ∗ bigSep Finset.univ (Own m)) ⊢ (bigSep Finset.univ (T₀ m) : sProp 𝕄) :=
    (BI.sep_mono (BI.Entails.refl _) (Entails.of_eq (bigSep_sep' ..).symm)).trans
      (bigSep_with_persistent (R := Recs m κ) (Φ := fun c => iprop(Lin c ∗ Own m c)) fun c _ => T₀_intro m κ c)
  iintro ⟨H, -⟩
  ihave H' := hall $$ H
  icases H' with ⟨HB, Hv, HG⟩
  ihave Hu := (show bigSep Finset.univ (G (F := F)) ⊢ BI.own (ER (launchOf barCells scCells toks)) from
    Entails.of_eq (bigSep_onDev (F := F) 0 (BI.own (ER (launchOf barCells scCells toks))))) $$ HG
  imod (Rounds.fund_launch ER (Rd (inp m)) disjoint_cells (fun g _ h => h) toks) $$ [Hv Hu] with ⟨%κ, -, #Hinv, #Hr, Hat, Hopen, Htok⟩
  · isplitl [Hv]
    · iapply hv $$ Hv
    · iexact Hu
  imodintro
  iapply (hfin κ)
  isplitr
  · unfold Recs
    isplitr; · iexact Hinv
    iexact Hr
  isplitr [HB]
  · iapply hlin
    isplitl [Hat]; · iapply hat $$ Hat
    isplitl [Hopen]; · iapply hop $$ Hopen
    iapply (Entails.of_eq (toks_dealt (F := F))) $$ Htok
  · iexact HB

/-! ## The run -/

theorem unscoped_eq : ∀ sm : SemLoc sig, sm.isScoped .tc = false → sm = .reg barS := by decide

set_option backward.isDefEq.respectTransparency.types false in
/-- Every weakly fair run of @main on the 32 devices, from any memory with the counters at zero, ends; then every device holds the
    result `outX` of the operands, its operands are unchanged, and every counter is at zero. -/
theorem run_main : θ_run defs (onTc (τ := τ) (main (F := F))) ⟨m, fun _ => 0, ρ⟩
    (fun r => (∀ c : Dev nD, r.2.mem ((c : Thread nD τ).loc main_v1) = (outX (inp m) : main_v1.ty.Contents (Elt F))
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (seg0 m) (reg m) rfl c]; rfl)
    (by simp only [segs, Pipeline.Seg.pipes_host, Pipeline.Seg.pipes_region, Pipeline.Seg.pipes_nil]; decide)
    (O₀ := Ow0) (hL := L_of_ne) (G := G (F := F)) (u₀ := u₀ (F := F))
    (hu₀ := by
      unfold u₀ G
      iintro Hu
      ihave H := (ownU_pair _ _) $$ Hu
      icases H with ⟨HP, HX⟩
      imodintro
      isplitl [HP]; · iexact HP
      rw [bigSep_onDev]; iexact HX)
    (T₀ := T₀ m) (Tₙ := Tₙ m)
    (hch := ⟨fun c => BI.Entails.refl _, fun c => reg_pre m c, fun c => reg_post m c⟩)
    (hinit := init m ρ)
    (QY := fun c s => (s.mem ((Memref.whole main_v1).view.loc (c : Thread nD τ)) = V₂ m c main_v1
        ∧ s.mem ((Memref.whole main_arg0).view.loc (c : Thread nD τ)) = V₂ m c main_arg0
        ∧ s.mem ((Memref.whole main_arg1).view.loc (c : Thread nD τ)) = V₂ m c main_arg1
        ∧ s.mem ((Memref.whole main_arg2).view.loc (c : Thread nD τ)) = V₂ m c main_arg2) ∧ s.sem (bCell c) = 0)
    (hfin := fun c s' => by
      unfold Tₙ
      rw [held_all]
      iintro ⟨⟨⟨-, H1, H2, H0, Hv⟩, Hb0⟩, HSI⟩
      icombine HSI H0 gives %h0
      icombine HSI H1 gives %h1
      icombine HSI H2 gives %h2
      icombine HSI Hv gives %hv
      icombine HSI Hb0 gives %hb
      imodintro
      isplitr
      · ipureintro
        exact ⟨⟨Buf.eq_of_forall_mem_univ hv, Buf.eq_of_forall_mem_univ h0, Buf.eq_of_forall_mem_univ h1, Buf.eq_of_forall_mem_univ h2⟩, by simpa using hb⟩
      iexact HSI)
    (hQ := fun s h hs => ⟨fun c => by
        obtain ⟨⟨hv, h0, h1, h2⟩, -⟩ := h c
        rw [V₂_out] at hv
        rw [V₂_ne m c _ (by decide), V₁_arg0] at h0
        rw [V₂_ne m c _ (by decide), V₁_arg1] at h1
        rw [V₂_ne m c _ (by decide), V₁_arg2] at h2
        exact ⟨hv, h0, h1, h2⟩,
      sem_eq_zero hs fun c sm hsm => by
        obtain rfl := unscoped_eq sm hsm
        exact (h c).2⟩)

end Cert.KernelIdeal.Conv

end
-- ==== Proof.Frames.lean ====
/-
  The three frames: each program runs, its arguments end unchanged, and every counter ends at zero.
-/
module

public import proofs.«01_k».proof.Proof.Launch
public import proofs.«01_k».proof.Defs
public import proofs.«01_k».proof.Proof.Gen.Kernel
public import proofs.«01_k».proof.Proof.Gen.ReferenceIdeal
public import proofs.«01_k».proof.Proof.Gen.ReferenceIdeal.Run

@[expose] public section

noncomputable section

namespace Cert.Proof

open Idealize.ShloMosaic Idealize.SL.Sem

/-- The kernel's frame over the extended reals: its run, with the result dropped. -/
theorem frame_kernelIdeal : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdeal.Conv.run_main (F := Ideal) m ρ)

/-- The kernel idealised, read at the floats' bits: its frame. -/
def FrameBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

/-- The run, at the floats' bits, with the result dropped. -/
theorem frameBits : FrameBits := fun m ρ _ =>
  (θ_run Cert.KernelIdeal.defs _ _).mono (fun _ h => ⟨fun c => (h.1 c).2, h.2⟩) (Cert.KernelIdeal.Conv.run_main (F := Bits) m ρ)

/-- The two programs have the same text. -/
theorem same_text : Cert.quiescent_Kernel (hKernel := Cert.Kernel.Gen.facts) = FrameBits := by chain_rfl

/-- The kernel's frame at the floats' bits. -/
theorem frame_kernel : Cert.quiescent_Kernel (hKernel := Cert.Kernel.Gen.facts) := same_text.mpr frameBits

/-- The reference's frame: its operations write no argument, and it has no semaphore. -/
theorem frame_referenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Own.lean ====
/-
  A device's own product over the extended reals, element by element: the taps, the gate, and the sum over the device's channels.
-/
module

public import proofs.«01_k».proof.Proof.Vals
public import Idealize.ShloMosaic.Lib.Pointwise

@[expose] public section

noncomputable section

namespace Cert.KernelIdeal.Conv

open Idealize.ShloMosaic Idealize.ShloMosaic.TcCoe Cert.KernelIdeal Cert.KernelIdeal.Gen
open scoped BigOperators

/-- The gate: a value over one plus the exponential of its negative. -/
def gate (a : EReal) : EReal := Ideal.div a (1 + Ideal.exp (-a))

theorem exp_nonneg (a : EReal) : 0 ≤ Ideal.exp a := by
  induction a with
  | bot => exact le_refl _
  | top => exact le_top
  | coe r => exact EReal.coe_nonneg.2 (Real.exp_pos r).le

/-- The gate as the kernel writes it: the value times the reciprocal, the negative as a difference. -/
theorem gate_kernel (a : EReal) : a * Ideal.div 1 (1 + Ideal.exp (0 - a)) = gate a := by
  have h : (1 : EReal) + Ideal.exp (-a) ≠ 0 := by
    have := Ideal.one_add_sum_ne_zero {()} (fun _ => Ideal.exp (-a)) (fun _ _ => exp_nonneg _)
    rwa [Finset.sum_singleton] at this
  rw [zero_sub, Ideal.mul_one_div h]; rfl

/-- Four taps, gated. -/
def act (p : ℕ → EReal) (k : Fin 4 → EReal) : EReal := gate (p 0 * k 0 + p 1 * k 1 + p 2 * k 2 + p 3 * k 3)

/-- The product of a window, element by element. -/
theorem pay7_ideal (kv : FVec Ideal S4x512 .f32) (wv : FVec Ideal S512x512 .f32) (v : Vec Ideal S1x272x512 .f32) (q : ℕ → Fin 512 → EReal) (r : Fin 256) (l : Fin 512)
    (hq : ∀ (t : ℕ) (h : t < 272) (x : Fin 512), v (ix3 (n0 := 1) (n1 := 272) (n2 := 512) 0 ⟨t, h⟩ x) = q t x) :
    k0_pay7 kv wv v (ix2 (n0 := 256) (n1 := 512) r l)
      = ∑ x : Fin 512, act (fun t => q (5 + t + r.val) x) (fun t => kv (ix2 (n0 := 4) (n1 := 512) t x)) * wv (ix2 (n0 := 512) (n1 := 512) x l) := by
  pointwise [k0_pay7]
  refine Finset.sum_congr rfl fun x _ => ?_
  rw [hq, hq, hq, hq, gate_kernel]
  rfl

variable (I : Inp Ideal)

/-- A device's own product at row `r` of batch `b`. -/
theorem P_ideal (c : Dev nD) (b : Fin 4) (r : Fin 1024) (col : Fin 512) :
    (P I c (1024 * b.val + r.val) col : EReal)
      = ∑ x : Fin 512, act (fun t => padAt I c b.val (5 + t + r.val) x) (fun t => I.k c (ix2 (n0 := 4) (n1 := 512) t x)) * I.w c (ix2 (n0 := 512) (n1 := 512) x col) := by
  have hb := b.isLt
  have hr := r.isLt
  have h1 : (1024 * b.val + r.val) / 256 / 4 = b.val := by omega
  have h2 : 512 * ((1024 * b.val + r.val) / 256 / 2 % 2) + 256 * ((1024 * b.val + r.val) / 256 % 2) + (1024 * b.val + r.val) % 256 = r.val := by omega
  refine (pay7_ideal (I.k c) (I.w c) _ (fun t x => padAt I c ((1024 * b.val + r.val) / 256 / 4)
    (512 * ((1024 * b.val + r.val) / 256 / 2 % 2) + 256 * ((1024 * b.val + r.val) / 256 % 2) + t) x) (wrap 256 (1024 * b.val + r.val) (by decide)) col fun t _ x => rfl).trans ?_
  refine Finset.sum_congr rfl fun x _ => ?_
  refine congrArg (fun p => act p _ * _) (funext fun t => ?_)
  rw [h1]
  refine congrArg (fun n => padAt I c b.val n x) ?_
  show _ + (5 + t + (1024 * b.val + r.val) % 256) = _
  omega

end Cert.KernelIdeal.Conv

end
-- ==== Proof.Sums.lean ====
/-
  What the rings add up, over the extended reals: a row of the result is the sum of all 32 devices' own products.
-/
module

public import proofs.«01_k».proof.Proof.Vals
public import Idealize.ShloMosaic.Lib.Pointwise

@[expose] public section

noncomputable section

namespace Cert.KernelIdeal.Conv

open Idealize.ShloMosaic Idealize.ShloMosaic.TcCoe Cert.KernelIdeal Cert.KernelIdeal.Gen
open scoped BigOperators

variable (I : Inp Ideal)

/-- A change of format is the identity, and an addition is the addition. -/
theorem nar_ideal (a : EReal) : nar (F := Ideal) a = a := rfl
theorem wid_ideal (a : EReal) : wid (F := Ideal) a = a := rfl
theorem add_ideal (a b : EReal) : add (F := Ideal) a b = a + b := rfl

/-- `n` places back along ring A, and along ring B. -/
def backA (d : Bool) (c : Dev nD) (n : ℕ) : Dev nD := (nxA (!d))^[n] c
def backB (d : Bool) (c : Dev nD) (n : ℕ) : Dev nD := (nxB (!d))^[n] c

/-- Ring A's running sum is the sum of the products that it has passed. -/
theorem sumA_ideal (d : Bool) (g : ℕ) (col : Fin 512) : ∀ (n : ℕ) (c : Dev nD),
    SUMA I d n c g col = ∑ s ∈ Finset.range (n + 1), (P I (backA d c s) g col : EReal)
  | 0, c => (Finset.sum_range_one (fun s => (P I (backA d c s) g col : EReal))).symm
  | n + 1, c => by
    rw [Finset.sum_range_succ']
    exact (congrArg (fun z : EReal => (P I c g col : EReal) + z) (sumA_ideal d g col n (nxA (!d) c))).trans (add_comm _ _)

theorem pA_ideal (d : Bool) (c : Dev nD) (g : ℕ) (col : Fin 512) : PA I d c g col = ∑ s ∈ Finset.range 8, (P I (backA d c s) g col : EReal) :=
  sumA_ideal I d g col 7 c

/-- Ring B's running sum is the sum over the ring A sums that it has passed. -/
theorem sumB_ideal (d : Bool) (g : ℕ) (col : Fin 512) : ∀ (n : ℕ) (c : Dev nD),
    SUMB I d n c g col = ∑ t ∈ Finset.range (n + 1), (PA I d (backB d c t) g col : EReal)
  | 0, c => (Finset.sum_range_one (fun t => (PA I d (backB d c t) g col : EReal))).symm
  | n + 1, c => by
    rw [Finset.sum_range_succ']
    exact (congrArg (fun z : EReal => (PA I d c g col : EReal) + z) (sumB_ideal d g col n (nxB (!d) c))).trans (add_comm _ _)

theorem pB_ideal (d : Bool) (c : Dev nD) (g : ℕ) (col : Fin 512) : PB I d c g col = ∑ t ∈ Finset.range 4, (PA I d (backB d c t) g col : EReal) :=
  sumB_ideal I d g col 3 c

/-- The device that a pair of places back leads to. -/
def back (d : Bool) (c : Dev nD) (p : Fin 4 × Fin 8) : Dev nD := backA d (backB d c p.1.val) p.2.val

/-- Every device is led to once. -/
theorem back_surj (d : Bool) (c : Dev nD) : Function.Surjective (back d c) := by
  have h : ∀ (d : Bool) (c e : Dev nD), ∃ t : Fin 4, ∃ s : Fin 8, back d c (t, s) = e := by decide +kernel
  intro e
  obtain ⟨t, s, hs⟩ := h d c e
  exact ⟨(t, s), hs⟩
theorem back_bij (d : Bool) (c : Dev nD) : Function.Bijective (back d c) :=
  (Fintype.bijective_iff_surjective_and_card _).2 ⟨back_surj d c, by rw [Fintype.card_prod, Fintype.card_fin, Fintype.card_fin]; exact (Fintype.card_fin 32).symm⟩

/-- A row of the result is the sum of all devices' products. -/
theorem res_ideal (g : ℕ) (col : Fin 512) : Res0 I g col = ∑ e : Dev nD, (P I e g col : EReal) := by
  show PB I (dirOf g) (ownerOf g) g col = _
  rw [pB_ideal, Finset.sum_range]
  simp only [pA_ideal, Finset.sum_range]
  rw [← Fintype.sum_prod_type' (fun (t : Fin 4) (s : Fin 8) => (P I (backA (dirOf g) (backB (dirOf g) (ownerOf g) t.val) s.val) g col : EReal))]
  exact (back_bij (dirOf g) (ownerOf g)).sum_comp (fun e => (P I e g col : EReal))

end Cert.KernelIdeal.Conv

end
-- ==== Proof.Refer.lean ====
/-
  The reference over the extended reals, element by element: the same taps and gate, and the sum over all channels.
-/
module

public import proofs.«01_k».proof.Proof.Own
public import proofs.«01_k».proof.Proof.Sums
public import proofs.«01_k».proof.Proof.Gen.ReferenceIdeal.Run

@[expose] public section

noncomputable section

namespace Cert.KernelIdeal.Conv

open Idealize.ShloMosaic Idealize.ShloMosaic.TcCoe
open scoped BigOperators

abbrev WX : Shape := ⟨3, ![4, 1024, 16384]⟩
abbrev WK : Shape := ⟨2, ![4, 16384]⟩
abbrev WW : Shape := ⟨2, ![16384, 512]⟩

/-- Row `n` of a batch of the whole input under eight rows of zeros. -/
def padW (X : WX.Idx → EReal) (b : Fin 4) (n : ℕ) (x : Fin 16384) : EReal :=
  if n < 8 then 0 else X (ix3 (n0 := 4) (n1 := 1024) (n2 := 16384) b (wrap 1024 (n - 8) (by decide)) x)

/-- A row of the input under three rows of zeros is five rows further under eight. -/
theorem pad_three (X : WX.Idx → EReal) (b : Fin 4) (n : ℕ) (x : Fin 16384) (hn : ¬ n < 3 → n - 3 < 1024) :
    (if h : n < 3 then 0 else X (ix3 (n0 := 4) (n1 := 1024) (n2 := 16384) b ⟨n - 3, hn h⟩ x)) = padW X b (5 + n) x := by
  unfold padW
  by_cases h : n < 3
  · rw [dif_pos h, if_pos (show 5 + n < 8 by omega)]
  · rw [dif_neg h, if_neg (show ¬ 5 + n < 8 by omega)]
    have h' := hn h
    refine congrArg (fun r => X (ix3 (n0 := 4) (n1 := 1024) (n2 := 16384) b r x)) (Fin.ext ?_)
    show n - 3 = (5 + n - 8) % 1024
    omega

/-- The reference's result, element by element. -/
def whole (X : WX.Idx → EReal) (K : WK.Idx → EReal) (W : WW.Idx → EReal) (b : Fin 4) (r : Fin 1024) (l : Fin 512) : EReal :=
  ∑ x : Fin 16384, act (fun t => padW X b (5 + t + r.val) x) (fun t => K (ix2 (n0 := 4) (n1 := 16384) t x)) * W (ix2 (n0 := 16384) (n1 := 512) x l)

/-- The reference run's result is that function of its operands. -/
theorem ref_ideal (m : (ℓ : Loc Cert.ReferenceIdeal.nD Cert.ReferenceIdeal.τ Cert.ReferenceIdeal.sig) → Buf (Elt Ideal) ℓ) (c : Dev Cert.ReferenceIdeal.nD)
    (b : Fin 4) (r : Fin 1024) (l : Fin 512) :
    Cert.ReferenceIdeal.Value.res_main_v36 m c (ix3 (n0 := 4) (n1 := 1024) (n2 := 512) b r l)
      = whole (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2)) b r l := by
  have hr := r.isLt
  pointwise [Cert.ReferenceIdeal.Value.res_main_v36]
  refine Finset.sum_congr (M := EReal) rfl fun x _ => ?_
  have h3 : ∀ X : WX.Idx → EReal, X (ix3 (n0 := 4) (n1 := 1024) (n2 := 16384) b r x) = padW X b (5 + 3 + r.val) x := by
    intro X
    rw [Nat.add_assoc, ← pad_three X b (3 + r.val) x (fun _ => by omega), dif_neg (by omega)]
    exact congrArg (fun r => X (ix3 (n0 := 4) (n1 := 1024) (n2 := 16384) b r x)) (Fin.ext (by show r.val = 3 + r.val - 3; omega))
  rw [pad_three _ b r.val x (fun _ => by omega), pad_three _ b (1 + r.val) x (fun _ => by omega), pad_three _ b (2 + r.val) x (fun _ => by omega),
    h3 (m ((c.tc : Thread Cert.ReferenceIdeal.nD Cert.ReferenceIdeal.τ).loc Cert.ReferenceIdeal.main_arg0)),
    ← Nat.add_assoc, ← Nat.add_assoc]
  rfl

/-- A sum over all channels is a sum over the devices of the sums over their channels. -/
theorem sum_channels (f : Fin 16384 → EReal) : ∑ x, f x = ∑ c : Fin 32, ∑ j : Fin 512, f ⟨c.val * 512 + j.val, by omega⟩ := by
  rw [← (finProdFinEquiv (m := 32) (n := 512)).sum_comp f, Fintype.sum_prod_type]
  refine Finset.sum_congr rfl fun c _ => Finset.sum_congr rfl fun j _ => congrArg f (Fin.ext ?_)
  show j.val + 512 * c.val = c.val * 512 + j.val
  omega

section
open Cert.KernelIdeal Cert.KernelIdeal.Gen

/-- The operands of the devices are blocks of the whole operands. -/
structure Blocks (I : Inp Ideal) (X : WX.Idx → EReal) (K : WK.Idx → EReal) (W : WW.Idx → EReal) : Prop where
  x : ∀ c : Dev nD, I.x c = Layout.block S4x1024x512 WX 2 32 c X
  k : ∀ c : Dev nD, I.k c = Layout.block S4x512 WK 1 32 c K
  w : ∀ c : Dev nD, I.w c = Layout.block S512x512 WW 0 32 c W

/-- The kernel's result is the reference's. -/
theorem out_ideal (I : Inp Ideal) (X : WX.Idx → EReal) (K : WK.Idx → EReal) (W : WW.Idx → EReal) (h : Blocks I X K W) (b : Fin 4) (r : Fin 1024) (l : Fin 512) :
    Res0 I (1024 * b.val + r.val) l = whole X K W b r l := by
  rw [res_ideal, whole, sum_channels]
  refine Finset.sum_congr rfl fun c _ => ?_
  rw [P_ideal]
  refine Finset.sum_congr rfl fun j _ => ?_
  have hc : c.val < 32 := c.isLt
  have hp : ∀ t, (padAt I c b.val (5 + t + r.val) j : EReal) = padW X b (5 + t + r.val) ⟨c.val * 512 + j.val, by omega⟩ := by
    intro t
    unfold padAt padW
    refine if_congr Iff.rfl Ideal.ofBits_zero_f32 ?_
    rw [h.x c]
    refine congrArg X (funext fun a => Fin.ext ?_)
    match a with
    | ⟨0, _⟩ => exact Nat.mod_eq_of_lt b.isLt
    | ⟨1, _⟩ => rfl
    | ⟨2, _⟩ => rfl
  have hk : ∀ t : Fin 4, I.k c (ix2 (n0 := 4) (n1 := 512) t j) = K (ix2 (n0 := 4) (n1 := 16384) t ⟨c.val * 512 + j.val, by omega⟩) := by
    intro t
    rw [h.k c]
    refine congrArg K (funext fun a => Fin.ext ?_)
    match a with
    | ⟨0, _⟩ => rfl
    | ⟨1, _⟩ => rfl
  have hw : I.w c (ix2 (n0 := 512) (n1 := 512) j l) = W (ix2 (n0 := 16384) (n1 := 512) ⟨c.val * 512 + j.val, by omega⟩ l) := by
    rw [h.w c]
    refine congrArg W (funext fun a => Fin.ext ?_)
    match a with
    | ⟨0, _⟩ => rfl
    | ⟨1, _⟩ => rfl
  rw [funext hp, funext hk, hw]
end

end Cert.KernelIdeal.Conv

end
-- ==== Proof.Value.lean ====
/-
  The value claim: the kernel's result on every device is the reference's.
-/
module

public import proofs.«01_k».proof.Proof.Refer
public import proofs.«01_k».proof.Proof.Launch
public import proofs.«01_k».proof.Defs
public import proofs.«01_k».proof.Proof.Gen.ReferenceIdeal
public import proofs.«01_k».proof.Proof.Gen.ReferenceIdeal.Run

@[expose] public section

noncomputable section

namespace Cert.Proof

open Idealize.ShloMosaic Idealize.ShloMosaic.TcCoe Idealize.SL.Sem Cert.KernelIdeal.Conv

/-- Where the devices' operands are blocks of the reference's, the two results are one array. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.ReferenceIdeal.nD)
    (h : Blocks (inp m) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))) :
    outX (inp m) = Cert.ReferenceIdeal.Value.res_main_v36 m' c := by
  funext i
  have e : i = ix3 (n0 := 4) (n1 := 1024) (n2 := 512) (i 0) (i 1) (i 2) := by
    funext a
    match a with
    | ⟨0, _⟩ => rfl
    | ⟨1, _⟩ => rfl
    | ⟨2, _⟩ => rfl
  rw [e]
  exact (out_ideal (inp m) _ _ _ h (i 0) (i 1) (i 2)).trans (ref_ideal m' c (i 0) (i 1) (i 2)).symm

/-- The kernel and the reference end with the same result, over the extended reals. -/
theorem value : Cert.algebraic_KernelIdeal_ReferenceIdeal (hKernelIdeal := Cert.KernelIdeal.Gen.facts) (hReferenceIdeal := Cert.ReferenceIdeal.Gen.facts) := by
  intro m g m' g' _ hm
  have hb : Blocks (inp m) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)) :=
    ⟨fun c => (hm c).1, fun c => (shapeCast_self _ _).trans (hm c).2.1, fun c => (shapeCast_self _ _).trans (hm c).2.2⟩
  refine ⟨Cert.ReferenceIdeal.Value.res_main_v36 m' 0, ?_, ?_⟩
  · refine (θ_run Cert.KernelIdeal.defs _ _).mono (fun r h c => ?_) (run_main (F := Ideal) m g)
    exact ⟨(h.1 c).1.trans (result_eq m m' 0 hb), (h.1 c).2⟩
  · exact (θ_run Cert.ReferenceIdeal.defs _ _).mono (fun r h => h 0) (Cert.ReferenceIdeal.Value.run (F := Ideal) m' g')

end Cert.Proof

end
-- ==== Proof.lean ====
/- The claims of the certificate, from the run of the kernel (Proof/Launch.lean), the frames (Proof/Frames.lean) and the value claim (Proof/Value.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, frame_kernel, frame_kernelIdeal, frame_referenceIdeal, trivial, value⟩

end Cert.Proof

end
